-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Harmonics (m : (ℓ : Loc Cert.Harmonics.nD Cert.Harmonics.τ Cert.Harmonics.sig) → Buf (Elt Bits) ℓ) : Prop :=
  True

def Pre_HarmonicsIdeal (m : (ℓ : Loc Cert.HarmonicsIdeal.nD Cert.HarmonicsIdeal.τ Cert.HarmonicsIdeal.sig) → Buf (Elt Ideal) ℓ) : Prop :=
  True

def Pre_PolynomialsIdeal (m : (ℓ : Loc Cert.PolynomialsIdeal.nD Cert.PolynomialsIdeal.τ Cert.PolynomialsIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Harmonics [hHarmonics : Cert.Harmonics.Facts] : Prop :=
  ∀ (m : (ℓ : Loc Cert.Harmonics.nD Cert.Harmonics.τ Cert.Harmonics.sig) → Buf (Elt Bits) ℓ) (g : Dev Cert.Harmonics.nD → PrngReg), Pre_Harmonics m →
    θ_run (Cert.Harmonics.defs (F := Bits)) (onTc (τ := Cert.Harmonics.τ) (Cert.Harmonics.main (F := Bits))) ⟨m, fun _ => 0, g⟩ (fun r => (∀ c : Dev Cert.Harmonics.nD,
      r.2.mem ((c.tc : Thread Cert.Harmonics.nD Cert.Harmonics.τ).loc Cert.Harmonics.main_arg0) = m ((c.tc : Thread Cert.Harmonics.nD Cert.Harmonics.τ).loc Cert.Harmonics.main_arg0))
      ∧ r.2.sem = fun _ => 0)

def quiescent_HarmonicsIdeal [hHarmonicsIdeal : Cert.HarmonicsIdeal.Facts] : Prop :=
  ∀ (m : (ℓ : Loc Cert.HarmonicsIdeal.nD Cert.HarmonicsIdeal.τ Cert.HarmonicsIdeal.sig) → Buf (Elt Ideal) ℓ) (g : Dev Cert.HarmonicsIdeal.nD → PrngReg), Pre_HarmonicsIdeal m →
    θ_run (Cert.HarmonicsIdeal.defs (F := Ideal)) (onTc (τ := Cert.HarmonicsIdeal.τ) (Cert.HarmonicsIdeal.main (F := Ideal))) ⟨m, fun _ => 0, g⟩ (fun r => (∀ c : Dev Cert.HarmonicsIdeal.nD,
      r.2.mem ((c.tc : Thread Cert.HarmonicsIdeal.nD Cert.HarmonicsIdeal.τ).loc Cert.HarmonicsIdeal.main_arg0) = m ((c.tc : Thread Cert.HarmonicsIdeal.nD Cert.HarmonicsIdeal.τ).loc Cert.HarmonicsIdeal.main_arg0))
      ∧ r.2.sem = fun _ => 0)

def quiescent_PolynomialsIdeal [hPolynomialsIdeal : Cert.PolynomialsIdeal.Facts] : Prop :=
  ∀ (m : (ℓ : Loc Cert.PolynomialsIdeal.nD Cert.PolynomialsIdeal.τ Cert.PolynomialsIdeal.sig) → Buf (Elt Ideal) ℓ) (g : Dev Cert.PolynomialsIdeal.nD → PrngReg), Pre_PolynomialsIdeal m →
    θ_run (Cert.PolynomialsIdeal.defs (F := Ideal)) (onTc (τ := Cert.PolynomialsIdeal.τ) (Cert.PolynomialsIdeal.main (F := Ideal))) ⟨m, fun _ => 0, g⟩ (fun r => (∀ c : Dev Cert.PolynomialsIdeal.nD,
      r.2.mem ((c.tc : Thread Cert.PolynomialsIdeal.nD Cert.PolynomialsIdeal.τ).loc Cert.PolynomialsIdeal.main_arg0) = m ((c.tc : Thread Cert.PolynomialsIdeal.nD Cert.PolynomialsIdeal.τ).loc Cert.PolynomialsIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)) (v8 : (c : Dev Cert.KernelIdeal.nD) → Buf (Elt Ideal) ((c.tc : Thread Cert.KernelIdeal.nD Cert.KernelIdeal.τ).loc Cert.KernelIdeal.main_v0_8)) (v9 : (c : Dev Cert.KernelIdeal.nD) → Buf (Elt Ideal) ((c.tc : Thread Cert.KernelIdeal.nD Cert.KernelIdeal.τ).loc Cert.KernelIdeal.main_v0_9)) (v10 : (c : Dev Cert.KernelIdeal.nD) → Buf (Elt Ideal) ((c.tc : Thread Cert.KernelIdeal.nD Cert.KernelIdeal.τ).loc Cert.KernelIdeal.main_v0_10)) (v11 : (c : Dev Cert.KernelIdeal.nD) → Buf (Elt Ideal) ((c.tc : Thread Cert.KernelIdeal.nD Cert.KernelIdeal.τ).loc Cert.KernelIdeal.main_v0_11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_v0_8) = v8 c
          ∧ r.2.mem ((c.tc : Thread Cert.KernelIdeal.nD Cert.KernelIdeal.τ).loc Cert.KernelIdeal.main_v0_9) = v9 c
          ∧ r.2.mem ((c.tc : Thread Cert.KernelIdeal.nD Cert.KernelIdeal.τ).loc Cert.KernelIdeal.main_v0_10) = v10 c
          ∧ r.2.mem ((c.tc : Thread Cert.KernelIdeal.nD Cert.KernelIdeal.τ).loc Cert.KernelIdeal.main_v0_11) = v11 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16_0) = v0 c
          ∧ r.2.mem ((c.tc : Thread Cert.ReferenceIdeal.nD Cert.ReferenceIdeal.τ).loc Cert.ReferenceIdeal.main_v16_1) = v1 c
          ∧ r.2.mem ((c.tc : Thread Cert.ReferenceIdeal.nD Cert.ReferenceIdeal.τ).loc Cert.ReferenceIdeal.main_v16_2) = v2 c
          ∧ r.2.mem ((c.tc : Thread Cert.ReferenceIdeal.nD Cert.ReferenceIdeal.τ).loc Cert.ReferenceIdeal.main_v16_3) = v3 c
          ∧ r.2.mem ((c.tc : Thread Cert.ReferenceIdeal.nD Cert.ReferenceIdeal.τ).loc Cert.ReferenceIdeal.main_v16_4) = v4 c
          ∧ r.2.mem ((c.tc : Thread Cert.ReferenceIdeal.nD Cert.ReferenceIdeal.τ).loc Cert.ReferenceIdeal.main_v16_5) = v5 c
          ∧ r.2.mem ((c.tc : Thread Cert.ReferenceIdeal.nD Cert.ReferenceIdeal.τ).loc Cert.ReferenceIdeal.main_v16_6) = v6 c
          ∧ r.2.mem ((c.tc : Thread Cert.ReferenceIdeal.nD Cert.ReferenceIdeal.τ).loc Cert.ReferenceIdeal.main_v16_7) = v7 c
          ∧ r.2.mem ((c.tc : Thread Cert.ReferenceIdeal.nD Cert.ReferenceIdeal.τ).loc Cert.ReferenceIdeal.main_v16_8) = v8 c
          ∧ r.2.mem ((c.tc : Thread Cert.ReferenceIdeal.nD Cert.ReferenceIdeal.τ).loc Cert.ReferenceIdeal.main_v16_9) = v9 c
          ∧ r.2.mem ((c.tc : Thread Cert.ReferenceIdeal.nD Cert.ReferenceIdeal.τ).loc Cert.ReferenceIdeal.main_v16_10) = v10 c
          ∧ r.2.mem ((c.tc : Thread Cert.ReferenceIdeal.nD Cert.ReferenceIdeal.τ).loc Cert.ReferenceIdeal.main_v16_11) = v11 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Harmonics_HarmonicsIdeal : Prop :=
  True

def algebraic_HarmonicsIdeal_PolynomialsIdeal [hHarmonicsIdeal : Cert.HarmonicsIdeal.Facts] [hPolynomialsIdeal : Cert.PolynomialsIdeal.Facts] : Prop :=
  ∀ (m : (ℓ : Loc Cert.HarmonicsIdeal.nD Cert.HarmonicsIdeal.τ Cert.HarmonicsIdeal.sig) → Buf (Elt Ideal) ℓ) (g : Dev Cert.HarmonicsIdeal.nD → PrngReg)
    (m' : (ℓ : Loc Cert.PolynomialsIdeal.nD Cert.PolynomialsIdeal.τ Cert.PolynomialsIdeal.sig) → Buf (Elt Ideal) ℓ) (g' : Dev Cert.PolynomialsIdeal.nD → PrngReg), Pre_HarmonicsIdeal m →
    (∀ c : Dev Cert.HarmonicsIdeal.nD,
      m' ((c.tc : Thread Cert.PolynomialsIdeal.nD Cert.PolynomialsIdeal.τ).loc Cert.PolynomialsIdeal.main_arg0) = m ((c.tc : Thread Cert.HarmonicsIdeal.nD Cert.HarmonicsIdeal.τ).loc Cert.HarmonicsIdeal.main_arg0)) →
    ∃ (v0 : (c : Dev Cert.HarmonicsIdeal.nD) → Buf (Elt Ideal) ((c.tc : Thread Cert.HarmonicsIdeal.nD Cert.HarmonicsIdeal.τ).loc Cert.HarmonicsIdeal.main_v0)),
      θ_run (Cert.HarmonicsIdeal.defs (F := Ideal)) (onTc (τ := Cert.HarmonicsIdeal.τ) (Cert.HarmonicsIdeal.main (F := Ideal))) ⟨m, fun _ => 0, g⟩ (fun r => ∀ c : Dev Cert.HarmonicsIdeal.nD,
          r.2.mem ((c.tc : Thread Cert.HarmonicsIdeal.nD Cert.HarmonicsIdeal.τ).loc Cert.HarmonicsIdeal.main_v0) = v0 c
          ∧ r.2.mem ((c.tc : Thread Cert.HarmonicsIdeal.nD Cert.HarmonicsIdeal.τ).loc Cert.HarmonicsIdeal.main_arg0) = m ((c.tc : Thread Cert.HarmonicsIdeal.nD Cert.HarmonicsIdeal.τ).loc Cert.HarmonicsIdeal.main_arg0))
      ∧ θ_run (Cert.PolynomialsIdeal.defs (F := Ideal)) (onTc (τ := Cert.PolynomialsIdeal.τ) (Cert.PolynomialsIdeal.main (F := Ideal))) ⟨m', fun _ => 0, g'⟩ (fun r => ∀ c : Dev Cert.PolynomialsIdeal.nD,
          r.2.mem ((c.tc : Thread Cert.PolynomialsIdeal.nD Cert.PolynomialsIdeal.τ).loc Cert.PolynomialsIdeal.main_v90) = v0 c
          ∧ r.2.mem ((c.tc : Thread Cert.PolynomialsIdeal.nD Cert.PolynomialsIdeal.τ).loc Cert.PolynomialsIdeal.main_arg0) = m' ((c.tc : Thread Cert.PolynomialsIdeal.nD Cert.PolynomialsIdeal.τ).loc Cert.PolynomialsIdeal.main_arg0))

def Claim : Prop :=
  ∃ (hKernel : Cert.Kernel.Facts) (hKernelIdeal : Cert.KernelIdeal.Facts) (hReferenceIdeal : Cert.ReferenceIdeal.Facts) (hHarmonics : Cert.Harmonics.Facts) (hHarmonicsIdeal : Cert.HarmonicsIdeal.Facts) (hPolynomialsIdeal : Cert.PolynomialsIdeal.Facts),
    quiescent_Kernel (hKernel := hKernel)
    ∧ quiescent_KernelIdeal (hKernelIdeal := hKernelIdeal)
    ∧ quiescent_ReferenceIdeal (hReferenceIdeal := hReferenceIdeal)
    ∧ quiescent_Harmonics (hHarmonics := hHarmonics)
    ∧ quiescent_HarmonicsIdeal (hHarmonicsIdeal := hHarmonicsIdeal)
    ∧ quiescent_PolynomialsIdeal (hPolynomialsIdeal := hPolynomialsIdeal)
    ∧ preserves_Kernel_KernelIdeal
    ∧ algebraic_KernelIdeal_ReferenceIdeal (hKernelIdeal := hKernelIdeal) (hReferenceIdeal := hReferenceIdeal)
    ∧ preserves_Harmonics_HarmonicsIdeal
    ∧ algebraic_HarmonicsIdeal_PolynomialsIdeal (hHarmonicsIdeal := hHarmonicsIdeal) (hPolynomialsIdeal := hPolynomialsIdeal)
-- ==== Kernel.lean ====
abbrev S640x8x8x128 : Shape := ⟨4, ![640, 8, 8, 128]⟩
abbrev S640x4x8x8x128 : Shape := ⟨5, ![640, 4, 8, 8, 128]⟩
abbrev S32x1 : Shape := ⟨2, ![32, 1]⟩
abbrev S640x16x1 : Shape := ⟨3, ![640, 16, 1]⟩
abbrev S64x32 : Shape := ⟨2, ![64, 32]⟩
abbrev S64x1 : Shape := ⟨2, ![64, 1]⟩
abbrev S16x64 : Shape := ⟨2, ![16, 64]⟩
abbrev S16x1 : Shape := ⟨2, ![16, 1]⟩
abbrev S64x64 : Shape := ⟨2, ![64, 64]⟩
abbrev S3x64 : Shape := ⟨2, ![3, 64]⟩
abbrev S3x1 : Shape := ⟨2, ![3, 1]⟩
abbrev S640x1024 : Shape := ⟨2, ![640, 1024]⟩
abbrev S3x640x1024 : Shape := ⟨3, ![3, 640, 1024]⟩
abbrev S640x32x1024 : Shape := ⟨3, ![640, 32, 1024]⟩
abbrev S640x2x1024 : Shape := ⟨3, ![640, 2, 1024]⟩
abbrev S640x64x1024 : Shape := ⟨3, ![640, 64, 1024]⟩
abbrev S640x4x1024 : Shape := ⟨3, ![640, 4, 1024]⟩
abbrev S8x8x8x128 : Shape := ⟨4, ![8, 8, 8, 128]⟩
abbrev S8x4x8x8x128 : Shape := ⟨5, ![8, 4, 8, 8, 128]⟩
abbrev S8x16x1 : Shape := ⟨3, ![8, 16, 1]⟩
abbrev S8x1024 : Shape := ⟨2, ![8, 1024]⟩
abbrev S3x8x1024 : Shape := ⟨3, ![3, 8, 1024]⟩
abbrev S8x32x1024 : Shape := ⟨3, ![8, 32, 1024]⟩
abbrev S8x2x1024 : Shape := ⟨3, ![8, 2, 1024]⟩
abbrev S8x64x1024 : Shape := ⟨3, ![8, 64, 1024]⟩
abbrev S8x4x1024 : Shape := ⟨3, ![8, 4, 1024]⟩
abbrev S1x1x6x128 : Shape := ⟨4, ![1, 1, 6, 128]⟩
abbrev S6x128 : Shape := ⟨2, ![6, 128]⟩
abbrev S1x1x1x2x128 : Shape := ⟨5, ![1, 1, 1, 2, 128]⟩
abbrev S2x128 : Shape := ⟨2, ![2, 128]⟩
abbrev S8x128 : Shape := ⟨2, ![8, 128]⟩
abbrev S1x1x1x8x128 : Shape := ⟨5, ![1, 1, 1, 8, 128]⟩
abbrev S32x1024 : Shape := ⟨2, ![32, 1024]⟩
abbrev S16x1024 : Shape := ⟨2, ![16, 1024]⟩
abbrev S1024 : Shape := ⟨1, ![1024]⟩
abbrev S1x1024 : Shape := ⟨2, ![1, 1024]⟩
abbrev S2x1024 : Shape := ⟨2, ![2, 1024]⟩
abbrev S1x32x1024 : Shape := ⟨3, ![1, 32, 1024]⟩
abbrev S1x2x1024 : Shape := ⟨3, ![1, 2, 1024]⟩
abbrev S64x1024 : Shape := ⟨2, ![64, 1024]⟩
abbrev S4x1024 : Shape := ⟨2, ![4, 1024]⟩
abbrev S1x64x1024 : Shape := ⟨3, ![1, 64, 1024]⟩
abbrev S1x4x1024 : Shape := ⟨3, ![1, 4, 1024]⟩
abbrev S1x16x1 : Shape := ⟨3, ![1, 16, 1]⟩
abbrev S3x1024 : Shape := ⟨2, ![3, 1024]⟩
abbrev S1x1x1024 : Shape := ⟨3, ![1, 1, 1024]⟩

abbrev nBuf : Space → Nat
  | .hbm => 26
  | .vmem => 41
  | .smem => 0
  | _ => 0

abbrev bufTy : (tb : Table) → Fin (tcTables nBuf tb) → BufTy
  | .hbm, ⟨0, _⟩ => ⟨S640x8x8x128, .f32⟩
  | .hbm, ⟨1, _⟩ => ⟨S640x4x8x8x128, .f32⟩
  | .hbm, ⟨2, _⟩ => ⟨S32x1, .f32⟩
  | .hbm, ⟨3, _⟩ => ⟨S640x16x1, .f32⟩
  | .hbm, ⟨4, _⟩ => ⟨S64x32, .fp8e4m3⟩
  | .hbm, ⟨5, _⟩ => ⟨S64x1, .f32⟩
  | .hbm, ⟨6, _⟩ => ⟨S16x64, .fp8e4m3⟩
  | .hbm, ⟨7, _⟩ => ⟨S16x1, .f32⟩
  | .hbm, ⟨8, _⟩ => ⟨S64x32, .fp8e4m3⟩
  | .hbm, ⟨9, _⟩ => ⟨S64x1, .f32⟩
  | .hbm, ⟨10, _⟩ => ⟨S64x64, .fp8e4m3⟩
  | .hbm, ⟨11, _⟩ => ⟨S64x1, .f32⟩
  | .hbm, ⟨12, _⟩ => ⟨S3x64, .fp8e4m3⟩
  | .hbm, ⟨13, _⟩ => ⟨S3x1, .f32⟩
  | .hbm, ⟨14, _⟩ => ⟨S640x1024, .bf16⟩
  | .hbm, ⟨15, _⟩ => ⟨S3x640x1024, .bf16⟩
  | .hbm, ⟨16, _⟩ => ⟨S640x32x1024, .fp8e4m3⟩
  | .hbm, ⟨17, _⟩ => ⟨S640x2x1024, .f32⟩
  | .hbm, ⟨18, _⟩ => ⟨S640x64x1024, .fp8e4m3⟩
  | .hbm, ⟨19, _⟩ => ⟨S640x4x1024, .f32⟩
  | .hbm, ⟨20, _⟩ => ⟨S640x32x1024, .fp8e4m3⟩
  | .hbm, ⟨21, _⟩ => ⟨S640x2x1024, .f32⟩
  | .hbm, ⟨22, _⟩ => ⟨S640x64x1024, .fp8e4m3⟩
  | .hbm, ⟨23, _⟩ => ⟨S640x4x1024, .f32⟩
  | .hbm, ⟨24, _⟩ => ⟨S640x64x1024, .fp8e4m3⟩
  | .hbm, ⟨25, _⟩ => ⟨S640x4x1024, .f32⟩
  | .local _ .vmem, ⟨0, _⟩ => ⟨S8x8x8x128, .f32⟩
  | .local _ .vmem, ⟨1, _⟩ => ⟨S8x8x8x128, .f32⟩
  | .local _ .vmem, ⟨2, _⟩ => ⟨S8x4x8x8x128, .f32⟩
  | .local _ .vmem, ⟨3, _⟩ => ⟨S8x4x8x8x128, .f32⟩
  | .local _ .vmem, ⟨4, _⟩ => ⟨S32x1, .f32⟩
  | .local _ .vmem, ⟨5, _⟩ => ⟨S8x16x1, .f32⟩
  | .local _ .vmem, ⟨6, _⟩ => ⟨S8x16x1, .f32⟩
  | .local _ .vmem, ⟨7, _⟩ => ⟨S64x32, .fp8e4m3⟩
  | .local _ .vmem, ⟨8, _⟩ => ⟨S64x1, .f32⟩
  | .local _ .vmem, ⟨9, _⟩ => ⟨S16x64, .fp8e4m3⟩
  | .local _ .vmem, ⟨10, _⟩ => ⟨S16x1, .f32⟩
  | .local _ .vmem, ⟨11, _⟩ => ⟨S64x32, .fp8e4m3⟩
  | .local _ .vmem, ⟨12, _⟩ => ⟨S64x1, .f32⟩
  | .local _ .vmem, ⟨13, _⟩ => ⟨S64x64, .fp8e4m3⟩
  | .local _ .vmem, ⟨14, _⟩ => ⟨S64x1, .f32⟩
  | .local _ .vmem, ⟨15, _⟩ => ⟨S3x64, .fp8e4m3⟩
  | .local _ .vmem, ⟨16, _⟩ => ⟨S3x1, .f32⟩
  | .local _ .vmem, ⟨17, _⟩ => ⟨S8x1024, .bf16⟩
  | .local _ .vmem, ⟨18, _⟩ => ⟨S8x1024, .bf16⟩
  | .local _ .vmem, ⟨19, _⟩ => ⟨S3x8x1024, .bf16⟩
  | .local _ .vmem, ⟨20, _⟩ => ⟨S3x8x1024, .bf16⟩
  | .local _ .vmem, ⟨21, _⟩ => ⟨S8x32x1024, .fp8e4m3⟩
  | .local _ .vmem, ⟨22, _⟩ => ⟨S8x32x1024, .fp8e4m3⟩
  | .local _ .vmem, ⟨23, _⟩ => ⟨S8x2x1024, .f32⟩
  | .local _ .vmem, ⟨24, _⟩ => ⟨S8x2x1024, .f32⟩
  | .local _ .vmem, ⟨25, _⟩ => ⟨S8x64x1024, .fp8e4m3⟩
  | .local _ .vmem, ⟨26, _⟩ => ⟨S8x64x1024, .fp8e4m3⟩
  | .local _ .vmem, ⟨27, _⟩ => ⟨S8x4x1024, .f32⟩
  | .local _ .vmem, ⟨28, _⟩ => ⟨S8x4x1024, .f32⟩
  | .local _ .vmem, ⟨29, _⟩ => ⟨S8x32x1024, .fp8e4m3⟩
  | .local _ .vmem, ⟨30, _⟩ => ⟨S8x32x1024, .fp8e4m3⟩
  | .local _ .vmem, ⟨31, _⟩ => ⟨S8x2x1024, .f32⟩
  | .local _ .vmem, ⟨32, _⟩ => ⟨S8x2x1024, .f32⟩
  | .local _ .vmem, ⟨33, _⟩ => ⟨S8x64x1024, .fp8e4m3⟩
  | .local _ .vmem, ⟨34, _⟩ => ⟨S8x64x1024, .fp8e4m3⟩
  | .local _ .vmem, ⟨35, _⟩ => ⟨S8x4x1024, .f32⟩
  | .local _ .vmem, ⟨36, _⟩ => ⟨S8x4x1024, .f32⟩
  | .local _ .vmem, ⟨37, _⟩ => ⟨S8x64x1024, .fp8e4m3⟩
  | .local _ .vmem, ⟨38, _⟩ => ⟨S8x64x1024, .fp8e4m3⟩
  | .local _ .vmem, ⟨39, _⟩ => ⟨S8x4x1024, .f32⟩
  | .local _ .vmem, ⟨40, _⟩ => ⟨S8x4x1024, .f32⟩
  | _, _ => ⟨S640x8x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v0_3 : Ref sig .tc := ⟨.hbm, 17, rfl⟩
abbrev main_v0_4 : Ref sig .tc := ⟨.hbm, 18, rfl⟩
abbrev main_v0_5 : Ref sig .tc := ⟨.hbm, 19, rfl⟩
abbrev main_v0_6 : Ref sig .tc := ⟨.hbm, 20, rfl⟩
abbrev main_v0_7 : Ref sig .tc := ⟨.hbm, 21, rfl⟩
abbrev main_v0_8 : Ref sig .tc := ⟨.hbm, 22, rfl⟩
abbrev main_v0_9 : Ref sig .tc := ⟨.hbm, 23, rfl⟩
abbrev main_v0_10 : Ref sig .tc := ⟨.hbm, 24, rfl⟩
abbrev main_v0_11 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_stg23_0 : Ref sig .tc := ⟨.vmem, 35, rfl⟩
abbrev cc0_stg23_1 : Ref sig .tc := ⟨.vmem, 36, rfl⟩
abbrev cc0_stg24_0 : Ref sig .tc := ⟨.vmem, 37, rfl⟩
abbrev cc0_stg24_1 : Ref sig .tc := ⟨.vmem, 38, rfl⟩
abbrev cc0_stg25_0 : Ref sig .tc := ⟨.vmem, 39, rfl⟩
abbrev cc0_stg25_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34
abbrev cc0_sem23_0 : DmaSem sig := 35
abbrev cc0_sem23_1 : DmaSem sig := 36
abbrev cc0_sem24_0 : DmaSem sig := 37
abbrev cc0_sem24_1 : DmaSem sig := 38
abbrev cc0_sem25_0 : DmaSem sig := 39
abbrev cc0_sem25_1 : DmaSem sig := 40

abbrev nD : Nat := 1
abbrev τ : Topo := Topo.v7x

variable {F : FTy → Type} [FloatOps F]

abbrev grid0 : Pipeline.Grid := ⟨1, ![80], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x8x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4x8x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x16x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x32 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x64 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x32 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x64 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S8x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S3x8x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x32x1024 .fp8e4m3 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x2x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x64x1024 .fp8e4m3 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S8x4x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S8x32x1024 .fp8e4m3 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S8x2x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S8x64x1024 .fp8e4m3 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S8x4x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S8x64x1024 .fp8e4m3 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S8x4x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]
-- ==== ReferenceIdeal.lean ====
abbrev S640x8x8x128 : Shape := ⟨4, ![640, 8, 8, 128]⟩
abbrev S640x4x8x8x128 : Shape := ⟨5, ![640, 4, 8, 8, 128]⟩
abbrev S32x1 : Shape := ⟨2, ![32, 1]⟩
abbrev S640x16x1 : Shape := ⟨3, ![640, 16, 1]⟩
abbrev S64x32 : Shape := ⟨2, ![64, 32]⟩
abbrev S64x1 : Shape := ⟨2, ![64, 1]⟩
abbrev S16x64 : Shape := ⟨2, ![16, 64]⟩
abbrev S16x1 : Shape := ⟨2, ![16, 1]⟩
abbrev S64x64 : Shape := ⟨2, ![64, 64]⟩
abbrev S3x64 : Shape := ⟨2, ![3, 64]⟩
abbrev S3x1 : Shape := ⟨2, ![3, 1]⟩
abbrev S640x8x128x8 : Shape := ⟨4, ![640, 8, 128, 8]⟩
abbrev S655360x8 : Shape := ⟨2, ![655360, 8]⟩
abbrev S640x8x128x4x8 : Shape := ⟨5, ![640, 8, 128, 4, 8]⟩
abbrev S655360x32 : Shape := ⟨2, ![655360, 32]⟩
abbrev S655360x6 : Shape := ⟨2, ![655360, 6]⟩
abbrev S655360x26 : Shape := ⟨2, ![655360, 26]⟩
abbrev S1x32 : Shape := ⟨2, ![1, 32]⟩
abbrev S640x16 : Shape := ⟨2, ![640, 16]⟩
abbrev S1x64 : Shape := ⟨2, ![1, 64]⟩
abbrev S1x16 : Shape := ⟨2, ![1, 16]⟩
abbrev S1x3 : Shape := ⟨2, ![1, 3]⟩
abbrev S640x1024 : Shape := ⟨2, ![640, 1024]⟩
abbrev S3x640x1024 : Shape := ⟨3, ![3, 640, 1024]⟩
abbrev S640x32x1024 : Shape := ⟨3, ![640, 32, 1024]⟩
abbrev S640x2x1024 : Shape := ⟨3, ![640, 2, 1024]⟩
abbrev S640x64x1024 : Shape := ⟨3, ![640, 64, 1024]⟩
abbrev S640x4x1024 : Shape := ⟨3, ![640, 4, 1024]⟩
abbrev S655360x2x16 : Shape := ⟨3, ![655360, 2, 16]⟩
abbrev S655360x2 : Shape := ⟨2, ![655360, 2]⟩
abbrev S655360x2x1 : Shape := ⟨3, ![655360, 2, 1]⟩
abbrev S640x1024x32 : Shape := ⟨3, ![640, 1024, 32]⟩
abbrev S640x1024x2 : Shape := ⟨3, ![640, 1024, 2]⟩
abbrev S655360x64 : Shape := ⟨2, ![655360, 64]⟩
abbrev S655360x4x16 : Shape := ⟨3, ![655360, 4, 16]⟩
abbrev S655360x4 : Shape := ⟨2, ![655360, 4]⟩
abbrev S655360x4x1 : Shape := ⟨3, ![655360, 4, 1]⟩
abbrev S640x1024x64 : Shape := ⟨3, ![640, 1024, 64]⟩
abbrev S640x1024x4 : Shape := ⟨3, ![640, 1024, 4]⟩
abbrev S655360x16 : Shape := ⟨2, ![655360, 16]⟩
abbrev S655360x1 : Shape := ⟨2, ![655360, 1]⟩
abbrev S655360 : Shape := ⟨1, ![655360]⟩
abbrev S640x1x16 : Shape := ⟨3, ![640, 1, 16]⟩
abbrev S640x1024x16 : Shape := ⟨3, ![640, 1024, 16]⟩
abbrev S655360x3 : Shape := ⟨2, ![655360, 3]⟩
abbrev S3x655360 : Shape := ⟨2, ![3, 655360]⟩

abbrev nBuf : Space → Nat
  | .hbm => 42
  | .vmem => 24
  | .smem => 0
  | _ => 0

abbrev bufTy : (tb : Table) → Fin (tcTables nBuf tb) → BufTy
  | .hbm, ⟨0, _⟩ => ⟨S640x8x8x128, .f32⟩
  | .hbm, ⟨1, _⟩ => ⟨S640x4x8x8x128, .f32⟩
  | .hbm, ⟨2, _⟩ => ⟨S32x1, .f32⟩
  | .hbm, ⟨3, _⟩ => ⟨S640x16x1, .f32⟩
  | .hbm, ⟨4, _⟩ => ⟨S64x32, .fp8e4m3⟩
  | .hbm, ⟨5, _⟩ => ⟨S64x1, .f32⟩
  | .hbm, ⟨6, _⟩ => ⟨S16x64, .fp8e4m3⟩
  | .hbm, ⟨7, _⟩ => ⟨S16x1, .f32⟩
  | .hbm, ⟨8, _⟩ => ⟨S64x32, .fp8e4m3⟩
  | .hbm, ⟨9, _⟩ => ⟨S64x1, .f32⟩
  | .hbm, ⟨10, _⟩ => ⟨S64x64, .fp8e4m3⟩
  | .hbm, ⟨11, _⟩ => ⟨S64x1, .f32⟩
  | .hbm, ⟨12, _⟩ => ⟨S3x64, .fp8e4m3⟩
  | .hbm, ⟨13, _⟩ => ⟨S3x1, .f32⟩
  | .hbm, ⟨14, _⟩ => ⟨S640x8x128x8, .f32⟩
  | .hbm, ⟨15, _⟩ => ⟨S655360x8, .f32⟩
  | .hbm, ⟨16, _⟩ => ⟨S640x8x128x4x8, .f32⟩
  | .hbm, ⟨17, _⟩ => ⟨S655360x32, .f32⟩
  | .hbm, ⟨18, _⟩ => ⟨S655360x6, .f32⟩
  | .hbm, ⟨19, _⟩ => ⟨S655360x26, .f32⟩
  | .hbm, ⟨20, _⟩ => ⟨S655360x32, .f32⟩
  | .hbm, ⟨21, _⟩ => ⟨S1x32, .f32⟩
  | .hbm, ⟨22, _⟩ => ⟨S655360x32, .f32⟩
  | .hbm, ⟨23, _⟩ => ⟨S655360x32, .f32⟩
  | .hbm, ⟨24, _⟩ => ⟨S640x16, .f32⟩
  | .hbm, ⟨25, _⟩ => ⟨S1x64, .f32⟩
  | .hbm, ⟨26, _⟩ => ⟨S1x16, .f32⟩
  | .hbm, ⟨27, _⟩ => ⟨S1x64, .f32⟩
  | .hbm, ⟨28, _⟩ => ⟨S1x64, .f32⟩
  | .hbm, ⟨29, _⟩ => ⟨S1x3, .f32⟩
  | .hbm, ⟨30, _⟩ => ⟨S640x1024, .bf16⟩
  | .hbm, ⟨31, _⟩ => ⟨S3x640x1024, .bf16⟩
  | .hbm, ⟨32, _⟩ => ⟨S640x32x1024, .fp8e4m3⟩
  | .hbm, ⟨33, _⟩ => ⟨S640x2x1024, .f32⟩
  | .hbm, ⟨34, _⟩ => ⟨S640x64x1024, .fp8e4m3⟩
  | .hbm, ⟨35, _⟩ => ⟨S640x4x1024, .f32⟩
  | .hbm, ⟨36, _⟩ => ⟨S640x32x1024, .fp8e4m3⟩
  | .hbm, ⟨37, _⟩ => ⟨S640x2x1024, .f32⟩
  | .hbm, ⟨38, _⟩ => ⟨S640x64x1024, .fp8e4m3⟩
  | .hbm, ⟨39, _⟩ => ⟨S640x4x1024, .f32⟩
  | .hbm, ⟨40, _⟩ => ⟨S640x64x1024, .fp8e4m3⟩
  | .hbm, ⟨41, _⟩ => ⟨S640x4x1024, .f32⟩
  | .local _ .vmem, ⟨0, _⟩ => ⟨S655360x32, .f32⟩
  | .local _ .vmem, ⟨1, _⟩ => ⟨S640x16, .f32⟩
  | .local _ .vmem, ⟨2, _⟩ => ⟨S64x32, .fp8e4m3⟩
  | .local _ .vmem, ⟨3, _⟩ => ⟨S1x64, .f32⟩
  | .local _ .vmem, ⟨4, _⟩ => ⟨S16x64, .fp8e4m3⟩
  | .local _ .vmem, ⟨5, _⟩ => ⟨S1x16, .f32⟩
  | .local _ .vmem, ⟨6, _⟩ => ⟨S64x32, .fp8e4m3⟩
  | .local _ .vmem, ⟨7, _⟩ => ⟨S1x64, .f32⟩
  | .local _ .vmem, ⟨8, _⟩ => ⟨S64x64, .fp8e4m3⟩
  | .local _ .vmem, ⟨9, _⟩ => ⟨S1x64, .f32⟩
  | .local _ .vmem, ⟨10, _⟩ => ⟨S3x64, .fp8e4m3⟩
  | .local _ .vmem, ⟨11, _⟩ => ⟨S1x3, .f32⟩
  | .local _ .vmem, ⟨12, _⟩ => ⟨S640x1024, .bf16⟩
  | .local _ .vmem, ⟨13, _⟩ => ⟨S3x640x1024, .bf16⟩
  | .local _ .vmem, ⟨14, _⟩ => ⟨S640x32x1024, .fp8e4m3⟩
  | .local _ .vmem, ⟨15, _⟩ => ⟨S640x2x1024, .f32⟩
  | .local _ .vmem, ⟨16, _⟩ => ⟨S640x64x1024, .fp8e4m3⟩
  | .local _ .vmem, ⟨17, _⟩ => ⟨S640x4x1024, .f32⟩
  | .local _ .vmem, ⟨18, _⟩ => ⟨S640x32x1024, .fp8e4m3⟩
  | .local _ .vmem, ⟨19, _⟩ => ⟨S640x2x1024, .f32⟩
  | .local _ .vmem, ⟨20, _⟩ => ⟨S640x64x1024, .fp8e4m3⟩
  | .local _ .vmem, ⟨21, _⟩ => ⟨S640x4x1024, .f32⟩
  | .local _ .vmem, ⟨22, _⟩ => ⟨S640x64x1024, .fp8e4m3⟩
  | .local _ .vmem, ⟨23, _⟩ => ⟨S640x4x1024, .f32⟩
  | _, _ => ⟨S640x8x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16_0 : Ref sig .tc := ⟨.hbm, 30, rfl⟩
abbrev main_v16_1 : Ref sig .tc := ⟨.hbm, 31, rfl⟩
abbrev main_v16_2 : Ref sig .tc := ⟨.hbm, 32, rfl⟩
abbrev main_v16_3 : Ref sig .tc := ⟨.hbm, 33, rfl⟩
abbrev main_v16_4 : Ref sig .tc := ⟨.hbm, 34, rfl⟩
abbrev main_v16_5 : Ref sig .tc := ⟨.hbm, 35, rfl⟩
abbrev main_v16_6 : Ref sig .tc := ⟨.hbm, 36, rfl⟩
abbrev main_v16_7 : Ref sig .tc := ⟨.hbm, 37, rfl⟩
abbrev main_v16_8 : Ref sig .tc := ⟨.hbm, 38, rfl⟩
abbrev main_v16_9 : Ref sig .tc := ⟨.hbm, 39, rfl⟩
abbrev main_v16_10 : Ref sig .tc := ⟨.hbm, 40, rfl⟩
abbrev main_v16_11 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := .none

abbrev stage0_0 : Fin 1 → Memref sig .tc .vmem S655360x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S640x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x32 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x64 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x32 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x64 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x64 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x3 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S640x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3x640x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S640x32x1024 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S640x2x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S640x64x1024 .fp8e4m3 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S640x4x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S640x32x1024 .fp8e4m3 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S640x2x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S640x64x1024 .fp8e4m3 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S640x4x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S640x64x1024 .fp8e4m3 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S640x4x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
-- ==== Harmonics.lean ====
abbrev S3x640 : Shape := ⟨2, ![3, 640]⟩
abbrev S16x640 : Shape := ⟨2, ![16, 640]⟩
abbrev S1x640 : Shape := ⟨2, ![1, 640]⟩

abbrev nBuf : Space → Nat
  | .hbm => 2
  | .vmem => 2
  | .smem => 0
  | _ => 0

abbrev bufTy : (tb : Table) → Fin (tcTables nBuf tb) → BufTy
  | .hbm, ⟨0, _⟩ => ⟨S3x640, .f32⟩
  | .hbm, ⟨1, _⟩ => ⟨S16x640, .f32⟩
  | .local _ .vmem, ⟨0, _⟩ => ⟨S3x640, .f32⟩
  | .local _ .vmem, ⟨1, _⟩ => ⟨S16x640, .f32⟩
  | _, _ => ⟨S3x640, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S3x640 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== PolynomialsIdeal.lean ====
abbrev S3x640 : Shape := ⟨2, ![3, 640]⟩
abbrev S1x640 : Shape := ⟨2, ![1, 640]⟩
abbrev S640 : Shape := ⟨1, ![640]⟩
abbrev S_ : Shape := ⟨0, ![]⟩
abbrev S16x640 : Shape := ⟨2, ![16, 640]⟩

abbrev nBuf : Space → Nat
  | .hbm => 117
  | .vmem => 0
  | .smem => 0
  | _ => 0

abbrev bufTy : (tb : Table) → Fin (tcTables nBuf tb) → BufTy
  | .hbm, ⟨0, _⟩ => ⟨S3x640, .f32⟩
  | .hbm, ⟨1, _⟩ => ⟨S1x640, .f32⟩
  | .hbm, ⟨2, _⟩ => ⟨S640, .f32⟩
  | .hbm, ⟨3, _⟩ => ⟨S1x640, .f32⟩
  | .hbm, ⟨4, _⟩ => ⟨S640, .f32⟩
  | .hbm, ⟨5, _⟩ => ⟨S1x640, .f32⟩
  | .hbm, ⟨6, _⟩ => ⟨S640, .f32⟩
  | .hbm, ⟨7, _⟩ => ⟨S640, .f32⟩
  | .hbm, ⟨8, _⟩ => ⟨S640, .f32⟩
  | .hbm, ⟨9, _⟩ => ⟨S640, .f32⟩
  | .hbm, ⟨10, _⟩ => ⟨S_, .f32⟩
  | .hbm, ⟨11, _⟩ => ⟨S640, .f32⟩
  | .hbm, ⟨12, _⟩ => ⟨S_, .f32⟩
  | .hbm, ⟨13, _⟩ => ⟨S640, .f32⟩
  | .hbm, ⟨14, _⟩ => ⟨S640, .f32⟩
  | .hbm, ⟨15, _⟩ => ⟨S_, .f32⟩
  | .hbm, ⟨16, _⟩ => ⟨S640, .f32⟩
  | .hbm, ⟨17, _⟩ => ⟨S640, .f32⟩
  | .hbm, ⟨18, _⟩ => ⟨S_, .f32⟩
  | .hbm, ⟨19, _⟩ => ⟨S640, .f32⟩
  | .hbm, ⟨20, _⟩ => ⟨S640, .f32⟩
  | .hbm, ⟨21, _⟩ => ⟨S_, .f32⟩
  | .hbm, ⟨22, _⟩ => ⟨S640, .f32⟩
  | .hbm, ⟨23, _⟩ => ⟨S640, .f32⟩
  | .hbm, ⟨24, _⟩ => ⟨S640, .f32⟩
  | .hbm, ⟨25, _⟩ => ⟨S_, .f32⟩
  | .hbm, ⟨26, _⟩ => ⟨S640, .f32⟩
  | .hbm, ⟨27, _⟩ => ⟨S640, .f32⟩
  | .hbm, ⟨28, _⟩ => ⟨S640, .f32⟩
  | .hbm, ⟨29, _⟩ => ⟨S_, .f32⟩
  | .hbm, ⟨30, _⟩ => ⟨S640, .f32⟩
  | .hbm, ⟨31, _⟩ => ⟨S640, .f32⟩
  | .hbm, ⟨32, _⟩ => ⟨S_, .f32⟩
  | .hbm, ⟨33, _⟩ => ⟨S640, .f32⟩
  | .hbm, ⟨34, _⟩ => ⟨S640, .f32⟩
  | .hbm, ⟨35, _⟩ => ⟨S_, .f32⟩
  | .hbm, ⟨36, _⟩ => ⟨S640, .f32⟩
  | .hbm, ⟨37, _⟩ => ⟨S640, .f32⟩
  | .hbm, ⟨38, _⟩ => ⟨S640, .f32⟩
  | .hbm, ⟨39, _⟩ => ⟨S640, .f32⟩
  | .hbm, ⟨40, _⟩ => ⟨S_, .f32⟩
  | .hbm, ⟨41, _⟩ => ⟨S640, .f32⟩
  | .hbm, ⟨42, _⟩ => ⟨S640, .f32⟩
  | .hbm, ⟨43, _⟩ => ⟨S_, .f32⟩
  | .hbm, ⟨44, _⟩ => ⟨S640, .f32⟩
  | .hbm, ⟨45, _⟩ => ⟨S640, .f32⟩
  | .hbm, ⟨46, _⟩ => ⟨S_, .f32⟩
  | .hbm, ⟨47, _⟩ => ⟨S640, .f32⟩
  | .hbm, ⟨48, _⟩ => ⟨S640, .f32⟩
  | .hbm, ⟨49, _⟩ => ⟨S640, .f32⟩
  | .hbm, ⟨50, _⟩ => ⟨S640, .f32⟩
  | .hbm, ⟨51, _⟩ => ⟨S_, .f32⟩
  | .hbm, ⟨52, _⟩ => ⟨S640, .f32⟩
  | .hbm, ⟨53, _⟩ => ⟨S640, .f32⟩
  | .hbm, ⟨54, _⟩ => ⟨S640, .f32⟩
  | .hbm, ⟨55, _⟩ => ⟨S640, .f32⟩
  | .hbm, ⟨56, _⟩ => ⟨S_, .f32⟩
  | .hbm, ⟨57, _⟩ => ⟨S640, .f32⟩
  | .hbm, ⟨58, _⟩ => ⟨S640, .f32⟩
  | .hbm, ⟨59, _⟩ => ⟨S_, .f32⟩
  | .hbm, ⟨60, _⟩ => ⟨S640, .f32⟩
  | .hbm, ⟨61, _⟩ => ⟨S640, .f32⟩
  | .hbm, ⟨62, _⟩ => ⟨S_, .f32⟩
  | .hbm, ⟨63, _⟩ => ⟨S640, .f32⟩
  | .hbm, ⟨64, _⟩ => ⟨S640, .f32⟩
  | .hbm, ⟨65, _⟩ => ⟨S640, .f32⟩
  | .hbm, ⟨66, _⟩ => ⟨S_, .f32⟩
  | .hbm, ⟨67, _⟩ => ⟨S640, .f32⟩
  | .hbm, ⟨68, _⟩ => ⟨S640, .f32⟩
  | .hbm, ⟨69, _⟩ => ⟨S_, .f32⟩
  | .hbm, ⟨70, _⟩ => ⟨S640, .f32⟩
  | .hbm, ⟨71, _⟩ => ⟨S640, .f32⟩
  | .hbm, ⟨72, _⟩ => ⟨S_, .f32⟩
  | .hbm, ⟨73, _⟩ => ⟨S640, .f32⟩
  | .hbm, ⟨74, _⟩ => ⟨S640, .f32⟩
  | .hbm, ⟨75, _⟩ => ⟨S640, .f32⟩
  | .hbm, ⟨76, _⟩ => ⟨S_, .f32⟩
  | .hbm, ⟨77, _⟩ => ⟨S640, .f32⟩
  | .hbm, ⟨78, _⟩ => ⟨S640, .f32⟩
  | .hbm, ⟨79, _⟩ => ⟨S_, .f32⟩
  | .hbm, ⟨80, _⟩ => ⟨S640, .f32⟩
  | .hbm, ⟨81, _⟩ => ⟨S640, .f32⟩
  | .hbm, ⟨82, _⟩ => ⟨S_, .f32⟩
  | .hbm, ⟨83, _⟩ => ⟨S640, .f32⟩
  | .hbm, ⟨84, _⟩ => ⟨S640, .f32⟩
  | .hbm, ⟨85, _⟩ => ⟨S640, .f32⟩
  | .hbm, ⟨86, _⟩ => ⟨S_, .f32⟩
  | .hbm, ⟨87, _⟩ => ⟨S640, .f32⟩
  | .hbm, ⟨88, _⟩ => ⟨S640, .f32⟩
  | .hbm, ⟨89, _⟩ => ⟨S640, .f32⟩
  | .hbm, ⟨90, _⟩ => ⟨S640, .f32⟩
  | .hbm, ⟨91, _⟩ => ⟨S_, .f32⟩
  | .hbm, ⟨92, _⟩ => ⟨S640, .f32⟩
  | .hbm, ⟨93, _⟩ => ⟨S640, .f32⟩
  | .hbm, ⟨94, _⟩ => ⟨S640, .f32⟩
  | .hbm, ⟨95, _⟩ => ⟨S_, .f32⟩
  | .hbm, ⟨96, _⟩ => ⟨S640, .f32⟩
  | .hbm, ⟨97, _⟩ => ⟨S640, .f32⟩
  | .hbm, ⟨98, _⟩ => ⟨S640, .f32⟩
  | .hbm, ⟨99, _⟩ => ⟨S640, .f32⟩
  | .hbm, ⟨100, _⟩ => ⟨S1x640, .f32⟩
  | .hbm, ⟨101, _⟩ => ⟨S1x640, .f32⟩
  | .hbm, ⟨102, _⟩ => ⟨S1x640, .f32⟩
  | .hbm, ⟨103, _⟩ => ⟨S1x640, .f32⟩
  | .hbm, ⟨104, _⟩ => ⟨S1x640, .f32⟩
  | .hbm, ⟨105, _⟩ => ⟨S1x640, .f32⟩
  | .hbm, ⟨106, _⟩ => ⟨S1x640, .f32⟩
  | .hbm, ⟨107, _⟩ => ⟨S1x640, .f32⟩
  | .hbm, ⟨108, _⟩ => ⟨S1x640, .f32⟩
  | .hbm, ⟨109, _⟩ => ⟨S1x640, .f32⟩
  | .hbm, ⟨110, _⟩ => ⟨S1x640, .f32⟩
  | .hbm, ⟨111, _⟩ => ⟨S1x640, .f32⟩
  | .hbm, ⟨112, _⟩ => ⟨S1x640, .f32⟩
  | .hbm, ⟨113, _⟩ => ⟨S1x640, .f32⟩
  | .hbm, ⟨114, _⟩ => ⟨S1x640, .f32⟩
  | .hbm, ⟨115, _⟩ => ⟨S1x640, .f32⟩
  | .hbm, ⟨116, _⟩ => ⟨S16x640, .f32⟩
  | _, _ => ⟨S3x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_4 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_5 : Ref sig .tc := ⟨.hbm, 29, rfl⟩
abbrev main_v22 : Ref sig .tc := ⟨.hbm, 30, rfl⟩
abbrev main_v23 : Ref sig .tc := ⟨.hbm, 31, rfl⟩
abbrev main_cst_6 : Ref sig .tc := ⟨.hbm, 32, rfl⟩
abbrev main_v24 : Ref sig .tc := ⟨.hbm, 33, rfl⟩
abbrev main_v25 : Ref sig .tc := ⟨.hbm, 34, rfl⟩
abbrev main_cst_7 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_8 : Ref sig .tc := ⟨.hbm, 40, rfl⟩
abbrev main_v30 : Ref sig .tc := ⟨.hbm, 41, rfl⟩
abbrev main_v31 : Ref sig .tc := ⟨.hbm, 42, rfl⟩
abbrev main_cst_9 : Ref sig .tc := ⟨.hbm, 43, rfl⟩
abbrev main_v32 : Ref sig .tc := ⟨.hbm, 44, rfl⟩
abbrev main_v33 : Ref sig .tc := ⟨.hbm, 45, rfl⟩
abbrev main_cst_10 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_11 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_12 : Ref sig .tc := ⟨.hbm, 56, rfl⟩
abbrev main_v42 : Ref sig .tc := ⟨.hbm, 57, rfl⟩
abbrev main_v43 : Ref sig .tc := ⟨.hbm, 58, rfl⟩
abbrev main_cst_13 : Ref sig .tc := ⟨.hbm, 59, rfl⟩
abbrev main_v44 : Ref sig .tc := ⟨.hbm, 60, rfl⟩
abbrev main_v45 : Ref sig .tc := ⟨.hbm, 61, rfl⟩
abbrev main_cst_14 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_15 : Ref sig .tc := ⟨.hbm, 66, rfl⟩
abbrev main_v49 : Ref sig .tc := ⟨.hbm, 67, rfl⟩
abbrev main_v50 : Ref sig .tc := ⟨.hbm, 68, rfl⟩
abbrev main_cst_16 : Ref sig .tc := ⟨.hbm, 69, rfl⟩
abbrev main_v51 : Ref sig .tc := ⟨.hbm, 70, rfl⟩
abbrev main_v52 : Ref sig .tc := ⟨.hbm, 71, rfl⟩
abbrev main_cst_17 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_18 : Ref sig .tc := ⟨.hbm, 76, rfl⟩
abbrev main_v56 : Ref sig .tc := ⟨.hbm, 77, rfl⟩
abbrev main_v57 : Ref sig .tc := ⟨.hbm, 78, rfl⟩
abbrev main_cst_19 : Ref sig .tc := ⟨.hbm, 79, rfl⟩
abbrev main_v58 : Ref sig .tc := ⟨.hbm, 80, rfl⟩
abbrev main_v59 : Ref sig .tc := ⟨.hbm, 81, rfl⟩
abbrev main_cst_20 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_21 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_22 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_23 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩

abbrev nD : Nat := 1
abbrev τ : Topo := Topo.v7x

variable {F : FTy → Type} [FloatOps F]
-- ==== Proof.Kernel.Frame.lean ====
/- The frame of the kernel at any floats: the body, run through every load and store, leaves the input buffers
   as they were; of the results nothing is said here. -/
module

public import proofs.«01_k».proof.Proof.Gen.Kernel.Frame
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 0 in
/-- The body, from the input buffers at any contents: it returns, and they are unchanged. -/
theorem sound_kernel (c : Dev nD) (E : Set ℕ) (i : grid0.Coords)
    (arg1 : Memref sig .tc .vmem S8x8x8x128 .f32) (harg1 : arg1.IsWhole)
    (arg2 : Memref sig .tc .vmem S8x4x8x8x128 .f32) (harg2 : arg2.IsWhole)
    (arg3 : Memref sig .tc .vmem S32x1 .f32) (harg3 : arg3.IsWhole)
    (arg4 : Memref sig .tc .vmem S8x16x1 .f32) (harg4 : arg4.IsWhole)
    (arg5 : Memref sig .tc .vmem S64x32 .fp8e4m3) (harg5 : arg5.IsWhole)
    (arg6 : Memref sig .tc .vmem S64x1 .f32) (harg6 : arg6.IsWhole)
    (arg7 : Memref sig .tc .vmem S16x64 .fp8e4m3) (harg7 : arg7.IsWhole)
    (arg8 : Memref sig .tc .vmem S16x1 .f32) (harg8 : arg8.IsWhole)
    (arg9 : Memref sig .tc .vmem S64x32 .fp8e4m3) (harg9 : arg9.IsWhole)
    (arg10 : Memref sig .tc .vmem S64x1 .f32) (harg10 : arg10.IsWhole)
    (arg11 : Memref sig .tc .vmem S64x64 .fp8e4m3) (harg11 : arg11.IsWhole)
    (arg12 : Memref sig .tc .vmem S64x1 .f32) (harg12 : arg12.IsWhole)
    (arg13 : Memref sig .tc .vmem S3x64 .fp8e4m3) (harg13 : arg13.IsWhole)
    (arg14 : Memref sig .tc .vmem S3x1 .f32) (harg14 : arg14.IsWhole)
    (arg15 : Memref sig .tc .vmem S8x1024 .bf16) (harg15 : arg15.IsWhole)
    (arg16 : Memref sig .tc .vmem S3x8x1024 .bf16) (harg16 : arg16.IsWhole)
    (arg17 : Memref sig .tc .vmem S8x32x1024 .fp8e4m3) (harg17 : arg17.IsWhole)
    (arg18 : Memref sig .tc .vmem S8x2x1024 .f32) (harg18 : arg18.IsWhole)
    (arg19 : Memref sig .tc .vmem S8x64x1024 .fp8e4m3) (harg19 : arg19.IsWhole)
    (arg20 : Memref sig .tc .vmem S8x4x1024 .f32) (harg20 : arg20.IsWhole)
    (arg21 : Memref sig .tc .vmem S8x32x1024 .fp8e4m3) (harg21 : arg21.IsWhole)
    (arg22 : Memref sig .tc .vmem S8x2x1024 .f32) (harg22 : arg22.IsWhole)
    (arg23 : Memref sig .tc .vmem S8x64x1024 .fp8e4m3) (harg23 : arg23.IsWhole)
    (arg24 : Memref sig .tc .vmem S8x4x1024 .f32) (harg24 : arg24.IsWhole)
    (arg25 : Memref sig .tc .vmem S8x64x1024 .fp8e4m3) (harg25 : arg25.IsWhole)
    (arg26 : Memref sig .tc .vmem S8x4x1024 .f32) (harg26 : arg26.IsWhole)
    (x0 : Vec F S8x8x8x128 .f32) (x1 : Vec F S8x4x8x8x128 .f32) (x2 : Vec F S32x1 .f32) (x3 : Vec F S8x16x1 .f32) (x4 : Vec F S64x32 .fp8e4m3) (x5 : Vec F S64x1 .f32) (x6 : Vec F S16x64 .fp8e4m3) (x7 : Vec F S16x1 .f32) (x8 : Vec F S64x32 .fp8e4m3) (x9 : Vec F S64x1 .f32) (x10 : Vec F S64x64 .fp8e4m3) (x11 : Vec F S64x1 .f32) (x12 : Vec F S3x64 .fp8e4m3) (x13 : Vec F S3x1 .f32)
    (K : PUnit → sProp 𝕄) :
    iprop(owns (c : Thread nD τ) arg1 fullShare x0
      ∗ owns (c : Thread nD τ) arg2 fullShare x1
      ∗ owns (c : Thread nD τ) arg3 fullShare x2
      ∗ owns (c : Thread nD τ) arg4 fullShare x3
      ∗ owns (c : Thread nD τ) arg5 fullShare x4
      ∗ owns (c : Thread nD τ) arg6 fullShare x5
      ∗ owns (c : Thread nD τ) arg7 fullShare x6
      ∗ owns (c : Thread nD τ) arg8 fullShare x7
      ∗ owns (c : Thread nD τ) arg9 fullShare x8
      ∗ owns (c : Thread nD τ) arg10 fullShare x9
      ∗ owns (c : Thread nD τ) arg11 fullShare x10
      ∗ owns (c : Thread nD τ) arg12 fullShare x11
      ∗ owns (c : Thread nD τ) arg13 fullShare x12
      ∗ owns (c : Thread nD τ) arg14 fullShare x13
      ∗ (∃ d, owns (c : Thread nD τ) arg15 fullShare d)
      ∗ (∃ d, owns (c : Thread nD τ) arg16 fullShare d)
      ∗ (∃ d, owns (c : Thread nD τ) arg17 fullShare d)
      ∗ (∃ d, owns (c : Thread nD τ) arg18 fullShare d)
      ∗ (∃ d, owns (c : Thread nD τ) arg19 fullShare d)
      ∗ (∃ d, owns (c : Thread nD τ) arg20 fullShare d)
      ∗ (∃ d, owns (c : Thread nD τ) arg21 fullShare d)
      ∗ (∃ d, owns (c : Thread nD τ) arg22 fullShare d)
      ∗ (∃ d, owns (c : Thread nD τ) arg23 fullShare d)
      ∗ (∃ d, owns (c : Thread nD τ) arg24 fullShare d)
      ∗ (∃ d, owns (c : Thread nD τ) arg25 fullShare d)
      ∗ (∃ d, owns (c : Thread nD τ) arg26 fullShare d)
      ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare x8
          ∗ owns (c : Thread nD τ) arg10 fullShare x9
          ∗ owns (c : Thread nD τ) arg11 fullShare x10
          ∗ owns (c : Thread nD τ) arg12 fullShare x11
          ∗ owns (c : Thread nD τ) arg13 fullShare x12
          ∗ owns (c : Thread nD τ) arg14 fullShare x13
          ∗ (∃ d, owns (c : Thread nD τ) arg15 fullShare d)
          ∗ (∃ d, owns (c : Thread nD τ) arg16 fullShare d)
          ∗ (∃ d, owns (c : Thread nD τ) arg17 fullShare d)
          ∗ (∃ d, owns (c : Thread nD τ) arg18 fullShare d)
          ∗ (∃ d, owns (c : Thread nD τ) arg19 fullShare d)
          ∗ (∃ d, owns (c : Thread nD τ) arg20 fullShare d)
          ∗ (∃ d, owns (c : Thread nD τ) arg21 fullShare d)
          ∗ (∃ d, owns (c : Thread nD τ) arg22 fullShare d)
          ∗ (∃ d, owns (c : Thread nD τ) arg23 fullShare d)
          ∗ (∃ d, owns (c : Thread nD τ) arg24 fullShare d)
          ∗ (∃ d, owns (c : Thread nD τ) arg25 fullShare d)
          ∗ (∃ d, owns (c : Thread nD τ) arg26 fullShare d)) -∗ K ⟨⟩))
    ⊢ wp frame (wpE (defs₀ (F := F)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_mlp_eq_skeleton]; unfold cc0_mlp_skel
  simp only [k0_part273_eq_skeleton, k0_part274_eq_skeleton, k0_part275_eq_skeleton, k0_part276_eq_skeleton]
  simp only [k0_part273_skel, k0_part274_skel, k0_part275_skel, k0_part276_skel]
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hk⟩
  subst hf0 hf1 hf2 hf3 hf4 hf5 hf6 hf7 hf8 hf9 hf10 hf11 hf12 hf13
  sl_exec
  sl_step
  iapply Hk
  isplitl [H0]
  · iexists f0
    isplitr
    · ipureintro; rfl
    iexact H0
  isplitl [H1]
  · iexists f1
    isplitr
    · ipureintro; rfl
    iexact H1
  isplitl [H2]
  · iexists f2
    isplitr
    · ipureintro; rfl
    iexact H2
  isplitl [H3]
  · iexists f3
    isplitr
    · ipureintro; rfl
    iexact H3
  isplitl [H4]
  · iexists f4
    isplitr
    · ipureintro; rfl
    iexact H4
  isplitl [H5]
  · iexists f5
    isplitr
    · ipureintro; rfl
    iexact H5
  isplitl [H6]
  · iexists f6
    isplitr
    · ipureintro; rfl
    iexact H6
  isplitl [H7]
  · iexists f7
    isplitr
    · ipureintro; rfl
    iexact H7
  isplitl [H8]
  · iexists f8
    isplitr
    · ipureintro; rfl
    iexact H8
  isplitl [H9]
  · iexists f9
    isplitr
    · ipureintro; rfl
    iexact H9
  isplitl [H10]
  · iexists f10
    isplitr
    · ipureintro; rfl
    iexact H10
  isplitl [H11]
  · iexists f11
    isplitr
    · ipureintro; rfl
    iexact H11
  isplitl [H12]
  · iexists f12
    isplitr
    · ipureintro; rfl
    iexact H12
  isplitl [H13]
  · iexists f13
    isplitr
    · ipureintro; rfl
    iexact H13
  isplitl [H14]
  · iexists _, _
    isplitr
    swap
    · iexact H14
    ipureintro; rfl
  isplitl [H15]
  · iexists _, _
    isplitr
    swap
    · iexact H15
    ipureintro; rfl
  isplitl [H16]
  · iexists _, _
    isplitr
    swap
    · iexact H16
    ipureintro; rfl
  isplitl [H17]
  · iexists _, _
    isplitr
    swap
    · iexact H17
    ipureintro; rfl
  isplitl [H18]
  · iexists _, _
    isplitr
    swap
    · iexact H18
    ipureintro; rfl
  isplitl [H19]
  · iexists _, _
    isplitr
    swap
    · iexact H19
    ipureintro; rfl
  isplitl [H20]
  · iexists _, _
    isplitr
    swap
    · iexact H20
    ipureintro; rfl
  isplitl [H21]
  · iexists _, _
    isplitr
    swap
    · iexact H21
    ipureintro; rfl
  isplitl [H22]
  · iexists _, _
    isplitr
    swap
    · iexact H22
    ipureintro; rfl
  isplitl [H23]
  · iexists _, _
    isplitr
    swap
    · iexact H23
    ipureintro; rfl
  isplitl [H24]
  · iexists _, _
    isplitr
    swap
    · iexact H24
    ipureintro; rfl
  iexists _, _
  isplitr
  swap
  · iexact H25
  ipureintro; rfl

variable (m : (ℓ : Loc nD τ sig) → Buf (Elt F) ℓ) (ρ : Dev nD → PrngReg)

/-- The proof data of the region: every input buffer at its block, nothing said of the results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => fun _ => Classical.arbitrary _
    | ⟨15, _⟩ => fun _ => Classical.arbitrary _
    | ⟨16, _⟩ => fun _ => Classical.arbitrary _
    | ⟨17, _⟩ => fun _ => Classical.arbitrary _
    | ⟨18, _⟩ => fun _ => Classical.arbitrary _
    | ⟨19, _⟩ => fun _ => Classical.arbitrary _
    | ⟨20, _⟩ => fun _ => Classical.arbitrary _
    | ⟨21, _⟩ => fun _ => Classical.arbitrary _
    | ⟨22, _⟩ => fun _ => Classical.arbitrary _
    | ⟨23, _⟩ => fun _ => Classical.arbitrary _
    | ⟨24, _⟩ => fun _ => Classical.arbitrary _
    | ⟨25, _⟩ => fun _ => Classical.arbitrary _
    | ⟨_ + 26, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  rw [dats]

theorem after0_0 (c : Dev nD) (t : Fin cfg0.N) : (dats m 0 c).after 0 t = iblk m c 0 t := rfl
theorem after0_1 (c : Dev nD) (t : Fin cfg0.N) : (dats m 0 c).after 1 t = iblk m c 1 t := rfl
theorem after0_2 (c : Dev nD) (t : Fin cfg0.N) : (dats m 0 c).after 2 t = iblk m c 2 t := rfl
theorem after0_3 (c : Dev nD) (t : Fin cfg0.N) : (dats m 0 c).after 3 t = iblk m c 3 t := rfl
theorem after0_4 (c : Dev nD) (t : Fin cfg0.N) : (dats m 0 c).after 4 t = iblk m c 4 t := rfl
theorem after0_5 (c : Dev nD) (t : Fin cfg0.N) : (dats m 0 c).after 5 t = iblk m c 5 t := rfl
theorem after0_6 (c : Dev nD) (t : Fin cfg0.N) : (dats m 0 c).after 6 t = iblk m c 6 t := rfl
theorem after0_7 (c : Dev nD) (t : Fin cfg0.N) : (dats m 0 c).after 7 t = iblk m c 7 t := rfl
theorem after0_8 (c : Dev nD) (t : Fin cfg0.N) : (dats m 0 c).after 8 t = iblk m c 8 t := rfl
theorem after0_9 (c : Dev nD) (t : Fin cfg0.N) : (dats m 0 c).after 9 t = iblk m c 9 t := rfl
theorem after0_10 (c : Dev nD) (t : Fin cfg0.N) : (dats m 0 c).after 10 t = iblk m c 10 t := rfl
theorem after0_11 (c : Dev nD) (t : Fin cfg0.N) : (dats m 0 c).after 11 t = iblk m c 11 t := rfl
theorem after0_12 (c : Dev nD) (t : Fin cfg0.N) : (dats m 0 c).after 12 t = iblk m c 12 t := rfl
theorem after0_13 (c : Dev nD) (t : Fin cfg0.N) : (dats m 0 c).after 13 t = iblk m c 13 t := rfl

theorem before0_0 (c : Dev nD) (t : Fin cfg0.N) (d : ((cfg0.win 0).block.Idx → Elt F (cfg0.win 0).elt)) :
    (dats m 0 c).before 0 t d = iblk m c 0 t :=
  before0_0_of m (dats m 0 c) (A_eq m c 0) (after0_0 m c) t d
theorem before0_1 (c : Dev nD) (t : Fin cfg0.N) (d : ((cfg0.win 1).block.Idx → Elt F (cfg0.win 1).elt)) :
    (dats m 0 c).before 1 t d = iblk m c 1 t :=
  before0_1_of m (dats m 0 c) (A_eq m c 1) (after0_1 m c) t d
theorem before0_2 (c : Dev nD) (t : Fin cfg0.N) (d : ((cfg0.win 2).block.Idx → Elt F (cfg0.win 2).elt)) :
    (dats m 0 c).before 2 t d = iblk m c 2 t :=
  before0_2_of m (dats m 0 c) (A_eq m c 2) (after0_2 m c) t d
theorem before0_3 (c : Dev nD) (t : Fin cfg0.N) (d : ((cfg0.win 3).block.Idx → Elt F (cfg0.win 3).elt)) :
    (dats m 0 c).before 3 t d = iblk m c 3 t :=
  before0_3_of m (dats m 0 c) (A_eq m c 3) (after0_3 m c) t d
theorem before0_4 (c : Dev nD) (t : Fin cfg0.N) (d : ((cfg0.win 4).block.Idx → Elt F (cfg0.win 4).elt)) :
    (dats m 0 c).before 4 t d = iblk m c 4 t :=
  before0_4_of m (dats m 0 c) (A_eq m c 4) (after0_4 m c) t d
theorem before0_5 (c : Dev nD) (t : Fin cfg0.N) (d : ((cfg0.win 5).block.Idx → Elt F (cfg0.win 5).elt)) :
    (dats m 0 c).before 5 t d = iblk m c 5 t :=
  before0_5_of m (dats m 0 c) (A_eq m c 5) (after0_5 m c) t d
theorem before0_6 (c : Dev nD) (t : Fin cfg0.N) (d : ((cfg0.win 6).block.Idx → Elt F (cfg0.win 6).elt)) :
    (dats m 0 c).before 6 t d = iblk m c 6 t :=
  before0_6_of m (dats m 0 c) (A_eq m c 6) (after0_6 m c) t d
theorem before0_7 (c : Dev nD) (t : Fin cfg0.N) (d : ((cfg0.win 7).block.Idx → Elt F (cfg0.win 7).elt)) :
    (dats m 0 c).before 7 t d = iblk m c 7 t :=
  before0_7_of m (dats m 0 c) (A_eq m c 7) (after0_7 m c) t d
theorem before0_8 (c : Dev nD) (t : Fin cfg0.N) (d : ((cfg0.win 8).block.Idx → Elt F (cfg0.win 8).elt)) :
    (dats m 0 c).before 8 t d = iblk m c 8 t :=
  before0_8_of m (dats m 0 c) (A_eq m c 8) (after0_8 m c) t d
theorem before0_9 (c : Dev nD) (t : Fin cfg0.N) (d : ((cfg0.win 9).block.Idx → Elt F (cfg0.win 9).elt)) :
    (dats m 0 c).before 9 t d = iblk m c 9 t :=
  before0_9_of m (dats m 0 c) (A_eq m c 9) (after0_9 m c) t d
theorem before0_10 (c : Dev nD) (t : Fin cfg0.N) (d : ((cfg0.win 10).block.Idx → Elt F (cfg0.win 10).elt)) :
    (dats m 0 c).before 10 t d = iblk m c 10 t :=
  before0_10_of m (dats m 0 c) (A_eq m c 10) (after0_10 m c) t d
theorem before0_11 (c : Dev nD) (t : Fin cfg0.N) (d : ((cfg0.win 11).block.Idx → Elt F (cfg0.win 11).elt)) :
    (dats m 0 c).before 11 t d = iblk m c 11 t :=
  before0_11_of m (dats m 0 c) (A_eq m c 11) (after0_11 m c) t d
theorem before0_12 (c : Dev nD) (t : Fin cfg0.N) (d : ((cfg0.win 12).block.Idx → Elt F (cfg0.win 12).elt)) :
    (dats m 0 c).before 12 t d = iblk m c 12 t :=
  before0_12_of m (dats m 0 c) (A_eq m c 12) (after0_12 m c) t d
theorem before0_13 (c : Dev nD) (t : Fin cfg0.N) (d : ((cfg0.win 13).block.Idx → Elt F (cfg0.win 13).elt)) :
    (dats m 0 c).before 13 t d = iblk m c 13 t :=
  before0_13_of m (dats m 0 c) (A_eq m c 13) (after0_13 m c) t d

/-- What the body is run from at point `t`, each window by itself, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ X, owns (c : Thread nD τ) (st0_14 t) fullShare X)
    ∗ (∃ X, owns (c : Thread nD τ) (st0_15 t) fullShare X)
    ∗ (∃ X, owns (c : Thread nD τ) (st0_16 t) fullShare X)
    ∗ (∃ X, owns (c : Thread nD τ) (st0_17 t) fullShare X)
    ∗ (∃ X, owns (c : Thread nD τ) (st0_18 t) fullShare X)
    ∗ (∃ X, owns (c : Thread nD τ) (st0_19 t) fullShare X)
    ∗ (∃ X, owns (c : Thread nD τ) (st0_20 t) fullShare X)
    ∗ (∃ X, owns (c : Thread nD τ) (st0_21 t) fullShare X)
    ∗ (∃ X, owns (c : Thread nD τ) (st0_22 t) fullShare X)
    ∗ (∃ X, owns (c : Thread nD τ) (st0_23 t) fullShare X)
    ∗ (∃ X, owns (c : Thread nD τ) (st0_24 t) fullShare X)
    ∗ (∃ X, owns (c : Thread nD τ) (st0_25 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ (∃ X, owns (c : Thread nD τ) (st0_14 t) fullShare X)
    ∗ (∃ X, owns (c : Thread nD τ) (st0_15 t) fullShare X)
    ∗ (∃ X, owns (c : Thread nD τ) (st0_16 t) fullShare X)
    ∗ (∃ X, owns (c : Thread nD τ) (st0_17 t) fullShare X)
    ∗ (∃ X, owns (c : Thread nD τ) (st0_18 t) fullShare X)
    ∗ (∃ X, owns (c : Thread nD τ) (st0_19 t) fullShare X)
    ∗ (∃ X, owns (c : Thread nD τ) (st0_20 t) fullShare X)
    ∗ (∃ X, owns (c : Thread nD τ) (st0_21 t) fullShare X)
    ∗ (∃ X, owns (c : Thread nD τ) (st0_22 t) fullShare X)
    ∗ (∃ X, owns (c : Thread nD τ) (st0_23 t) fullShare X)
    ∗ (∃ X, owns (c : Thread nD τ) (st0_24 t) fullShare X)
    ∗ (∃ X, owns (c : Thread nD τ) (st0_25 t) fullShare X))

/-- The body at any point: the inputs' buffers hold their blocks, so the body's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  iintro ⟨H0, H1, H2, H3, H4, H5, H6, H7, H8, H9, H10, H11, H12, H13, H14, H15, H16, H17, H18, H19, H20, H21, H22, H23, H24, H25⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The results: windows 14 to 25. -/
def fgt (w : Fin cfg0.W) : Bool := Nat.ble 14 w.val

/-- The body obligation at every point, the results forgotten. -/
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
set_option maxHeartbeats 0 in
/-- The launch: every execution ends, the input arrays are as found and every counter is at zero. -/
theorem run_main_quiescent : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

set_option maxHeartbeats 0 in
/-- THE FRAME: the argument arrays end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun _ h => ⟨fun c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      (Pipeline.RDat.FramePost.arr_in h.1 c 3 rfl).trans ((A_eq m c 3).trans (V_main_arg3 m c)),
      (Pipeline.RDat.FramePost.arr_in h.1 c 4 rfl).trans ((A_eq m c 4).trans (V_main_arg4 m c)),
      (Pipeline.RDat.FramePost.arr_in h.1 c 5 rfl).trans ((A_eq m c 5).trans (V_main_arg5 m c)),
      (Pipeline.RDat.FramePost.arr_in h.1 c 6 rfl).trans ((A_eq m c 6).trans (V_main_arg6 m c)),
      (Pipeline.RDat.FramePost.arr_in h.1 c 7 rfl).trans ((A_eq m c 7).trans (V_main_arg7 m c)),
      (Pipeline.RDat.FramePost.arr_in h.1 c 8 rfl).trans ((A_eq m c 8).trans (V_main_arg8 m c)),
      (Pipeline.RDat.FramePost.arr_in h.1 c 9 rfl).trans ((A_eq m c 9).trans (V_main_arg9 m c)),
      (Pipeline.RDat.FramePost.arr_in h.1 c 10 rfl).trans ((A_eq m c 10).trans (V_main_arg10 m c)),
      (Pipeline.RDat.FramePost.arr_in h.1 c 11 rfl).trans ((A_eq m c 11).trans (V_main_arg11 m c)),
      (Pipeline.RDat.FramePost.arr_in h.1 c 12 rfl).trans ((A_eq m c 12).trans (V_main_arg12 m c)),
      (Pipeline.RDat.FramePost.arr_in h.1 c 13 rfl).trans ((A_eq m c 13).trans (V_main_arg13 m c))⟩, h.2⟩) (run_main_quiescent m ρ)

end Cert.Kernel.Body

end
-- ==== Proof.KernelIdeal.Vocab.lean ====
module

public import proofs.«01_k».proof.Proof.Gen.KernelIdeal.Skeleton
public import Idealize.ShloMosaic.Lib.Pipeline.FrameBody

/-! What one grid step computes, in words.

One step of the kernel works on eight rays.  For each ray it assembles the encoded samples (`enc`),
and sends them through five matrix products.  Before every product the activations are quantised in
groups of sixteen channels (`scale`, `codes`, `act`): each group of each sample gets a power of two
as its scale.  The definitions here name these stages for a ray `r`, given the step's fourteen input
blocks; the outputs of the step are then lists of rows, one per ray (`out0_14` to `out0_25`). -/

@[expose] public section

set_option synthInstance.maxSize 4096
set_option maxRecDepth 16384

noncomputable section

namespace Cert.KernelIdeal.Body

open Cert.KernelIdeal Cert.KernelIdeal.Gen
open Idealize.ShloMosaic Idealize.ShloMosaic.TcCoe Idealize.SL Idealize.SL.Sem

variable {F : FTy → Type} [FloatOps F]

/-- The fourteen input blocks of one grid step. -/
structure In (F : FTy → Type) where
  x0 : Vec F S8x8x8x128 .f32
  x1 : Vec F S8x4x8x8x128 .f32
  x2 : Vec F S32x1 .f32
  x3 : Vec F S8x16x1 .f32
  x4 : Vec F S64x32 .fp8e4m3
  x5 : Vec F S64x1 .f32
  x6 : Vec F S16x64 .fp8e4m3
  x7 : Vec F S16x1 .f32
  x8 : Vec F S64x32 .fp8e4m3
  x9 : Vec F S64x1 .f32
  x10 : Vec F S64x64 .fp8e4m3
  x11 : Vec F S64x1 .f32
  x12 : Vec F S3x64 .fp8e4m3
  x13 : Vec F S3x1 .f32

/-! ## The loads -/

theorem inbS (r st : Fin 8) : ∀ a, (![r.val, st.val, 0, 0] : Fin 4 → Nat) a + S1x1x6x128.size a
    ≤ S8x8x8x128.size a := by revert r st; decide
theorem inbC (r st : Fin 8) : ∀ a, (![r.val, 0, st.val, 6, 0] : Fin 5 → Nat) a
    + S1x1x1x2x128.size a ≤ S8x4x8x8x128.size a := by revert r st; decide
theorem inbB (r : Fin 8) (ct : Fin 4) (st : Fin 8) :
    ∀ a, (![r.val, ct.val, st.val, 0, 0] : Fin 5 → Nat) a + S1x1x1x8x128.size a
    ≤ S8x4x8x8x128.size a := by revert r ct st; decide
theorem inbH (r : Fin 8) : ∀ a, (![r.val, 0, 0] : Fin 3 → Nat) a + S1x16x1.size a
    ≤ S8x16x1.size a := by revert r; decide

/-- Six channels of 128 samples out of the first feature array. -/
def ldS (I : In F) (r st : Fin 8) : Vec F S1x1x6x128 .f32 :=
  View.ld I.x0 (Rect.unit (s := S8x8x8x128) ![r.val, st.val, 0, 0] S1x1x6x128.size (inbS r st))
/-- The two channels that complete them, out of the second feature array. -/
def ldC (I : In F) (r st : Fin 8) : Vec F S1x1x1x2x128 .f32 :=
  View.ld I.x1 (Rect.unit (s := S8x4x8x8x128) ![r.val, 0, st.val, 6, 0] S1x1x1x2x128.size (inbC r st))
/-- Eight channels of 128 samples out of the second feature array. -/
def ldB (I : In F) (r : Fin 8) (ct : Fin 4) (st : Fin 8) : Vec F S1x1x1x8x128 .f32 :=
  View.ld I.x1 (Rect.unit (s := S8x4x8x8x128) ![r.val, ct.val, st.val, 0, 0] S1x1x1x8x128.size
    (inbB r ct st))
/-- The spherical harmonics of the ray's direction. -/
def ldH (I : In F) (r : Fin 8) : Vec F S1x16x1 .f32 :=
  View.ld I.x3 (Rect.unit (s := S8x16x1) ![r.val, 0, 0] S1x16x1.size (inbH r))

def ld3 (I : In F) : Vec F S32x1 .f32 :=
  View.ld I.x2 (Rect.unit (s := S32x1) ![0, 0] S32x1.size inb_S32x1_S32x1_0_0)
def ld5 (I : In F) : Vec F S64x32 .fp8e4m3 :=
  View.ld I.x4 (Rect.unit (s := S64x32) ![0, 0] S64x32.size inb_S64x32_S64x32_0_0)
def ld6 (I : In F) : Vec F S64x1 .f32 :=
  View.ld I.x5 (Rect.unit (s := S64x1) ![0, 0] S64x1.size inb_S64x1_S64x1_0_0)
def ld7 (I : In F) : Vec F S16x64 .fp8e4m3 :=
  View.ld I.x6 (Rect.unit (s := S16x64) ![0, 0] S16x64.size inb_S16x64_S16x64_0_0)
def ld8 (I : In F) : Vec F S16x1 .f32 :=
  View.ld I.x7 (Rect.unit (s := S16x1) ![0, 0] S16x1.size inb_S16x1_S16x1_0_0)
def ld9 (I : In F) : Vec F S64x32 .fp8e4m3 :=
  View.ld I.x8 (Rect.unit (s := S64x32) ![0, 0] S64x32.size inb_S64x32_S64x32_0_0)
def ld10 (I : In F) : Vec F S64x1 .f32 :=
  View.ld I.x9 (Rect.unit (s := S64x1) ![0, 0] S64x1.size inb_S64x1_S64x1_0_0)
def ld11 (I : In F) : Vec F S64x64 .fp8e4m3 :=
  View.ld I.x10 (Rect.unit (s := S64x64) ![0, 0] S64x64.size inb_S64x64_S64x64_0_0)
def ld12 (I : In F) : Vec F S64x1 .f32 :=
  View.ld I.x11 (Rect.unit (s := S64x1) ![0, 0] S64x1.size inb_S64x1_S64x1_0_0)
def ld13 (I : In F) : Vec F S3x64 .fp8e4m3 :=
  View.ld I.x12 (Rect.unit (s := S3x64) ![0, 0] S3x64.size inb_S3x64_S3x64_0_0)
def ld14 (I : In F) : Vec F S3x1 .f32 :=
  View.ld I.x13 (Rect.unit (s := S3x1) ![0, 0] S3x1.size inb_S3x1_S3x1_0_0)

/-! ## The quantiser of one group of sixteen channels -/

/-- The largest magnitude of the group, per sample, over the largest code. -/
def top (v : FVec F S16x1024 .f32) : FVec F S1x1024 .f32 :=
  mulf (shapeCast S1x1024 (multiReduction .maximumf [0] S1024 (absf v) 0xFF800000#32
    reduces_S16x1024_S1024 (.inl rfl) rfl) shapeCasts_S1024_S1x1024)
    (broadcast S1x1024 (Scalar.ofBits .f32 0x3B124925#32))

/-- One step of the search for the exponent field: add `k` if the number whose bits result is still
at most `t`. -/
def grow (t : FVec F S1x1024 .f32) (k : BitVec 32) (b : IVec S1x1024 32) : IVec S1x1024 32 :=
  select (cmpf .ole (bitcastToFloat .f32 (addi b (broadcast S1x1024 k))) t)
    (addi b (broadcast S1x1024 k)) b

/-- The exponent field of `t`, found bit by bit. -/
def expBits (t : FVec F S1x1024 .f32) : IVec S1x1024 32 :=
  grow t 8388608#32 <| grow t 16777216#32 <| grow t 33554432#32 <| grow t 67108864#32 <|
  grow t 134217728#32 <| grow t 268435456#32 <| grow t 528482304#32 <| grow t 1056964608#32 <|
  broadcast S1x1024 0#32

/-- The exponent of the scale. -/
def expo (t : FVec F S1x1024 .f32) : IVec S1x1024 32 :=
  select (cmpf .olt t (broadcast S1x1024 (Scalar.ofBits .f32 0x00800000#32)))
    (broadcast S1x1024 0#32)
    (subi (shrui (expBits t) (broadcast S1x1024 23#32)) (broadcast S1x1024 126#32))

/-- One over the scale. -/
def invScale (t : FVec F S1x1024 .f32) : FVec F S1x1024 .f32 :=
  bitcastToFloat .f32 (shli (subi (broadcast S1x1024 127#32) (expo t)) (broadcast S1x1024 23#32))

/-- The scale of a group. -/
def scale (v : FVec F S16x1024 .f32) : FVec F S1x1024 .f32 :=
  bitcastToFloat .f32
    (shli (addi (broadcast S1x1024 127#32) (expo (top v))) (broadcast S1x1024 23#32))

/-- The codes of a group. -/
def codes (v : FVec F S16x1024 .f32) : FVec F S16x1024 .fp8e4m3 :=
  truncf .fp8e4m3 (minimumf (broadcast S16x1024 (Scalar.ofBits .f32 0x43E00000#32))
    (maximumf (broadcast S16x1024 (Scalar.ofBits .f32 0xC3E00000#32))
      (mulf v (broadcastTo S16x1024 (invScale (top v)) broadcasts_S1x1024_S16x1024))))
    bitsLt_fp8e4m3_f32

/-- What enters the product: the codes times the scale. -/
def act (v : FVec F S16x1024 .f32) : FVec F S16x1024 .bf16 :=
  truncf .bf16 (mulf (extf .f32 (codes v) bitsLt_fp8e4m3_f32)
    (broadcastTo S16x1024 (scale v) broadcasts_S1x1024_S16x1024)) bitsLt_bf16_f32

/-- Group 0 of 32 channels. -/
def grp32_0 (v : FVec F S32x1024 .f32) : FVec F S16x1024 .f32 :=
  extractStridedSlice S16x1024 ![0, 0] v slices_S32x1024_o0_0_S16x1024
/-- Group 1 of 32 channels. -/
def grp32_1 (v : FVec F S32x1024 .f32) : FVec F S16x1024 .f32 :=
  extractStridedSlice S16x1024 ![16, 0] v slices_S32x1024_o16_0_S16x1024
/-- The codes of 32 channels. -/
def codes32 (v : FVec F S32x1024 .f32) : FVec F S32x1024 .fp8e4m3 :=
  concatenate S32x1024 0 [⟨S16x1024, codes (grp32_0 v)⟩, ⟨S16x1024, codes (grp32_1 v)⟩] concatenates_S16x1024_S16x1024_S32x1024_d0
/-- The scales of 32 channels. -/
def scales32 (v : FVec F S32x1024 .f32) : FVec F S2x1024 .f32 :=
  concatenate S2x1024 0 [⟨S1x1024, scale (grp32_0 v)⟩, ⟨S1x1024, scale (grp32_1 v)⟩] concatenates_S1x1024_S1x1024_S2x1024_d0
/-- The quantised activations of 32 channels. -/
def act32 (v : FVec F S32x1024 .f32) : FVec F S32x1024 .bf16 :=
  concatenate S32x1024 0 [⟨S16x1024, act (grp32_0 v)⟩, ⟨S16x1024, act (grp32_1 v)⟩] concatenates_S16x1024_S16x1024_S32x1024_d0

/-- Group 0 of 64 channels. -/
def grp64_0 (v : FVec F S64x1024 .f32) : FVec F S16x1024 .f32 :=
  extractStridedSlice S16x1024 ![0, 0] v slices_S64x1024_o0_0_S16x1024
/-- Group 1 of 64 channels. -/
def grp64_1 (v : FVec F S64x1024 .f32) : FVec F S16x1024 .f32 :=
  extractStridedSlice S16x1024 ![16, 0] v slices_S64x1024_o16_0_S16x1024
/-- Group 2 of 64 channels. -/
def grp64_2 (v : FVec F S64x1024 .f32) : FVec F S16x1024 .f32 :=
  extractStridedSlice S16x1024 ![32, 0] v slices_S64x1024_o32_0_S16x1024
/-- Group 3 of 64 channels. -/
def grp64_3 (v : FVec F S64x1024 .f32) : FVec F S16x1024 .f32 :=
  extractStridedSlice S16x1024 ![48, 0] v slices_S64x1024_o48_0_S16x1024
/-- The codes of 64 channels. -/
def codes64 (v : FVec F S64x1024 .f32) : FVec F S64x1024 .fp8e4m3 :=
  concatenate S64x1024 0 [⟨S16x1024, codes (grp64_0 v)⟩, ⟨S16x1024, codes (grp64_1 v)⟩, ⟨S16x1024, codes (grp64_2 v)⟩, ⟨S16x1024, codes (grp64_3 v)⟩] concatenates_S16x1024_S16x1024_S16x1024_S16x1024_S64x1024_d0
/-- The scales of 64 channels. -/
def scales64 (v : FVec F S64x1024 .f32) : FVec F S4x1024 .f32 :=
  concatenate S4x1024 0 [⟨S1x1024, scale (grp64_0 v)⟩, ⟨S1x1024, scale (grp64_1 v)⟩, ⟨S1x1024, scale (grp64_2 v)⟩, ⟨S1x1024, scale (grp64_3 v)⟩] concatenates_S1x1024_S1x1024_S1x1024_S1x1024_S4x1024_d0
/-- The quantised activations of 64 channels. -/
def act64 (v : FVec F S64x1024 .f32) : FVec F S64x1024 .bf16 :=
  concatenate S64x1024 0 [⟨S16x1024, act (grp64_0 v)⟩, ⟨S16x1024, act (grp64_1 v)⟩, ⟨S16x1024, act (grp64_2 v)⟩, ⟨S16x1024, act (grp64_3 v)⟩] concatenates_S16x1024_S16x1024_S16x1024_S16x1024_S64x1024_d0

/-! ## The layers of one ray -/

/-- The first eight channels of 128 samples. -/
def tileA (I : In F) (r st : Fin 8) : FVec F S8x128 .f32 :=
  concatenate S8x128 0 [⟨S6x128, shapeCast S6x128 (ldS I r st) shapeCasts_S1x1x6x128_S6x128⟩,
    ⟨S2x128, shapeCast S2x128 (ldC I r st) shapeCasts_S1x1x1x2x128_S2x128⟩]
    concatenates_S6x128_S2x128_S8x128_d0
/-- Eight later channels of 128 samples. -/
def tileB (I : In F) (r : Fin 8) (ct : Fin 4) (st : Fin 8) : FVec F S8x128 .f32 :=
  shapeCast S8x128 (ldB I r ct st) shapeCasts_S1x1x1x8x128_S8x128
/-- Eight tiles side by side. -/
def wide (f : Fin 8 → FVec F S8x128 .f32) : FVec F S8x1024 .f32 :=
  concatenate S8x1024 1 [⟨S8x128, f 0⟩, ⟨S8x128, f 1⟩, ⟨S8x128, f 2⟩, ⟨S8x128, f 3⟩, ⟨S8x128, f 4⟩, ⟨S8x128, f 5⟩, ⟨S8x128, f 6⟩, ⟨S8x128, f 7⟩]
    concatenates_S8x128_S8x128_S8x128_S8x128_S8x128_S8x128_S8x128_S8x128_S8x1024_d1
/-- The encoded samples of the ray. -/
def enc (I : In F) (r : Fin 8) : FVec F S32x1024 .f32 :=
  mulf (concatenate S32x1024 0 [⟨S8x1024, wide (tileA I r)⟩, ⟨S8x1024, wide (tileB I r 1)⟩,
    ⟨S8x1024, wide (tileB I r 2)⟩, ⟨S8x1024, wide (tileB I r 3)⟩]
    concatenates_S8x1024_S8x1024_S8x1024_S8x1024_S32x1024_d0)
    (broadcastTo S32x1024 (ld3 I) broadcasts_S32x1_S32x1024)

/-- First layer of the density network. -/
def lay1 (I : In F) (v : FVec F S32x1024 .f32) : FVec F S64x1024 .f32 :=
  maximumf (mulf (matmul dot_S64x32_S32x1024_S64x1024_1_0_0_1_n_n none
    (extf .bf16 (ld5 I) bitsLt_fp8e4m3_bf16) (act32 v) (constant S64x1024 .f32 0x00000000#32))
    (broadcastTo S64x1024 (ld6 I) broadcasts_S64x1_S64x1024)) (broadcast S64x1024 (Scalar.ofBits .f32 0x00000000#32))

/-- Second layer of the density network. -/
def lay2 (I : In F) (v : FVec F S64x1024 .f32) : FVec F S16x1024 .f32 :=
  mulf (matmul dot_S16x64_S64x1024_S16x1024_1_0_0_1_n_n none
    (extf .bf16 (ld7 I) bitsLt_fp8e4m3_bf16) (act64 v) (constant S16x1024 .f32 0x00000000#32))
    (broadcastTo S16x1024 (ld8 I) broadcasts_S16x1_S16x1024)

/-- What the colour network reads: the density network's output above the harmonics. -/
def join (I : In F) (r : Fin 8) (v : FVec F S64x1024 .f32) : FVec F S32x1024 .f32 :=
  concatenate S32x1024 0 [⟨S16x1024, lay2 I v⟩, ⟨S16x1024, broadcastTo S16x1024
    (shapeCast S16x1 (shapeCast S16x1 (ldH I r) shapeCasts_S1x16x1_S16x1) shapeCasts_S16x1_S16x1)
    broadcasts_S16x1_S16x1024⟩] concatenates_S16x1024_S16x1024_S32x1024_d0

/-- First layer of the colour network. -/
def lay3 (I : In F) (v : FVec F S32x1024 .f32) : FVec F S64x1024 .f32 :=
  maximumf (mulf (matmul dot_S64x32_S32x1024_S64x1024_1_0_0_1_n_n none
    (extf .bf16 (ld9 I) bitsLt_fp8e4m3_bf16) (act32 v) (constant S64x1024 .f32 0x00000000#32))
    (broadcastTo S64x1024 (ld10 I) broadcasts_S64x1_S64x1024)) (broadcast S64x1024 (Scalar.ofBits .f32 0x00000000#32))

/-- Second layer of the colour network. -/
def lay4 (I : In F) (v : FVec F S64x1024 .f32) : FVec F S64x1024 .f32 :=
  maximumf (mulf (matmul dot_S64x64_S64x1024_S64x1024_1_0_0_1_n_n none
    (extf .bf16 (ld11 I) bitsLt_fp8e4m3_bf16) (act64 v) (constant S64x1024 .f32 0x00000000#32))
    (broadcastTo S64x1024 (ld12 I) broadcasts_S64x1_S64x1024)) (broadcast S64x1024 (Scalar.ofBits .f32 0x00000000#32))

/-- Third layer of the colour network. -/
def lay5 (I : In F) (v : FVec F S64x1024 .f32) : FVec F S3x1024 .f32 :=
  mulf (matmul dot_S3x64_S64x1024_S3x1024_1_0_0_1_n_n none
    (extf .bf16 (ld13 I) bitsLt_fp8e4m3_bf16) (act64 v) (constant S3x1024 .f32 0x00000000#32))
    (broadcastTo S3x1024 (ld14 I) broadcasts_S3x1_S3x1024)

/-- The density: the exponential of the first output. -/
def dens (I : In F) (v : FVec F S64x1024 .f32) : FVec F S1x1024 .bf16 :=
  truncf .bf16 (exp (extractStridedSlice S1x1024 ![0, 0] (lay2 I v) slices_S16x1024_o0_0_S1x1024))
    bitsLt_bf16_f32
/-- The colours: the logistic function of the last outputs. -/
def colour (I : In F) (v : FVec F S64x1024 .f32) : FVec F S3x1024 .bf16 :=
  truncf .bf16 (divf (broadcast S3x1024 (Scalar.ofBits .f32 0x3F800000#32))
    (addf (broadcast S3x1024 (Scalar.ofBits .f32 0x3F800000#32))
      (exp (subf (broadcast S3x1024 (Scalar.ofBits .f32 0x00000000#32)) (lay5 I v)))))
    bitsLt_bf16_f32
def red (I : In F) (v : FVec F S64x1024 .f32) : FVec F S1x1x1024 .bf16 :=
  shapeCast S1x1x1024 (extractStridedSlice S1x1024 ![0, 0] (colour I v) slices_S3x1024_o0_0_S1x1024)
    shapeCasts_S1x1024_S1x1x1024
def green (I : In F) (v : FVec F S64x1024 .f32) : FVec F S1x1x1024 .bf16 :=
  shapeCast S1x1x1024 (extractStridedSlice S1x1024 ![1, 0] (colour I v) slices_S3x1024_o1_0_S1x1024)
    shapeCasts_S1x1024_S1x1x1024
def blue (I : In F) (v : FVec F S64x1024 .f32) : FVec F S1x1x1024 .bf16 :=
  shapeCast S1x1x1024 (extractStridedSlice S1x1024 ![2, 0] (colour I v) slices_S3x1024_o2_0_S1x1024)
    shapeCasts_S1x1024_S1x1x1024

def h1 (I : In F) (r : Fin 8) : FVec F S64x1024 .f32 := lay1 I (enc I r)
def cin (I : In F) (r : Fin 8) : FVec F S32x1024 .f32 := join I r (h1 I r)
def g1 (I : In F) (r : Fin 8) : FVec F S64x1024 .f32 := lay3 I (cin I r)
def g2 (I : In F) (r : Fin 8) : FVec F S64x1024 .f32 := lay4 I (g1 I r)

/-! ## The rows stored -/

def rowC32 (v : FVec F S32x1024 .f32) : FVec F S1x32x1024 .fp8e4m3 :=
  shapeCast S1x32x1024 (codes32 v) shapeCasts_S32x1024_S1x32x1024
def rowS32 (v : FVec F S32x1024 .f32) : FVec F S1x2x1024 .f32 :=
  shapeCast S1x2x1024 (scales32 v) shapeCasts_S2x1024_S1x2x1024
def rowC64 (v : FVec F S64x1024 .f32) : FVec F S1x64x1024 .fp8e4m3 :=
  shapeCast S1x64x1024 (codes64 v) shapeCasts_S64x1024_S1x64x1024
def rowS64 (v : FVec F S64x1024 .f32) : FVec F S1x4x1024 .f32 :=
  shapeCast S1x4x1024 (scales64 v) shapeCasts_S4x1024_S1x4x1024

/-! ## The output blocks -/

theorem inbR_14 (r : Fin 8) : ∀ a, (![r.val, 0] : Fin 2 → Nat) a + S1x1024.size a
    ≤ S8x1024.size a := by revert r; decide
theorem inbR_15 (k : Fin 3) (r : Fin 8) : ∀ a, (![k.val, r.val, 0] : Fin 3 → Nat) a
    + S1x1x1024.size a ≤ S3x8x1024.size a := by revert k r; decide
def out0_14 (I : In F) : Vec F S8x1024 .bf16 :=
  View.canon [⟨Rect.unit (s := S8x1024) ![7, 0] S1x1024.size (inbR_14 7), dens I (h1 I 7)⟩,
    ⟨Rect.unit (s := S8x1024) ![6, 0] S1x1024.size (inbR_14 6), dens I (h1 I 6)⟩,
    ⟨Rect.unit (s := S8x1024) ![5, 0] S1x1024.size (inbR_14 5), dens I (h1 I 5)⟩,
    ⟨Rect.unit (s := S8x1024) ![4, 0] S1x1024.size (inbR_14 4), dens I (h1 I 4)⟩,
    ⟨Rect.unit (s := S8x1024) ![3, 0] S1x1024.size (inbR_14 3), dens I (h1 I 3)⟩,
    ⟨Rect.unit (s := S8x1024) ![2, 0] S1x1024.size (inbR_14 2), dens I (h1 I 2)⟩,
    ⟨Rect.unit (s := S8x1024) ![1, 0] S1x1024.size (inbR_14 1), dens I (h1 I 1)⟩,
    ⟨Rect.unit (s := S8x1024) ![0, 0] S1x1024.size (inbR_14 0), dens I (h1 I 0)⟩]
def out0_15 (I : In F) : Vec F S3x8x1024 .bf16 :=
  View.canon [⟨Rect.unit (s := S3x8x1024) ![2, 7, 0] S1x1x1024.size (inbR_15 2 7),
      blue I (g2 I 7)⟩,
    ⟨Rect.unit (s := S3x8x1024) ![1, 7, 0] S1x1x1024.size (inbR_15 1 7),
      green I (g2 I 7)⟩,
    ⟨Rect.unit (s := S3x8x1024) ![0, 7, 0] S1x1x1024.size (inbR_15 0 7),
      red I (g2 I 7)⟩,
    ⟨Rect.unit (s := S3x8x1024) ![2, 6, 0] S1x1x1024.size (inbR_15 2 6),
      blue I (g2 I 6)⟩,
    ⟨Rect.unit (s := S3x8x1024) ![1, 6, 0] S1x1x1024.size (inbR_15 1 6),
      green I (g2 I 6)⟩,
    ⟨Rect.unit (s := S3x8x1024) ![0, 6, 0] S1x1x1024.size (inbR_15 0 6),
      red I (g2 I 6)⟩,
    ⟨Rect.unit (s := S3x8x1024) ![2, 5, 0] S1x1x1024.size (inbR_15 2 5),
      blue I (g2 I 5)⟩,
    ⟨Rect.unit (s := S3x8x1024) ![1, 5, 0] S1x1x1024.size (inbR_15 1 5),
      green I (g2 I 5)⟩,
    ⟨Rect.unit (s := S3x8x1024) ![0, 5, 0] S1x1x1024.size (inbR_15 0 5),
      red I (g2 I 5)⟩,
    ⟨Rect.unit (s := S3x8x1024) ![2, 4, 0] S1x1x1024.size (inbR_15 2 4),
      blue I (g2 I 4)⟩,
    ⟨Rect.unit (s := S3x8x1024) ![1, 4, 0] S1x1x1024.size (inbR_15 1 4),
      green I (g2 I 4)⟩,
    ⟨Rect.unit (s := S3x8x1024) ![0, 4, 0] S1x1x1024.size (inbR_15 0 4),
      red I (g2 I 4)⟩,
    ⟨Rect.unit (s := S3x8x1024) ![2, 3, 0] S1x1x1024.size (inbR_15 2 3),
      blue I (g2 I 3)⟩,
    ⟨Rect.unit (s := S3x8x1024) ![1, 3, 0] S1x1x1024.size (inbR_15 1 3),
      green I (g2 I 3)⟩,
    ⟨Rect.unit (s := S3x8x1024) ![0, 3, 0] S1x1x1024.size (inbR_15 0 3),
      red I (g2 I 3)⟩,
    ⟨Rect.unit (s := S3x8x1024) ![2, 2, 0] S1x1x1024.size (inbR_15 2 2),
      blue I (g2 I 2)⟩,
    ⟨Rect.unit (s := S3x8x1024) ![1, 2, 0] S1x1x1024.size (inbR_15 1 2),
      green I (g2 I 2)⟩,
    ⟨Rect.unit (s := S3x8x1024) ![0, 2, 0] S1x1x1024.size (inbR_15 0 2),
      red I (g2 I 2)⟩,
    ⟨Rect.unit (s := S3x8x1024) ![2, 1, 0] S1x1x1024.size (inbR_15 2 1),
      blue I (g2 I 1)⟩,
    ⟨Rect.unit (s := S3x8x1024) ![1, 1, 0] S1x1x1024.size (inbR_15 1 1),
      green I (g2 I 1)⟩,
    ⟨Rect.unit (s := S3x8x1024) ![0, 1, 0] S1x1x1024.size (inbR_15 0 1),
      red I (g2 I 1)⟩,
    ⟨Rect.unit (s := S3x8x1024) ![2, 0, 0] S1x1x1024.size (inbR_15 2 0),
      blue I (g2 I 0)⟩,
    ⟨Rect.unit (s := S3x8x1024) ![1, 0, 0] S1x1x1024.size (inbR_15 1 0),
      green I (g2 I 0)⟩,
    ⟨Rect.unit (s := S3x8x1024) ![0, 0, 0] S1x1x1024.size (inbR_15 0 0),
      red I (g2 I 0)⟩]
theorem inbR_16 (r : Fin 8) : ∀ a, (![r.val, 0, 0] : Fin 3 → Nat) a + S1x32x1024.size a
    ≤ S8x32x1024.size a := by revert r; decide
def out0_16 (I : In F) : Vec F S8x32x1024 .fp8e4m3 :=
  View.canon [⟨Rect.unit (s := S8x32x1024) ![7, 0, 0] S1x32x1024.size (inbR_16 7), rowC32 (enc I 7)⟩,
    ⟨Rect.unit (s := S8x32x1024) ![6, 0, 0] S1x32x1024.size (inbR_16 6), rowC32 (enc I 6)⟩,
    ⟨Rect.unit (s := S8x32x1024) ![5, 0, 0] S1x32x1024.size (inbR_16 5), rowC32 (enc I 5)⟩,
    ⟨Rect.unit (s := S8x32x1024) ![4, 0, 0] S1x32x1024.size (inbR_16 4), rowC32 (enc I 4)⟩,
    ⟨Rect.unit (s := S8x32x1024) ![3, 0, 0] S1x32x1024.size (inbR_16 3), rowC32 (enc I 3)⟩,
    ⟨Rect.unit (s := S8x32x1024) ![2, 0, 0] S1x32x1024.size (inbR_16 2), rowC32 (enc I 2)⟩,
    ⟨Rect.unit (s := S8x32x1024) ![1, 0, 0] S1x32x1024.size (inbR_16 1), rowC32 (enc I 1)⟩,
    ⟨Rect.unit (s := S8x32x1024) ![0, 0, 0] S1x32x1024.size (inbR_16 0), rowC32 (enc I 0)⟩]
theorem inbR_17 (r : Fin 8) : ∀ a, (![r.val, 0, 0] : Fin 3 → Nat) a + S1x2x1024.size a
    ≤ S8x2x1024.size a := by revert r; decide
def out0_17 (I : In F) : Vec F S8x2x1024 .f32 :=
  View.canon [⟨Rect.unit (s := S8x2x1024) ![7, 0, 0] S1x2x1024.size (inbR_17 7), rowS32 (enc I 7)⟩,
    ⟨Rect.unit (s := S8x2x1024) ![6, 0, 0] S1x2x1024.size (inbR_17 6), rowS32 (enc I 6)⟩,
    ⟨Rect.unit (s := S8x2x1024) ![5, 0, 0] S1x2x1024.size (inbR_17 5), rowS32 (enc I 5)⟩,
    ⟨Rect.unit (s := S8x2x1024) ![4, 0, 0] S1x2x1024.size (inbR_17 4), rowS32 (enc I 4)⟩,
    ⟨Rect.unit (s := S8x2x1024) ![3, 0, 0] S1x2x1024.size (inbR_17 3), rowS32 (enc I 3)⟩,
    ⟨Rect.unit (s := S8x2x1024) ![2, 0, 0] S1x2x1024.size (inbR_17 2), rowS32 (enc I 2)⟩,
    ⟨Rect.unit (s := S8x2x1024) ![1, 0, 0] S1x2x1024.size (inbR_17 1), rowS32 (enc I 1)⟩,
    ⟨Rect.unit (s := S8x2x1024) ![0, 0, 0] S1x2x1024.size (inbR_17 0), rowS32 (enc I 0)⟩]
theorem inbR_18 (r : Fin 8) : ∀ a, (![r.val, 0, 0] : Fin 3 → Nat) a + S1x64x1024.size a
    ≤ S8x64x1024.size a := by revert r; decide
def out0_18 (I : In F) : Vec F S8x64x1024 .fp8e4m3 :=
  View.canon [⟨Rect.unit (s := S8x64x1024) ![7, 0, 0] S1x64x1024.size (inbR_18 7), rowC64 (h1 I 7)⟩,
    ⟨Rect.unit (s := S8x64x1024) ![6, 0, 0] S1x64x1024.size (inbR_18 6), rowC64 (h1 I 6)⟩,
    ⟨Rect.unit (s := S8x64x1024) ![5, 0, 0] S1x64x1024.size (inbR_18 5), rowC64 (h1 I 5)⟩,
    ⟨Rect.unit (s := S8x64x1024) ![4, 0, 0] S1x64x1024.size (inbR_18 4), rowC64 (h1 I 4)⟩,
    ⟨Rect.unit (s := S8x64x1024) ![3, 0, 0] S1x64x1024.size (inbR_18 3), rowC64 (h1 I 3)⟩,
    ⟨Rect.unit (s := S8x64x1024) ![2, 0, 0] S1x64x1024.size (inbR_18 2), rowC64 (h1 I 2)⟩,
    ⟨Rect.unit (s := S8x64x1024) ![1, 0, 0] S1x64x1024.size (inbR_18 1), rowC64 (h1 I 1)⟩,
    ⟨Rect.unit (s := S8x64x1024) ![0, 0, 0] S1x64x1024.size (inbR_18 0), rowC64 (h1 I 0)⟩]
theorem inbR_19 (r : Fin 8) : ∀ a, (![r.val, 0, 0] : Fin 3 → Nat) a + S1x4x1024.size a
    ≤ S8x4x1024.size a := by revert r; decide
def out0_19 (I : In F) : Vec F S8x4x1024 .f32 :=
  View.canon [⟨Rect.unit (s := S8x4x1024) ![7, 0, 0] S1x4x1024.size (inbR_19 7), rowS64 (h1 I 7)⟩,
    ⟨Rect.unit (s := S8x4x1024) ![6, 0, 0] S1x4x1024.size (inbR_19 6), rowS64 (h1 I 6)⟩,
    ⟨Rect.unit (s := S8x4x1024) ![5, 0, 0] S1x4x1024.size (inbR_19 5), rowS64 (h1 I 5)⟩,
    ⟨Rect.unit (s := S8x4x1024) ![4, 0, 0] S1x4x1024.size (inbR_19 4), rowS64 (h1 I 4)⟩,
    ⟨Rect.unit (s := S8x4x1024) ![3, 0, 0] S1x4x1024.size (inbR_19 3), rowS64 (h1 I 3)⟩,
    ⟨Rect.unit (s := S8x4x1024) ![2, 0, 0] S1x4x1024.size (inbR_19 2), rowS64 (h1 I 2)⟩,
    ⟨Rect.unit (s := S8x4x1024) ![1, 0, 0] S1x4x1024.size (inbR_19 1), rowS64 (h1 I 1)⟩,
    ⟨Rect.unit (s := S8x4x1024) ![0, 0, 0] S1x4x1024.size (inbR_19 0), rowS64 (h1 I 0)⟩]
theorem inbR_20 (r : Fin 8) : ∀ a, (![r.val, 0, 0] : Fin 3 → Nat) a + S1x32x1024.size a
    ≤ S8x32x1024.size a := by revert r; decide
def out0_20 (I : In F) : Vec F S8x32x1024 .fp8e4m3 :=
  View.canon [⟨Rect.unit (s := S8x32x1024) ![7, 0, 0] S1x32x1024.size (inbR_20 7), rowC32 (cin I 7)⟩,
    ⟨Rect.unit (s := S8x32x1024) ![6, 0, 0] S1x32x1024.size (inbR_20 6), rowC32 (cin I 6)⟩,
    ⟨Rect.unit (s := S8x32x1024) ![5, 0, 0] S1x32x1024.size (inbR_20 5), rowC32 (cin I 5)⟩,
    ⟨Rect.unit (s := S8x32x1024) ![4, 0, 0] S1x32x1024.size (inbR_20 4), rowC32 (cin I 4)⟩,
    ⟨Rect.unit (s := S8x32x1024) ![3, 0, 0] S1x32x1024.size (inbR_20 3), rowC32 (cin I 3)⟩,
    ⟨Rect.unit (s := S8x32x1024) ![2, 0, 0] S1x32x1024.size (inbR_20 2), rowC32 (cin I 2)⟩,
    ⟨Rect.unit (s := S8x32x1024) ![1, 0, 0] S1x32x1024.size (inbR_20 1), rowC32 (cin I 1)⟩,
    ⟨Rect.unit (s := S8x32x1024) ![0, 0, 0] S1x32x1024.size (inbR_20 0), rowC32 (cin I 0)⟩]
theorem inbR_21 (r : Fin 8) : ∀ a, (![r.val, 0, 0] : Fin 3 → Nat) a + S1x2x1024.size a
    ≤ S8x2x1024.size a := by revert r; decide
def out0_21 (I : In F) : Vec F S8x2x1024 .f32 :=
  View.canon [⟨Rect.unit (s := S8x2x1024) ![7, 0, 0] S1x2x1024.size (inbR_21 7), rowS32 (cin I 7)⟩,
    ⟨Rect.unit (s := S8x2x1024) ![6, 0, 0] S1x2x1024.size (inbR_21 6), rowS32 (cin I 6)⟩,
    ⟨Rect.unit (s := S8x2x1024) ![5, 0, 0] S1x2x1024.size (inbR_21 5), rowS32 (cin I 5)⟩,
    ⟨Rect.unit (s := S8x2x1024) ![4, 0, 0] S1x2x1024.size (inbR_21 4), rowS32 (cin I 4)⟩,
    ⟨Rect.unit (s := S8x2x1024) ![3, 0, 0] S1x2x1024.size (inbR_21 3), rowS32 (cin I 3)⟩,
    ⟨Rect.unit (s := S8x2x1024) ![2, 0, 0] S1x2x1024.size (inbR_21 2), rowS32 (cin I 2)⟩,
    ⟨Rect.unit (s := S8x2x1024) ![1, 0, 0] S1x2x1024.size (inbR_21 1), rowS32 (cin I 1)⟩,
    ⟨Rect.unit (s := S8x2x1024) ![0, 0, 0] S1x2x1024.size (inbR_21 0), rowS32 (cin I 0)⟩]
theorem inbR_22 (r : Fin 8) : ∀ a, (![r.val, 0, 0] : Fin 3 → Nat) a + S1x64x1024.size a
    ≤ S8x64x1024.size a := by revert r; decide
def out0_22 (I : In F) : Vec F S8x64x1024 .fp8e4m3 :=
  View.canon [⟨Rect.unit (s := S8x64x1024) ![7, 0, 0] S1x64x1024.size (inbR_22 7), rowC64 (g1 I 7)⟩,
    ⟨Rect.unit (s := S8x64x1024) ![6, 0, 0] S1x64x1024.size (inbR_22 6), rowC64 (g1 I 6)⟩,
    ⟨Rect.unit (s := S8x64x1024) ![5, 0, 0] S1x64x1024.size (inbR_22 5), rowC64 (g1 I 5)⟩,
    ⟨Rect.unit (s := S8x64x1024) ![4, 0, 0] S1x64x1024.size (inbR_22 4), rowC64 (g1 I 4)⟩,
    ⟨Rect.unit (s := S8x64x1024) ![3, 0, 0] S1x64x1024.size (inbR_22 3), rowC64 (g1 I 3)⟩,
    ⟨Rect.unit (s := S8x64x1024) ![2, 0, 0] S1x64x1024.size (inbR_22 2), rowC64 (g1 I 2)⟩,
    ⟨Rect.unit (s := S8x64x1024) ![1, 0, 0] S1x64x1024.size (inbR_22 1), rowC64 (g1 I 1)⟩,
    ⟨Rect.unit (s := S8x64x1024) ![0, 0, 0] S1x64x1024.size (inbR_22 0), rowC64 (g1 I 0)⟩]
theorem inbR_23 (r : Fin 8) : ∀ a, (![r.val, 0, 0] : Fin 3 → Nat) a + S1x4x1024.size a
    ≤ S8x4x1024.size a := by revert r; decide
def out0_23 (I : In F) : Vec F S8x4x1024 .f32 :=
  View.canon [⟨Rect.unit (s := S8x4x1024) ![7, 0, 0] S1x4x1024.size (inbR_23 7), rowS64 (g1 I 7)⟩,
    ⟨Rect.unit (s := S8x4x1024) ![6, 0, 0] S1x4x1024.size (inbR_23 6), rowS64 (g1 I 6)⟩,
    ⟨Rect.unit (s := S8x4x1024) ![5, 0, 0] S1x4x1024.size (inbR_23 5), rowS64 (g1 I 5)⟩,
    ⟨Rect.unit (s := S8x4x1024) ![4, 0, 0] S1x4x1024.size (inbR_23 4), rowS64 (g1 I 4)⟩,
    ⟨Rect.unit (s := S8x4x1024) ![3, 0, 0] S1x4x1024.size (inbR_23 3), rowS64 (g1 I 3)⟩,
    ⟨Rect.unit (s := S8x4x1024) ![2, 0, 0] S1x4x1024.size (inbR_23 2), rowS64 (g1 I 2)⟩,
    ⟨Rect.unit (s := S8x4x1024) ![1, 0, 0] S1x4x1024.size (inbR_23 1), rowS64 (g1 I 1)⟩,
    ⟨Rect.unit (s := S8x4x1024) ![0, 0, 0] S1x4x1024.size (inbR_23 0), rowS64 (g1 I 0)⟩]
theorem inbR_24 (r : Fin 8) : ∀ a, (![r.val, 0, 0] : Fin 3 → Nat) a + S1x64x1024.size a
    ≤ S8x64x1024.size a := by revert r; decide
def out0_24 (I : In F) : Vec F S8x64x1024 .fp8e4m3 :=
  View.canon [⟨Rect.unit (s := S8x64x1024) ![7, 0, 0] S1x64x1024.size (inbR_24 7), rowC64 (g2 I 7)⟩,
    ⟨Rect.unit (s := S8x64x1024) ![6, 0, 0] S1x64x1024.size (inbR_24 6), rowC64 (g2 I 6)⟩,
    ⟨Rect.unit (s := S8x64x1024) ![5, 0, 0] S1x64x1024.size (inbR_24 5), rowC64 (g2 I 5)⟩,
    ⟨Rect.unit (s := S8x64x1024) ![4, 0, 0] S1x64x1024.size (inbR_24 4), rowC64 (g2 I 4)⟩,
    ⟨Rect.unit (s := S8x64x1024) ![3, 0, 0] S1x64x1024.size (inbR_24 3), rowC64 (g2 I 3)⟩,
    ⟨Rect.unit (s := S8x64x1024) ![2, 0, 0] S1x64x1024.size (inbR_24 2), rowC64 (g2 I 2)⟩,
    ⟨Rect.unit (s := S8x64x1024) ![1, 0, 0] S1x64x1024.size (inbR_24 1), rowC64 (g2 I 1)⟩,
    ⟨Rect.unit (s := S8x64x1024) ![0, 0, 0] S1x64x1024.size (inbR_24 0), rowC64 (g2 I 0)⟩]
theorem inbR_25 (r : Fin 8) : ∀ a, (![r.val, 0, 0] : Fin 3 → Nat) a + S1x4x1024.size a
    ≤ S8x4x1024.size a := by revert r; decide
def out0_25 (I : In F) : Vec F S8x4x1024 .f32 :=
  View.canon [⟨Rect.unit (s := S8x4x1024) ![7, 0, 0] S1x4x1024.size (inbR_25 7), rowS64 (g2 I 7)⟩,
    ⟨Rect.unit (s := S8x4x1024) ![6, 0, 0] S1x4x1024.size (inbR_25 6), rowS64 (g2 I 6)⟩,
    ⟨Rect.unit (s := S8x4x1024) ![5, 0, 0] S1x4x1024.size (inbR_25 5), rowS64 (g2 I 5)⟩,
    ⟨Rect.unit (s := S8x4x1024) ![4, 0, 0] S1x4x1024.size (inbR_25 4), rowS64 (g2 I 4)⟩,
    ⟨Rect.unit (s := S8x4x1024) ![3, 0, 0] S1x4x1024.size (inbR_25 3), rowS64 (g2 I 3)⟩,
    ⟨Rect.unit (s := S8x4x1024) ![2, 0, 0] S1x4x1024.size (inbR_25 2), rowS64 (g2 I 2)⟩,
    ⟨Rect.unit (s := S8x4x1024) ![1, 0, 0] S1x4x1024.size (inbR_25 1), rowS64 (g2 I 1)⟩,
    ⟨Rect.unit (s := S8x4x1024) ![0, 0, 0] S1x4x1024.size (inbR_25 0), rowS64 (g2 I 0)⟩]

end Cert.KernelIdeal.Body

end

end
-- ==== Proof.KernelIdeal.Vals.lean ====
module

public import proofs.«01_k».proof.Proof.KernelIdeal.Vocab

/-! The values that one grid step passes from one part of its body to the next, in the order of the
body. -/

@[expose] public section

set_option synthInstance.maxSize 4096
set_option maxRecDepth 16384

noncomputable section

namespace Cert.KernelIdeal.Body

open Cert.KernelIdeal Cert.KernelIdeal.Gen
open Idealize.ShloMosaic Idealize.ShloMosaic.TcCoe Idealize.SL Idealize.SL.Sem

variable {F : FTy → Type} [FloatOps F]

def v4 (I : In F) : FVec F S8x128 .f32 := k0_pay2 (ldS I 0 0) (ldC I 0 0)
def v9 (I : In F) : FVec F S8x128 .f32 := k0_pay3 (ldS I 0 1) (ldC I 0 1)
def v14 (I : In F) : FVec F S8x128 .f32 := k0_pay4 (ldS I 0 2) (ldC I 0 2)
def v19 (I : In F) : FVec F S8x128 .f32 := k0_pay5 (ldS I 0 3) (ldC I 0 3)
def v40 (I : In F) : FVec F S8x1024 .f32 := k0_pay6 (v4 I) (v9 I) (v14 I) (v19 I) (ldS I 0 4) (ldC I 0 4) (ldS I 0 5) (ldC I 0 5) (ldS I 0 6) (ldC I 0 6) (ldS I 0 7) (ldC I 0 7)
def v57 (I : In F) : FVec F S8x1024 .f32 := k0_pay7 (ldB I 0 1 0) (ldB I 0 1 1) (ldB I 0 1 2) (ldB I 0 1 3) (ldB I 0 1 4) (ldB I 0 1 5) (ldB I 0 1 6) (ldB I 0 1 7)
def v59 (I : In F) : FVec F S8x128 .f32 := k0_pay8 (ldB I 0 2 0)
def v74 (I : In F) : FVec F S8x1024 .f32 := k0_pay9 (v59 I) (ldB I 0 2 1) (ldB I 0 2 2) (ldB I 0 2 3) (ldB I 0 2 4) (ldB I 0 2 5) (ldB I 0 2 6) (ldB I 0 2 7)
def v76 (I : In F) : FVec F S8x128 .f32 := k0_pay10 (ldB I 0 3 0)
def v95 (I : In F) : FVec F S32x1024 .f32 := k0_pay11 (v40 I) (v57 I) (v74 I) (v76 I) (ldB I 0 3 1) (ldB I 0 3 2) (ldB I 0 3 3) (ldB I 0 3 4) (ldB I 0 3 5) (ldB I 0 3 6) (ldB I 0 3 7) (ld3 I)
def v96 (I : In F) : FVec F S16x1024 .f32 := k0_pay12 (v40 I) (v57 I) (v74 I) (v76 I) (ldB I 0 3 1) (ldB I 0 3 2) (ldB I 0 3 3) (ldB I 0 3 4) (ldB I 0 3 5) (ldB I 0 3 6) (ldB I 0 3 7) (ld3 I)
def v101 (I : In F) : FVec F S1x1024 .f32 := k0_pay13 (v40 I) (v57 I) (v74 I) (v76 I) (ldB I 0 3 1) (ldB I 0 3 2) (ldB I 0 3 3) (ldB I 0 3 4) (ldB I 0 3 5) (ldB I 0 3 6) (ldB I 0 3 7) (ld3 I)
def v146 (I : In F) : IVec S1x1024 32 := k0_pay14 (v101 I) 0#32
def v148 (I : In F) : IVec S1x1024 1 := k0_pay15 (v101 I)
def v149 (I : In F) : IVec S1x1024 32 := k0_pay16
def v160 (I : In F) : FVec F S1x1024 .f32 := k0_pay18 (F := F) (v146 I) (v148 I) (v149 I)
def v167 (I : In F) : FVec F S16x1024 .fp8e4m3 := k0_pay19 (v96 I) (v146 I) (v148 I) (v149 I)
def v171 (I : In F) : FVec F S16x1024 .bf16 := k0_pay20 (v96 I) (v146 I) (v148 I) (v149 I)
def v172 (I : In F) : FVec F S16x1024 .f32 := k0_pay21 (v95 I)
def v177 (I : In F) : FVec F S1x1024 .f32 := k0_pay22 (v95 I)
def v193 (I : In F) : IVec S1x1024 32 := k0_pay23 (v95 I)
def v195 (I : In F) : IVec S1x1024 32 := k0_pay24 (v95 I)
def v196 (I : In F) : FVec F S1x1024 .f32 := k0_pay25 (v95 I)
def v236 (I : In F) : FVec F S1x1024 .f32 := k0_pay27 (v177 I) (v193 I) (v195 I) (v196 I)
def v242 (I : In F) : FVec F S16x1024 .f32 := k0_pay28 (v172 I) (v177 I) (v193 I) (v195 I) (v196 I)
def v264 (I : In F) : FVec F S64x1024 .f32 := k0_pay32 (v171 I) (v236 I) (v242 I) (ld5 I) (ld6 I)
def v265 (I : In F) : FVec F S16x1024 .f32 := k0_pay33 (v171 I) (v236 I) (v242 I) (ld5 I) (ld6 I)
def v270 (I : In F) : FVec F S1x1024 .f32 := k0_pay34 (v171 I) (v236 I) (v242 I) (ld5 I) (ld6 I)
def v281 (I : In F) : IVec S1x1024 32 := k0_pay35 (v171 I) (v236 I) (v242 I) (ld5 I) (ld6 I)
def v282 (I : In F) : IVec S1x1024 32 := k0_pay36
def v324 (I : In F) : FVec F S1x1024 .f32 := k0_pay38 (v270 I) (v281 I) (v282 I)
def v329 (I : In F) : FVec F S1x1024 .f32 := k0_pay39 (v270 I) (v281 I) (v282 I)
def v336 (I : In F) : FVec F S16x1024 .fp8e4m3 := k0_pay40 (v265 I) (v324 I)
def v340 (I : In F) : FVec F S16x1024 .bf16 := k0_pay41 (v265 I) (v324 I) (v329 I)
def v341 (I : In F) : FVec F S16x1024 .f32 := k0_pay42 (v264 I)
def v346 (I : In F) : FVec F S1x1024 .f32 := k0_pay43 (v264 I)
def v377 (I : In F) : IVec S1x1024 32 := k0_pay44 (v264 I)
def v405 (I : In F) : FVec F S1x1024 .f32 := k0_pay46 (v346 I) (v377 I) 16777216#32
def v412 (I : In F) : FVec F S16x1024 .fp8e4m3 := k0_pay47 (v341 I) (v346 I) (v377 I) 16777216#32
def v416 (I : In F) : FVec F S16x1024 .bf16 := k0_pay48 (v341 I) (v346 I) (v377 I) 16777216#32
def v417 (I : In F) : FVec F S16x1024 .f32 := k0_pay49 (v264 I)
def v422 (I : In F) : FVec F S1x1024 .f32 := k0_pay50 (v264 I)
def v423 (I : In F) : IVec S1x1024 32 := k0_pay51
def v471 (I : In F) : IVec S1x1024 32 := k0_pay52 (v422 I) (v423 I)
def v481 (I : In F) : FVec F S1x1024 .f32 := k0_pay53 (F := F) (v471 I)
def v488 (I : In F) : FVec F S16x1024 .fp8e4m3 := k0_pay54 (v417 I) (v471 I)
def v492 (I : In F) : FVec F S16x1024 .bf16 := k0_pay55 (v417 I) (v471 I)
def v493 (I : In F) : FVec F S16x1024 .f32 := k0_pay56 (v264 I)
def v498 (I : In F) : FVec F S1x1024 .f32 := k0_pay57 (v264 I)
def v514 (I : In F) : IVec S1x1024 32 := k0_pay58 (v264 I)
def v516 (I : In F) : IVec S1x1024 32 := k0_pay59 (v264 I)
def v518 (I : In F) : IVec S1x1024 1 := k0_pay60 (v264 I)
def v557 (I : In F) : FVec F S1x1024 .f32 := k0_pay62 (v498 I) (v514 I) (v516 I) (v518 I)
def v564 (I : In F) : FVec F S16x1024 .fp8e4m3 := k0_pay63 (v493 I) (v498 I) (v514 I) (v516 I) (v518 I)
def v592 (I : In F) : FVec F S32x1024 .f32 := k0_pay68 (v340 I) (v416 I) (v492 I) (v557 I) (v564 I) (ld7 I) (ld8 I) (ldH I 0)
def v593 (I : In F) : FVec F S16x1024 .f32 := k0_pay69 (v340 I) (v416 I) (v492 I) (v557 I) (v564 I) (ld7 I) (ld8 I) (ldH I 0)
def v598 (I : In F) : FVec F S1x1024 .f32 := k0_pay70 (v340 I) (v416 I) (v492 I) (v557 I) (v564 I) (ld7 I) (ld8 I) (ldH I 0)
def v599 (I : In F) : IVec S1x1024 32 := k0_pay71
def v601 (I : In F) : IVec S1x1024 32 := k0_pay72
def v647 (I : In F) : IVec S1x1024 32 := k0_pay73 (v598 I) (v599 I) (v601 I)
def v649 (I : In F) : IVec S1x1024 32 := k0_pay74 (v598 I) (v599 I) (v601 I)
def v657 (I : In F) : FVec F S1x1024 .f32 := k0_pay75 (F := F) (v647 I)
def v664 (I : In F) : FVec F S16x1024 .fp8e4m3 := k0_pay76 (v593 I) (v649 I)
def v668 (I : In F) : FVec F S16x1024 .bf16 := k0_pay77 (v593 I) (v647 I) (v649 I)
def v669 (I : In F) : FVec F S16x1024 .f32 := k0_pay78 (v592 I)
def v674 (I : In F) : FVec F S1x1024 .f32 := k0_pay79 (v592 I)
def v695 (I : In F) : IVec S1x1024 32 := k0_pay80 (v592 I)
def v696 (I : In F) : IVec S1x1024 32 := k0_pay81
def v733 (I : In F) : FVec F S1x1024 .f32 := k0_pay83 (v674 I) (v695 I) (v696 I)
def v740 (I : In F) : FVec F S16x1024 .fp8e4m3 := k0_pay84 (v669 I) (v674 I) (v695 I) (v696 I)
def v743 (I : In F) : FVec F S16x1024 .f32 := k0_pay85 (v669 I) (v674 I) (v695 I) (v696 I)
def v761 (I : In F) : FVec F S64x1024 .f32 := k0_pay88 (v668 I) (v743 I) (ld9 I) (ld10 I)
def v762 (I : In F) : FVec F S16x1024 .f32 := k0_pay89 (v668 I) (v743 I) (ld9 I) (ld10 I)
def v767 (I : In F) : FVec F S1x1024 .f32 := k0_pay90 (v668 I) (v743 I) (ld9 I) (ld10 I)
def v783 (I : In F) : IVec S1x1024 32 := k0_pay91 (v668 I) (v743 I) (ld9 I) (ld10 I)
def v826 (I : In F) : FVec F S1x1024 .f32 := k0_pay93 (v767 I) (v783 I)
def v828 (I : In F) : FVec F S16x1024 .f32 := k0_pay94 (v762 I) (v767 I) (v783 I)
def v833 (I : In F) : FVec F S16x1024 .fp8e4m3 := k0_pay95 (v828 I) (Scalar.ofBits .f32 0xC3E00000#32 : F .f32) (Scalar.ofBits .f32 0x43E00000#32 : F .f32)
def v837 (I : In F) : FVec F S16x1024 .bf16 := k0_pay96 (v826 I) (v828 I) (Scalar.ofBits .f32 0xC3E00000#32 : F .f32) (Scalar.ofBits .f32 0x43E00000#32 : F .f32)
def v838 (I : In F) : FVec F S16x1024 .f32 := k0_pay97 (v761 I)
def v843 (I : In F) : FVec F S1x1024 .f32 := k0_pay98 (v761 I)
def v874 (I : In F) : IVec S1x1024 32 := k0_pay99 (v761 I)
def v876 (I : In F) : IVec S1x1024 32 := k0_pay100 (v761 I)
def v878 (I : In F) : IVec S1x1024 1 := k0_pay101 (v761 I)
def v902 (I : In F) : FVec F S1x1024 .f32 := k0_pay103 (v843 I) (v874 I) (v876 I) (v878 I)
def v909 (I : In F) : FVec F S16x1024 .fp8e4m3 := k0_pay104 (v838 I) (v843 I) (v874 I) (v876 I) (v878 I)
def v913 (I : In F) : FVec F S16x1024 .bf16 := k0_pay105 (v838 I) (v843 I) (v874 I) (v876 I) (v878 I)
def v914 (I : In F) : FVec F S16x1024 .f32 := k0_pay106 (v761 I)
def v919 (I : In F) : FVec F S1x1024 .f32 := k0_pay107 (v761 I)
def v920 (I : In F) : IVec S1x1024 32 := k0_pay108
def v922 (I : In F) : IVec S1x1024 32 := k0_pay109
def v923 (I : In F) : FVec F S1x1024 .f32 := k0_pay110 (F := F)
def v968 (I : In F) : IVec S1x1024 32 := k0_pay111 (v919 I) (v920 I) (v922 I) (v923 I)
def v970 (I : In F) : IVec S1x1024 32 := k0_pay112 (v919 I) (v920 I) (v922 I) (v923 I)
def v978 (I : In F) : FVec F S1x1024 .f32 := k0_pay113 (F := F) (v968 I)
def v985 (I : In F) : FVec F S16x1024 .fp8e4m3 := k0_pay114 (v914 I) (v970 I) 23#32
def v989 (I : In F) : FVec F S16x1024 .bf16 := k0_pay115 (v914 I) (v968 I) (v970 I) 23#32
def v990 (I : In F) : FVec F S16x1024 .f32 := k0_pay116 (v761 I)
def v995 (I : In F) : FVec F S1x1024 .f32 := k0_pay117 (v761 I)
def v1016 (I : In F) : IVec S1x1024 32 := k0_pay118 (v761 I)
def v1018 (I : In F) : IVec S1x1024 32 := k0_pay119 (v761 I)
def v1054 (I : In F) : FVec F S1x1024 .f32 := k0_pay121 (v995 I) (v1016 I) (v1018 I)
def v1061 (I : In F) : FVec F S16x1024 .fp8e4m3 := k0_pay122 (v990 I) (v995 I) (v1016 I) (v1018 I)
def v1065 (I : In F) : FVec F S16x1024 .bf16 := k0_pay123 (v990 I) (v995 I) (v1016 I) (v1018 I)
def v1082 (I : In F) : FVec F S64x1024 .f32 := k0_pay126 (v837 I) (v913 I) (v989 I) (v1065 I) (ld11 I) (ld12 I)
def v1083 (I : In F) : FVec F S16x1024 .f32 := k0_pay127 (v837 I) (v913 I) (v989 I) (v1065 I) (ld11 I) (ld12 I)
def v1088 (I : In F) : FVec F S1x1024 .f32 := k0_pay128 (v837 I) (v913 I) (v989 I) (v1065 I) (ld11 I) (ld12 I)
def v1104 (I : In F) : IVec S1x1024 32 := k0_pay129 (v837 I) (v913 I) (v989 I) (v1065 I) (ld11 I) (ld12 I)
def v1147 (I : In F) : FVec F S1x1024 .f32 := k0_pay131 (v1088 I) (v1104 I) 134217728#32
def v1149 (I : In F) : FVec F S16x1024 .f32 := k0_pay132 (v1083 I) (v1088 I) (v1104 I) 134217728#32
def v1150 (I : In F) : FVec F S16x1024 .f32 := k0_pay133 (F := F)
def v1154 (I : In F) : FVec F S16x1024 .fp8e4m3 := k0_pay134 (v1149 I) (Scalar.ofBits .f32 0x43E00000#32 : F .f32) (v1150 I)
def v1158 (I : In F) : FVec F S16x1024 .bf16 := k0_pay135 (v1147 I) (v1149 I) (Scalar.ofBits .f32 0x43E00000#32 : F .f32) (v1150 I)
def v1159 (I : In F) : FVec F S16x1024 .f32 := k0_pay136 (v1082 I)
def v1164 (I : In F) : FVec F S1x1024 .f32 := k0_pay137 (v1082 I)
def v1200 (I : In F) : IVec S1x1024 32 := k0_pay138 (v1082 I)
def v1223 (I : In F) : FVec F S1x1024 .f32 := k0_pay140 (v1164 I) (v1200 I)
def v1230 (I : In F) : FVec F S16x1024 .fp8e4m3 := k0_pay141 (v1159 I) (v1164 I) (v1200 I)
def v1234 (I : In F) : FVec F S16x1024 .bf16 := k0_pay142 (v1159 I) (v1164 I) (v1200 I)
def v1235 (I : In F) : FVec F S16x1024 .f32 := k0_pay143 (v1082 I)
def v1240 (I : In F) : FVec F S1x1024 .f32 := k0_pay144 (v1082 I)
def v1241 (I : In F) : IVec S1x1024 32 := k0_pay145
def v1243 (I : In F) : IVec S1x1024 32 := k0_pay146
def v1245 (I : In F) : IVec S1x1024 1 := k0_pay147 (v1082 I)
def v1289 (I : In F) : IVec S1x1024 32 := k0_pay148 (v1240 I) (v1241 I) (v1243 I) (v1245 I)
def v1291 (I : In F) : IVec S1x1024 32 := k0_pay149 (v1240 I) (v1241 I) (v1243 I) (v1245 I)
def v1292 (I : In F) : IVec S1x1024 32 := k0_pay150
def v1299 (I : In F) : FVec F S1x1024 .f32 := k0_pay151 (F := F) (v1289 I)
def v1306 (I : In F) : FVec F S16x1024 .fp8e4m3 := k0_pay152 (v1235 I) (v1291 I) (v1292 I)
def v1310 (I : In F) : FVec F S16x1024 .bf16 := k0_pay153 (v1235 I) (v1289 I) (v1291 I) (v1292 I)
def v1311 (I : In F) : FVec F S16x1024 .f32 := k0_pay154 (v1082 I)
def v1316 (I : In F) : FVec F S1x1024 .f32 := k0_pay155 (v1082 I)
def v1337 (I : In F) : IVec S1x1024 32 := k0_pay156 (v1082 I)
def v1339 (I : In F) : IVec S1x1024 32 := k0_pay157 (v1082 I)
def v1340 (I : In F) : FVec F S1x1024 .f32 := k0_pay158 (v1082 I)
def v1375 (I : In F) : FVec F S1x1024 .f32 := k0_pay160 (v1316 I) (v1337 I) (v1339 I) (v1340 I)
def v1386 (I : In F) : FVec F S16x1024 .bf16 := k0_pay162 (v1311 I) (v1316 I) (v1337 I) (v1339 I) (v1340 I)
def v1387 (I : In F) : FVec F S64x1024 .fp8e4m3 := k0_pay163 (v1154 I) (v1230 I) (v1306 I) (v1311 I) (v1316 I) (v1337 I) (v1339 I) (v1340 I)
def v1418 (I : In F) : FVec F S1x1024 .bf16 := k0_pay169 (v1158 I) (v1234 I) (v1310 I) (v1386 I) (ld13 I) (ld14 I)
def v1426 (I : In F) : FVec F S8x128 .f32 := k0_pay171 (ldS I 1 0) (ldC I 1 0)
def v1431 (I : In F) : FVec F S8x128 .f32 := k0_pay172 (ldS I 1 1) (ldC I 1 1)
def v1436 (I : In F) : FVec F S8x128 .f32 := k0_pay173 (ldS I 1 2) (ldC I 1 2)
def v1441 (I : In F) : FVec F S8x128 .f32 := k0_pay174 (ldS I 1 3) (ldC I 1 3)
def v1462 (I : In F) : FVec F S8x1024 .f32 := k0_pay175 (v1426 I) (v1431 I) (v1436 I) (v1441 I) (ldS I 1 4) (ldC I 1 4) (ldS I 1 5) (ldC I 1 5) (ldS I 1 6) (ldC I 1 6) (ldS I 1 7) (ldC I 1 7)
def v1479 (I : In F) : FVec F S8x1024 .f32 := k0_pay176 (ldB I 1 1 0) (ldB I 1 1 1) (ldB I 1 1 2) (ldB I 1 1 3) (ldB I 1 1 4) (ldB I 1 1 5) (ldB I 1 1 6) (ldB I 1 1 7)
def v1481 (I : In F) : FVec F S8x128 .f32 := k0_pay177 (ldB I 1 2 0)
def v1496 (I : In F) : FVec F S8x1024 .f32 := k0_pay178 (v1481 I) (ldB I 1 2 1) (ldB I 1 2 2) (ldB I 1 2 3) (ldB I 1 2 4) (ldB I 1 2 5) (ldB I 1 2 6) (ldB I 1 2 7)
def v1498 (I : In F) : FVec F S8x128 .f32 := k0_pay179 (ldB I 1 3 0)
def v1517 (I : In F) : FVec F S32x1024 .f32 := k0_pay180 (v1462 I) (v1479 I) (v1496 I) (v1498 I) (ldB I 1 3 1) (ldB I 1 3 2) (ldB I 1 3 3) (ldB I 1 3 4) (ldB I 1 3 5) (ldB I 1 3 6) (ldB I 1 3 7) (ld3 I)
def v1518 (I : In F) : FVec F S16x1024 .f32 := k0_pay181 (v1462 I) (v1479 I) (v1496 I) (v1498 I) (ldB I 1 3 1) (ldB I 1 3 2) (ldB I 1 3 3) (ldB I 1 3 4) (ldB I 1 3 5) (ldB I 1 3 6) (ldB I 1 3 7) (ld3 I)
def v1523 (I : In F) : FVec F S1x1024 .f32 := k0_pay182 (v1462 I) (v1479 I) (v1496 I) (v1498 I) (ldB I 1 3 1) (ldB I 1 3 2) (ldB I 1 3 3) (ldB I 1 3 4) (ldB I 1 3 5) (ldB I 1 3 6) (ldB I 1 3 7) (ld3 I)
def v1568 (I : In F) : IVec S1x1024 32 := k0_pay183 (v1523 I)
def v1570 (I : In F) : IVec S1x1024 1 := k0_pay184 (v1523 I)
def v1582 (I : In F) : FVec F S1x1024 .f32 := k0_pay186 (F := F) (v1568 I) (v1570 I) 0#32
def v1589 (I : In F) : FVec F S16x1024 .fp8e4m3 := k0_pay187 (v1518 I) (v1568 I) (v1570 I) 0#32
def v1593 (I : In F) : FVec F S16x1024 .bf16 := k0_pay188 (v1518 I) (v1568 I) (v1570 I) 0#32
def v1594 (I : In F) : FVec F S16x1024 .f32 := k0_pay189 (v1517 I)
def v1599 (I : In F) : FVec F S1x1024 .f32 := k0_pay190 (v1517 I)
def v1615 (I : In F) : IVec S1x1024 32 := k0_pay191 (v1517 I)
def v1617 (I : In F) : IVec S1x1024 32 := k0_pay192 (v1517 I)
def v1658 (I : In F) : FVec F S1x1024 .f32 := k0_pay194 (v1599 I) (v1615 I) (v1617 I)
def v1662 (I : In F) : FVec F S16x1024 .f32 := k0_pay195 (v1594 I) (v1599 I) (v1615 I) (v1617 I)
def v1663 (I : In F) : FVec F S16x1024 .f32 := k0_pay196 (F := F)
def v1686 (I : In F) : FVec F S64x1024 .f32 := k0_pay200 (v1593 I) (v1658 I) (v1662 I) (v1663 I) (ld5 I) (ld6 I)
def v1687 (I : In F) : FVec F S16x1024 .f32 := k0_pay201 (v1593 I) (v1658 I) (v1662 I) (v1663 I) (ld5 I) (ld6 I)
def v1692 (I : In F) : FVec F S1x1024 .f32 := k0_pay202 (v1593 I) (v1658 I) (v1662 I) (v1663 I) (ld5 I) (ld6 I)
def v1703 (I : In F) : IVec S1x1024 32 := k0_pay203 (v1593 I) (v1658 I) (v1662 I) (v1663 I) (ld5 I) (ld6 I)
def v1746 (I : In F) : FVec F S1x1024 .f32 := k0_pay205 (v1692 I) (v1703 I) 268435456#32
def v1750 (I : In F) : IVec S1x1024 32 := k0_pay206 (v1692 I) (v1703 I) 268435456#32
def v1751 (I : In F) : FVec F S1x1024 .f32 := k0_pay207 (F := F) (v1750 I)
def v1758 (I : In F) : FVec F S16x1024 .fp8e4m3 := k0_pay208 (v1687 I) (v1746 I)
def v1762 (I : In F) : FVec F S16x1024 .bf16 := k0_pay209 (v1687 I) (v1746 I) (v1750 I)
def v1763 (I : In F) : FVec F S16x1024 .f32 := k0_pay210 (v1686 I)
def v1768 (I : In F) : FVec F S1x1024 .f32 := k0_pay211 (v1686 I)
def v1799 (I : In F) : IVec S1x1024 32 := k0_pay212 (v1686 I)
def v1827 (I : In F) : FVec F S1x1024 .f32 := k0_pay214 (v1768 I) (v1799 I)
def v1834 (I : In F) : FVec F S16x1024 .fp8e4m3 := k0_pay215 (v1763 I) (v1768 I) (v1799 I)
def v1838 (I : In F) : FVec F S16x1024 .bf16 := k0_pay216 (v1763 I) (v1768 I) (v1799 I)
def v1839 (I : In F) : FVec F S16x1024 .f32 := k0_pay217 (v1686 I)
def v1844 (I : In F) : FVec F S1x1024 .f32 := k0_pay218 (v1686 I)
def v1889 (I : In F) : IVec S1x1024 32 := k0_pay219 (v1844 I) 0#32
def v1891 (I : In F) : IVec S1x1024 1 := k0_pay220 (v1844 I)
def v1892 (I : In F) : IVec S1x1024 32 := k0_pay221
def v1903 (I : In F) : FVec F S1x1024 .f32 := k0_pay223 (F := F) (v1889 I) (v1891 I) (v1892 I)
def v1910 (I : In F) : FVec F S16x1024 .fp8e4m3 := k0_pay224 (v1839 I) (v1889 I) (v1891 I) (v1892 I)
def v1914 (I : In F) : FVec F S16x1024 .bf16 := k0_pay225 (v1839 I) (v1889 I) (v1891 I) (v1892 I)
def v1915 (I : In F) : FVec F S16x1024 .f32 := k0_pay226 (v1686 I)
def v1920 (I : In F) : FVec F S1x1024 .f32 := k0_pay227 (v1686 I)
def v1936 (I : In F) : IVec S1x1024 32 := k0_pay228 (v1686 I)
def v1938 (I : In F) : IVec S1x1024 32 := k0_pay229 (v1686 I)
def v1939 (I : In F) : FVec F S1x1024 .f32 := k0_pay230 (v1686 I)
def v1979 (I : In F) : FVec F S1x1024 .f32 := k0_pay232 (v1920 I) (v1936 I) (v1938 I) (v1939 I)
def v1985 (I : In F) : FVec F S16x1024 .f32 := k0_pay233 (v1915 I) (v1920 I) (v1936 I) (v1938 I) (v1939 I)
def v2014 (I : In F) : FVec F S32x1024 .f32 := k0_pay239 (v1762 I) (v1838 I) (v1914 I) (v1979 I) (v1985 I) (ld7 I) (ld8 I) (ldH I 1)
def v2015 (I : In F) : FVec F S16x1024 .f32 := k0_pay240 (v1762 I) (v1838 I) (v1914 I) (v1979 I) (v1985 I) (ld7 I) (ld8 I) (ldH I 1)
def v2020 (I : In F) : FVec F S1x1024 .f32 := k0_pay241 (v1762 I) (v1838 I) (v1914 I) (v1979 I) (v1985 I) (ld7 I) (ld8 I) (ldH I 1)
def v2021 (I : In F) : IVec S1x1024 32 := k0_pay242
def v2022 (I : In F) : IVec S1x1024 32 := k0_pay243
def v2069 (I : In F) : IVec S1x1024 32 := k0_pay244 (v2020 I) (v2021 I) (v2022 I)
def v2070 (I : In F) : IVec S1x1024 32 := k0_pay245
def v2079 (I : In F) : FVec F S1x1024 .f32 := k0_pay246 (F := F) (v2069 I)
def v2086 (I : In F) : FVec F S16x1024 .fp8e4m3 := k0_pay247 (v2015 I) (v2069 I) (v2070 I)
def v2090 (I : In F) : FVec F S16x1024 .bf16 := k0_pay248 (v2015 I) (v2069 I) (v2070 I)
def v2091 (I : In F) : FVec F S16x1024 .f32 := k0_pay249 (v2014 I)
def v2096 (I : In F) : FVec F S1x1024 .f32 := k0_pay250 (v2014 I)
def v2117 (I : In F) : IVec S1x1024 32 := k0_pay251 (v2014 I)
def v2155 (I : In F) : FVec F S1x1024 .f32 := k0_pay253 (v2096 I) (v2117 I) 67108864#32
def v2162 (I : In F) : FVec F S16x1024 .fp8e4m3 := k0_pay254 (v2091 I) (v2096 I) (v2117 I) 67108864#32
def v2163 (I : In F) : FVec F S16x1024 .f32 := k0_pay255 (v2091 I) (v2096 I) (v2117 I) 67108864#32
def v2164 (I : In F) : FVec F S16x1024 .f32 := k0_pay256 (v2096 I) (v2117 I) 67108864#32
def v2183 (I : In F) : FVec F S64x1024 .f32 := k0_pay259 (v2090 I) (v2163 I) (v2164 I) (ld9 I) (ld10 I)
def v2184 (I : In F) : FVec F S16x1024 .f32 := k0_pay260 (v2090 I) (v2163 I) (v2164 I) (ld9 I) (ld10 I)
def v2189 (I : In F) : FVec F S1x1024 .f32 := k0_pay261 (v2090 I) (v2163 I) (v2164 I) (ld9 I) (ld10 I)
def v2200 (I : In F) : IVec S1x1024 32 := k0_pay262 (v2090 I) (v2163 I) (v2164 I) (ld9 I) (ld10 I)
def v2202 (I : In F) : IVec S1x1024 32 := k0_pay263 (v2090 I) (v2163 I) (v2164 I) (ld9 I) (ld10 I)
def v2204 (I : In F) : IVec S1x1024 1 := k0_pay264 (v2090 I) (v2163 I) (v2164 I) (ld9 I) (ld10 I)
def v2248 (I : In F) : FVec F S1x1024 .f32 := k0_pay266 (v2189 I) (v2200 I) (v2202 I) (v2204 I)
def v2250 (I : In F) : FVec F S16x1024 .f32 := k0_pay267 (v2184 I) (v2189 I) (v2200 I) (v2202 I) (v2204 I)
def v2255 (I : In F) : FVec F S16x1024 .fp8e4m3 := k0_pay268 (v2250 I) (Scalar.ofBits .f32 0xC3E00000#32 : F .f32)
def v2259 (I : In F) : FVec F S16x1024 .bf16 := k0_pay269 (v2248 I) (v2250 I) (Scalar.ofBits .f32 0xC3E00000#32 : F .f32)
def v2260 (I : In F) : FVec F S16x1024 .f32 := k0_pay270 (v2183 I)
def v2265 (I : In F) : FVec F S1x1024 .f32 := k0_pay271 (v2183 I)
def v2296 (I : In F) : IVec S1x1024 32 := k0_pay272 (v2183 I)
def v2298 (I : In F) : IVec S1x1024 32 := k0_pay273 (v2183 I)
def v2299 (I : In F) : FVec F S1x1024 .f32 := k0_pay274 (v2183 I)
def v2324 (I : In F) : FVec F S1x1024 .f32 := k0_pay276 (v2265 I) (v2296 I) (v2298 I) (v2299 I)
def v2331 (I : In F) : FVec F S16x1024 .fp8e4m3 := k0_pay277 (v2260 I) (v2265 I) (v2296 I) (v2298 I) (v2299 I)
def v2335 (I : In F) : FVec F S16x1024 .bf16 := k0_pay278 (v2260 I) (v2265 I) (v2296 I) (v2298 I) (v2299 I)
def v2336 (I : In F) : FVec F S16x1024 .f32 := k0_pay279 (v2183 I)
def v2341 (I : In F) : FVec F S1x1024 .f32 := k0_pay280 (v2183 I)
def v2342 (I : In F) : IVec S1x1024 32 := k0_pay281
def v2344 (I : In F) : IVec S1x1024 32 := k0_pay282
def v2390 (I : In F) : IVec S1x1024 32 := k0_pay283 (v2341 I) (v2342 I) (v2344 I)
def v2392 (I : In F) : IVec S1x1024 32 := k0_pay284 (v2341 I) (v2342 I) (v2344 I)
def v2400 (I : In F) : FVec F S1x1024 .f32 := k0_pay285 (F := F) (v2390 I)
def v2407 (I : In F) : FVec F S16x1024 .fp8e4m3 := k0_pay286 (v2336 I) (v2392 I)
def v2411 (I : In F) : FVec F S16x1024 .bf16 := k0_pay287 (v2336 I) (v2390 I) (v2392 I)
def v2412 (I : In F) : FVec F S16x1024 .f32 := k0_pay288 (v2183 I)
def v2417 (I : In F) : FVec F S1x1024 .f32 := k0_pay289 (v2183 I)
def v2438 (I : In F) : IVec S1x1024 32 := k0_pay290 (v2183 I)
def v2439 (I : In F) : IVec S1x1024 32 := k0_pay291
def v2476 (I : In F) : FVec F S1x1024 .f32 := k0_pay293 (v2417 I) (v2438 I) (v2439 I)
def v2483 (I : In F) : FVec F S16x1024 .fp8e4m3 := k0_pay294 (v2412 I) (v2417 I) (v2438 I) (v2439 I)
def v2486 (I : In F) : FVec F S16x1024 .f32 := k0_pay295 (v2412 I) (v2417 I) (v2438 I) (v2439 I)
def v2504 (I : In F) : FVec F S64x1024 .f32 := k0_pay298 (v2259 I) (v2335 I) (v2411 I) (v2486 I) (ld11 I) (ld12 I)
def v2505 (I : In F) : FVec F S16x1024 .f32 := k0_pay299 (v2259 I) (v2335 I) (v2411 I) (v2486 I) (ld11 I) (ld12 I)
def v2510 (I : In F) : FVec F S1x1024 .f32 := k0_pay300 (v2259 I) (v2335 I) (v2411 I) (v2486 I) (ld11 I) (ld12 I)
def v2526 (I : In F) : IVec S1x1024 32 := k0_pay301 (v2259 I) (v2335 I) (v2411 I) (v2486 I) (ld11 I) (ld12 I)
def v2569 (I : In F) : FVec F S1x1024 .f32 := k0_pay303 (v2510 I) (v2526 I)
def v2571 (I : In F) : FVec F S16x1024 .f32 := k0_pay304 (v2505 I) (v2510 I) (v2526 I)
def v2576 (I : In F) : FVec F S16x1024 .fp8e4m3 := k0_pay305 (v2571 I) (Scalar.ofBits .f32 0xC3E00000#32 : F .f32) (Scalar.ofBits .f32 0x43E00000#32 : F .f32)
def v2580 (I : In F) : FVec F S16x1024 .bf16 := k0_pay306 (v2569 I) (v2571 I) (Scalar.ofBits .f32 0xC3E00000#32 : F .f32) (Scalar.ofBits .f32 0x43E00000#32 : F .f32)
def v2581 (I : In F) : FVec F S16x1024 .f32 := k0_pay307 (v2504 I)
def v2586 (I : In F) : FVec F S1x1024 .f32 := k0_pay308 (v2504 I)
def v2617 (I : In F) : IVec S1x1024 32 := k0_pay309 (v2504 I)
def v2619 (I : In F) : IVec S1x1024 32 := k0_pay310 (v2504 I)
def v2621 (I : In F) : IVec S1x1024 1 := k0_pay311 (v2504 I)
def v2645 (I : In F) : FVec F S1x1024 .f32 := k0_pay313 (v2586 I) (v2617 I) (v2619 I) (v2621 I)
def v2652 (I : In F) : FVec F S16x1024 .fp8e4m3 := k0_pay314 (v2581 I) (v2586 I) (v2617 I) (v2619 I) (v2621 I)
def v2656 (I : In F) : FVec F S16x1024 .bf16 := k0_pay315 (v2581 I) (v2586 I) (v2617 I) (v2619 I) (v2621 I)
def v2657 (I : In F) : FVec F S16x1024 .f32 := k0_pay316 (v2504 I)
def v2662 (I : In F) : FVec F S1x1024 .f32 := k0_pay317 (v2504 I)
def v2663 (I : In F) : IVec S1x1024 32 := k0_pay318
def v2665 (I : In F) : IVec S1x1024 32 := k0_pay319
def v2666 (I : In F) : FVec F S1x1024 .f32 := k0_pay320 (F := F)
def v2711 (I : In F) : IVec S1x1024 32 := k0_pay321 (v2662 I) (v2663 I) (v2665 I) (v2666 I)
def v2713 (I : In F) : IVec S1x1024 32 := k0_pay322 (v2662 I) (v2663 I) (v2665 I) (v2666 I)
def v2721 (I : In F) : FVec F S1x1024 .f32 := k0_pay323 (F := F) (v2711 I)
def v2728 (I : In F) : FVec F S16x1024 .fp8e4m3 := k0_pay324 (v2657 I) (v2713 I) 23#32
def v2732 (I : In F) : FVec F S16x1024 .bf16 := k0_pay325 (v2657 I) (v2711 I) (v2713 I) 23#32
def v2733 (I : In F) : FVec F S16x1024 .f32 := k0_pay326 (v2504 I)
def v2738 (I : In F) : FVec F S1x1024 .f32 := k0_pay327 (v2504 I)
def v2759 (I : In F) : IVec S1x1024 32 := k0_pay328 (v2504 I)
def v2761 (I : In F) : IVec S1x1024 32 := k0_pay329 (v2504 I)
def v2797 (I : In F) : FVec F S1x1024 .f32 := k0_pay331 (v2738 I) (v2759 I) (v2761 I)
def v2804 (I : In F) : FVec F S16x1024 .fp8e4m3 := k0_pay332 (v2733 I) (v2738 I) (v2759 I) (v2761 I)
def v2808 (I : In F) : FVec F S16x1024 .bf16 := k0_pay333 (v2733 I) (v2738 I) (v2759 I) (v2761 I)
def v2840 (I : In F) : FVec F S1x1024 .bf16 := k0_pay339 (v2580 I) (v2656 I) (v2732 I) (v2808 I) (ld13 I) (ld14 I)
def v2848 (I : In F) : FVec F S8x128 .f32 := k0_pay341 (ldS I 2 0) (ldC I 2 0)
def v2853 (I : In F) : FVec F S8x128 .f32 := k0_pay342 (ldS I 2 1) (ldC I 2 1)
def v2858 (I : In F) : FVec F S8x128 .f32 := k0_pay343 (ldS I 2 2) (ldC I 2 2)
def v2863 (I : In F) : FVec F S8x128 .f32 := k0_pay344 (ldS I 2 3) (ldC I 2 3)
def v2884 (I : In F) : FVec F S8x1024 .f32 := k0_pay345 (v2848 I) (v2853 I) (v2858 I) (v2863 I) (ldS I 2 4) (ldC I 2 4) (ldS I 2 5) (ldC I 2 5) (ldS I 2 6) (ldC I 2 6) (ldS I 2 7) (ldC I 2 7)
def v2901 (I : In F) : FVec F S8x1024 .f32 := k0_pay346 (ldB I 2 1 0) (ldB I 2 1 1) (ldB I 2 1 2) (ldB I 2 1 3) (ldB I 2 1 4) (ldB I 2 1 5) (ldB I 2 1 6) (ldB I 2 1 7)
def v2903 (I : In F) : FVec F S8x128 .f32 := k0_pay347 (ldB I 2 2 0)
def v2918 (I : In F) : FVec F S8x1024 .f32 := k0_pay348 (v2903 I) (ldB I 2 2 1) (ldB I 2 2 2) (ldB I 2 2 3) (ldB I 2 2 4) (ldB I 2 2 5) (ldB I 2 2 6) (ldB I 2 2 7)
def v2920 (I : In F) : FVec F S8x128 .f32 := k0_pay349 (ldB I 2 3 0)
def v2939 (I : In F) : FVec F S32x1024 .f32 := k0_pay350 (v2884 I) (v2901 I) (v2918 I) (v2920 I) (ldB I 2 3 1) (ldB I 2 3 2) (ldB I 2 3 3) (ldB I 2 3 4) (ldB I 2 3 5) (ldB I 2 3 6) (ldB I 2 3 7) (ld3 I)
def v2940 (I : In F) : FVec F S16x1024 .f32 := k0_pay351 (v2884 I) (v2901 I) (v2918 I) (v2920 I) (ldB I 2 3 1) (ldB I 2 3 2) (ldB I 2 3 3) (ldB I 2 3 4) (ldB I 2 3 5) (ldB I 2 3 6) (ldB I 2 3 7) (ld3 I)
def v2943 (I : In F) : FVec F S1x1024 .f32 := k0_pay352 (v2884 I) (v2901 I) (v2918 I) (v2920 I) (ldB I 2 3 1) (ldB I 2 3 2) (ldB I 2 3 3) (ldB I 2 3 4) (ldB I 2 3 5) (ldB I 2 3 6) (ldB I 2 3 7) (ld3 I)
def v2944 (I : In F) : FVec F S1x1024 .f32 := k0_pay353 (F := F)
def v2990 (I : In F) : IVec S1x1024 32 := k0_pay355 (v2943 I) (v2944 I)
def v2992 (I : In F) : IVec S1x1024 1 := k0_pay356 (v2943 I) (v2944 I)
def v3004 (I : In F) : FVec F S1x1024 .f32 := k0_pay358 (F := F) (v2990 I) (v2992 I)
def v3011 (I : In F) : FVec F S16x1024 .fp8e4m3 := k0_pay359 (v2940 I) (v2990 I) (v2992 I)
def v3015 (I : In F) : FVec F S16x1024 .bf16 := k0_pay360 (v2940 I) (v2990 I) (v2992 I)
def v3016 (I : In F) : FVec F S16x1024 .f32 := k0_pay361 (v2939 I)
def v3021 (I : In F) : FVec F S1x1024 .f32 := k0_pay362 (v2939 I)
def v3037 (I : In F) : IVec S1x1024 32 := k0_pay363 (v2939 I)
def v3038 (I : In F) : IVec S1x1024 32 := k0_pay364
def v3080 (I : In F) : FVec F S1x1024 .f32 := k0_pay366 (v3021 I) (v3037 I) (v3038 I)
def v3084 (I : In F) : FVec F S16x1024 .f32 := k0_pay367 (v3016 I) (v3021 I) (v3037 I) (v3038 I)
def v3108 (I : In F) : FVec F S64x1024 .f32 := k0_pay371 (v3015 I) (v3080 I) (Scalar.ofBits .f32 0x43E00000#32 : F .f32) (v3084 I) (ld5 I) (ld6 I)
def v3109 (I : In F) : FVec F S16x1024 .f32 := k0_pay372 (v3015 I) (v3080 I) (Scalar.ofBits .f32 0x43E00000#32 : F .f32) (v3084 I) (ld5 I) (ld6 I)
def v3114 (I : In F) : FVec F S1x1024 .f32 := k0_pay373 (v3015 I) (v3080 I) (Scalar.ofBits .f32 0x43E00000#32 : F .f32) (v3084 I) (ld5 I) (ld6 I)
def v3125 (I : In F) : IVec S1x1024 32 := k0_pay374 (v3015 I) (v3080 I) (Scalar.ofBits .f32 0x43E00000#32 : F .f32) (v3084 I) (ld5 I) (ld6 I)
def v3168 (I : In F) : FVec F S1x1024 .f32 := k0_pay376 (v3114 I) (v3125 I)
def v3170 (I : In F) : IVec S1x1024 32 := k0_pay377 (v3114 I) (v3125 I)
def v3171 (I : In F) : IVec S1x1024 32 := k0_pay378
def v3173 (I : In F) : FVec F S1x1024 .f32 := k0_pay379 (F := F) (v3170 I) (v3171 I)
def v3180 (I : In F) : FVec F S16x1024 .fp8e4m3 := k0_pay380 (v3109 I) (v3168 I)
def v3184 (I : In F) : FVec F S16x1024 .bf16 := k0_pay381 (v3109 I) (v3168 I) (v3170 I) (v3171 I)
def v3185 (I : In F) : FVec F S16x1024 .f32 := k0_pay382 (v3108 I)
def v3190 (I : In F) : FVec F S1x1024 .f32 := k0_pay383 (v3108 I)
def v3216 (I : In F) : IVec S1x1024 32 := k0_pay384 (v3108 I)
def v3218 (I : In F) : IVec S1x1024 32 := k0_pay385 (v3108 I)
def v3220 (I : In F) : IVec S1x1024 1 := k0_pay386 (v3108 I)
def v3249 (I : In F) : FVec F S1x1024 .f32 := k0_pay388 (v3190 I) (v3216 I) (v3218 I) (v3220 I)
def v3256 (I : In F) : FVec F S16x1024 .fp8e4m3 := k0_pay389 (v3185 I) (v3190 I) (v3216 I) (v3218 I) (v3220 I)
def v3260 (I : In F) : FVec F S16x1024 .bf16 := k0_pay390 (v3185 I) (v3190 I) (v3216 I) (v3218 I) (v3220 I)
def v3261 (I : In F) : FVec F S16x1024 .f32 := k0_pay391 (v3108 I)
def v3266 (I : In F) : FVec F S1x1024 .f32 := k0_pay392 (v3108 I)
def v3311 (I : In F) : IVec S1x1024 32 := k0_pay393 (v3266 I)
def v3313 (I : In F) : IVec S1x1024 1 := k0_pay394 (v3266 I)
def v3325 (I : In F) : FVec F S1x1024 .f32 := k0_pay396 (F := F) (v3311 I) (v3313 I) 0#32
def v3332 (I : In F) : FVec F S16x1024 .fp8e4m3 := k0_pay397 (v3261 I) (v3311 I) (v3313 I) 0#32
def v3336 (I : In F) : FVec F S16x1024 .bf16 := k0_pay398 (v3261 I) (v3311 I) (v3313 I) 0#32
def v3337 (I : In F) : FVec F S16x1024 .f32 := k0_pay399 (v3108 I)
def v3342 (I : In F) : FVec F S1x1024 .f32 := k0_pay400 (v3108 I)
def v3358 (I : In F) : IVec S1x1024 32 := k0_pay401 (v3108 I)
def v3360 (I : In F) : IVec S1x1024 32 := k0_pay402 (v3108 I)
def v3401 (I : In F) : FVec F S1x1024 .f32 := k0_pay404 (v3342 I) (v3358 I) (v3360 I)
def v3405 (I : In F) : FVec F S16x1024 .f32 := k0_pay405 (v3337 I) (v3342 I) (v3358 I) (v3360 I)
def v3406 (I : In F) : FVec F S16x1024 .f32 := k0_pay406 (F := F)
def v3436 (I : In F) : FVec F S32x1024 .f32 := k0_pay412 (v3184 I) (v3260 I) (v3336 I) (v3401 I) (v3405 I) (v3406 I) (ld7 I) (ld8 I) (ldH I 2)
def v3437 (I : In F) : FVec F S16x1024 .f32 := k0_pay413 (v3184 I) (v3260 I) (v3336 I) (v3401 I) (v3405 I) (v3406 I) (ld7 I) (ld8 I) (ldH I 2)
def v3442 (I : In F) : FVec F S1x1024 .f32 := k0_pay414 (v3184 I) (v3260 I) (v3336 I) (v3401 I) (v3405 I) (v3406 I) (ld7 I) (ld8 I) (ldH I 2)
def v3443 (I : In F) : IVec S1x1024 32 := k0_pay415
def v3491 (I : In F) : IVec S1x1024 32 := k0_pay416 (v3442 I) (v3443 I) 1056964608#32
def v3501 (I : In F) : FVec F S1x1024 .f32 := k0_pay417 (F := F) (v3491 I)
def v3508 (I : In F) : FVec F S16x1024 .fp8e4m3 := k0_pay418 (v3437 I) (v3491 I) 127#32
def v3512 (I : In F) : FVec F S16x1024 .bf16 := k0_pay419 (v3437 I) (v3491 I) 127#32
def v3513 (I : In F) : FVec F S16x1024 .f32 := k0_pay420 (v3436 I)
def v3518 (I : In F) : FVec F S1x1024 .f32 := k0_pay421 (v3436 I)
def v3539 (I : In F) : IVec S1x1024 32 := k0_pay422 (v3436 I)
def v3577 (I : In F) : FVec F S1x1024 .f32 := k0_pay424 (v3518 I) (v3539 I)
def v3584 (I : In F) : FVec F S16x1024 .fp8e4m3 := k0_pay425 (v3513 I) (v3518 I) (v3539 I)
def v3585 (I : In F) : FVec F S16x1024 .f32 := k0_pay426 (v3513 I) (v3518 I) (v3539 I)
def v3605 (I : In F) : FVec F S64x1024 .f32 := k0_pay429 (v3512 I) (v3577 I) (v3585 I) (ld9 I) (ld10 I)
def v3606 (I : In F) : FVec F S16x1024 .f32 := k0_pay430 (v3512 I) (v3577 I) (v3585 I) (ld9 I) (ld10 I)
def v3611 (I : In F) : FVec F S1x1024 .f32 := k0_pay431 (v3512 I) (v3577 I) (v3585 I) (ld9 I) (ld10 I)
def v3622 (I : In F) : IVec S1x1024 32 := k0_pay432 (v3512 I) (v3577 I) (v3585 I) (ld9 I) (ld10 I)
def v3624 (I : In F) : IVec S1x1024 32 := k0_pay433 (v3512 I) (v3577 I) (v3585 I) (ld9 I) (ld10 I)
def v3625 (I : In F) : FVec F S1x1024 .f32 := k0_pay434 (v3512 I) (v3577 I) (v3585 I) (ld9 I) (ld10 I)
def v3670 (I : In F) : FVec F S1x1024 .f32 := k0_pay436 (v3611 I) (v3622 I) (v3624 I) (v3625 I)
def v3672 (I : In F) : FVec F S16x1024 .f32 := k0_pay437 (v3606 I) (v3611 I) (v3622 I) (v3624 I) (v3625 I)
def v3677 (I : In F) : FVec F S16x1024 .fp8e4m3 := k0_pay438 (v3672 I)
def v3681 (I : In F) : FVec F S16x1024 .bf16 := k0_pay439 (v3670 I) (v3672 I)
def v3682 (I : In F) : FVec F S16x1024 .f32 := k0_pay440 (v3605 I)
def v3687 (I : In F) : FVec F S1x1024 .f32 := k0_pay441 (v3605 I)
def v3718 (I : In F) : IVec S1x1024 32 := k0_pay442 (v3605 I)
def v3720 (I : In F) : IVec S1x1024 32 := k0_pay443 (v3605 I)
def v3746 (I : In F) : FVec F S1x1024 .f32 := k0_pay445 (v3687 I) (v3718 I) (v3720 I)
def v3753 (I : In F) : FVec F S16x1024 .fp8e4m3 := k0_pay446 (v3682 I) (v3687 I) (v3718 I) (v3720 I)
def v3757 (I : In F) : FVec F S16x1024 .bf16 := k0_pay447 (v3682 I) (v3687 I) (v3718 I) (v3720 I)
def v3758 (I : In F) : FVec F S16x1024 .f32 := k0_pay448 (v3605 I)
def v3763 (I : In F) : FVec F S1x1024 .f32 := k0_pay449 (v3605 I)
def v3764 (I : In F) : IVec S1x1024 32 := k0_pay450
def v3765 (I : In F) : IVec S1x1024 32 := k0_pay451
def v3812 (I : In F) : IVec S1x1024 32 := k0_pay452 (v3763 I) (v3764 I) (v3765 I)
def v3813 (I : In F) : IVec S1x1024 32 := k0_pay453
def v3822 (I : In F) : FVec F S1x1024 .f32 := k0_pay454 (F := F) (v3812 I)
def v3829 (I : In F) : FVec F S16x1024 .fp8e4m3 := k0_pay455 (v3758 I) (v3812 I) (v3813 I)
def v3833 (I : In F) : FVec F S16x1024 .bf16 := k0_pay456 (v3758 I) (v3812 I) (v3813 I)
def v3834 (I : In F) : FVec F S16x1024 .f32 := k0_pay457 (v3605 I)
def v3839 (I : In F) : FVec F S1x1024 .f32 := k0_pay458 (v3605 I)
def v3860 (I : In F) : IVec S1x1024 32 := k0_pay459 (v3605 I)
def v3898 (I : In F) : FVec F S1x1024 .f32 := k0_pay461 (v3839 I) (v3860 I) 67108864#32
def v3905 (I : In F) : FVec F S16x1024 .fp8e4m3 := k0_pay462 (v3834 I) (v3839 I) (v3860 I) 67108864#32
def v3906 (I : In F) : FVec F S16x1024 .f32 := k0_pay463 (v3834 I) (v3839 I) (v3860 I) 67108864#32
def v3907 (I : In F) : FVec F S16x1024 .f32 := k0_pay464 (v3839 I) (v3860 I) 67108864#32
def v3926 (I : In F) : FVec F S64x1024 .f32 := k0_pay467 (v3681 I) (v3757 I) (v3833 I) (v3906 I) (v3907 I) (ld11 I) (ld12 I)
def v3927 (I : In F) : FVec F S16x1024 .f32 := k0_pay468 (v3681 I) (v3757 I) (v3833 I) (v3906 I) (v3907 I) (ld11 I) (ld12 I)
def v3932 (I : In F) : FVec F S1x1024 .f32 := k0_pay469 (v3681 I) (v3757 I) (v3833 I) (v3906 I) (v3907 I) (ld11 I) (ld12 I)
def v3943 (I : In F) : IVec S1x1024 32 := k0_pay470 (v3681 I) (v3757 I) (v3833 I) (v3906 I) (v3907 I) (ld11 I) (ld12 I)
def v3945 (I : In F) : IVec S1x1024 32 := k0_pay471 (v3681 I) (v3757 I) (v3833 I) (v3906 I) (v3907 I) (ld11 I) (ld12 I)
def v3947 (I : In F) : IVec S1x1024 1 := k0_pay472 (v3681 I) (v3757 I) (v3833 I) (v3906 I) (v3907 I) (ld11 I) (ld12 I)
def v3991 (I : In F) : FVec F S1x1024 .f32 := k0_pay474 (v3932 I) (v3943 I) (v3945 I) (v3947 I)
def v3993 (I : In F) : FVec F S16x1024 .f32 := k0_pay475 (v3927 I) (v3932 I) (v3943 I) (v3945 I) (v3947 I)
def v3998 (I : In F) : FVec F S16x1024 .fp8e4m3 := k0_pay476 (v3993 I) (Scalar.ofBits .f32 0xC3E00000#32 : F .f32)
def v4002 (I : In F) : FVec F S16x1024 .bf16 := k0_pay477 (v3991 I) (v3993 I) (Scalar.ofBits .f32 0xC3E00000#32 : F .f32)
def v4003 (I : In F) : FVec F S16x1024 .f32 := k0_pay478 (v3926 I)
def v4008 (I : In F) : FVec F S1x1024 .f32 := k0_pay479 (v3926 I)
def v4039 (I : In F) : IVec S1x1024 32 := k0_pay480 (v3926 I)
def v4041 (I : In F) : IVec S1x1024 32 := k0_pay481 (v3926 I)
def v4042 (I : In F) : FVec F S1x1024 .f32 := k0_pay482 (v3926 I)
def v4067 (I : In F) : FVec F S1x1024 .f32 := k0_pay484 (v4008 I) (v4039 I) (v4041 I) (v4042 I)
def v4074 (I : In F) : FVec F S16x1024 .fp8e4m3 := k0_pay485 (v4003 I) (v4008 I) (v4039 I) (v4041 I) (v4042 I)
def v4078 (I : In F) : FVec F S16x1024 .bf16 := k0_pay486 (v4003 I) (v4008 I) (v4039 I) (v4041 I) (v4042 I)
def v4079 (I : In F) : FVec F S16x1024 .f32 := k0_pay487 (v3926 I)
def v4084 (I : In F) : FVec F S1x1024 .f32 := k0_pay488 (v3926 I)
def v4085 (I : In F) : IVec S1x1024 32 := k0_pay489
def v4087 (I : In F) : IVec S1x1024 32 := k0_pay490
def v4133 (I : In F) : IVec S1x1024 32 := k0_pay491 (v4084 I) (v4085 I) (v4087 I)
def v4135 (I : In F) : IVec S1x1024 32 := k0_pay492 (v4084 I) (v4085 I) (v4087 I)
def v4143 (I : In F) : FVec F S1x1024 .f32 := k0_pay493 (F := F) (v4133 I)
def v4150 (I : In F) : FVec F S16x1024 .fp8e4m3 := k0_pay494 (v4079 I) (v4135 I)
def v4154 (I : In F) : FVec F S16x1024 .bf16 := k0_pay495 (v4079 I) (v4133 I) (v4135 I)
def v4155 (I : In F) : FVec F S16x1024 .f32 := k0_pay496 (v3926 I)
def v4160 (I : In F) : FVec F S1x1024 .f32 := k0_pay497 (v3926 I)
def v4181 (I : In F) : IVec S1x1024 32 := k0_pay498 (v3926 I)
def v4182 (I : In F) : IVec S1x1024 32 := k0_pay499
def v4219 (I : In F) : FVec F S1x1024 .f32 := k0_pay501 (v4160 I) (v4181 I) (v4182 I)
def v4226 (I : In F) : FVec F S16x1024 .fp8e4m3 := k0_pay502 (v4155 I) (v4160 I) (v4181 I) (v4182 I)
def v4229 (I : In F) : FVec F S16x1024 .f32 := k0_pay503 (v4155 I) (v4160 I) (v4181 I) (v4182 I)
def v4262 (I : In F) : FVec F S1x1024 .bf16 := k0_pay509 (v4002 I) (v4078 I) (v4154 I) (v4229 I) (ld13 I) (ld14 I)
def v4270 (I : In F) : FVec F S8x128 .f32 := k0_pay511 (ldS I 3 0) (ldC I 3 0)
def v4275 (I : In F) : FVec F S8x128 .f32 := k0_pay512 (ldS I 3 1) (ldC I 3 1)
def v4280 (I : In F) : FVec F S8x128 .f32 := k0_pay513 (ldS I 3 2) (ldC I 3 2)
def v4285 (I : In F) : FVec F S8x128 .f32 := k0_pay514 (ldS I 3 3) (ldC I 3 3)
def v4306 (I : In F) : FVec F S8x1024 .f32 := k0_pay515 (v4270 I) (v4275 I) (v4280 I) (v4285 I) (ldS I 3 4) (ldC I 3 4) (ldS I 3 5) (ldC I 3 5) (ldS I 3 6) (ldC I 3 6) (ldS I 3 7) (ldC I 3 7)
def v4323 (I : In F) : FVec F S8x1024 .f32 := k0_pay516 (ldB I 3 1 0) (ldB I 3 1 1) (ldB I 3 1 2) (ldB I 3 1 3) (ldB I 3 1 4) (ldB I 3 1 5) (ldB I 3 1 6) (ldB I 3 1 7)
def v4340 (I : In F) : FVec F S8x1024 .f32 := k0_pay517 (ldB I 3 2 0) (ldB I 3 2 1) (ldB I 3 2 2) (ldB I 3 2 3) (ldB I 3 2 4) (ldB I 3 2 5) (ldB I 3 2 6) (ldB I 3 2 7)
def v4342 (I : In F) : FVec F S8x128 .f32 := k0_pay518 (ldB I 3 3 0)
def v4361 (I : In F) : FVec F S32x1024 .f32 := k0_pay519 (v4306 I) (v4323 I) (v4340 I) (v4342 I) (ldB I 3 3 1) (ldB I 3 3 2) (ldB I 3 3 3) (ldB I 3 3 4) (ldB I 3 3 5) (ldB I 3 3 6) (ldB I 3 3 7) (ld3 I)
def v4362 (I : In F) : FVec F S16x1024 .f32 := k0_pay520 (v4306 I) (v4323 I) (v4340 I) (v4342 I) (ldB I 3 3 1) (ldB I 3 3 2) (ldB I 3 3 3) (ldB I 3 3 4) (ldB I 3 3 5) (ldB I 3 3 6) (ldB I 3 3 7) (ld3 I)
def v4365 (I : In F) : FVec F S1x1024 .f32 := k0_pay521 (v4306 I) (v4323 I) (v4340 I) (v4342 I) (ldB I 3 3 1) (ldB I 3 3 2) (ldB I 3 3 3) (ldB I 3 3 4) (ldB I 3 3 5) (ldB I 3 3 6) (ldB I 3 3 7) (ld3 I)
def v4367 (I : In F) : FVec F S1x1024 .f32 := k0_pay522 (v4365 I) (Scalar.ofBits .f32 0x3B124925#32 : F .f32)
def v4412 (I : In F) : IVec S1x1024 32 := k0_pay523 (v4365 I) (Scalar.ofBits .f32 0x3B124925#32 : F .f32)
def v4413 (I : In F) : FVec F S1x1024 .f32 := k0_pay524 (F := F)
def v4426 (I : In F) : FVec F S1x1024 .f32 := k0_pay526 (v4367 I) (v4412 I) (v4413 I)
def v4433 (I : In F) : FVec F S16x1024 .fp8e4m3 := k0_pay527 (v4362 I) (v4367 I) (v4412 I) (v4413 I)
def v4437 (I : In F) : FVec F S16x1024 .bf16 := k0_pay528 (v4362 I) (v4367 I) (v4412 I) (v4413 I)
def v4438 (I : In F) : FVec F S16x1024 .f32 := k0_pay529 (v4361 I)
def v4443 (I : In F) : FVec F S1x1024 .f32 := k0_pay530 (v4361 I)
def v4459 (I : In F) : IVec S1x1024 32 := k0_pay531 (v4361 I)
def v4502 (I : In F) : FVec F S1x1024 .f32 := k0_pay533 (v4443 I) (v4459 I) 134217728#32
def v4504 (I : In F) : FVec F S16x1024 .f32 := k0_pay534 (v4438 I) (v4443 I) (v4459 I) 134217728#32
def v4505 (I : In F) : FVec F S16x1024 .f32 := k0_pay535 (F := F)
def v4530 (I : In F) : FVec F S64x1024 .f32 := k0_pay539 (v4437 I) (v4502 I) (v4504 I) (Scalar.ofBits .f32 0x43E00000#32 : F .f32) (v4505 I) (ld5 I) (ld6 I)
def v4531 (I : In F) : FVec F S16x1024 .f32 := k0_pay540 (v4437 I) (v4502 I) (v4504 I) (Scalar.ofBits .f32 0x43E00000#32 : F .f32) (v4505 I) (ld5 I) (ld6 I)
def v4536 (I : In F) : FVec F S1x1024 .f32 := k0_pay541 (v4437 I) (v4502 I) (v4504 I) (Scalar.ofBits .f32 0x43E00000#32 : F .f32) (v4505 I) (ld5 I) (ld6 I)
def v4542 (I : In F) : IVec S1x1024 32 := k0_pay542 (v4437 I) (v4502 I) (v4504 I) (Scalar.ofBits .f32 0x43E00000#32 : F .f32) (v4505 I) (ld5 I) (ld6 I)
def v4544 (I : In F) : IVec S1x1024 32 := k0_pay543 (v4437 I) (v4502 I) (v4504 I) (Scalar.ofBits .f32 0x43E00000#32 : F .f32) (v4505 I) (ld5 I) (ld6 I)
def v4546 (I : In F) : IVec S1x1024 1 := k0_pay544 (v4437 I) (v4502 I) (v4504 I) (Scalar.ofBits .f32 0x43E00000#32 : F .f32) (v4505 I) (ld5 I) (ld6 I)
def v4590 (I : In F) : FVec F S1x1024 .f32 := k0_pay546 (v4536 I) (v4542 I) (v4544 I) (v4546 I)
def v4592 (I : In F) : IVec S1x1024 32 := k0_pay547 (v4536 I) (v4542 I) (v4544 I) (v4546 I)
def v4595 (I : In F) : FVec F S1x1024 .f32 := k0_pay548 (F := F) (v4592 I) 23#32
def v4602 (I : In F) : FVec F S16x1024 .fp8e4m3 := k0_pay549 (v4531 I) (v4590 I)
def v4606 (I : In F) : FVec F S16x1024 .bf16 := k0_pay550 (v4531 I) (v4590 I) (v4592 I) 23#32
def v4607 (I : In F) : FVec F S16x1024 .f32 := k0_pay551 (v4530 I)
def v4612 (I : In F) : FVec F S1x1024 .f32 := k0_pay552 (v4530 I)
def v4638 (I : In F) : IVec S1x1024 32 := k0_pay553 (v4530 I)
def v4640 (I : In F) : IVec S1x1024 32 := k0_pay554 (v4530 I)
def v4641 (I : In F) : FVec F S1x1024 .f32 := k0_pay555 (v4530 I)
def v4671 (I : In F) : FVec F S1x1024 .f32 := k0_pay557 (v4612 I) (v4638 I) (v4640 I) (v4641 I)
def v4678 (I : In F) : FVec F S16x1024 .fp8e4m3 := k0_pay558 (v4607 I) (v4612 I) (v4638 I) (v4640 I) (v4641 I)
def v4682 (I : In F) : FVec F S16x1024 .bf16 := k0_pay559 (v4607 I) (v4612 I) (v4638 I) (v4640 I) (v4641 I)
def v4683 (I : In F) : FVec F S16x1024 .f32 := k0_pay560 (v4530 I)
def v4686 (I : In F) : FVec F S1x1024 .f32 := k0_pay561 (v4530 I)
def v4687 (I : In F) : FVec F S1x1024 .f32 := k0_pay562 (F := F)
def v4733 (I : In F) : IVec S1x1024 32 := k0_pay564 (v4686 I) (v4687 I)
def v4735 (I : In F) : IVec S1x1024 1 := k0_pay565 (v4686 I) (v4687 I)
def v4747 (I : In F) : FVec F S1x1024 .f32 := k0_pay567 (F := F) (v4733 I) (v4735 I)
def v4754 (I : In F) : FVec F S16x1024 .fp8e4m3 := k0_pay568 (v4683 I) (v4733 I) (v4735 I)
def v4758 (I : In F) : FVec F S16x1024 .bf16 := k0_pay569 (v4683 I) (v4733 I) (v4735 I)
def v4759 (I : In F) : FVec F S16x1024 .f32 := k0_pay570 (v4530 I)
def v4764 (I : In F) : FVec F S1x1024 .f32 := k0_pay571 (v4530 I)
def v4780 (I : In F) : IVec S1x1024 32 := k0_pay572 (v4530 I)
def v4781 (I : In F) : IVec S1x1024 32 := k0_pay573
def v4823 (I : In F) : FVec F S1x1024 .f32 := k0_pay575 (v4764 I) (v4780 I) (v4781 I)
def v4827 (I : In F) : FVec F S16x1024 .f32 := k0_pay576 (v4759 I) (v4764 I) (v4780 I) (v4781 I)
def v4858 (I : In F) : FVec F S32x1024 .f32 := k0_pay582 (v4606 I) (v4682 I) (v4758 I) (v4823 I) (Scalar.ofBits .f32 0x43E00000#32 : F .f32) (v4827 I) (ld7 I) (ld8 I) (ldH I 3)
def v4859 (I : In F) : FVec F S16x1024 .f32 := k0_pay583 (v4606 I) (v4682 I) (v4758 I) (v4823 I) (Scalar.ofBits .f32 0x43E00000#32 : F .f32) (v4827 I) (ld7 I) (ld8 I) (ldH I 3)
def v4864 (I : In F) : FVec F S1x1024 .f32 := k0_pay584 (v4606 I) (v4682 I) (v4758 I) (v4823 I) (Scalar.ofBits .f32 0x43E00000#32 : F .f32) (v4827 I) (ld7 I) (ld8 I) (ldH I 3)
def v4865 (I : In F) : IVec S1x1024 32 := k0_pay585
def v4913 (I : In F) : IVec S1x1024 32 := k0_pay586 (v4864 I) (v4865 I)
def v4923 (I : In F) : FVec F S1x1024 .f32 := k0_pay587 (F := F) (v4913 I)
def v4930 (I : In F) : FVec F S16x1024 .fp8e4m3 := k0_pay588 (v4859 I) (v4913 I)
def v4934 (I : In F) : FVec F S16x1024 .bf16 := k0_pay589 (v4859 I) (v4913 I)
def v4935 (I : In F) : FVec F S16x1024 .f32 := k0_pay590 (v4858 I)
def v4940 (I : In F) : FVec F S1x1024 .f32 := k0_pay591 (v4858 I)
def v4956 (I : In F) : IVec S1x1024 32 := k0_pay592 (v4858 I)
def v4958 (I : In F) : IVec S1x1024 32 := k0_pay593 (v4858 I)
def v4960 (I : In F) : IVec S1x1024 1 := k0_pay594 (v4858 I)
def v4999 (I : In F) : FVec F S1x1024 .f32 := k0_pay596 (v4940 I) (v4956 I) (v4958 I) (v4960 I)
def v5006 (I : In F) : FVec F S16x1024 .fp8e4m3 := k0_pay597 (v4935 I) (v4940 I) (v4956 I) (v4958 I) (v4960 I)
def v5027 (I : In F) : FVec F S64x1024 .f32 := k0_pay600 (v4934 I) (v4999 I) (v5006 I) (ld9 I) (ld10 I)
def v5028 (I : In F) : FVec F S16x1024 .f32 := k0_pay601 (v4934 I) (v4999 I) (v5006 I) (ld9 I) (ld10 I)
def v5033 (I : In F) : FVec F S1x1024 .f32 := k0_pay602 (v4934 I) (v4999 I) (v5006 I) (ld9 I) (ld10 I)
def v5044 (I : In F) : IVec S1x1024 32 := k0_pay603 (v4934 I) (v4999 I) (v5006 I) (ld9 I) (ld10 I)
def v5046 (I : In F) : IVec S1x1024 32 := k0_pay604 (v4934 I) (v4999 I) (v5006 I) (ld9 I) (ld10 I)
def v5092 (I : In F) : FVec F S1x1024 .f32 := k0_pay606 (v5033 I) (v5044 I) (v5046 I)
def v5093 (I : In F) : FVec F S16x1024 .f32 := k0_pay607 (v5033 I) (v5044 I) (v5046 I)
def v5099 (I : In F) : FVec F S16x1024 .fp8e4m3 := k0_pay608 (v5028 I) (v5093 I)
def v5103 (I : In F) : FVec F S16x1024 .bf16 := k0_pay609 (v5028 I) (v5092 I) (v5093 I)
def v5104 (I : In F) : FVec F S16x1024 .f32 := k0_pay610 (v5027 I)
def v5109 (I : In F) : FVec F S1x1024 .f32 := k0_pay611 (v5027 I)
def v5140 (I : In F) : IVec S1x1024 32 := k0_pay612 (v5027 I)
def v5141 (I : In F) : IVec S1x1024 32 := k0_pay613
def v5168 (I : In F) : FVec F S1x1024 .f32 := k0_pay615 (v5109 I) (v5140 I) (v5141 I)
def v5175 (I : In F) : FVec F S16x1024 .fp8e4m3 := k0_pay616 (v5104 I) (v5109 I) (v5140 I) (v5141 I)
def v5179 (I : In F) : FVec F S16x1024 .bf16 := k0_pay617 (v5104 I) (v5109 I) (v5140 I) (v5141 I)
def v5180 (I : In F) : FVec F S16x1024 .f32 := k0_pay618 (v5027 I)
def v5185 (I : In F) : FVec F S1x1024 .f32 := k0_pay619 (v5027 I)
def v5186 (I : In F) : IVec S1x1024 32 := k0_pay620
def v5234 (I : In F) : IVec S1x1024 32 := k0_pay621 (v5185 I) (v5186 I) 1056964608#32
def v5244 (I : In F) : FVec F S1x1024 .f32 := k0_pay622 (F := F) (v5234 I)
def v5251 (I : In F) : FVec F S16x1024 .fp8e4m3 := k0_pay623 (v5180 I) (v5234 I) 127#32
def v5255 (I : In F) : FVec F S16x1024 .bf16 := k0_pay624 (v5180 I) (v5234 I) 127#32
def v5256 (I : In F) : FVec F S16x1024 .f32 := k0_pay625 (v5027 I)
def v5261 (I : In F) : FVec F S1x1024 .f32 := k0_pay626 (v5027 I)
def v5282 (I : In F) : IVec S1x1024 32 := k0_pay627 (v5027 I)
def v5320 (I : In F) : FVec F S1x1024 .f32 := k0_pay629 (v5261 I) (v5282 I)
def v5327 (I : In F) : FVec F S16x1024 .fp8e4m3 := k0_pay630 (v5256 I) (v5261 I) (v5282 I)
def v5328 (I : In F) : FVec F S16x1024 .f32 := k0_pay631 (v5256 I) (v5261 I) (v5282 I)
def v5348 (I : In F) : FVec F S64x1024 .f32 := k0_pay634 (v5103 I) (v5179 I) (v5255 I) (v5320 I) (v5328 I) (ld11 I) (ld12 I)
def v5349 (I : In F) : FVec F S16x1024 .f32 := k0_pay635 (v5103 I) (v5179 I) (v5255 I) (v5320 I) (v5328 I) (ld11 I) (ld12 I)
def v5354 (I : In F) : FVec F S1x1024 .f32 := k0_pay636 (v5103 I) (v5179 I) (v5255 I) (v5320 I) (v5328 I) (ld11 I) (ld12 I)
def v5365 (I : In F) : IVec S1x1024 32 := k0_pay637 (v5103 I) (v5179 I) (v5255 I) (v5320 I) (v5328 I) (ld11 I) (ld12 I)
def v5367 (I : In F) : IVec S1x1024 32 := k0_pay638 (v5103 I) (v5179 I) (v5255 I) (v5320 I) (v5328 I) (ld11 I) (ld12 I)
def v5368 (I : In F) : FVec F S1x1024 .f32 := k0_pay639 (v5103 I) (v5179 I) (v5255 I) (v5320 I) (v5328 I) (ld11 I) (ld12 I)
def v5413 (I : In F) : FVec F S1x1024 .f32 := k0_pay641 (v5354 I) (v5365 I) (v5367 I) (v5368 I)
def v5415 (I : In F) : FVec F S16x1024 .f32 := k0_pay642 (v5349 I) (v5354 I) (v5365 I) (v5367 I) (v5368 I)
def v5420 (I : In F) : FVec F S16x1024 .fp8e4m3 := k0_pay643 (v5415 I)
def v5424 (I : In F) : FVec F S16x1024 .bf16 := k0_pay644 (v5413 I) (v5415 I)
def v5425 (I : In F) : FVec F S16x1024 .f32 := k0_pay645 (v5348 I)
def v5430 (I : In F) : FVec F S1x1024 .f32 := k0_pay646 (v5348 I)
def v5461 (I : In F) : IVec S1x1024 32 := k0_pay647 (v5348 I)
def v5463 (I : In F) : IVec S1x1024 32 := k0_pay648 (v5348 I)
def v5489 (I : In F) : FVec F S1x1024 .f32 := k0_pay650 (v5430 I) (v5461 I) (v5463 I)
def v5496 (I : In F) : FVec F S16x1024 .fp8e4m3 := k0_pay651 (v5425 I) (v5430 I) (v5461 I) (v5463 I)
def v5500 (I : In F) : FVec F S16x1024 .bf16 := k0_pay652 (v5425 I) (v5430 I) (v5461 I) (v5463 I)
def v5501 (I : In F) : FVec F S16x1024 .f32 := k0_pay653 (v5348 I)
def v5506 (I : In F) : FVec F S1x1024 .f32 := k0_pay654 (v5348 I)
def v5507 (I : In F) : IVec S1x1024 32 := k0_pay655
def v5508 (I : In F) : IVec S1x1024 32 := k0_pay656
def v5555 (I : In F) : IVec S1x1024 32 := k0_pay657 (v5506 I) (v5507 I) (v5508 I)
def v5556 (I : In F) : IVec S1x1024 32 := k0_pay658
def v5565 (I : In F) : FVec F S1x1024 .f32 := k0_pay659 (F := F) (v5555 I)
def v5572 (I : In F) : FVec F S16x1024 .fp8e4m3 := k0_pay660 (v5501 I) (v5555 I) (v5556 I)
def v5576 (I : In F) : FVec F S16x1024 .bf16 := k0_pay661 (v5501 I) (v5555 I) (v5556 I)
def v5577 (I : In F) : FVec F S16x1024 .f32 := k0_pay662 (v5348 I)
def v5582 (I : In F) : FVec F S1x1024 .f32 := k0_pay663 (v5348 I)
def v5603 (I : In F) : IVec S1x1024 32 := k0_pay664 (v5348 I)
def v5641 (I : In F) : FVec F S1x1024 .f32 := k0_pay666 (v5582 I) (v5603 I) 67108864#32
def v5648 (I : In F) : FVec F S16x1024 .fp8e4m3 := k0_pay667 (v5577 I) (v5582 I) (v5603 I) 67108864#32
def v5649 (I : In F) : FVec F S16x1024 .f32 := k0_pay668 (v5577 I) (v5582 I) (v5603 I) 67108864#32
def v5650 (I : In F) : FVec F S16x1024 .f32 := k0_pay669 (v5582 I) (v5603 I) 67108864#32
def v5684 (I : In F) : FVec F S1x1024 .bf16 := k0_pay675 (v5424 I) (v5500 I) (v5576 I) (v5649 I) (v5650 I) (ld13 I) (ld14 I)
def v5692 (I : In F) : FVec F S8x128 .f32 := k0_pay677 (ldS I 4 0) (ldC I 4 0)
def v5697 (I : In F) : FVec F S8x128 .f32 := k0_pay678 (ldS I 4 1) (ldC I 4 1)
def v5702 (I : In F) : FVec F S8x128 .f32 := k0_pay679 (ldS I 4 2) (ldC I 4 2)
def v5704 (I : In F) : FVec F S6x128 .f32 := k0_pay680 (ldS I 4 3)
def v5706 (I : In F) : FVec F S2x128 .f32 := k0_pay681 (ldC I 4 3)
def v5728 (I : In F) : FVec F S8x1024 .f32 := k0_pay682 (v5692 I) (v5697 I) (v5702 I) (v5704 I) (v5706 I) (ldS I 4 4) (ldC I 4 4) (ldS I 4 5) (ldC I 4 5) (ldS I 4 6) (ldC I 4 6) (ldS I 4 7) (ldC I 4 7)
def v5745 (I : In F) : FVec F S8x1024 .f32 := k0_pay683 (ldB I 4 1 0) (ldB I 4 1 1) (ldB I 4 1 2) (ldB I 4 1 3) (ldB I 4 1 4) (ldB I 4 1 5) (ldB I 4 1 6) (ldB I 4 1 7)
def v5762 (I : In F) : FVec F S8x1024 .f32 := k0_pay684 (ldB I 4 2 0) (ldB I 4 2 1) (ldB I 4 2 2) (ldB I 4 2 3) (ldB I 4 2 4) (ldB I 4 2 5) (ldB I 4 2 6) (ldB I 4 2 7)
def v5764 (I : In F) : FVec F S8x128 .f32 := k0_pay685 (ldB I 4 3 0)
def v5783 (I : In F) : FVec F S32x1024 .f32 := k0_pay686 (v5728 I) (v5745 I) (v5762 I) (v5764 I) (ldB I 4 3 1) (ldB I 4 3 2) (ldB I 4 3 3) (ldB I 4 3 4) (ldB I 4 3 5) (ldB I 4 3 6) (ldB I 4 3 7) (ld3 I)
def v5784 (I : In F) : FVec F S16x1024 .f32 := k0_pay687 (v5728 I) (v5745 I) (v5762 I) (v5764 I) (ldB I 4 3 1) (ldB I 4 3 2) (ldB I 4 3 3) (ldB I 4 3 4) (ldB I 4 3 5) (ldB I 4 3 6) (ldB I 4 3 7) (ld3 I)
def v5787 (I : In F) : FVec F S1x1024 .f32 := k0_pay688 (v5728 I) (v5745 I) (v5762 I) (v5764 I) (ldB I 4 3 1) (ldB I 4 3 2) (ldB I 4 3 3) (ldB I 4 3 4) (ldB I 4 3 5) (ldB I 4 3 6) (ldB I 4 3 7) (ld3 I)
def v5789 (I : In F) : FVec F S1x1024 .f32 := k0_pay689 (v5787 I)
def v5834 (I : In F) : IVec S1x1024 32 := k0_pay690 (v5787 I)
def v5848 (I : In F) : FVec F S1x1024 .f32 := k0_pay692 (v5789 I) (v5834 I) (Scalar.ofBits .f32 0x00800000#32 : F .f32)
def v5855 (I : In F) : FVec F S16x1024 .fp8e4m3 := k0_pay693 (v5784 I) (v5789 I) (v5834 I) (Scalar.ofBits .f32 0x00800000#32 : F .f32)
def v5859 (I : In F) : FVec F S16x1024 .bf16 := k0_pay694 (v5784 I) (v5789 I) (v5834 I) (Scalar.ofBits .f32 0x00800000#32 : F .f32)
def v5860 (I : In F) : FVec F S16x1024 .f32 := k0_pay695 (v5783 I)
def v5865 (I : In F) : FVec F S1x1024 .f32 := k0_pay696 (v5783 I)
def v5881 (I : In F) : IVec S1x1024 32 := k0_pay697 (v5783 I)
def v5924 (I : In F) : FVec F S1x1024 .f32 := k0_pay699 (v5865 I) (v5881 I)
def v5926 (I : In F) : FVec F S16x1024 .f32 := k0_pay700 (v5860 I) (v5865 I) (v5881 I)
def v5952 (I : In F) : FVec F S64x1024 .f32 := k0_pay704 (v5859 I) (v5924 I) (v5926 I) (Scalar.ofBits .f32 0xC3E00000#32 : F .f32) (Scalar.ofBits .f32 0x43E00000#32 : F .f32) (ld5 I) (ld6 I)
def v5953 (I : In F) : FVec F S16x1024 .f32 := k0_pay705 (v5859 I) (v5924 I) (v5926 I) (Scalar.ofBits .f32 0xC3E00000#32 : F .f32) (Scalar.ofBits .f32 0x43E00000#32 : F .f32) (ld5 I) (ld6 I)
def v5958 (I : In F) : FVec F S1x1024 .f32 := k0_pay706 (v5859 I) (v5924 I) (v5926 I) (Scalar.ofBits .f32 0xC3E00000#32 : F .f32) (Scalar.ofBits .f32 0x43E00000#32 : F .f32) (ld5 I) (ld6 I)
def v5964 (I : In F) : IVec S1x1024 32 := k0_pay707 (v5859 I) (v5924 I) (v5926 I) (Scalar.ofBits .f32 0xC3E00000#32 : F .f32) (Scalar.ofBits .f32 0x43E00000#32 : F .f32) (ld5 I) (ld6 I)
def v5966 (I : In F) : IVec S1x1024 32 := k0_pay708 (v5859 I) (v5924 I) (v5926 I) (Scalar.ofBits .f32 0xC3E00000#32 : F .f32) (Scalar.ofBits .f32 0x43E00000#32 : F .f32) (ld5 I) (ld6 I)
def v5967 (I : In F) : FVec F S1x1024 .f32 := k0_pay709 (v5859 I) (v5924 I) (v5926 I) (Scalar.ofBits .f32 0xC3E00000#32 : F .f32) (Scalar.ofBits .f32 0x43E00000#32 : F .f32) (ld5 I) (ld6 I)
def v6012 (I : In F) : FVec F S1x1024 .f32 := k0_pay711 (v5958 I) (v5964 I) (v5966 I) (v5967 I)
def v6014 (I : In F) : IVec S1x1024 32 := k0_pay712 (v5958 I) (v5964 I) (v5966 I) (v5967 I)
def v6017 (I : In F) : FVec F S1x1024 .f32 := k0_pay713 (F := F) (v6014 I)
def v6024 (I : In F) : FVec F S16x1024 .fp8e4m3 := k0_pay714 (v5953 I) (v6012 I)
def v6028 (I : In F) : FVec F S16x1024 .bf16 := k0_pay715 (v5953 I) (v6012 I) (v6014 I)
def v6029 (I : In F) : FVec F S16x1024 .f32 := k0_pay716 (v5952 I)
def v6034 (I : In F) : FVec F S1x1024 .f32 := k0_pay717 (v5952 I)
def v6060 (I : In F) : IVec S1x1024 32 := k0_pay718 (v5952 I)
def v6062 (I : In F) : IVec S1x1024 32 := k0_pay719 (v5952 I)
def v6093 (I : In F) : FVec F S1x1024 .f32 := k0_pay721 (v6034 I) (v6060 I) (v6062 I)
def v6100 (I : In F) : FVec F S16x1024 .fp8e4m3 := k0_pay722 (v6029 I) (v6034 I) (v6060 I) (v6062 I)
def v6104 (I : In F) : FVec F S16x1024 .bf16 := k0_pay723 (v6029 I) (v6034 I) (v6060 I) (v6062 I)
def v6105 (I : In F) : FVec F S16x1024 .f32 := k0_pay724 (v5952 I)
def v6108 (I : In F) : FVec F S1x1024 .f32 := k0_pay725 (v5952 I)
def v6110 (I : In F) : FVec F S1x1024 .f32 := k0_pay726 (v6108 I) (Scalar.ofBits .f32 0x3B124925#32 : F .f32)
def v6155 (I : In F) : IVec S1x1024 32 := k0_pay727 (v6108 I) (Scalar.ofBits .f32 0x3B124925#32 : F .f32)
def v6156 (I : In F) : FVec F S1x1024 .f32 := k0_pay728 (F := F)
def v6169 (I : In F) : FVec F S1x1024 .f32 := k0_pay730 (v6110 I) (v6155 I) (v6156 I)
def v6176 (I : In F) : FVec F S16x1024 .fp8e4m3 := k0_pay731 (v6105 I) (v6110 I) (v6155 I) (v6156 I)
def v6180 (I : In F) : FVec F S16x1024 .bf16 := k0_pay732 (v6105 I) (v6110 I) (v6155 I) (v6156 I)
def v6181 (I : In F) : FVec F S16x1024 .f32 := k0_pay733 (v5952 I)
def v6186 (I : In F) : FVec F S1x1024 .f32 := k0_pay734 (v5952 I)
def v6202 (I : In F) : IVec S1x1024 32 := k0_pay735 (v5952 I)
def v6245 (I : In F) : FVec F S1x1024 .f32 := k0_pay737 (v6186 I) (v6202 I) 134217728#32
def v6247 (I : In F) : FVec F S16x1024 .f32 := k0_pay738 (v6181 I) (v6186 I) (v6202 I) 134217728#32
def v6248 (I : In F) : FVec F S16x1024 .f32 := k0_pay739 (F := F)
def v6280 (I : In F) : FVec F S32x1024 .f32 := k0_pay745 (v6028 I) (v6104 I) (v6180 I) (v6245 I) (v6247 I) (Scalar.ofBits .f32 0x43E00000#32 : F .f32) (v6248 I) (ld7 I) (ld8 I) (ldH I 4)
def v6281 (I : In F) : FVec F S16x1024 .f32 := k0_pay746 (v6028 I) (v6104 I) (v6180 I) (v6245 I) (v6247 I) (Scalar.ofBits .f32 0x43E00000#32 : F .f32) (v6248 I) (ld7 I) (ld8 I) (ldH I 4)
def v6286 (I : In F) : FVec F S1x1024 .f32 := k0_pay747 (v6028 I) (v6104 I) (v6180 I) (v6245 I) (v6247 I) (Scalar.ofBits .f32 0x43E00000#32 : F .f32) (v6248 I) (ld7 I) (ld8 I) (ldH I 4)
def v6331 (I : In F) : IVec S1x1024 32 := k0_pay748 (v6286 I) 0#32
def v6333 (I : In F) : IVec S1x1024 1 := k0_pay749 (v6286 I)
def v6334 (I : In F) : IVec S1x1024 32 := k0_pay750
def v6345 (I : In F) : FVec F S1x1024 .f32 := k0_pay752 (F := F) (v6331 I) (v6333 I) (v6334 I)
def v6352 (I : In F) : FVec F S16x1024 .fp8e4m3 := k0_pay753 (v6281 I) (v6331 I) (v6333 I) (v6334 I)
def v6356 (I : In F) : FVec F S16x1024 .bf16 := k0_pay754 (v6281 I) (v6331 I) (v6333 I) (v6334 I)
def v6357 (I : In F) : FVec F S16x1024 .f32 := k0_pay755 (v6280 I)
def v6362 (I : In F) : FVec F S1x1024 .f32 := k0_pay756 (v6280 I)
def v6378 (I : In F) : IVec S1x1024 32 := k0_pay757 (v6280 I)
def v6380 (I : In F) : IVec S1x1024 32 := k0_pay758 (v6280 I)
def v6381 (I : In F) : FVec F S1x1024 .f32 := k0_pay759 (v6280 I)
def v6421 (I : In F) : FVec F S1x1024 .f32 := k0_pay761 (v6362 I) (v6378 I) (v6380 I) (v6381 I)
def v6427 (I : In F) : FVec F S16x1024 .f32 := k0_pay762 (v6357 I) (v6362 I) (v6378 I) (v6380 I) (v6381 I)
def v6449 (I : In F) : FVec F S64x1024 .f32 := k0_pay766 (v6356 I) (v6421 I) (v6427 I) (ld9 I) (ld10 I)
def v6450 (I : In F) : FVec F S16x1024 .f32 := k0_pay767 (v6356 I) (v6421 I) (v6427 I) (ld9 I) (ld10 I)
def v6455 (I : In F) : FVec F S1x1024 .f32 := k0_pay768 (v6356 I) (v6421 I) (v6427 I) (ld9 I) (ld10 I)
def v6466 (I : In F) : IVec S1x1024 32 := k0_pay769 (v6356 I) (v6421 I) (v6427 I) (ld9 I) (ld10 I)
def v6467 (I : In F) : IVec S1x1024 32 := k0_pay770
def v6509 (I : In F) : FVec F S1x1024 .f32 := k0_pay772 (v6455 I) (v6466 I) (v6467 I)
def v6514 (I : In F) : FVec F S1x1024 .f32 := k0_pay773 (v6455 I) (v6466 I) (v6467 I)
def v6521 (I : In F) : FVec F S16x1024 .fp8e4m3 := k0_pay774 (v6450 I) (v6509 I)
def v6525 (I : In F) : FVec F S16x1024 .bf16 := k0_pay775 (v6450 I) (v6509 I) (v6514 I)
def v6526 (I : In F) : FVec F S16x1024 .f32 := k0_pay776 (v6449 I)
def v6531 (I : In F) : FVec F S1x1024 .f32 := k0_pay777 (v6449 I)
def v6562 (I : In F) : IVec S1x1024 32 := k0_pay778 (v6449 I)
def v6590 (I : In F) : FVec F S1x1024 .f32 := k0_pay780 (v6531 I) (v6562 I) 16777216#32
def v6597 (I : In F) : FVec F S16x1024 .fp8e4m3 := k0_pay781 (v6526 I) (v6531 I) (v6562 I) 16777216#32
def v6601 (I : In F) : FVec F S16x1024 .bf16 := k0_pay782 (v6526 I) (v6531 I) (v6562 I) 16777216#32
def v6602 (I : In F) : FVec F S16x1024 .f32 := k0_pay783 (v6449 I)
def v6607 (I : In F) : FVec F S1x1024 .f32 := k0_pay784 (v6449 I)
def v6608 (I : In F) : IVec S1x1024 32 := k0_pay785
def v6656 (I : In F) : IVec S1x1024 32 := k0_pay786 (v6607 I) (v6608 I)
def v6666 (I : In F) : FVec F S1x1024 .f32 := k0_pay787 (F := F) (v6656 I)
def v6673 (I : In F) : FVec F S16x1024 .fp8e4m3 := k0_pay788 (v6602 I) (v6656 I)
def v6677 (I : In F) : FVec F S16x1024 .bf16 := k0_pay789 (v6602 I) (v6656 I)
def v6678 (I : In F) : FVec F S16x1024 .f32 := k0_pay790 (v6449 I)
def v6683 (I : In F) : FVec F S1x1024 .f32 := k0_pay791 (v6449 I)
def v6699 (I : In F) : IVec S1x1024 32 := k0_pay792 (v6449 I)
def v6701 (I : In F) : IVec S1x1024 32 := k0_pay793 (v6449 I)
def v6703 (I : In F) : IVec S1x1024 1 := k0_pay794 (v6449 I)
def v6742 (I : In F) : FVec F S1x1024 .f32 := k0_pay796 (v6683 I) (v6699 I) (v6701 I) (v6703 I)
def v6749 (I : In F) : FVec F S16x1024 .fp8e4m3 := k0_pay797 (v6678 I) (v6683 I) (v6699 I) (v6701 I) (v6703 I)
def v6770 (I : In F) : FVec F S64x1024 .f32 := k0_pay800 (v6525 I) (v6601 I) (v6677 I) (v6742 I) (v6749 I) (ld11 I) (ld12 I)
def v6771 (I : In F) : FVec F S16x1024 .f32 := k0_pay801 (v6525 I) (v6601 I) (v6677 I) (v6742 I) (v6749 I) (ld11 I) (ld12 I)
def v6776 (I : In F) : FVec F S1x1024 .f32 := k0_pay802 (v6525 I) (v6601 I) (v6677 I) (v6742 I) (v6749 I) (ld11 I) (ld12 I)
def v6787 (I : In F) : IVec S1x1024 32 := k0_pay803 (v6525 I) (v6601 I) (v6677 I) (v6742 I) (v6749 I) (ld11 I) (ld12 I)
def v6789 (I : In F) : IVec S1x1024 32 := k0_pay804 (v6525 I) (v6601 I) (v6677 I) (v6742 I) (v6749 I) (ld11 I) (ld12 I)
def v6835 (I : In F) : FVec F S1x1024 .f32 := k0_pay806 (v6776 I) (v6787 I) (v6789 I)
def v6836 (I : In F) : FVec F S16x1024 .f32 := k0_pay807 (v6776 I) (v6787 I) (v6789 I)
def v6842 (I : In F) : FVec F S16x1024 .fp8e4m3 := k0_pay808 (v6771 I) (v6836 I)
def v6846 (I : In F) : FVec F S16x1024 .bf16 := k0_pay809 (v6771 I) (v6835 I) (v6836 I)
def v6847 (I : In F) : FVec F S16x1024 .f32 := k0_pay810 (v6770 I)
def v6852 (I : In F) : FVec F S1x1024 .f32 := k0_pay811 (v6770 I)
def v6883 (I : In F) : IVec S1x1024 32 := k0_pay812 (v6770 I)
def v6884 (I : In F) : IVec S1x1024 32 := k0_pay813
def v6911 (I : In F) : FVec F S1x1024 .f32 := k0_pay815 (v6852 I) (v6883 I) (v6884 I)
def v6918 (I : In F) : FVec F S16x1024 .fp8e4m3 := k0_pay816 (v6847 I) (v6852 I) (v6883 I) (v6884 I)
def v6922 (I : In F) : FVec F S16x1024 .bf16 := k0_pay817 (v6847 I) (v6852 I) (v6883 I) (v6884 I)
def v6923 (I : In F) : FVec F S16x1024 .f32 := k0_pay818 (v6770 I)
def v6928 (I : In F) : FVec F S1x1024 .f32 := k0_pay819 (v6770 I)
def v6929 (I : In F) : IVec S1x1024 32 := k0_pay820
def v6977 (I : In F) : IVec S1x1024 32 := k0_pay821 (v6928 I) (v6929 I) 1056964608#32
def v6987 (I : In F) : FVec F S1x1024 .f32 := k0_pay822 (F := F) (v6977 I)
def v6994 (I : In F) : FVec F S16x1024 .fp8e4m3 := k0_pay823 (v6923 I) (v6977 I) 127#32
def v6998 (I : In F) : FVec F S16x1024 .bf16 := k0_pay824 (v6923 I) (v6977 I) 127#32
def v6999 (I : In F) : FVec F S16x1024 .f32 := k0_pay825 (v6770 I)
def v7004 (I : In F) : FVec F S1x1024 .f32 := k0_pay826 (v6770 I)
def v7025 (I : In F) : IVec S1x1024 32 := k0_pay827 (v6770 I)
def v7063 (I : In F) : FVec F S1x1024 .f32 := k0_pay829 (v7004 I) (v7025 I)
def v7070 (I : In F) : FVec F S16x1024 .fp8e4m3 := k0_pay830 (v6999 I) (v7004 I) (v7025 I)
def v7071 (I : In F) : FVec F S16x1024 .f32 := k0_pay831 (v6999 I) (v7004 I) (v7025 I)
def v7106 (I : In F) : FVec F S1x1024 .bf16 := k0_pay837 (v6846 I) (v6922 I) (v6998 I) (v7063 I) (v7071 I) (ld13 I) (ld14 I)
def v7114 (I : In F) : FVec F S8x128 .f32 := k0_pay839 (ldS I 5 0) (ldC I 5 0)
def v7119 (I : In F) : FVec F S8x128 .f32 := k0_pay840 (ldS I 5 1) (ldC I 5 1)
def v7124 (I : In F) : FVec F S8x128 .f32 := k0_pay841 (ldS I 5 2) (ldC I 5 2)
def v7126 (I : In F) : FVec F S6x128 .f32 := k0_pay842 (ldS I 5 3)
def v7150 (I : In F) : FVec F S8x1024 .f32 := k0_pay843 (v7114 I) (v7119 I) (v7124 I) (v7126 I) (ldC I 5 3) (ldS I 5 4) (ldC I 5 4) (ldS I 5 5) (ldC I 5 5) (ldS I 5 6) (ldC I 5 6) (ldS I 5 7) (ldC I 5 7)
def v7167 (I : In F) : FVec F S8x1024 .f32 := k0_pay844 (ldB I 5 1 0) (ldB I 5 1 1) (ldB I 5 1 2) (ldB I 5 1 3) (ldB I 5 1 4) (ldB I 5 1 5) (ldB I 5 1 6) (ldB I 5 1 7)
def v7184 (I : In F) : FVec F S8x1024 .f32 := k0_pay845 (ldB I 5 2 0) (ldB I 5 2 1) (ldB I 5 2 2) (ldB I 5 2 3) (ldB I 5 2 4) (ldB I 5 2 5) (ldB I 5 2 6) (ldB I 5 2 7)
def v7186 (I : In F) : FVec F S8x128 .f32 := k0_pay846 (ldB I 5 3 0)
def v7205 (I : In F) : FVec F S32x1024 .f32 := k0_pay847 (v7150 I) (v7167 I) (v7184 I) (v7186 I) (ldB I 5 3 1) (ldB I 5 3 2) (ldB I 5 3 3) (ldB I 5 3 4) (ldB I 5 3 5) (ldB I 5 3 6) (ldB I 5 3 7) (ld3 I)
def v7206 (I : In F) : FVec F S16x1024 .f32 := k0_pay848 (v7150 I) (v7167 I) (v7184 I) (v7186 I) (ldB I 5 3 1) (ldB I 5 3 2) (ldB I 5 3 3) (ldB I 5 3 4) (ldB I 5 3 5) (ldB I 5 3 6) (ldB I 5 3 7) (ld3 I)
def v7208 (I : In F) : FVec F S1024 .f32 := k0_pay849 (v7150 I) (v7167 I) (v7184 I) (v7186 I) (ldB I 5 3 1) (ldB I 5 3 2) (ldB I 5 3 3) (ldB I 5 3 4) (ldB I 5 3 5) (ldB I 5 3 6) (ldB I 5 3 7) (ld3 I)
def v7211 (I : In F) : FVec F S1x1024 .f32 := k0_pay850 (v7208 I)
def v7256 (I : In F) : IVec S1x1024 32 := k0_pay851 (v7208 I)
def v7270 (I : In F) : FVec F S1x1024 .f32 := k0_pay853 (v7211 I) (v7256 I)
def v7277 (I : In F) : FVec F S16x1024 .fp8e4m3 := k0_pay854 (v7206 I) (v7211 I) (v7256 I)
def v7281 (I : In F) : FVec F S16x1024 .bf16 := k0_pay855 (v7206 I) (v7211 I) (v7256 I)
def v7282 (I : In F) : FVec F S16x1024 .f32 := k0_pay856 (v7205 I)
def v7287 (I : In F) : FVec F S1x1024 .f32 := k0_pay857 (v7205 I)
def v7298 (I : In F) : IVec S1x1024 32 := k0_pay858 (v7205 I)
def v7300 (I : In F) : IVec S1x1024 32 := k0_pay859 (v7205 I)
def v7302 (I : In F) : IVec S1x1024 1 := k0_pay860 (v7205 I)
def v7346 (I : In F) : FVec F S1x1024 .f32 := k0_pay862 (v7287 I) (v7298 I) (v7300 I) (v7302 I)
def v7348 (I : In F) : FVec F S16x1024 .f32 := k0_pay863 (v7282 I) (v7287 I) (v7298 I) (v7300 I) (v7302 I)
def v7374 (I : In F) : FVec F S64x1024 .f32 := k0_pay867 (v7281 I) (v7346 I) (v7348 I) (Scalar.ofBits .f32 0xC3E00000#32 : F .f32) (ld5 I) (ld6 I)
def v7375 (I : In F) : FVec F S16x1024 .f32 := k0_pay868 (v7281 I) (v7346 I) (v7348 I) (Scalar.ofBits .f32 0xC3E00000#32 : F .f32) (ld5 I) (ld6 I)
def v7380 (I : In F) : FVec F S1x1024 .f32 := k0_pay869 (v7281 I) (v7346 I) (v7348 I) (Scalar.ofBits .f32 0xC3E00000#32 : F .f32) (ld5 I) (ld6 I)
def v7386 (I : In F) : IVec S1x1024 32 := k0_pay870 (v7281 I) (v7346 I) (v7348 I) (Scalar.ofBits .f32 0xC3E00000#32 : F .f32) (ld5 I) (ld6 I)
def v7388 (I : In F) : IVec S1x1024 32 := k0_pay871 (v7281 I) (v7346 I) (v7348 I) (Scalar.ofBits .f32 0xC3E00000#32 : F .f32) (ld5 I) (ld6 I)
def v7429 (I : In F) : IVec S1x1024 32 := k0_pay872 (v7380 I) (v7386 I) (v7388 I)
def v7434 (I : In F) : FVec F S1x1024 .f32 := k0_pay873 (v7380 I) (v7386 I) (v7388 I)
def v7435 (I : In F) : IVec S1x1024 32 := k0_pay874
def v7439 (I : In F) : FVec F S1x1024 .f32 := k0_pay875 (F := F) (v7429 I) (v7435 I)
def v7446 (I : In F) : FVec F S16x1024 .fp8e4m3 := k0_pay876 (v7375 I) (v7434 I)
def v7450 (I : In F) : FVec F S16x1024 .bf16 := k0_pay877 (v7375 I) (v7429 I) (v7434 I) (v7435 I)
def v7451 (I : In F) : FVec F S16x1024 .f32 := k0_pay878 (v7374 I)
def v7456 (I : In F) : FVec F S1x1024 .f32 := k0_pay879 (v7374 I)
def v7482 (I : In F) : IVec S1x1024 32 := k0_pay880 (v7374 I)
def v7483 (I : In F) : IVec S1x1024 32 := k0_pay881
def v7515 (I : In F) : FVec F S1x1024 .f32 := k0_pay883 (v7456 I) (v7482 I) (v7483 I)
def v7522 (I : In F) : FVec F S16x1024 .fp8e4m3 := k0_pay884 (v7451 I) (v7456 I) (v7482 I) (v7483 I)
def v7526 (I : In F) : FVec F S16x1024 .bf16 := k0_pay885 (v7451 I) (v7456 I) (v7482 I) (v7483 I)
def v7527 (I : In F) : FVec F S16x1024 .f32 := k0_pay886 (v7374 I)
def v7530 (I : In F) : FVec F S1x1024 .f32 := k0_pay887 (v7374 I)
def v7532 (I : In F) : FVec F S1x1024 .f32 := k0_pay888 (v7530 I)
def v7577 (I : In F) : IVec S1x1024 32 := k0_pay889 (v7530 I)
def v7591 (I : In F) : FVec F S1x1024 .f32 := k0_pay891 (v7532 I) (v7577 I) (Scalar.ofBits .f32 0x00800000#32 : F .f32)
def v7598 (I : In F) : FVec F S16x1024 .fp8e4m3 := k0_pay892 (v7527 I) (v7532 I) (v7577 I) (Scalar.ofBits .f32 0x00800000#32 : F .f32)
def v7602 (I : In F) : FVec F S16x1024 .bf16 := k0_pay893 (v7527 I) (v7532 I) (v7577 I) (Scalar.ofBits .f32 0x00800000#32 : F .f32)
def v7603 (I : In F) : FVec F S16x1024 .f32 := k0_pay894 (v7374 I)
def v7608 (I : In F) : FVec F S1x1024 .f32 := k0_pay895 (v7374 I)
def v7624 (I : In F) : IVec S1x1024 32 := k0_pay896 (v7374 I)
def v7667 (I : In F) : FVec F S1x1024 .f32 := k0_pay898 (v7608 I) (v7624 I)
def v7669 (I : In F) : FVec F S16x1024 .f32 := k0_pay899 (v7603 I) (v7608 I) (v7624 I)
def v7702 (I : In F) : FVec F S32x1024 .f32 := k0_pay905 (v7450 I) (v7526 I) (v7602 I) (v7667 I) (v7669 I) (Scalar.ofBits .f32 0xC3E00000#32 : F .f32) (Scalar.ofBits .f32 0x43E00000#32 : F .f32) (ld7 I) (ld8 I) (ldH I 5)
def v7703 (I : In F) : FVec F S16x1024 .f32 := k0_pay906 (v7450 I) (v7526 I) (v7602 I) (v7667 I) (v7669 I) (Scalar.ofBits .f32 0xC3E00000#32 : F .f32) (Scalar.ofBits .f32 0x43E00000#32 : F .f32) (ld7 I) (ld8 I) (ldH I 5)
def v7708 (I : In F) : FVec F S1x1024 .f32 := k0_pay907 (v7450 I) (v7526 I) (v7602 I) (v7667 I) (v7669 I) (Scalar.ofBits .f32 0xC3E00000#32 : F .f32) (Scalar.ofBits .f32 0x43E00000#32 : F .f32) (ld7 I) (ld8 I) (ldH I 5)
def v7753 (I : In F) : IVec S1x1024 32 := k0_pay908 (v7708 I)
def v7755 (I : In F) : IVec S1x1024 1 := k0_pay909 (v7708 I)
def v7767 (I : In F) : FVec F S1x1024 .f32 := k0_pay911 (F := F) (v7753 I) (v7755 I) 0#32
def v7774 (I : In F) : FVec F S16x1024 .fp8e4m3 := k0_pay912 (v7703 I) (v7753 I) (v7755 I) 0#32
def v7778 (I : In F) : FVec F S16x1024 .bf16 := k0_pay913 (v7703 I) (v7753 I) (v7755 I) 0#32
def v7779 (I : In F) : FVec F S16x1024 .f32 := k0_pay914 (v7702 I)
def v7784 (I : In F) : FVec F S1x1024 .f32 := k0_pay915 (v7702 I)
def v7800 (I : In F) : IVec S1x1024 32 := k0_pay916 (v7702 I)
def v7802 (I : In F) : IVec S1x1024 32 := k0_pay917 (v7702 I)
def v7843 (I : In F) : FVec F S1x1024 .f32 := k0_pay919 (v7784 I) (v7800 I) (v7802 I)
def v7847 (I : In F) : FVec F S16x1024 .f32 := k0_pay920 (v7779 I) (v7784 I) (v7800 I) (v7802 I)
def v7848 (I : In F) : FVec F S16x1024 .f32 := k0_pay921 (F := F)
def v7871 (I : In F) : FVec F S64x1024 .f32 := k0_pay925 (v7778 I) (v7843 I) (v7847 I) (v7848 I) (ld9 I) (ld10 I)
def v7872 (I : In F) : FVec F S16x1024 .f32 := k0_pay926 (v7778 I) (v7843 I) (v7847 I) (v7848 I) (ld9 I) (ld10 I)
def v7877 (I : In F) : FVec F S1x1024 .f32 := k0_pay927 (v7778 I) (v7843 I) (v7847 I) (v7848 I) (ld9 I) (ld10 I)
def v7888 (I : In F) : IVec S1x1024 32 := k0_pay928 (v7778 I) (v7843 I) (v7847 I) (v7848 I) (ld9 I) (ld10 I)
def v7931 (I : In F) : FVec F S1x1024 .f32 := k0_pay930 (v7877 I) (v7888 I) 268435456#32
def v7935 (I : In F) : IVec S1x1024 32 := k0_pay931 (v7877 I) (v7888 I) 268435456#32
def v7936 (I : In F) : FVec F S1x1024 .f32 := k0_pay932 (F := F) (v7935 I)
def v7943 (I : In F) : FVec F S16x1024 .fp8e4m3 := k0_pay933 (v7872 I) (v7931 I)
def v7947 (I : In F) : FVec F S16x1024 .bf16 := k0_pay934 (v7872 I) (v7931 I) (v7935 I)
def v7948 (I : In F) : FVec F S16x1024 .f32 := k0_pay935 (v7871 I)
def v7953 (I : In F) : FVec F S1x1024 .f32 := k0_pay936 (v7871 I)
def v7984 (I : In F) : IVec S1x1024 32 := k0_pay937 (v7871 I)
def v8012 (I : In F) : FVec F S1x1024 .f32 := k0_pay939 (v7953 I) (v7984 I)
def v8019 (I : In F) : FVec F S16x1024 .fp8e4m3 := k0_pay940 (v7948 I) (v7953 I) (v7984 I)
def v8023 (I : In F) : FVec F S16x1024 .bf16 := k0_pay941 (v7948 I) (v7953 I) (v7984 I)
def v8024 (I : In F) : FVec F S16x1024 .f32 := k0_pay942 (v7871 I)
def v8029 (I : In F) : FVec F S1x1024 .f32 := k0_pay943 (v7871 I)
def v8074 (I : In F) : IVec S1x1024 32 := k0_pay944 (v8029 I) 0#32
def v8076 (I : In F) : IVec S1x1024 1 := k0_pay945 (v8029 I)
def v8077 (I : In F) : IVec S1x1024 32 := k0_pay946
def v8088 (I : In F) : FVec F S1x1024 .f32 := k0_pay948 (F := F) (v8074 I) (v8076 I) (v8077 I)
def v8095 (I : In F) : FVec F S16x1024 .fp8e4m3 := k0_pay949 (v8024 I) (v8074 I) (v8076 I) (v8077 I)
def v8099 (I : In F) : FVec F S16x1024 .bf16 := k0_pay950 (v8024 I) (v8074 I) (v8076 I) (v8077 I)
def v8100 (I : In F) : FVec F S16x1024 .f32 := k0_pay951 (v7871 I)
def v8105 (I : In F) : FVec F S1x1024 .f32 := k0_pay952 (v7871 I)
def v8121 (I : In F) : IVec S1x1024 32 := k0_pay953 (v7871 I)
def v8123 (I : In F) : IVec S1x1024 32 := k0_pay954 (v7871 I)
def v8124 (I : In F) : FVec F S1x1024 .f32 := k0_pay955 (v7871 I)
def v8164 (I : In F) : FVec F S1x1024 .f32 := k0_pay957 (v8105 I) (v8121 I) (v8123 I) (v8124 I)
def v8170 (I : In F) : FVec F S16x1024 .f32 := k0_pay958 (v8100 I) (v8105 I) (v8121 I) (v8123 I) (v8124 I)
def v8192 (I : In F) : FVec F S64x1024 .f32 := k0_pay962 (v7947 I) (v8023 I) (v8099 I) (v8164 I) (v8170 I) (ld11 I) (ld12 I)
def v8193 (I : In F) : FVec F S16x1024 .f32 := k0_pay963 (v7947 I) (v8023 I) (v8099 I) (v8164 I) (v8170 I) (ld11 I) (ld12 I)
def v8198 (I : In F) : FVec F S1x1024 .f32 := k0_pay964 (v7947 I) (v8023 I) (v8099 I) (v8164 I) (v8170 I) (ld11 I) (ld12 I)
def v8209 (I : In F) : IVec S1x1024 32 := k0_pay965 (v7947 I) (v8023 I) (v8099 I) (v8164 I) (v8170 I) (ld11 I) (ld12 I)
def v8210 (I : In F) : IVec S1x1024 32 := k0_pay966
def v8252 (I : In F) : FVec F S1x1024 .f32 := k0_pay968 (v8198 I) (v8209 I) (v8210 I)
def v8257 (I : In F) : FVec F S1x1024 .f32 := k0_pay969 (v8198 I) (v8209 I) (v8210 I)
def v8264 (I : In F) : FVec F S16x1024 .fp8e4m3 := k0_pay970 (v8193 I) (v8252 I)
def v8268 (I : In F) : FVec F S16x1024 .bf16 := k0_pay971 (v8193 I) (v8252 I) (v8257 I)
def v8269 (I : In F) : FVec F S16x1024 .f32 := k0_pay972 (v8192 I)
def v8274 (I : In F) : FVec F S1x1024 .f32 := k0_pay973 (v8192 I)
def v8305 (I : In F) : IVec S1x1024 32 := k0_pay974 (v8192 I)
def v8333 (I : In F) : FVec F S1x1024 .f32 := k0_pay976 (v8274 I) (v8305 I) 16777216#32
def v8340 (I : In F) : FVec F S16x1024 .fp8e4m3 := k0_pay977 (v8269 I) (v8274 I) (v8305 I) 16777216#32
def v8344 (I : In F) : FVec F S16x1024 .bf16 := k0_pay978 (v8269 I) (v8274 I) (v8305 I) 16777216#32
def v8345 (I : In F) : FVec F S16x1024 .f32 := k0_pay979 (v8192 I)
def v8350 (I : In F) : FVec F S1x1024 .f32 := k0_pay980 (v8192 I)
def v8351 (I : In F) : IVec S1x1024 32 := k0_pay981
def v8399 (I : In F) : IVec S1x1024 32 := k0_pay982 (v8350 I) (v8351 I)
def v8409 (I : In F) : FVec F S1x1024 .f32 := k0_pay983 (F := F) (v8399 I)
def v8416 (I : In F) : FVec F S16x1024 .fp8e4m3 := k0_pay984 (v8345 I) (v8399 I)
def v8420 (I : In F) : FVec F S16x1024 .bf16 := k0_pay985 (v8345 I) (v8399 I)
def v8421 (I : In F) : FVec F S16x1024 .f32 := k0_pay986 (v8192 I)
def v8426 (I : In F) : FVec F S1x1024 .f32 := k0_pay987 (v8192 I)
def v8442 (I : In F) : IVec S1x1024 32 := k0_pay988 (v8192 I)
def v8444 (I : In F) : IVec S1x1024 32 := k0_pay989 (v8192 I)
def v8446 (I : In F) : IVec S1x1024 1 := k0_pay990 (v8192 I)
def v8485 (I : In F) : FVec F S1x1024 .f32 := k0_pay992 (v8426 I) (v8442 I) (v8444 I) (v8446 I)
def v8492 (I : In F) : FVec F S16x1024 .fp8e4m3 := k0_pay993 (v8421 I) (v8426 I) (v8442 I) (v8444 I) (v8446 I)
def v8528 (I : In F) : FVec F S1x1024 .bf16 := k0_pay999 (v8268 I) (v8344 I) (v8420 I) (v8485 I) (v8492 I) (ld13 I) (ld14 I)
def v8536 (I : In F) : FVec F S8x128 .f32 := k0_pay1001 (ldS I 6 0) (ldC I 6 0)
def v8541 (I : In F) : FVec F S8x128 .f32 := k0_pay1002 (ldS I 6 1) (ldC I 6 1)
def v8546 (I : In F) : FVec F S8x128 .f32 := k0_pay1003 (ldS I 6 2) (ldC I 6 2)
def v8548 (I : In F) : FVec F S6x128 .f32 := k0_pay1004 (ldS I 6 3)
def v8572 (I : In F) : FVec F S8x1024 .f32 := k0_pay1005 (v8536 I) (v8541 I) (v8546 I) (v8548 I) (ldC I 6 3) (ldS I 6 4) (ldC I 6 4) (ldS I 6 5) (ldC I 6 5) (ldS I 6 6) (ldC I 6 6) (ldS I 6 7) (ldC I 6 7)
def v8589 (I : In F) : FVec F S8x1024 .f32 := k0_pay1006 (ldB I 6 1 0) (ldB I 6 1 1) (ldB I 6 1 2) (ldB I 6 1 3) (ldB I 6 1 4) (ldB I 6 1 5) (ldB I 6 1 6) (ldB I 6 1 7)
def v8606 (I : In F) : FVec F S8x1024 .f32 := k0_pay1007 (ldB I 6 2 0) (ldB I 6 2 1) (ldB I 6 2 2) (ldB I 6 2 3) (ldB I 6 2 4) (ldB I 6 2 5) (ldB I 6 2 6) (ldB I 6 2 7)
def v8627 (I : In F) : FVec F S32x1024 .f32 := k0_pay1008 (v8572 I) (v8589 I) (v8606 I) (ldB I 6 3 0) (ldB I 6 3 1) (ldB I 6 3 2) (ldB I 6 3 3) (ldB I 6 3 4) (ldB I 6 3 5) (ldB I 6 3 6) (ldB I 6 3 7) (ld3 I)
def v8628 (I : In F) : FVec F S16x1024 .f32 := k0_pay1009 (v8572 I) (v8589 I) (v8606 I) (ldB I 6 3 0) (ldB I 6 3 1) (ldB I 6 3 2) (ldB I 6 3 3) (ldB I 6 3 4) (ldB I 6 3 5) (ldB I 6 3 6) (ldB I 6 3 7) (ld3 I)
def v8629 (I : In F) : FVec F S16x1024 .f32 := k0_pay1010 (v8572 I) (v8589 I) (v8606 I) (ldB I 6 3 0) (ldB I 6 3 1) (ldB I 6 3 2) (ldB I 6 3 3) (ldB I 6 3 4) (ldB I 6 3 5) (ldB I 6 3 6) (ldB I 6 3 7) (ld3 I)
def v8633 (I : In F) : FVec F S1x1024 .f32 := k0_pay1011 (v8629 I)
def v8676 (I : In F) : IVec S1x1024 32 := k0_pay1012 (v8629 I)
def v8677 (I : In F) : IVec S1x1024 32 := k0_pay1013
def v8692 (I : In F) : FVec F S1x1024 .f32 := k0_pay1015 (v8633 I) (v8676 I) (v8677 I)
def v8699 (I : In F) : FVec F S16x1024 .fp8e4m3 := k0_pay1016 (v8628 I) (v8633 I) (v8676 I) (v8677 I)
def v8703 (I : In F) : FVec F S16x1024 .bf16 := k0_pay1017 (v8628 I) (v8633 I) (v8676 I) (v8677 I)
def v8704 (I : In F) : FVec F S16x1024 .f32 := k0_pay1018 (v8627 I)
def v8709 (I : In F) : FVec F S1x1024 .f32 := k0_pay1019 (v8627 I)
def v8720 (I : In F) : IVec S1x1024 32 := k0_pay1020 (v8627 I)
def v8722 (I : In F) : IVec S1x1024 32 := k0_pay1021 (v8627 I)
def v8723 (I : In F) : FVec F S1x1024 .f32 := k0_pay1022 (v8627 I)
def v8768 (I : In F) : FVec F S1x1024 .f32 := k0_pay1024 (v8709 I) (v8720 I) (v8722 I) (v8723 I)
def v8770 (I : In F) : FVec F S16x1024 .f32 := k0_pay1025 (v8704 I) (v8709 I) (v8720 I) (v8722 I) (v8723 I)
def v8796 (I : In F) : FVec F S64x1024 .f32 := k0_pay1029 (v8703 I) (v8768 I) (v8770 I) (ld5 I) (ld6 I)
def v8797 (I : In F) : FVec F S16x1024 .f32 := k0_pay1030 (v8703 I) (v8768 I) (v8770 I) (ld5 I) (ld6 I)
def v8802 (I : In F) : FVec F S1x1024 .f32 := k0_pay1031 (v8703 I) (v8768 I) (v8770 I) (ld5 I) (ld6 I)
def v8808 (I : In F) : IVec S1x1024 32 := k0_pay1032 (v8703 I) (v8768 I) (v8770 I) (ld5 I) (ld6 I)
def v8809 (I : In F) : IVec S1x1024 32 := k0_pay1033
def v8851 (I : In F) : IVec S1x1024 32 := k0_pay1034 (v8802 I) (v8808 I) (v8809 I)
def v8856 (I : In F) : FVec F S1x1024 .f32 := k0_pay1035 (v8802 I) (v8808 I) (v8809 I)
def v8861 (I : In F) : FVec F S1x1024 .f32 := k0_pay1036 (F := F) (v8851 I) 127#32
def v8868 (I : In F) : FVec F S16x1024 .fp8e4m3 := k0_pay1037 (v8797 I) (v8856 I)
def v8872 (I : In F) : FVec F S16x1024 .bf16 := k0_pay1038 (v8797 I) (v8851 I) (v8856 I) 127#32
def v8873 (I : In F) : FVec F S16x1024 .f32 := k0_pay1039 (v8796 I)
def v8878 (I : In F) : FVec F S1x1024 .f32 := k0_pay1040 (v8796 I)
def v8904 (I : In F) : IVec S1x1024 32 := k0_pay1041 (v8796 I)
def v8937 (I : In F) : FVec F S1x1024 .f32 := k0_pay1043 (v8878 I) (v8904 I) 33554432#32
def v8944 (I : In F) : FVec F S16x1024 .fp8e4m3 := k0_pay1044 (v8873 I) (v8878 I) (v8904 I) 33554432#32
def v8948 (I : In F) : FVec F S16x1024 .bf16 := k0_pay1045 (v8873 I) (v8878 I) (v8904 I) 33554432#32
def v8949 (I : In F) : FVec F S16x1024 .f32 := k0_pay1046 (v8796 I)
def v8951 (I : In F) : FVec F S1024 .f32 := k0_pay1047 (v8796 I)
def v8954 (I : In F) : FVec F S1x1024 .f32 := k0_pay1048 (v8951 I)
def v8999 (I : In F) : IVec S1x1024 32 := k0_pay1049 (v8951 I)
def v9013 (I : In F) : FVec F S1x1024 .f32 := k0_pay1051 (v8954 I) (v8999 I)
def v9020 (I : In F) : FVec F S16x1024 .fp8e4m3 := k0_pay1052 (v8949 I) (v8954 I) (v8999 I)
def v9024 (I : In F) : FVec F S16x1024 .bf16 := k0_pay1053 (v8949 I) (v8954 I) (v8999 I)
def v9025 (I : In F) : FVec F S16x1024 .f32 := k0_pay1054 (v8796 I)
def v9030 (I : In F) : FVec F S1x1024 .f32 := k0_pay1055 (v8796 I)
def v9041 (I : In F) : IVec S1x1024 32 := k0_pay1056 (v8796 I)
def v9043 (I : In F) : IVec S1x1024 32 := k0_pay1057 (v8796 I)
def v9045 (I : In F) : IVec S1x1024 1 := k0_pay1058 (v8796 I)
def v9089 (I : In F) : FVec F S1x1024 .f32 := k0_pay1060 (v9030 I) (v9041 I) (v9043 I) (v9045 I)
def v9091 (I : In F) : FVec F S16x1024 .f32 := k0_pay1061 (v9025 I) (v9030 I) (v9041 I) (v9043 I) (v9045 I)
def v9124 (I : In F) : FVec F S32x1024 .f32 := k0_pay1067 (v8872 I) (v8948 I) (v9024 I) (v9089 I) (v9091 I) (Scalar.ofBits .f32 0xC3E00000#32 : F .f32) (ld7 I) (ld8 I) (ldH I 6)
def v9125 (I : In F) : FVec F S16x1024 .f32 := k0_pay1068 (v8872 I) (v8948 I) (v9024 I) (v9089 I) (v9091 I) (Scalar.ofBits .f32 0xC3E00000#32 : F .f32) (ld7 I) (ld8 I) (ldH I 6)
def v9128 (I : In F) : FVec F S1x1024 .f32 := k0_pay1069 (v8872 I) (v8948 I) (v9024 I) (v9089 I) (v9091 I) (Scalar.ofBits .f32 0xC3E00000#32 : F .f32) (ld7 I) (ld8 I) (ldH I 6)
def v9129 (I : In F) : FVec F S1x1024 .f32 := k0_pay1070 (F := F)
def v9175 (I : In F) : IVec S1x1024 32 := k0_pay1072 (v9128 I) (v9129 I)
def v9177 (I : In F) : IVec S1x1024 1 := k0_pay1073 (v9128 I) (v9129 I)
def v9189 (I : In F) : FVec F S1x1024 .f32 := k0_pay1075 (F := F) (v9175 I) (v9177 I)
def v9196 (I : In F) : FVec F S16x1024 .fp8e4m3 := k0_pay1076 (v9125 I) (v9175 I) (v9177 I)
def v9200 (I : In F) : FVec F S16x1024 .bf16 := k0_pay1077 (v9125 I) (v9175 I) (v9177 I)
def v9201 (I : In F) : FVec F S16x1024 .f32 := k0_pay1078 (v9124 I)
def v9206 (I : In F) : FVec F S1x1024 .f32 := k0_pay1079 (v9124 I)
def v9222 (I : In F) : IVec S1x1024 32 := k0_pay1080 (v9124 I)
def v9223 (I : In F) : IVec S1x1024 32 := k0_pay1081
def v9265 (I : In F) : FVec F S1x1024 .f32 := k0_pay1083 (v9206 I) (v9222 I) (v9223 I)
def v9269 (I : In F) : FVec F S16x1024 .f32 := k0_pay1084 (v9201 I) (v9206 I) (v9222 I) (v9223 I)
def v9293 (I : In F) : FVec F S64x1024 .f32 := k0_pay1088 (v9200 I) (v9265 I) (Scalar.ofBits .f32 0x43E00000#32 : F .f32) (v9269 I) (ld9 I) (ld10 I)
def v9294 (I : In F) : FVec F S16x1024 .f32 := k0_pay1089 (v9200 I) (v9265 I) (Scalar.ofBits .f32 0x43E00000#32 : F .f32) (v9269 I) (ld9 I) (ld10 I)
def v9299 (I : In F) : FVec F S1x1024 .f32 := k0_pay1090 (v9200 I) (v9265 I) (Scalar.ofBits .f32 0x43E00000#32 : F .f32) (v9269 I) (ld9 I) (ld10 I)
def v9310 (I : In F) : IVec S1x1024 32 := k0_pay1091 (v9200 I) (v9265 I) (Scalar.ofBits .f32 0x43E00000#32 : F .f32) (v9269 I) (ld9 I) (ld10 I)
def v9353 (I : In F) : FVec F S1x1024 .f32 := k0_pay1093 (v9299 I) (v9310 I)
def v9355 (I : In F) : IVec S1x1024 32 := k0_pay1094 (v9299 I) (v9310 I)
def v9356 (I : In F) : IVec S1x1024 32 := k0_pay1095
def v9358 (I : In F) : FVec F S1x1024 .f32 := k0_pay1096 (F := F) (v9355 I) (v9356 I)
def v9365 (I : In F) : FVec F S16x1024 .fp8e4m3 := k0_pay1097 (v9294 I) (v9353 I)
def v9369 (I : In F) : FVec F S16x1024 .bf16 := k0_pay1098 (v9294 I) (v9353 I) (v9355 I) (v9356 I)
def v9370 (I : In F) : FVec F S16x1024 .f32 := k0_pay1099 (v9293 I)
def v9375 (I : In F) : FVec F S1x1024 .f32 := k0_pay1100 (v9293 I)
def v9401 (I : In F) : IVec S1x1024 32 := k0_pay1101 (v9293 I)
def v9403 (I : In F) : IVec S1x1024 32 := k0_pay1102 (v9293 I)
def v9405 (I : In F) : IVec S1x1024 1 := k0_pay1103 (v9293 I)
def v9434 (I : In F) : FVec F S1x1024 .f32 := k0_pay1105 (v9375 I) (v9401 I) (v9403 I) (v9405 I)
def v9441 (I : In F) : FVec F S16x1024 .fp8e4m3 := k0_pay1106 (v9370 I) (v9375 I) (v9401 I) (v9403 I) (v9405 I)
def v9445 (I : In F) : FVec F S16x1024 .bf16 := k0_pay1107 (v9370 I) (v9375 I) (v9401 I) (v9403 I) (v9405 I)
def v9446 (I : In F) : FVec F S16x1024 .f32 := k0_pay1108 (v9293 I)
def v9451 (I : In F) : FVec F S1x1024 .f32 := k0_pay1109 (v9293 I)
def v9496 (I : In F) : IVec S1x1024 32 := k0_pay1110 (v9451 I)
def v9498 (I : In F) : IVec S1x1024 1 := k0_pay1111 (v9451 I)
def v9510 (I : In F) : FVec F S1x1024 .f32 := k0_pay1113 (F := F) (v9496 I) (v9498 I) 0#32
def v9517 (I : In F) : FVec F S16x1024 .fp8e4m3 := k0_pay1114 (v9446 I) (v9496 I) (v9498 I) 0#32
def v9521 (I : In F) : FVec F S16x1024 .bf16 := k0_pay1115 (v9446 I) (v9496 I) (v9498 I) 0#32
def v9522 (I : In F) : FVec F S16x1024 .f32 := k0_pay1116 (v9293 I)
def v9527 (I : In F) : FVec F S1x1024 .f32 := k0_pay1117 (v9293 I)
def v9543 (I : In F) : IVec S1x1024 32 := k0_pay1118 (v9293 I)
def v9545 (I : In F) : IVec S1x1024 32 := k0_pay1119 (v9293 I)
def v9586 (I : In F) : FVec F S1x1024 .f32 := k0_pay1121 (v9527 I) (v9543 I) (v9545 I)
def v9590 (I : In F) : FVec F S16x1024 .f32 := k0_pay1122 (v9522 I) (v9527 I) (v9543 I) (v9545 I)
def v9591 (I : In F) : FVec F S16x1024 .f32 := k0_pay1123 (F := F)
def v9614 (I : In F) : FVec F S64x1024 .f32 := k0_pay1127 (v9369 I) (v9445 I) (v9521 I) (v9586 I) (v9590 I) (v9591 I) (ld11 I) (ld12 I)
def v9615 (I : In F) : FVec F S16x1024 .f32 := k0_pay1128 (v9369 I) (v9445 I) (v9521 I) (v9586 I) (v9590 I) (v9591 I) (ld11 I) (ld12 I)
def v9620 (I : In F) : FVec F S1x1024 .f32 := k0_pay1129 (v9369 I) (v9445 I) (v9521 I) (v9586 I) (v9590 I) (v9591 I) (ld11 I) (ld12 I)
def v9631 (I : In F) : IVec S1x1024 32 := k0_pay1130 (v9369 I) (v9445 I) (v9521 I) (v9586 I) (v9590 I) (v9591 I) (ld11 I) (ld12 I)
def v9674 (I : In F) : FVec F S1x1024 .f32 := k0_pay1132 (v9620 I) (v9631 I) 268435456#32
def v9678 (I : In F) : IVec S1x1024 32 := k0_pay1133 (v9620 I) (v9631 I) 268435456#32
def v9679 (I : In F) : FVec F S1x1024 .f32 := k0_pay1134 (F := F) (v9678 I)
def v9686 (I : In F) : FVec F S16x1024 .fp8e4m3 := k0_pay1135 (v9615 I) (v9674 I)
def v9690 (I : In F) : FVec F S16x1024 .bf16 := k0_pay1136 (v9615 I) (v9674 I) (v9678 I)
def v9691 (I : In F) : FVec F S16x1024 .f32 := k0_pay1137 (v9614 I)
def v9696 (I : In F) : FVec F S1x1024 .f32 := k0_pay1138 (v9614 I)
def v9727 (I : In F) : IVec S1x1024 32 := k0_pay1139 (v9614 I)
def v9755 (I : In F) : FVec F S1x1024 .f32 := k0_pay1141 (v9696 I) (v9727 I)
def v9762 (I : In F) : FVec F S16x1024 .fp8e4m3 := k0_pay1142 (v9691 I) (v9696 I) (v9727 I)
def v9766 (I : In F) : FVec F S16x1024 .bf16 := k0_pay1143 (v9691 I) (v9696 I) (v9727 I)
def v9767 (I : In F) : FVec F S16x1024 .f32 := k0_pay1144 (v9614 I)
def v9772 (I : In F) : FVec F S1x1024 .f32 := k0_pay1145 (v9614 I)
def v9817 (I : In F) : IVec S1x1024 32 := k0_pay1146 (v9772 I) 0#32
def v9819 (I : In F) : IVec S1x1024 1 := k0_pay1147 (v9772 I)
def v9820 (I : In F) : IVec S1x1024 32 := k0_pay1148
def v9831 (I : In F) : FVec F S1x1024 .f32 := k0_pay1150 (F := F) (v9817 I) (v9819 I) (v9820 I)
def v9838 (I : In F) : FVec F S16x1024 .fp8e4m3 := k0_pay1151 (v9767 I) (v9817 I) (v9819 I) (v9820 I)
def v9842 (I : In F) : FVec F S16x1024 .bf16 := k0_pay1152 (v9767 I) (v9817 I) (v9819 I) (v9820 I)
def v9843 (I : In F) : FVec F S16x1024 .f32 := k0_pay1153 (v9614 I)
def v9848 (I : In F) : FVec F S1x1024 .f32 := k0_pay1154 (v9614 I)
def v9864 (I : In F) : IVec S1x1024 32 := k0_pay1155 (v9614 I)
def v9866 (I : In F) : IVec S1x1024 32 := k0_pay1156 (v9614 I)
def v9867 (I : In F) : FVec F S1x1024 .f32 := k0_pay1157 (v9614 I)
def v9907 (I : In F) : FVec F S1x1024 .f32 := k0_pay1159 (v9848 I) (v9864 I) (v9866 I) (v9867 I)
def v9913 (I : In F) : FVec F S16x1024 .f32 := k0_pay1160 (v9843 I) (v9848 I) (v9864 I) (v9866 I) (v9867 I)
def v9941 (I : In F) : FVec F S3x1024 .bf16 := k0_pay1164 (v9690 I) (v9766 I) (v9842 I) (v9907 I) (v9913 I) (ld13 I) (ld14 I)
def v9958 (I : In F) : FVec F S8x128 .f32 := k0_pay1168 (ldS I 7 0) (ldC I 7 0)
def v9963 (I : In F) : FVec F S8x128 .f32 := k0_pay1169 (ldS I 7 1) (ldC I 7 1)
def v9968 (I : In F) : FVec F S8x128 .f32 := k0_pay1170 (ldS I 7 2) (ldC I 7 2)
def v9970 (I : In F) : FVec F S6x128 .f32 := k0_pay1171 (ldS I 7 3)
def v9973 (I : In F) : FVec F S8x128 .f32 := k0_pay1172 (v9970 I) (ldC I 7 3)
def v9978 (I : In F) : FVec F S8x128 .f32 := k0_pay1173 (ldS I 7 4) (ldC I 7 4)
def v9983 (I : In F) : FVec F S8x128 .f32 := k0_pay1174 (ldS I 7 5) (ldC I 7 5)
def v9988 (I : In F) : FVec F S8x128 .f32 := k0_pay1175 (ldS I 7 6) (ldC I 7 6)
def v9993 (I : In F) : FVec F S8x128 .f32 := k0_pay1176 (ldS I 7 7) (ldC I 7 7)
def v9994 (I : In F) : FVec F S8x1024 .f32 := k0_pay1177 (v9958 I) (v9963 I) (v9968 I) (v9973 I) (v9978 I) (v9983 I) (v9988 I) (v9993 I)
def v10011 (I : In F) : FVec F S8x1024 .f32 := k0_pay1178 (ldB I 7 1 0) (ldB I 7 1 1) (ldB I 7 1 2) (ldB I 7 1 3) (ldB I 7 1 4) (ldB I 7 1 5) (ldB I 7 1 6) (ldB I 7 1 7)
def v10028 (I : In F) : FVec F S8x1024 .f32 := k0_pay1179 (ldB I 7 2 0) (ldB I 7 2 1) (ldB I 7 2 2) (ldB I 7 2 3) (ldB I 7 2 4) (ldB I 7 2 5) (ldB I 7 2 6) (ldB I 7 2 7)
def v10049 (I : In F) : FVec F S32x1024 .f32 := k0_pay1180 (v9994 I) (v10011 I) (v10028 I) (ldB I 7 3 0) (ldB I 7 3 1) (ldB I 7 3 2) (ldB I 7 3 3) (ldB I 7 3 4) (ldB I 7 3 5) (ldB I 7 3 6) (ldB I 7 3 7) (ld3 I)
def v10050 (I : In F) : FVec F S16x1024 .f32 := k0_pay1181 (v9994 I) (v10011 I) (v10028 I) (ldB I 7 3 0) (ldB I 7 3 1) (ldB I 7 3 2) (ldB I 7 3 3) (ldB I 7 3 4) (ldB I 7 3 5) (ldB I 7 3 6) (ldB I 7 3 7) (ld3 I)
def v10051 (I : In F) : FVec F S16x1024 .f32 := k0_pay1182 (v9994 I) (v10011 I) (v10028 I) (ldB I 7 3 0) (ldB I 7 3 1) (ldB I 7 3 2) (ldB I 7 3 3) (ldB I 7 3 4) (ldB I 7 3 5) (ldB I 7 3 6) (ldB I 7 3 7) (ld3 I)
def v10055 (I : In F) : FVec F S1x1024 .f32 := k0_pay1183 (v10051 I)
def v10098 (I : In F) : IVec S1x1024 32 := k0_pay1184 (v10051 I)
def v10114 (I : In F) : FVec F S1x1024 .f32 := k0_pay1186 (v10055 I) (v10098 I) 126#32
def v10121 (I : In F) : FVec F S16x1024 .fp8e4m3 := k0_pay1187 (v10050 I) (v10055 I) (v10098 I) 126#32
def v10125 (I : In F) : FVec F S16x1024 .bf16 := k0_pay1188 (v10050 I) (v10055 I) (v10098 I) 126#32
def v10126 (I : In F) : FVec F S16x1024 .f32 := k0_pay1189 (v10049 I)
def v10131 (I : In F) : FVec F S1x1024 .f32 := k0_pay1190 (v10049 I)
def v10142 (I : In F) : IVec S1x1024 32 := k0_pay1191 (v10049 I)
def v10144 (I : In F) : IVec S1x1024 32 := k0_pay1192 (v10049 I)
def v10190 (I : In F) : FVec F S1x1024 .f32 := k0_pay1194 (v10131 I) (v10142 I) (v10144 I)
def v10191 (I : In F) : FVec F S16x1024 .f32 := k0_pay1195 (v10131 I) (v10142 I) (v10144 I)
def v10218 (I : In F) : FVec F S64x1024 .f32 := k0_pay1199 (v10125 I) (v10126 I) (v10190 I) (v10191 I) (ld5 I) (ld6 I)
def v10219 (I : In F) : FVec F S16x1024 .f32 := k0_pay1200 (v10125 I) (v10126 I) (v10190 I) (v10191 I) (ld5 I) (ld6 I)
def v10224 (I : In F) : FVec F S1x1024 .f32 := k0_pay1201 (v10125 I) (v10126 I) (v10190 I) (v10191 I) (ld5 I) (ld6 I)
def v10230 (I : In F) : IVec S1x1024 32 := k0_pay1202 (v10125 I) (v10126 I) (v10190 I) (v10191 I) (ld5 I) (ld6 I)
def v10273 (I : In F) : IVec S1x1024 32 := k0_pay1203 (v10224 I) (v10230 I) 528482304#32
def v10278 (I : In F) : FVec F S1x1024 .f32 := k0_pay1204 (v10224 I) (v10230 I) 528482304#32
def v10283 (I : In F) : FVec F S1x1024 .f32 := k0_pay1205 (F := F) (v10273 I)
def v10290 (I : In F) : FVec F S16x1024 .fp8e4m3 := k0_pay1206 (v10219 I) (v10278 I)
def v10294 (I : In F) : FVec F S16x1024 .bf16 := k0_pay1207 (v10219 I) (v10273 I) (v10278 I)
def v10295 (I : In F) : FVec F S16x1024 .f32 := k0_pay1208 (v10218 I)
def v10300 (I : In F) : FVec F S1x1024 .f32 := k0_pay1209 (v10218 I)
def v10326 (I : In F) : IVec S1x1024 32 := k0_pay1210 (v10218 I)
def v10359 (I : In F) : FVec F S1x1024 .f32 := k0_pay1212 (v10300 I) (v10326 I)
def v10366 (I : In F) : FVec F S16x1024 .fp8e4m3 := k0_pay1213 (v10295 I) (v10300 I) (v10326 I)
def v10370 (I : In F) : FVec F S16x1024 .bf16 := k0_pay1214 (v10295 I) (v10300 I) (v10326 I)
def v10371 (I : In F) : FVec F S16x1024 .f32 := k0_pay1215 (v10218 I)
def v10372 (I : In F) : FVec F S16x1024 .f32 := k0_pay1216 (v10218 I)
def v10376 (I : In F) : FVec F S1x1024 .f32 := k0_pay1217 (v10372 I)
def v10419 (I : In F) : IVec S1x1024 32 := k0_pay1218 (v10372 I)
def v10420 (I : In F) : IVec S1x1024 32 := k0_pay1219
def v10435 (I : In F) : FVec F S1x1024 .f32 := k0_pay1221 (v10376 I) (v10419 I) (v10420 I)
def v10442 (I : In F) : FVec F S16x1024 .fp8e4m3 := k0_pay1222 (v10371 I) (v10376 I) (v10419 I) (v10420 I)
def v10446 (I : In F) : FVec F S16x1024 .bf16 := k0_pay1223 (v10371 I) (v10376 I) (v10419 I) (v10420 I)
def v10447 (I : In F) : FVec F S16x1024 .f32 := k0_pay1224 (v10218 I)
def v10452 (I : In F) : FVec F S1x1024 .f32 := k0_pay1225 (v10218 I)
def v10463 (I : In F) : IVec S1x1024 32 := k0_pay1226 (v10218 I)
def v10465 (I : In F) : IVec S1x1024 32 := k0_pay1227 (v10218 I)
def v10466 (I : In F) : FVec F S1x1024 .f32 := k0_pay1228 (v10218 I)
def v10511 (I : In F) : FVec F S1x1024 .f32 := k0_pay1230 (v10452 I) (v10463 I) (v10465 I) (v10466 I)
def v10513 (I : In F) : FVec F S16x1024 .f32 := k0_pay1231 (v10447 I) (v10452 I) (v10463 I) (v10465 I) (v10466 I)
def v10546 (I : In F) : FVec F S32x1024 .f32 := k0_pay1237 (v10294 I) (v10370 I) (v10446 I) (v10511 I) (v10513 I) (ld7 I) (ld8 I) (ldH I 7)
def v10547 (I : In F) : FVec F S16x1024 .f32 := k0_pay1238 (v10294 I) (v10370 I) (v10446 I) (v10511 I) (v10513 I) (ld7 I) (ld8 I) (ldH I 7)
def v10550 (I : In F) : FVec F S1x1024 .f32 := k0_pay1239 (v10294 I) (v10370 I) (v10446 I) (v10511 I) (v10513 I) (ld7 I) (ld8 I) (ldH I 7)
def v10552 (I : In F) : FVec F S1x1024 .f32 := k0_pay1240 (v10550 I) (Scalar.ofBits .f32 0x3B124925#32 : F .f32)
def v10597 (I : In F) : IVec S1x1024 32 := k0_pay1241 (v10550 I) (Scalar.ofBits .f32 0x3B124925#32 : F .f32)
def v10598 (I : In F) : FVec F S1x1024 .f32 := k0_pay1242 (F := F)
def v10611 (I : In F) : FVec F S1x1024 .f32 := k0_pay1244 (v10552 I) (v10597 I) (v10598 I)
def v10618 (I : In F) : FVec F S16x1024 .fp8e4m3 := k0_pay1245 (v10547 I) (v10552 I) (v10597 I) (v10598 I)
def v10622 (I : In F) : FVec F S16x1024 .bf16 := k0_pay1246 (v10547 I) (v10552 I) (v10597 I) (v10598 I)
def v10623 (I : In F) : FVec F S16x1024 .f32 := k0_pay1247 (v10546 I)
def v10628 (I : In F) : FVec F S1x1024 .f32 := k0_pay1248 (v10546 I)
def v10644 (I : In F) : IVec S1x1024 32 := k0_pay1249 (v10546 I)
def v10687 (I : In F) : FVec F S1x1024 .f32 := k0_pay1251 (v10628 I) (v10644 I) 134217728#32
def v10689 (I : In F) : FVec F S16x1024 .f32 := k0_pay1252 (v10623 I) (v10628 I) (v10644 I) 134217728#32
def v10690 (I : In F) : FVec F S16x1024 .f32 := k0_pay1253 (F := F)
def v10715 (I : In F) : FVec F S64x1024 .f32 := k0_pay1257 (v10622 I) (v10687 I) (v10689 I) (Scalar.ofBits .f32 0x43E00000#32 : F .f32) (v10690 I) (ld9 I) (ld10 I)
def v10716 (I : In F) : FVec F S16x1024 .f32 := k0_pay1258 (v10622 I) (v10687 I) (v10689 I) (Scalar.ofBits .f32 0x43E00000#32 : F .f32) (v10690 I) (ld9 I) (ld10 I)
def v10721 (I : In F) : FVec F S1x1024 .f32 := k0_pay1259 (v10622 I) (v10687 I) (v10689 I) (Scalar.ofBits .f32 0x43E00000#32 : F .f32) (v10690 I) (ld9 I) (ld10 I)
def v10727 (I : In F) : IVec S1x1024 32 := k0_pay1260 (v10622 I) (v10687 I) (v10689 I) (Scalar.ofBits .f32 0x43E00000#32 : F .f32) (v10690 I) (ld9 I) (ld10 I)
def v10729 (I : In F) : IVec S1x1024 32 := k0_pay1261 (v10622 I) (v10687 I) (v10689 I) (Scalar.ofBits .f32 0x43E00000#32 : F .f32) (v10690 I) (ld9 I) (ld10 I)
def v10731 (I : In F) : IVec S1x1024 1 := k0_pay1262 (v10622 I) (v10687 I) (v10689 I) (Scalar.ofBits .f32 0x43E00000#32 : F .f32) (v10690 I) (ld9 I) (ld10 I)
def v10775 (I : In F) : FVec F S1x1024 .f32 := k0_pay1264 (v10721 I) (v10727 I) (v10729 I) (v10731 I)
def v10777 (I : In F) : IVec S1x1024 32 := k0_pay1265 (v10721 I) (v10727 I) (v10729 I) (v10731 I)
def v10780 (I : In F) : FVec F S1x1024 .f32 := k0_pay1266 (F := F) (v10777 I) 23#32
def v10787 (I : In F) : FVec F S16x1024 .fp8e4m3 := k0_pay1267 (v10716 I) (v10775 I)
def v10791 (I : In F) : FVec F S16x1024 .bf16 := k0_pay1268 (v10716 I) (v10775 I) (v10777 I) 23#32
def v10792 (I : In F) : FVec F S16x1024 .f32 := k0_pay1269 (v10715 I)
def v10797 (I : In F) : FVec F S1x1024 .f32 := k0_pay1270 (v10715 I)
def v10823 (I : In F) : IVec S1x1024 32 := k0_pay1271 (v10715 I)
def v10825 (I : In F) : IVec S1x1024 32 := k0_pay1272 (v10715 I)
def v10826 (I : In F) : FVec F S1x1024 .f32 := k0_pay1273 (v10715 I)
def v10856 (I : In F) : FVec F S1x1024 .f32 := k0_pay1275 (v10797 I) (v10823 I) (v10825 I) (v10826 I)
def v10863 (I : In F) : FVec F S16x1024 .fp8e4m3 := k0_pay1276 (v10792 I) (v10797 I) (v10823 I) (v10825 I) (v10826 I)
def v10867 (I : In F) : FVec F S16x1024 .bf16 := k0_pay1277 (v10792 I) (v10797 I) (v10823 I) (v10825 I) (v10826 I)
def v10868 (I : In F) : FVec F S16x1024 .f32 := k0_pay1278 (v10715 I)
def v10871 (I : In F) : FVec F S1x1024 .f32 := k0_pay1279 (v10715 I)
def v10872 (I : In F) : FVec F S1x1024 .f32 := k0_pay1280 (F := F)
def v10918 (I : In F) : IVec S1x1024 32 := k0_pay1282 (v10871 I) (v10872 I)
def v10920 (I : In F) : IVec S1x1024 1 := k0_pay1283 (v10871 I) (v10872 I)
def v10932 (I : In F) : FVec F S1x1024 .f32 := k0_pay1285 (F := F) (v10918 I) (v10920 I)
def v10939 (I : In F) : FVec F S16x1024 .fp8e4m3 := k0_pay1286 (v10868 I) (v10918 I) (v10920 I)
def v10943 (I : In F) : FVec F S16x1024 .bf16 := k0_pay1287 (v10868 I) (v10918 I) (v10920 I)
def v10944 (I : In F) : FVec F S16x1024 .f32 := k0_pay1288 (v10715 I)
def v10949 (I : In F) : FVec F S1x1024 .f32 := k0_pay1289 (v10715 I)
def v10965 (I : In F) : IVec S1x1024 32 := k0_pay1290 (v10715 I)
def v10966 (I : In F) : IVec S1x1024 32 := k0_pay1291
def v11008 (I : In F) : FVec F S1x1024 .f32 := k0_pay1293 (v10949 I) (v10965 I) (v10966 I)
def v11012 (I : In F) : FVec F S16x1024 .f32 := k0_pay1294 (v10944 I) (v10949 I) (v10965 I) (v10966 I)
def v11036 (I : In F) : FVec F S64x1024 .f32 := k0_pay1298 (v10791 I) (v10867 I) (v10943 I) (v11008 I) (Scalar.ofBits .f32 0x43E00000#32 : F .f32) (v11012 I) (ld11 I) (ld12 I)
def v11037 (I : In F) : FVec F S16x1024 .f32 := k0_pay1299 (v10791 I) (v10867 I) (v10943 I) (v11008 I) (Scalar.ofBits .f32 0x43E00000#32 : F .f32) (v11012 I) (ld11 I) (ld12 I)
def v11042 (I : In F) : FVec F S1x1024 .f32 := k0_pay1300 (v10791 I) (v10867 I) (v10943 I) (v11008 I) (Scalar.ofBits .f32 0x43E00000#32 : F .f32) (v11012 I) (ld11 I) (ld12 I)
def v11053 (I : In F) : IVec S1x1024 32 := k0_pay1301 (v10791 I) (v10867 I) (v10943 I) (v11008 I) (Scalar.ofBits .f32 0x43E00000#32 : F .f32) (v11012 I) (ld11 I) (ld12 I)
def v11096 (I : In F) : FVec F S1x1024 .f32 := k0_pay1303 (v11042 I) (v11053 I)
def v11098 (I : In F) : IVec S1x1024 32 := k0_pay1304 (v11042 I) (v11053 I)
def v11099 (I : In F) : IVec S1x1024 32 := k0_pay1305
def v11101 (I : In F) : FVec F S1x1024 .f32 := k0_pay1306 (F := F) (v11098 I) (v11099 I)
def v11108 (I : In F) : FVec F S16x1024 .fp8e4m3 := k0_pay1307 (v11037 I) (v11096 I)
def v11112 (I : In F) : FVec F S16x1024 .bf16 := k0_pay1308 (v11037 I) (v11096 I) (v11098 I) (v11099 I)
def v11113 (I : In F) : FVec F S16x1024 .f32 := k0_pay1309 (v11036 I)
def v11118 (I : In F) : FVec F S1x1024 .f32 := k0_pay1310 (v11036 I)
def v11144 (I : In F) : IVec S1x1024 32 := k0_pay1311 (v11036 I)
def v11146 (I : In F) : IVec S1x1024 32 := k0_pay1312 (v11036 I)
def v11148 (I : In F) : IVec S1x1024 1 := k0_pay1313 (v11036 I)
def v11177 (I : In F) : FVec F S1x1024 .f32 := k0_pay1315 (v11118 I) (v11144 I) (v11146 I) (v11148 I)
def v11184 (I : In F) : FVec F S16x1024 .fp8e4m3 := k0_pay1316 (v11113 I) (v11118 I) (v11144 I) (v11146 I) (v11148 I)
def v11188 (I : In F) : FVec F S16x1024 .bf16 := k0_pay1317 (v11113 I) (v11118 I) (v11144 I) (v11146 I) (v11148 I)
def v11189 (I : In F) : FVec F S16x1024 .f32 := k0_pay1318 (v11036 I)
def v11194 (I : In F) : FVec F S1x1024 .f32 := k0_pay1319 (v11036 I)
def v11239 (I : In F) : IVec S1x1024 32 := k0_pay1320 (v11194 I)
def v11241 (I : In F) : IVec S1x1024 1 := k0_pay1321 (v11194 I)
def v11253 (I : In F) : FVec F S1x1024 .f32 := k0_pay1323 (F := F) (v11239 I) (v11241 I) 0#32
def v11260 (I : In F) : FVec F S16x1024 .fp8e4m3 := k0_pay1324 (v11189 I) (v11239 I) (v11241 I) 0#32
def v11264 (I : In F) : FVec F S16x1024 .bf16 := k0_pay1325 (v11189 I) (v11239 I) (v11241 I) 0#32
def v11265 (I : In F) : FVec F S16x1024 .f32 := k0_pay1326 (v11036 I)
def v11270 (I : In F) : FVec F S1x1024 .f32 := k0_pay1327 (v11036 I)
def v11286 (I : In F) : IVec S1x1024 32 := k0_pay1328 (v11036 I)
def v11288 (I : In F) : IVec S1x1024 32 := k0_pay1329 (v11036 I)
def v11329 (I : In F) : FVec F S1x1024 .f32 := k0_pay1331 (v11270 I) (v11286 I) (v11288 I)
def v11333 (I : In F) : FVec F S16x1024 .f32 := k0_pay1332 (v11265 I) (v11270 I) (v11286 I) (v11288 I)
def v11334 (I : In F) : FVec F S16x1024 .f32 := k0_pay1333 (F := F)
def v11363 (I : In F) : FVec F S3x1024 .bf16 := k0_pay1337 (v11112 I) (v11188 I) (v11264 I) (v11329 I) (v11333 I) (v11334 I) (ld13 I) (ld14 I)
def v11371 (I : In F) : FVec F S1x1x1024 .bf16 := k0_pay1339 (v11112 I) (v11188 I) (v11264 I) (v11329 I) (v11333 I) (v11334 I) (ld13 I) (ld14 I)

end Cert.KernelIdeal.Body

end

end
-- ==== Proof.KernelIdeal.Ray0.lean ====
module

public import proofs.«01_k».proof.Proof.KernelIdeal.Vals

/-! The values of ray 0 are the stages named in `Vocab`. -/

@[expose] public section

set_option synthInstance.maxSize 4096
set_option maxRecDepth 16384

noncomputable section

namespace Cert.KernelIdeal.Body

open Cert.KernelIdeal Cert.KernelIdeal.Gen
open Idealize.ShloMosaic Idealize.ShloMosaic.TcCoe Idealize.SL Idealize.SL.Sem

variable {F : FTy → Type} [FloatOps F]

theorem enc_0_local (I : In F) : v95 I = enc I 0 := rfl
theorem enc_0 (I : In F) : v95 I = enc I 0 := enc_0_local I
theorem h1_0_local (I : In F) : v264 I = lay1 I (v95 I) := rfl
theorem h1_0 (I : In F) : v264 I = h1 I 0 := by
  rw [h1_0_local, enc_0]; rfl
theorem cin_0_local (I : In F) : v592 I = join I 0 (v264 I) := rfl
theorem cin_0 (I : In F) : v592 I = cin I 0 := by
  rw [cin_0_local, h1_0]; rfl
theorem g1_0_local (I : In F) : v761 I = lay3 I (v592 I) := rfl
theorem g1_0 (I : In F) : v761 I = g1 I 0 := by
  rw [g1_0_local, cin_0]; rfl
theorem g2_0_local (I : In F) : v1082 I = lay4 I (v761 I) := rfl
theorem g2_0 (I : In F) : v1082 I = g2 I 0 := by
  rw [g2_0_local, g1_0]; rfl
theorem st_16_0_local (I : In F) : (k0_pay30 (v167 I) (v242 I)) = rowC32 (v95 I) := rfl
theorem st_16_0 (I : In F) : (k0_pay30 (v167 I) (v242 I)) = rowC32 (enc I 0) := by
  rw [st_16_0_local, enc_0]
theorem st_17_0_local (I : In F) : (k0_pay31 (v160 I) (v236 I)) = rowS32 (v95 I) := rfl
theorem st_17_0 (I : In F) : (k0_pay31 (v160 I) (v236 I)) = rowS32 (enc I 0) := by
  rw [st_17_0_local, enc_0]
theorem st_18_0_local (I : In F) : (k0_pay64 (v336 I) (v412 I) (v488 I) (v564 I)) = rowC64 (v264 I) := rfl
theorem st_18_0 (I : In F) : (k0_pay64 (v336 I) (v412 I) (v488 I) (v564 I)) = rowC64 (h1 I 0) := by
  rw [st_18_0_local, h1_0]
theorem st_19_0_local (I : In F) : (k0_pay65 (v329 I) (v405 I) (v481 I) (v557 I)) = rowS64 (v264 I) := rfl
theorem st_19_0 (I : In F) : (k0_pay65 (v329 I) (v405 I) (v481 I) (v557 I)) = rowS64 (h1 I 0) := by
  rw [st_19_0_local, h1_0]
theorem st_14_0_local (I : In F) : (k0_pay67 (v340 I) (v416 I) (v492 I) (v557 I) (v564 I) (ld7 I) (ld8 I)) = dens I (v264 I) := rfl
theorem st_14_0 (I : In F) : (k0_pay67 (v340 I) (v416 I) (v492 I) (v557 I) (v564 I) (ld7 I) (ld8 I)) = dens I (h1 I 0) := by
  rw [st_14_0_local, h1_0]
theorem st_20_0_local (I : In F) : (k0_pay86 (v664 I) (v740 I)) = rowC32 (v592 I) := rfl
theorem st_20_0 (I : In F) : (k0_pay86 (v664 I) (v740 I)) = rowC32 (cin I 0) := by
  rw [st_20_0_local, cin_0]
theorem st_21_0_local (I : In F) : (k0_pay87 (v657 I) (v733 I)) = rowS32 (v592 I) := rfl
theorem st_21_0 (I : In F) : (k0_pay87 (v657 I) (v733 I)) = rowS32 (cin I 0) := by
  rw [st_21_0_local, cin_0]
theorem st_22_0_local (I : In F) : (k0_pay124 (v833 I) (v909 I) (v985 I) (v1061 I)) = rowC64 (v761 I) := rfl
theorem st_22_0 (I : In F) : (k0_pay124 (v833 I) (v909 I) (v985 I) (v1061 I)) = rowC64 (g1 I 0) := by
  rw [st_22_0_local, g1_0]
theorem st_23_0_local (I : In F) : (k0_pay125 (v826 I) (v902 I) (v978 I) (v1054 I)) = rowS64 (v761 I) := rfl
theorem st_23_0 (I : In F) : (k0_pay125 (v826 I) (v902 I) (v978 I) (v1054 I)) = rowS64 (g1 I 0) := by
  rw [st_23_0_local, g1_0]
theorem st_24_0_local (I : In F) : (k0_pay164 (v1387 I)) = rowC64 (v1082 I) := rfl
theorem st_24_0 (I : In F) : (k0_pay164 (v1387 I)) = rowC64 (g2 I 0) := by
  rw [st_24_0_local, g2_0]
theorem st_25_0_local (I : In F) : (k0_pay165 (v1147 I) (v1223 I) (v1299 I) (v1375 I)) = rowS64 (v1082 I) := rfl
theorem st_25_0 (I : In F) : (k0_pay165 (v1147 I) (v1223 I) (v1299 I) (v1375 I)) = rowS64 (g2 I 0) := by
  rw [st_25_0_local, g2_0]
theorem st_15_0_0_local (I : In F) : (k0_pay167 (v1158 I) (v1234 I) (v1310 I) (v1386 I) (ld13 I) (ld14 I)) = red I (v1082 I) := rfl
theorem st_15_0_0 (I : In F) : (k0_pay167 (v1158 I) (v1234 I) (v1310 I) (v1386 I) (ld13 I) (ld14 I)) = red I (g2 I 0) := by
  rw [st_15_0_0_local, g2_0]
theorem st_15_1_0_local (I : In F) : (k0_pay168 (v1158 I) (v1234 I) (v1310 I) (v1386 I) (ld13 I) (ld14 I)) = green I (v1082 I) := rfl
theorem st_15_1_0 (I : In F) : (k0_pay168 (v1158 I) (v1234 I) (v1310 I) (v1386 I) (ld13 I) (ld14 I)) = green I (g2 I 0) := by
  rw [st_15_1_0_local, g2_0]
theorem st_15_2_0_local (I : In F) : (k0_pay170 (v1418 I)) = blue I (v1082 I) := rfl
theorem st_15_2_0 (I : In F) : (k0_pay170 (v1418 I)) = blue I (g2 I 0) := by
  rw [st_15_2_0_local, g2_0]

end Cert.KernelIdeal.Body

end

end
-- ==== Proof.KernelIdeal.Ray1.lean ====
module

public import proofs.«01_k».proof.Proof.KernelIdeal.Vals

/-! The values of ray 1 are the stages named in `Vocab`. -/

@[expose] public section

set_option synthInstance.maxSize 4096
set_option maxRecDepth 16384

noncomputable section

namespace Cert.KernelIdeal.Body

open Cert.KernelIdeal Cert.KernelIdeal.Gen
open Idealize.ShloMosaic Idealize.ShloMosaic.TcCoe Idealize.SL Idealize.SL.Sem

variable {F : FTy → Type} [FloatOps F]

theorem enc_1_local (I : In F) : v1517 I = enc I 1 := rfl
theorem enc_1 (I : In F) : v1517 I = enc I 1 := enc_1_local I
theorem h1_1_local (I : In F) : v1686 I = lay1 I (v1517 I) := rfl
theorem h1_1 (I : In F) : v1686 I = h1 I 1 := by
  rw [h1_1_local, enc_1]; rfl
theorem cin_1_local (I : In F) : v2014 I = join I 1 (v1686 I) := rfl
theorem cin_1 (I : In F) : v2014 I = cin I 1 := by
  rw [cin_1_local, h1_1]; rfl
theorem g1_1_local (I : In F) : v2183 I = lay3 I (v2014 I) := rfl
theorem g1_1 (I : In F) : v2183 I = g1 I 1 := by
  rw [g1_1_local, cin_1]; rfl
theorem g2_1_local (I : In F) : v2504 I = lay4 I (v2183 I) := rfl
theorem g2_1 (I : In F) : v2504 I = g2 I 1 := by
  rw [g2_1_local, g1_1]; rfl
theorem st_16_1_local (I : In F) : (k0_pay198 (v1589 I) (v1662 I) (v1663 I)) = rowC32 (v1517 I) := rfl
theorem st_16_1 (I : In F) : (k0_pay198 (v1589 I) (v1662 I) (v1663 I)) = rowC32 (enc I 1) := by
  rw [st_16_1_local, enc_1]
theorem st_17_1_local (I : In F) : (k0_pay199 (v1582 I) (v1658 I)) = rowS32 (v1517 I) := rfl
theorem st_17_1 (I : In F) : (k0_pay199 (v1582 I) (v1658 I)) = rowS32 (enc I 1) := by
  rw [st_17_1_local, enc_1]
theorem st_18_1_local (I : In F) : (k0_pay235 (v1758 I) (v1834 I) (v1910 I) (v1985 I)) = rowC64 (v1686 I) := rfl
theorem st_18_1 (I : In F) : (k0_pay235 (v1758 I) (v1834 I) (v1910 I) (v1985 I)) = rowC64 (h1 I 1) := by
  rw [st_18_1_local, h1_1]
theorem st_19_1_local (I : In F) : (k0_pay236 (v1751 I) (v1827 I) (v1903 I) (v1979 I)) = rowS64 (v1686 I) := rfl
theorem st_19_1 (I : In F) : (k0_pay236 (v1751 I) (v1827 I) (v1903 I) (v1979 I)) = rowS64 (h1 I 1) := by
  rw [st_19_1_local, h1_1]
theorem st_14_1_local (I : In F) : (k0_pay238 (v1762 I) (v1838 I) (v1914 I) (v1979 I) (v1985 I) (ld7 I) (ld8 I)) = dens I (v1686 I) := rfl
theorem st_14_1 (I : In F) : (k0_pay238 (v1762 I) (v1838 I) (v1914 I) (v1979 I) (v1985 I) (ld7 I) (ld8 I)) = dens I (h1 I 1) := by
  rw [st_14_1_local, h1_1]
theorem st_20_1_local (I : In F) : (k0_pay257 (v2086 I) (v2162 I)) = rowC32 (v2014 I) := rfl
theorem st_20_1 (I : In F) : (k0_pay257 (v2086 I) (v2162 I)) = rowC32 (cin I 1) := by
  rw [st_20_1_local, cin_1]
theorem st_21_1_local (I : In F) : (k0_pay258 (v2079 I) (v2155 I)) = rowS32 (v2014 I) := rfl
theorem st_21_1 (I : In F) : (k0_pay258 (v2079 I) (v2155 I)) = rowS32 (cin I 1) := by
  rw [st_21_1_local, cin_1]
theorem st_22_1_local (I : In F) : (k0_pay296 (v2255 I) (v2331 I) (v2407 I) (v2483 I)) = rowC64 (v2183 I) := rfl
theorem st_22_1 (I : In F) : (k0_pay296 (v2255 I) (v2331 I) (v2407 I) (v2483 I)) = rowC64 (g1 I 1) := by
  rw [st_22_1_local, g1_1]
theorem st_23_1_local (I : In F) : (k0_pay297 (v2248 I) (v2324 I) (v2400 I) (v2476 I)) = rowS64 (v2183 I) := rfl
theorem st_23_1 (I : In F) : (k0_pay297 (v2248 I) (v2324 I) (v2400 I) (v2476 I)) = rowS64 (g1 I 1) := by
  rw [st_23_1_local, g1_1]
theorem st_24_1_local (I : In F) : (k0_pay334 (v2576 I) (v2652 I) (v2728 I) (v2804 I)) = rowC64 (v2504 I) := rfl
theorem st_24_1 (I : In F) : (k0_pay334 (v2576 I) (v2652 I) (v2728 I) (v2804 I)) = rowC64 (g2 I 1) := by
  rw [st_24_1_local, g2_1]
theorem st_25_1_local (I : In F) : (k0_pay335 (v2569 I) (v2645 I) (v2721 I) (v2797 I)) = rowS64 (v2504 I) := rfl
theorem st_25_1 (I : In F) : (k0_pay335 (v2569 I) (v2645 I) (v2721 I) (v2797 I)) = rowS64 (g2 I 1) := by
  rw [st_25_1_local, g2_1]
theorem st_15_0_1_local (I : In F) : (k0_pay337 (v2580 I) (v2656 I) (v2732 I) (v2808 I) (ld13 I) (ld14 I)) = red I (v2504 I) := rfl
theorem st_15_0_1 (I : In F) : (k0_pay337 (v2580 I) (v2656 I) (v2732 I) (v2808 I) (ld13 I) (ld14 I)) = red I (g2 I 1) := by
  rw [st_15_0_1_local, g2_1]
theorem st_15_1_1_local (I : In F) : (k0_pay338 (v2580 I) (v2656 I) (v2732 I) (v2808 I) (ld13 I) (ld14 I)) = green I (v2504 I) := rfl
theorem st_15_1_1 (I : In F) : (k0_pay338 (v2580 I) (v2656 I) (v2732 I) (v2808 I) (ld13 I) (ld14 I)) = green I (g2 I 1) := by
  rw [st_15_1_1_local, g2_1]
theorem st_15_2_1_local (I : In F) : (k0_pay340 (v2840 I)) = blue I (v2504 I) := rfl
theorem st_15_2_1 (I : In F) : (k0_pay340 (v2840 I)) = blue I (g2 I 1) := by
  rw [st_15_2_1_local, g2_1]

end Cert.KernelIdeal.Body

end

end
-- ==== Proof.KernelIdeal.Ray2.lean ====
module

public import proofs.«01_k».proof.Proof.KernelIdeal.Vals

/-! The values of ray 2 are the stages named in `Vocab`. -/

@[expose] public section

set_option synthInstance.maxSize 4096
set_option maxRecDepth 16384

noncomputable section

namespace Cert.KernelIdeal.Body

open Cert.KernelIdeal Cert.KernelIdeal.Gen
open Idealize.ShloMosaic Idealize.ShloMosaic.TcCoe Idealize.SL Idealize.SL.Sem

variable {F : FTy → Type} [FloatOps F]

theorem enc_2_local (I : In F) : v2939 I = enc I 2 := rfl
theorem enc_2 (I : In F) : v2939 I = enc I 2 := enc_2_local I
theorem h1_2_local (I : In F) : v3108 I = lay1 I (v2939 I) := rfl
theorem h1_2 (I : In F) : v3108 I = h1 I 2 := by
  rw [h1_2_local, enc_2]; rfl
theorem cin_2_local (I : In F) : v3436 I = join I 2 (v3108 I) := rfl
theorem cin_2 (I : In F) : v3436 I = cin I 2 := by
  rw [cin_2_local, h1_2]; rfl
theorem g1_2_local (I : In F) : v3605 I = lay3 I (v3436 I) := rfl
theorem g1_2 (I : In F) : v3605 I = g1 I 2 := by
  rw [g1_2_local, cin_2]; rfl
theorem g2_2_local (I : In F) : v3926 I = lay4 I (v3605 I) := rfl
theorem g2_2 (I : In F) : v3926 I = g2 I 2 := by
  rw [g2_2_local, g1_2]; rfl
theorem st_16_2_local (I : In F) : (k0_pay369 (v3011 I) (Scalar.ofBits .f32 0x43E00000#32 : F .f32) (v3084 I)) = rowC32 (v2939 I) := rfl
theorem st_16_2 (I : In F) : (k0_pay369 (v3011 I) (Scalar.ofBits .f32 0x43E00000#32 : F .f32) (v3084 I)) = rowC32 (enc I 2) := by
  rw [st_16_2_local, enc_2]
theorem st_17_2_local (I : In F) : (k0_pay370 (v3004 I) (v3080 I)) = rowS32 (v2939 I) := rfl
theorem st_17_2 (I : In F) : (k0_pay370 (v3004 I) (v3080 I)) = rowS32 (enc I 2) := by
  rw [st_17_2_local, enc_2]
theorem st_18_2_local (I : In F) : (k0_pay408 (v3180 I) (v3256 I) (v3332 I) (v3405 I) (v3406 I)) = rowC64 (v3108 I) := rfl
theorem st_18_2 (I : In F) : (k0_pay408 (v3180 I) (v3256 I) (v3332 I) (v3405 I) (v3406 I)) = rowC64 (h1 I 2) := by
  rw [st_18_2_local, h1_2]
theorem st_19_2_local (I : In F) : (k0_pay409 (v3173 I) (v3249 I) (v3325 I) (v3401 I)) = rowS64 (v3108 I) := rfl
theorem st_19_2 (I : In F) : (k0_pay409 (v3173 I) (v3249 I) (v3325 I) (v3401 I)) = rowS64 (h1 I 2) := by
  rw [st_19_2_local, h1_2]
theorem st_14_2_local (I : In F) : (k0_pay411 (v3184 I) (v3260 I) (v3336 I) (v3401 I) (v3405 I) (v3406 I) (ld7 I) (ld8 I)) = dens I (v3108 I) := rfl
theorem st_14_2 (I : In F) : (k0_pay411 (v3184 I) (v3260 I) (v3336 I) (v3401 I) (v3405 I) (v3406 I) (ld7 I) (ld8 I)) = dens I (h1 I 2) := by
  rw [st_14_2_local, h1_2]
theorem st_20_2_local (I : In F) : (k0_pay427 (v3508 I) (v3584 I)) = rowC32 (v3436 I) := rfl
theorem st_20_2 (I : In F) : (k0_pay427 (v3508 I) (v3584 I)) = rowC32 (cin I 2) := by
  rw [st_20_2_local, cin_2]
theorem st_21_2_local (I : In F) : (k0_pay428 (v3501 I) (v3577 I)) = rowS32 (v3436 I) := rfl
theorem st_21_2 (I : In F) : (k0_pay428 (v3501 I) (v3577 I)) = rowS32 (cin I 2) := by
  rw [st_21_2_local, cin_2]
theorem st_22_2_local (I : In F) : (k0_pay465 (v3677 I) (v3753 I) (v3829 I) (v3905 I)) = rowC64 (v3605 I) := rfl
theorem st_22_2 (I : In F) : (k0_pay465 (v3677 I) (v3753 I) (v3829 I) (v3905 I)) = rowC64 (g1 I 2) := by
  rw [st_22_2_local, g1_2]
theorem st_23_2_local (I : In F) : (k0_pay466 (v3670 I) (v3746 I) (v3822 I) (v3898 I)) = rowS64 (v3605 I) := rfl
theorem st_23_2 (I : In F) : (k0_pay466 (v3670 I) (v3746 I) (v3822 I) (v3898 I)) = rowS64 (g1 I 2) := by
  rw [st_23_2_local, g1_2]
theorem st_24_2_local (I : In F) : (k0_pay504 (v3998 I) (v4074 I) (v4150 I) (v4226 I)) = rowC64 (v3926 I) := rfl
theorem st_24_2 (I : In F) : (k0_pay504 (v3998 I) (v4074 I) (v4150 I) (v4226 I)) = rowC64 (g2 I 2) := by
  rw [st_24_2_local, g2_2]
theorem st_25_2_local (I : In F) : (k0_pay505 (v3991 I) (v4067 I) (v4143 I) (v4219 I)) = rowS64 (v3926 I) := rfl
theorem st_25_2 (I : In F) : (k0_pay505 (v3991 I) (v4067 I) (v4143 I) (v4219 I)) = rowS64 (g2 I 2) := by
  rw [st_25_2_local, g2_2]
theorem st_15_0_2_local (I : In F) : (k0_pay507 (v4002 I) (v4078 I) (v4154 I) (v4229 I) (ld13 I) (ld14 I)) = red I (v3926 I) := rfl
theorem st_15_0_2 (I : In F) : (k0_pay507 (v4002 I) (v4078 I) (v4154 I) (v4229 I) (ld13 I) (ld14 I)) = red I (g2 I 2) := by
  rw [st_15_0_2_local, g2_2]
theorem st_15_1_2_local (I : In F) : (k0_pay508 (v4002 I) (v4078 I) (v4154 I) (v4229 I) (ld13 I) (ld14 I)) = green I (v3926 I) := rfl
theorem st_15_1_2 (I : In F) : (k0_pay508 (v4002 I) (v4078 I) (v4154 I) (v4229 I) (ld13 I) (ld14 I)) = green I (g2 I 2) := by
  rw [st_15_1_2_local, g2_2]
theorem st_15_2_2_local (I : In F) : (k0_pay510 (v4262 I)) = blue I (v3926 I) := rfl
theorem st_15_2_2 (I : In F) : (k0_pay510 (v4262 I)) = blue I (g2 I 2) := by
  rw [st_15_2_2_local, g2_2]

end Cert.KernelIdeal.Body

end

end
-- ==== Proof.KernelIdeal.Ray3.lean ====
module

public import proofs.«01_k».proof.Proof.KernelIdeal.Vals

/-! The values of ray 3 are the stages named in `Vocab`. -/

@[expose] public section

set_option synthInstance.maxSize 4096
set_option maxRecDepth 16384

noncomputable section

namespace Cert.KernelIdeal.Body

open Cert.KernelIdeal Cert.KernelIdeal.Gen
open Idealize.ShloMosaic Idealize.ShloMosaic.TcCoe Idealize.SL Idealize.SL.Sem

variable {F : FTy → Type} [FloatOps F]

theorem enc_3_local (I : In F) : v4361 I = enc I 3 := rfl
theorem enc_3 (I : In F) : v4361 I = enc I 3 := enc_3_local I
theorem h1_3_local (I : In F) : v4530 I = lay1 I (v4361 I) := rfl
theorem h1_3 (I : In F) : v4530 I = h1 I 3 := by
  rw [h1_3_local, enc_3]; rfl
theorem cin_3_local (I : In F) : v4858 I = join I 3 (v4530 I) := rfl
theorem cin_3 (I : In F) : v4858 I = cin I 3 := by
  rw [cin_3_local, h1_3]; rfl
theorem g1_3_local (I : In F) : v5027 I = lay3 I (v4858 I) := rfl
theorem g1_3 (I : In F) : v5027 I = g1 I 3 := by
  rw [g1_3_local, cin_3]; rfl
theorem g2_3_local (I : In F) : v5348 I = lay4 I (v5027 I) := rfl
theorem g2_3 (I : In F) : v5348 I = g2 I 3 := by
  rw [g2_3_local, g1_3]; rfl
theorem st_16_3_local (I : In F) : (k0_pay537 (v4433 I) (v4504 I) (Scalar.ofBits .f32 0x43E00000#32 : F .f32) (v4505 I)) = rowC32 (v4361 I) := rfl
theorem st_16_3 (I : In F) : (k0_pay537 (v4433 I) (v4504 I) (Scalar.ofBits .f32 0x43E00000#32 : F .f32) (v4505 I)) = rowC32 (enc I 3) := by
  rw [st_16_3_local, enc_3]
theorem st_17_3_local (I : In F) : (k0_pay538 (v4426 I) (v4502 I)) = rowS32 (v4361 I) := rfl
theorem st_17_3 (I : In F) : (k0_pay538 (v4426 I) (v4502 I)) = rowS32 (enc I 3) := by
  rw [st_17_3_local, enc_3]
theorem st_18_3_local (I : In F) : (k0_pay578 (v4602 I) (v4678 I) (v4754 I) (Scalar.ofBits .f32 0x43E00000#32 : F .f32) (v4827 I)) = rowC64 (v4530 I) := rfl
theorem st_18_3 (I : In F) : (k0_pay578 (v4602 I) (v4678 I) (v4754 I) (Scalar.ofBits .f32 0x43E00000#32 : F .f32) (v4827 I)) = rowC64 (h1 I 3) := by
  rw [st_18_3_local, h1_3]
theorem st_19_3_local (I : In F) : (k0_pay579 (v4595 I) (v4671 I) (v4747 I) (v4823 I)) = rowS64 (v4530 I) := rfl
theorem st_19_3 (I : In F) : (k0_pay579 (v4595 I) (v4671 I) (v4747 I) (v4823 I)) = rowS64 (h1 I 3) := by
  rw [st_19_3_local, h1_3]
theorem st_14_3_local (I : In F) : (k0_pay581 (v4606 I) (v4682 I) (v4758 I) (v4823 I) (Scalar.ofBits .f32 0x43E00000#32 : F .f32) (v4827 I) (ld7 I) (ld8 I)) = dens I (v4530 I) := rfl
theorem st_14_3 (I : In F) : (k0_pay581 (v4606 I) (v4682 I) (v4758 I) (v4823 I) (Scalar.ofBits .f32 0x43E00000#32 : F .f32) (v4827 I) (ld7 I) (ld8 I)) = dens I (h1 I 3) := by
  rw [st_14_3_local, h1_3]
theorem st_20_3_local (I : In F) : (k0_pay598 (v4930 I) (v5006 I)) = rowC32 (v4858 I) := rfl
theorem st_20_3 (I : In F) : (k0_pay598 (v4930 I) (v5006 I)) = rowC32 (cin I 3) := by
  rw [st_20_3_local, cin_3]
theorem st_21_3_local (I : In F) : (k0_pay599 (v4923 I) (v4999 I)) = rowS32 (v4858 I) := rfl
theorem st_21_3 (I : In F) : (k0_pay599 (v4923 I) (v4999 I)) = rowS32 (cin I 3) := by
  rw [st_21_3_local, cin_3]
theorem st_22_3_local (I : In F) : (k0_pay632 (v5099 I) (v5175 I) (v5251 I) (v5327 I)) = rowC64 (v5027 I) := rfl
theorem st_22_3 (I : In F) : (k0_pay632 (v5099 I) (v5175 I) (v5251 I) (v5327 I)) = rowC64 (g1 I 3) := by
  rw [st_22_3_local, g1_3]
theorem st_23_3_local (I : In F) : (k0_pay633 (v5092 I) (v5168 I) (v5244 I) (v5320 I)) = rowS64 (v5027 I) := rfl
theorem st_23_3 (I : In F) : (k0_pay633 (v5092 I) (v5168 I) (v5244 I) (v5320 I)) = rowS64 (g1 I 3) := by
  rw [st_23_3_local, g1_3]
theorem st_24_3_local (I : In F) : (k0_pay670 (v5420 I) (v5496 I) (v5572 I) (v5648 I)) = rowC64 (v5348 I) := rfl
theorem st_24_3 (I : In F) : (k0_pay670 (v5420 I) (v5496 I) (v5572 I) (v5648 I)) = rowC64 (g2 I 3) := by
  rw [st_24_3_local, g2_3]
theorem st_25_3_local (I : In F) : (k0_pay671 (v5413 I) (v5489 I) (v5565 I) (v5641 I)) = rowS64 (v5348 I) := rfl
theorem st_25_3 (I : In F) : (k0_pay671 (v5413 I) (v5489 I) (v5565 I) (v5641 I)) = rowS64 (g2 I 3) := by
  rw [st_25_3_local, g2_3]
theorem st_15_0_3_local (I : In F) : (k0_pay673 (v5424 I) (v5500 I) (v5576 I) (v5649 I) (v5650 I) (ld13 I) (ld14 I)) = red I (v5348 I) := rfl
theorem st_15_0_3 (I : In F) : (k0_pay673 (v5424 I) (v5500 I) (v5576 I) (v5649 I) (v5650 I) (ld13 I) (ld14 I)) = red I (g2 I 3) := by
  rw [st_15_0_3_local, g2_3]
theorem st_15_1_3_local (I : In F) : (k0_pay674 (v5424 I) (v5500 I) (v5576 I) (v5649 I) (v5650 I) (ld13 I) (ld14 I)) = green I (v5348 I) := rfl
theorem st_15_1_3 (I : In F) : (k0_pay674 (v5424 I) (v5500 I) (v5576 I) (v5649 I) (v5650 I) (ld13 I) (ld14 I)) = green I (g2 I 3) := by
  rw [st_15_1_3_local, g2_3]
theorem st_15_2_3_local (I : In F) : (k0_pay676 (v5684 I)) = blue I (v5348 I) := rfl
theorem st_15_2_3 (I : In F) : (k0_pay676 (v5684 I)) = blue I (g2 I 3) := by
  rw [st_15_2_3_local, g2_3]

end Cert.KernelIdeal.Body

end

end
-- ==== Proof.KernelIdeal.Ray4.lean ====
module

public import proofs.«01_k».proof.Proof.KernelIdeal.Vals

/-! The values of ray 4 are the stages named in `Vocab`. -/

@[expose] public section

set_option synthInstance.maxSize 4096
set_option maxRecDepth 16384

noncomputable section

namespace Cert.KernelIdeal.Body

open Cert.KernelIdeal Cert.KernelIdeal.Gen
open Idealize.ShloMosaic Idealize.ShloMosaic.TcCoe Idealize.SL Idealize.SL.Sem

variable {F : FTy → Type} [FloatOps F]

theorem enc_4_local (I : In F) : v5783 I = enc I 4 := rfl
theorem enc_4 (I : In F) : v5783 I = enc I 4 := enc_4_local I
theorem h1_4_local (I : In F) : v5952 I = lay1 I (v5783 I) := rfl
theorem h1_4 (I : In F) : v5952 I = h1 I 4 := by
  rw [h1_4_local, enc_4]; rfl
theorem cin_4_local (I : In F) : v6280 I = join I 4 (v5952 I) := rfl
theorem cin_4 (I : In F) : v6280 I = cin I 4 := by
  rw [cin_4_local, h1_4]; rfl
theorem g1_4_local (I : In F) : v6449 I = lay3 I (v6280 I) := rfl
theorem g1_4 (I : In F) : v6449 I = g1 I 4 := by
  rw [g1_4_local, cin_4]; rfl
theorem g2_4_local (I : In F) : v6770 I = lay4 I (v6449 I) := rfl
theorem g2_4 (I : In F) : v6770 I = g2 I 4 := by
  rw [g2_4_local, g1_4]; rfl
theorem st_16_4_local (I : In F) : (k0_pay702 (v5855 I) (v5926 I) (Scalar.ofBits .f32 0xC3E00000#32 : F .f32) (Scalar.ofBits .f32 0x43E00000#32 : F .f32)) = rowC32 (v5783 I) := rfl
theorem st_16_4 (I : In F) : (k0_pay702 (v5855 I) (v5926 I) (Scalar.ofBits .f32 0xC3E00000#32 : F .f32) (Scalar.ofBits .f32 0x43E00000#32 : F .f32)) = rowC32 (enc I 4) := by
  rw [st_16_4_local, enc_4]
theorem st_17_4_local (I : In F) : (k0_pay703 (v5848 I) (v5924 I)) = rowS32 (v5783 I) := rfl
theorem st_17_4 (I : In F) : (k0_pay703 (v5848 I) (v5924 I)) = rowS32 (enc I 4) := by
  rw [st_17_4_local, enc_4]
theorem st_18_4_local (I : In F) : (k0_pay741 (v6024 I) (v6100 I) (v6176 I) (v6247 I) (Scalar.ofBits .f32 0x43E00000#32 : F .f32) (v6248 I)) = rowC64 (v5952 I) := rfl
theorem st_18_4 (I : In F) : (k0_pay741 (v6024 I) (v6100 I) (v6176 I) (v6247 I) (Scalar.ofBits .f32 0x43E00000#32 : F .f32) (v6248 I)) = rowC64 (h1 I 4) := by
  rw [st_18_4_local, h1_4]
theorem st_19_4_local (I : In F) : (k0_pay742 (v6017 I) (v6093 I) (v6169 I) (v6245 I)) = rowS64 (v5952 I) := rfl
theorem st_19_4 (I : In F) : (k0_pay742 (v6017 I) (v6093 I) (v6169 I) (v6245 I)) = rowS64 (h1 I 4) := by
  rw [st_19_4_local, h1_4]
theorem st_14_4_local (I : In F) : (k0_pay744 (v6028 I) (v6104 I) (v6180 I) (v6245 I) (v6247 I) (Scalar.ofBits .f32 0x43E00000#32 : F .f32) (v6248 I) (ld7 I) (ld8 I)) = dens I (v5952 I) := rfl
theorem st_14_4 (I : In F) : (k0_pay744 (v6028 I) (v6104 I) (v6180 I) (v6245 I) (v6247 I) (Scalar.ofBits .f32 0x43E00000#32 : F .f32) (v6248 I) (ld7 I) (ld8 I)) = dens I (h1 I 4) := by
  rw [st_14_4_local, h1_4]
theorem st_20_4_local (I : In F) : (k0_pay764 (v6352 I) (v6427 I)) = rowC32 (v6280 I) := rfl
theorem st_20_4 (I : In F) : (k0_pay764 (v6352 I) (v6427 I)) = rowC32 (cin I 4) := by
  rw [st_20_4_local, cin_4]
theorem st_21_4_local (I : In F) : (k0_pay765 (v6345 I) (v6421 I)) = rowS32 (v6280 I) := rfl
theorem st_21_4 (I : In F) : (k0_pay765 (v6345 I) (v6421 I)) = rowS32 (cin I 4) := by
  rw [st_21_4_local, cin_4]
theorem st_22_4_local (I : In F) : (k0_pay798 (v6521 I) (v6597 I) (v6673 I) (v6749 I)) = rowC64 (v6449 I) := rfl
theorem st_22_4 (I : In F) : (k0_pay798 (v6521 I) (v6597 I) (v6673 I) (v6749 I)) = rowC64 (g1 I 4) := by
  rw [st_22_4_local, g1_4]
theorem st_23_4_local (I : In F) : (k0_pay799 (v6514 I) (v6590 I) (v6666 I) (v6742 I)) = rowS64 (v6449 I) := rfl
theorem st_23_4 (I : In F) : (k0_pay799 (v6514 I) (v6590 I) (v6666 I) (v6742 I)) = rowS64 (g1 I 4) := by
  rw [st_23_4_local, g1_4]
theorem st_24_4_local (I : In F) : (k0_pay832 (v6842 I) (v6918 I) (v6994 I) (v7070 I)) = rowC64 (v6770 I) := rfl
theorem st_24_4 (I : In F) : (k0_pay832 (v6842 I) (v6918 I) (v6994 I) (v7070 I)) = rowC64 (g2 I 4) := by
  rw [st_24_4_local, g2_4]
theorem st_25_4_local (I : In F) : (k0_pay833 (v6835 I) (v6911 I) (v6987 I) (v7063 I)) = rowS64 (v6770 I) := rfl
theorem st_25_4 (I : In F) : (k0_pay833 (v6835 I) (v6911 I) (v6987 I) (v7063 I)) = rowS64 (g2 I 4) := by
  rw [st_25_4_local, g2_4]
theorem st_15_0_4_local (I : In F) : (k0_pay835 (v6846 I) (v6922 I) (v6998 I) (v7063 I) (v7071 I) (ld13 I) (ld14 I)) = red I (v6770 I) := rfl
theorem st_15_0_4 (I : In F) : (k0_pay835 (v6846 I) (v6922 I) (v6998 I) (v7063 I) (v7071 I) (ld13 I) (ld14 I)) = red I (g2 I 4) := by
  rw [st_15_0_4_local, g2_4]
theorem st_15_1_4_local (I : In F) : (k0_pay836 (v6846 I) (v6922 I) (v6998 I) (v7063 I) (v7071 I) (ld13 I) (ld14 I)) = green I (v6770 I) := rfl
theorem st_15_1_4 (I : In F) : (k0_pay836 (v6846 I) (v6922 I) (v6998 I) (v7063 I) (v7071 I) (ld13 I) (ld14 I)) = green I (g2 I 4) := by
  rw [st_15_1_4_local, g2_4]
theorem st_15_2_4_local (I : In F) : (k0_pay838 (v7106 I)) = blue I (v6770 I) := rfl
theorem st_15_2_4 (I : In F) : (k0_pay838 (v7106 I)) = blue I (g2 I 4) := by
  rw [st_15_2_4_local, g2_4]

end Cert.KernelIdeal.Body

end

end
-- ==== Proof.KernelIdeal.Ray5.lean ====
module

public import proofs.«01_k».proof.Proof.KernelIdeal.Vals

/-! The values of ray 5 are the stages named in `Vocab`. -/

@[expose] public section

set_option synthInstance.maxSize 4096
set_option maxRecDepth 16384

noncomputable section

namespace Cert.KernelIdeal.Body

open Cert.KernelIdeal Cert.KernelIdeal.Gen
open Idealize.ShloMosaic Idealize.ShloMosaic.TcCoe Idealize.SL Idealize.SL.Sem

variable {F : FTy → Type} [FloatOps F]

theorem enc_5_local (I : In F) : v7205 I = enc I 5 := rfl
theorem enc_5 (I : In F) : v7205 I = enc I 5 := enc_5_local I
theorem h1_5_local (I : In F) : v7374 I = lay1 I (v7205 I) := rfl
theorem h1_5 (I : In F) : v7374 I = h1 I 5 := by
  rw [h1_5_local, enc_5]; rfl
theorem cin_5_local (I : In F) : v7702 I = join I 5 (v7374 I) := rfl
theorem cin_5 (I : In F) : v7702 I = cin I 5 := by
  rw [cin_5_local, h1_5]; rfl
theorem g1_5_local (I : In F) : v7871 I = lay3 I (v7702 I) := rfl
theorem g1_5 (I : In F) : v7871 I = g1 I 5 := by
  rw [g1_5_local, cin_5]; rfl
theorem g2_5_local (I : In F) : v8192 I = lay4 I (v7871 I) := rfl
theorem g2_5 (I : In F) : v8192 I = g2 I 5 := by
  rw [g2_5_local, g1_5]; rfl
theorem st_16_5_local (I : In F) : (k0_pay865 (v7277 I) (v7348 I) (Scalar.ofBits .f32 0xC3E00000#32 : F .f32)) = rowC32 (v7205 I) := rfl
theorem st_16_5 (I : In F) : (k0_pay865 (v7277 I) (v7348 I) (Scalar.ofBits .f32 0xC3E00000#32 : F .f32)) = rowC32 (enc I 5) := by
  rw [st_16_5_local, enc_5]
theorem st_17_5_local (I : In F) : (k0_pay866 (v7270 I) (v7346 I)) = rowS32 (v7205 I) := rfl
theorem st_17_5 (I : In F) : (k0_pay866 (v7270 I) (v7346 I)) = rowS32 (enc I 5) := by
  rw [st_17_5_local, enc_5]
theorem st_18_5_local (I : In F) : (k0_pay901 (v7446 I) (v7522 I) (v7598 I) (v7669 I) (Scalar.ofBits .f32 0xC3E00000#32 : F .f32) (Scalar.ofBits .f32 0x43E00000#32 : F .f32)) = rowC64 (v7374 I) := rfl
theorem st_18_5 (I : In F) : (k0_pay901 (v7446 I) (v7522 I) (v7598 I) (v7669 I) (Scalar.ofBits .f32 0xC3E00000#32 : F .f32) (Scalar.ofBits .f32 0x43E00000#32 : F .f32)) = rowC64 (h1 I 5) := by
  rw [st_18_5_local, h1_5]
theorem st_19_5_local (I : In F) : (k0_pay902 (v7439 I) (v7515 I) (v7591 I) (v7667 I)) = rowS64 (v7374 I) := rfl
theorem st_19_5 (I : In F) : (k0_pay902 (v7439 I) (v7515 I) (v7591 I) (v7667 I)) = rowS64 (h1 I 5) := by
  rw [st_19_5_local, h1_5]
theorem st_14_5_local (I : In F) : (k0_pay904 (v7450 I) (v7526 I) (v7602 I) (v7667 I) (v7669 I) (Scalar.ofBits .f32 0xC3E00000#32 : F .f32) (Scalar.ofBits .f32 0x43E00000#32 : F .f32) (ld7 I) (ld8 I)) = dens I (v7374 I) := rfl
theorem st_14_5 (I : In F) : (k0_pay904 (v7450 I) (v7526 I) (v7602 I) (v7667 I) (v7669 I) (Scalar.ofBits .f32 0xC3E00000#32 : F .f32) (Scalar.ofBits .f32 0x43E00000#32 : F .f32) (ld7 I) (ld8 I)) = dens I (h1 I 5) := by
  rw [st_14_5_local, h1_5]
theorem st_20_5_local (I : In F) : (k0_pay923 (v7774 I) (v7847 I) (v7848 I)) = rowC32 (v7702 I) := rfl
theorem st_20_5 (I : In F) : (k0_pay923 (v7774 I) (v7847 I) (v7848 I)) = rowC32 (cin I 5) := by
  rw [st_20_5_local, cin_5]
theorem st_21_5_local (I : In F) : (k0_pay924 (v7767 I) (v7843 I)) = rowS32 (v7702 I) := rfl
theorem st_21_5 (I : In F) : (k0_pay924 (v7767 I) (v7843 I)) = rowS32 (cin I 5) := by
  rw [st_21_5_local, cin_5]
theorem st_22_5_local (I : In F) : (k0_pay960 (v7943 I) (v8019 I) (v8095 I) (v8170 I)) = rowC64 (v7871 I) := rfl
theorem st_22_5 (I : In F) : (k0_pay960 (v7943 I) (v8019 I) (v8095 I) (v8170 I)) = rowC64 (g1 I 5) := by
  rw [st_22_5_local, g1_5]
theorem st_23_5_local (I : In F) : (k0_pay961 (v7936 I) (v8012 I) (v8088 I) (v8164 I)) = rowS64 (v7871 I) := rfl
theorem st_23_5 (I : In F) : (k0_pay961 (v7936 I) (v8012 I) (v8088 I) (v8164 I)) = rowS64 (g1 I 5) := by
  rw [st_23_5_local, g1_5]
theorem st_24_5_local (I : In F) : (k0_pay994 (v8264 I) (v8340 I) (v8416 I) (v8492 I)) = rowC64 (v8192 I) := rfl
theorem st_24_5 (I : In F) : (k0_pay994 (v8264 I) (v8340 I) (v8416 I) (v8492 I)) = rowC64 (g2 I 5) := by
  rw [st_24_5_local, g2_5]
theorem st_25_5_local (I : In F) : (k0_pay995 (v8257 I) (v8333 I) (v8409 I) (v8485 I)) = rowS64 (v8192 I) := rfl
theorem st_25_5 (I : In F) : (k0_pay995 (v8257 I) (v8333 I) (v8409 I) (v8485 I)) = rowS64 (g2 I 5) := by
  rw [st_25_5_local, g2_5]
theorem st_15_0_5_local (I : In F) : (k0_pay997 (v8268 I) (v8344 I) (v8420 I) (v8485 I) (v8492 I) (ld13 I) (ld14 I)) = red I (v8192 I) := rfl
theorem st_15_0_5 (I : In F) : (k0_pay997 (v8268 I) (v8344 I) (v8420 I) (v8485 I) (v8492 I) (ld13 I) (ld14 I)) = red I (g2 I 5) := by
  rw [st_15_0_5_local, g2_5]
theorem st_15_1_5_local (I : In F) : (k0_pay998 (v8268 I) (v8344 I) (v8420 I) (v8485 I) (v8492 I) (ld13 I) (ld14 I)) = green I (v8192 I) := rfl
theorem st_15_1_5 (I : In F) : (k0_pay998 (v8268 I) (v8344 I) (v8420 I) (v8485 I) (v8492 I) (ld13 I) (ld14 I)) = green I (g2 I 5) := by
  rw [st_15_1_5_local, g2_5]
theorem st_15_2_5_local (I : In F) : (k0_pay1000 (v8528 I)) = blue I (v8192 I) := rfl
theorem st_15_2_5 (I : In F) : (k0_pay1000 (v8528 I)) = blue I (g2 I 5) := by
  rw [st_15_2_5_local, g2_5]

end Cert.KernelIdeal.Body

end

end
-- ==== Proof.KernelIdeal.Ray6.lean ====
module

public import proofs.«01_k».proof.Proof.KernelIdeal.Vals

/-! The values of ray 6 are the stages named in `Vocab`. -/

@[expose] public section

set_option synthInstance.maxSize 4096
set_option maxRecDepth 16384

noncomputable section

namespace Cert.KernelIdeal.Body

open Cert.KernelIdeal Cert.KernelIdeal.Gen
open Idealize.ShloMosaic Idealize.ShloMosaic.TcCoe Idealize.SL Idealize.SL.Sem

variable {F : FTy → Type} [FloatOps F]

theorem enc_6_local (I : In F) : v8627 I = enc I 6 := rfl
theorem enc_6 (I : In F) : v8627 I = enc I 6 := enc_6_local I
theorem h1_6_local (I : In F) : v8796 I = lay1 I (v8627 I) := rfl
theorem h1_6 (I : In F) : v8796 I = h1 I 6 := by
  rw [h1_6_local, enc_6]; rfl
theorem cin_6_local (I : In F) : v9124 I = join I 6 (v8796 I) := rfl
theorem cin_6 (I : In F) : v9124 I = cin I 6 := by
  rw [cin_6_local, h1_6]; rfl
theorem g1_6_local (I : In F) : v9293 I = lay3 I (v9124 I) := rfl
theorem g1_6 (I : In F) : v9293 I = g1 I 6 := by
  rw [g1_6_local, cin_6]; rfl
theorem g2_6_local (I : In F) : v9614 I = lay4 I (v9293 I) := rfl
theorem g2_6 (I : In F) : v9614 I = g2 I 6 := by
  rw [g2_6_local, g1_6]; rfl
theorem st_16_6_local (I : In F) : (k0_pay1027 (v8699 I) (v8770 I)) = rowC32 (v8627 I) := rfl
theorem st_16_6 (I : In F) : (k0_pay1027 (v8699 I) (v8770 I)) = rowC32 (enc I 6) := by
  rw [st_16_6_local, enc_6]
theorem st_17_6_local (I : In F) : (k0_pay1028 (v8692 I) (v8768 I)) = rowS32 (v8627 I) := rfl
theorem st_17_6 (I : In F) : (k0_pay1028 (v8692 I) (v8768 I)) = rowS32 (enc I 6) := by
  rw [st_17_6_local, enc_6]
theorem st_18_6_local (I : In F) : (k0_pay1063 (v8868 I) (v8944 I) (v9020 I) (v9091 I) (Scalar.ofBits .f32 0xC3E00000#32 : F .f32)) = rowC64 (v8796 I) := rfl
theorem st_18_6 (I : In F) : (k0_pay1063 (v8868 I) (v8944 I) (v9020 I) (v9091 I) (Scalar.ofBits .f32 0xC3E00000#32 : F .f32)) = rowC64 (h1 I 6) := by
  rw [st_18_6_local, h1_6]
theorem st_19_6_local (I : In F) : (k0_pay1064 (v8861 I) (v8937 I) (v9013 I) (v9089 I)) = rowS64 (v8796 I) := rfl
theorem st_19_6 (I : In F) : (k0_pay1064 (v8861 I) (v8937 I) (v9013 I) (v9089 I)) = rowS64 (h1 I 6) := by
  rw [st_19_6_local, h1_6]
theorem st_14_6_local (I : In F) : (k0_pay1066 (v8872 I) (v8948 I) (v9024 I) (v9089 I) (v9091 I) (Scalar.ofBits .f32 0xC3E00000#32 : F .f32) (ld7 I) (ld8 I)) = dens I (v8796 I) := rfl
theorem st_14_6 (I : In F) : (k0_pay1066 (v8872 I) (v8948 I) (v9024 I) (v9089 I) (v9091 I) (Scalar.ofBits .f32 0xC3E00000#32 : F .f32) (ld7 I) (ld8 I)) = dens I (h1 I 6) := by
  rw [st_14_6_local, h1_6]
theorem st_20_6_local (I : In F) : (k0_pay1086 (v9196 I) (Scalar.ofBits .f32 0x43E00000#32 : F .f32) (v9269 I)) = rowC32 (v9124 I) := rfl
theorem st_20_6 (I : In F) : (k0_pay1086 (v9196 I) (Scalar.ofBits .f32 0x43E00000#32 : F .f32) (v9269 I)) = rowC32 (cin I 6) := by
  rw [st_20_6_local, cin_6]
theorem st_21_6_local (I : In F) : (k0_pay1087 (v9189 I) (v9265 I)) = rowS32 (v9124 I) := rfl
theorem st_21_6 (I : In F) : (k0_pay1087 (v9189 I) (v9265 I)) = rowS32 (cin I 6) := by
  rw [st_21_6_local, cin_6]
theorem st_22_6_local (I : In F) : (k0_pay1125 (v9365 I) (v9441 I) (v9517 I) (v9590 I) (v9591 I)) = rowC64 (v9293 I) := rfl
theorem st_22_6 (I : In F) : (k0_pay1125 (v9365 I) (v9441 I) (v9517 I) (v9590 I) (v9591 I)) = rowC64 (g1 I 6) := by
  rw [st_22_6_local, g1_6]
theorem st_23_6_local (I : In F) : (k0_pay1126 (v9358 I) (v9434 I) (v9510 I) (v9586 I)) = rowS64 (v9293 I) := rfl
theorem st_23_6 (I : In F) : (k0_pay1126 (v9358 I) (v9434 I) (v9510 I) (v9586 I)) = rowS64 (g1 I 6) := by
  rw [st_23_6_local, g1_6]
theorem st_24_6_local (I : In F) : (k0_pay1162 (v9686 I) (v9762 I) (v9838 I) (v9913 I)) = rowC64 (v9614 I) := rfl
theorem st_24_6 (I : In F) : (k0_pay1162 (v9686 I) (v9762 I) (v9838 I) (v9913 I)) = rowC64 (g2 I 6) := by
  rw [st_24_6_local, g2_6]
theorem st_25_6_local (I : In F) : (k0_pay1163 (v9679 I) (v9755 I) (v9831 I) (v9907 I)) = rowS64 (v9614 I) := rfl
theorem st_25_6 (I : In F) : (k0_pay1163 (v9679 I) (v9755 I) (v9831 I) (v9907 I)) = rowS64 (g2 I 6) := by
  rw [st_25_6_local, g2_6]
theorem st_15_0_6_local (I : In F) : (k0_pay1165 (v9690 I) (v9766 I) (v9842 I) (v9907 I) (v9913 I) (ld13 I) (ld14 I)) = red I (v9614 I) := rfl
theorem st_15_0_6 (I : In F) : (k0_pay1165 (v9690 I) (v9766 I) (v9842 I) (v9907 I) (v9913 I) (ld13 I) (ld14 I)) = red I (g2 I 6) := by
  rw [st_15_0_6_local, g2_6]
theorem st_15_1_6_local (I : In F) : (k0_pay1166 (v9690 I) (v9766 I) (v9842 I) (v9907 I) (v9913 I) (ld13 I) (ld14 I)) = green I (v9614 I) := rfl
theorem st_15_1_6 (I : In F) : (k0_pay1166 (v9690 I) (v9766 I) (v9842 I) (v9907 I) (v9913 I) (ld13 I) (ld14 I)) = green I (g2 I 6) := by
  rw [st_15_1_6_local, g2_6]
theorem st_15_2_6_local (I : In F) : (k0_pay1167 (v9941 I)) = blue I (v9614 I) := rfl
theorem st_15_2_6 (I : In F) : (k0_pay1167 (v9941 I)) = blue I (g2 I 6) := by
  rw [st_15_2_6_local, g2_6]

end Cert.KernelIdeal.Body

end

end
-- ==== Proof.KernelIdeal.Ray7.lean ====
module

public import proofs.«01_k».proof.Proof.KernelIdeal.Vals

/-! The values of ray 7 are the stages named in `Vocab`. -/

@[expose] public section

set_option synthInstance.maxSize 4096
set_option maxRecDepth 16384

noncomputable section

namespace Cert.KernelIdeal.Body

open Cert.KernelIdeal Cert.KernelIdeal.Gen
open Idealize.ShloMosaic Idealize.ShloMosaic.TcCoe Idealize.SL Idealize.SL.Sem

variable {F : FTy → Type} [FloatOps F]

theorem enc_7_local (I : In F) : v10049 I = enc I 7 := rfl
theorem enc_7 (I : In F) : v10049 I = enc I 7 := enc_7_local I
theorem h1_7_local (I : In F) : v10218 I = lay1 I (v10049 I) := rfl
theorem h1_7 (I : In F) : v10218 I = h1 I 7 := by
  rw [h1_7_local, enc_7]; rfl
theorem cin_7_local (I : In F) : v10546 I = join I 7 (v10218 I) := rfl
theorem cin_7 (I : In F) : v10546 I = cin I 7 := by
  rw [cin_7_local, h1_7]; rfl
theorem g1_7_local (I : In F) : v10715 I = lay3 I (v10546 I) := rfl
theorem g1_7 (I : In F) : v10715 I = g1 I 7 := by
  rw [g1_7_local, cin_7]; rfl
theorem g2_7_local (I : In F) : v11036 I = lay4 I (v10715 I) := rfl
theorem g2_7 (I : In F) : v11036 I = g2 I 7 := by
  rw [g2_7_local, g1_7]; rfl
theorem st_16_7_local (I : In F) : (k0_pay1197 (v10121 I) (v10126 I) (v10191 I)) = rowC32 (v10049 I) := rfl
theorem st_16_7 (I : In F) : (k0_pay1197 (v10121 I) (v10126 I) (v10191 I)) = rowC32 (enc I 7) := by
  rw [st_16_7_local, enc_7]
theorem st_17_7_local (I : In F) : (k0_pay1198 (v10114 I) (v10190 I)) = rowS32 (v10049 I) := rfl
theorem st_17_7 (I : In F) : (k0_pay1198 (v10114 I) (v10190 I)) = rowS32 (enc I 7) := by
  rw [st_17_7_local, enc_7]
theorem st_18_7_local (I : In F) : (k0_pay1233 (v10290 I) (v10366 I) (v10442 I) (v10513 I)) = rowC64 (v10218 I) := rfl
theorem st_18_7 (I : In F) : (k0_pay1233 (v10290 I) (v10366 I) (v10442 I) (v10513 I)) = rowC64 (h1 I 7) := by
  rw [st_18_7_local, h1_7]
theorem st_19_7_local (I : In F) : (k0_pay1234 (v10283 I) (v10359 I) (v10435 I) (v10511 I)) = rowS64 (v10218 I) := rfl
theorem st_19_7 (I : In F) : (k0_pay1234 (v10283 I) (v10359 I) (v10435 I) (v10511 I)) = rowS64 (h1 I 7) := by
  rw [st_19_7_local, h1_7]
theorem st_14_7_local (I : In F) : (k0_pay1236 (v10294 I) (v10370 I) (v10446 I) (v10511 I) (v10513 I) (ld7 I) (ld8 I)) = dens I (v10218 I) := rfl
theorem st_14_7 (I : In F) : (k0_pay1236 (v10294 I) (v10370 I) (v10446 I) (v10511 I) (v10513 I) (ld7 I) (ld8 I)) = dens I (h1 I 7) := by
  rw [st_14_7_local, h1_7]
theorem st_20_7_local (I : In F) : (k0_pay1255 (v10618 I) (v10689 I) (Scalar.ofBits .f32 0x43E00000#32 : F .f32) (v10690 I)) = rowC32 (v10546 I) := rfl
theorem st_20_7 (I : In F) : (k0_pay1255 (v10618 I) (v10689 I) (Scalar.ofBits .f32 0x43E00000#32 : F .f32) (v10690 I)) = rowC32 (cin I 7) := by
  rw [st_20_7_local, cin_7]
theorem st_21_7_local (I : In F) : (k0_pay1256 (v10611 I) (v10687 I)) = rowS32 (v10546 I) := rfl
theorem st_21_7 (I : In F) : (k0_pay1256 (v10611 I) (v10687 I)) = rowS32 (cin I 7) := by
  rw [st_21_7_local, cin_7]
theorem st_22_7_local (I : In F) : (k0_pay1296 (v10787 I) (v10863 I) (v10939 I) (Scalar.ofBits .f32 0x43E00000#32 : F .f32) (v11012 I)) = rowC64 (v10715 I) := rfl
theorem st_22_7 (I : In F) : (k0_pay1296 (v10787 I) (v10863 I) (v10939 I) (Scalar.ofBits .f32 0x43E00000#32 : F .f32) (v11012 I)) = rowC64 (g1 I 7) := by
  rw [st_22_7_local, g1_7]
theorem st_23_7_local (I : In F) : (k0_pay1297 (v10780 I) (v10856 I) (v10932 I) (v11008 I)) = rowS64 (v10715 I) := rfl
theorem st_23_7 (I : In F) : (k0_pay1297 (v10780 I) (v10856 I) (v10932 I) (v11008 I)) = rowS64 (g1 I 7) := by
  rw [st_23_7_local, g1_7]
theorem st_24_7_local (I : In F) : (k0_pay1335 (v11108 I) (v11184 I) (v11260 I) (v11333 I) (v11334 I)) = rowC64 (v11036 I) := rfl
theorem st_24_7 (I : In F) : (k0_pay1335 (v11108 I) (v11184 I) (v11260 I) (v11333 I) (v11334 I)) = rowC64 (g2 I 7) := by
  rw [st_24_7_local, g2_7]
theorem st_25_7_local (I : In F) : (k0_pay1336 (v11101 I) (v11177 I) (v11253 I) (v11329 I)) = rowS64 (v11036 I) := rfl
theorem st_25_7 (I : In F) : (k0_pay1336 (v11101 I) (v11177 I) (v11253 I) (v11329 I)) = rowS64 (g2 I 7) := by
  rw [st_25_7_local, g2_7]
theorem st_15_0_7_local (I : In F) : (k0_pay1338 (v11112 I) (v11188 I) (v11264 I) (v11329 I) (v11333 I) (v11334 I) (ld13 I) (ld14 I)) = red I (v11036 I) := rfl
theorem st_15_0_7 (I : In F) : (k0_pay1338 (v11112 I) (v11188 I) (v11264 I) (v11329 I) (v11333 I) (v11334 I) (ld13 I) (ld14 I)) = red I (g2 I 7) := by
  rw [st_15_0_7_local, g2_7]
theorem st_15_1_7_local (I : In F) : (v11371 I) = green I (v11036 I) := rfl
theorem st_15_1_7 (I : In F) : (v11371 I) = green I (g2 I 7) := by
  rw [st_15_1_7_local, g2_7]
theorem st_15_2_7_local (I : In F) : (k0_pay1 (v11363 I)) = blue I (v11036 I) := rfl
theorem st_15_2_7 (I : In F) : (k0_pay1 (v11363 I)) = blue I (g2 I 7) := by
  rw [st_15_2_7_local, g2_7]

end Cert.KernelIdeal.Body

end

end
-- ==== Proof.SubRow.lean ====
/- A store of part of the rows of a block: the block is read, the rows are put in place, the block is written
   back. To a reader it is the plain store of the rows. -/
module

public import Idealize.ShloMosaic.Lib.WritesUnit
public import Idealize.ShloMosaic.Lib.Pipeline.FrameBody

@[expose] public section

namespace Cert.SubRow

open Idealize.ShloMosaic

variable {sig : RefSig} {κ : Kind} {sp : Space} {s : Shape} {e : EltTy} {Val : EltTy → Type}

/-- The block at `off` holds the rows `row` at its own offset `o`, and what was read there elsewhere: to a reader the
    same as the rows stored by themselves at `off + o`. -/
theorem read_sub (v : View sig κ sp s e) (f : v.ty.Contents Val) {off size : Fin s.rank → ℕ}
    (inb : ∀ a, off a + size a ≤ s.size a) (o : Fin s.rank → ℕ) {us : Fin s.rank → ℕ}
    (row : (⟨s.rank, us⟩ : Shape).Idx → Val e) (h : (⟨s.rank, size⟩ : Shape).Slices o ⟨s.rank, us⟩)
    {off' : Fin s.rank → ℕ} (inb' : ∀ a, off' a + us a ≤ s.size a) (hoff : ∀ a, off' a = off a + o a)
    {L L' : List (View.Piece Val s e)} {old : (⟨s.rank, size⟩ : Shape).Idx → Val e}
    (hold : old = v.readAt Val (Rect.unit off size inb).toLoadRect (v.writes Val f L)) (hL : v.read Val (v.writes Val f L) = v.read Val (v.writes Val f L')) :
    v.read Val (v.writes Val f (⟨Rect.unit off size inb,
        updateSlice (s := ⟨s.rank, size⟩) old row o h⟩ :: L))
      = v.read Val (v.writes Val f (⟨Rect.unit off' us inb', row⟩ :: L')) := by
  subst hold
  funext y
  rw [View.read_writes_cons_unit v f inb _ L y rfl, View.read_writes_cons_unit v f inb' _ L' y rfl, ← hL]
  obtain ⟨hr, hs⟩ := h
  by_cases hy : ∀ a, off a ≤ (y a).val ∧ (y a).val < off a + size a
  · rw [dif_pos hy]
    unfold updateSlice
    by_cases hz : ∀ a, off' a ≤ (y a).val ∧ (y a).val < off' a + us a
    · rw [dif_pos hz, dif_pos]
      · refine congrArg row (funext fun a => Fin.ext ?_)
        show (y a).val - off a - o a = (y a).val - off' a
        rw [hoff a]; omega
      · intro a
        show o a ≤ (y a).val - off a ∧ (y a).val - off a < o a + us a
        have h1 := hz a; have h2 := hy a; have h3 := hoff a
        omega
    · rw [dif_neg hz, dif_neg]
      · rw [View.readAt_apply]
        refine congrArg _ (funext fun a => Fin.ext ?_)
        show off a + 1 * ((y a).val - off a) = (y a).val
        have h2 := hy a; omega
      · intro hc
        refine hz fun a => ?_
        have h1 : o a ≤ (y a).val - off a ∧ (y a).val - off a < o a + us a := hc a
        have h2 := hy a; have h3 := hoff a
        omega
  · rw [dif_neg hy, dif_neg]
    intro hz
    refine hy fun a => ?_
    have h1 := hz a; have h3 := hoff a
    have h4 : o a + us a ≤ size a := hs a
    omega

/-- A store of part of the rows of a block, as an operation: the block, the place of the rows in it, the rows, their
    place in the whole, and whether an earlier store has filled the block. -/
structure Op (s : Shape) (e : EltTy) (Val : EltTy → Type) where
  off : Fin s.rank → ℕ
  size : Fin s.rank → ℕ
  inb : ∀ a, off a + size a ≤ s.size a
  o : Fin s.rank → ℕ
  us : Fin s.rank → ℕ
  row : (⟨s.rank, us⟩ : Shape).Idx → Val e
  h : (⟨s.rank, size⟩ : Shape).Slices o ⟨s.rank, us⟩
  off' : Fin s.rank → ℕ
  inb' : ∀ a, off' a + us a ≤ s.size a
  hoff : ∀ a, off' a = off a + o a
  cov : Bool

/-- The rows by themselves. -/
def Op.plain (p : Op s e Val) : View.Piece Val s e := ⟨Rect.unit p.off' p.us p.inb', p.row⟩

/-- Where an operation's block lies, and whether it is filled before. -/
def Op.place (p : Op s e Val) : (Fin s.rank → ℕ) × (Fin s.rank → ℕ) × Bool := (p.off, p.size, p.cov)

variable [∀ e, Nonempty (Val e)]

/-- What is read of the block before the store: the earlier stores where they fill it, what the buffer held where none
    touches it. -/
noncomputable def Op.old (p : Op s e Val) (v : View sig κ sp s e) (f : v.ty.Contents Val) (L : List (View.Piece Val s e)) :
    (⟨s.rank, p.size⟩ : Shape).Idx → Val e :=
  cond p.cov (v.readCov L (Rect.unit p.off p.size p.inb).toLoadRect) (v.readAt Val (Rect.unit p.off p.size p.inb).toLoadRect f)

/-- The stores of a list of operations, the last first: each block as read before, with the rows in place. -/
noncomputable def subs (v : View sig κ sp s e) (f : v.ty.Contents Val) : List (Op s e Val) → List (View.Piece Val s e)
  | [] => []
  | p :: ps => ⟨Rect.unit p.off p.size p.inb,
      updateSlice (s := ⟨s.rank, p.size⟩) (p.old v f (subs v f ps)) p.row p.o p.h⟩ :: subs v f ps

/-- Each block is filled by one earlier store of the same block, or touched by none. -/
def Placed {r : ℕ} : List ((Fin r → ℕ) × (Fin r → ℕ) × Bool) → Prop
  | [] => True
  | p :: ps => cond p.2.2 (∃ q ∈ ps, q.1 = p.1 ∧ q.2.1 = p.2.1)
      (∀ q ∈ ps, ∃ a, q.1 a + q.2.1 a ≤ p.1 a ∨ p.1 a + p.2.1 a ≤ q.1 a) ∧ Placed ps

instance Placed.dec {r : ℕ} : (l : List ((Fin r → ℕ) × (Fin r → ℕ) × Bool)) → Decidable (Placed l)
  | [] => isTrue trivial
  | (_, _, true) :: ps => @instDecidableAnd _ _ (inferInstanceAs (Decidable (∃ q ∈ ps, _ ∧ _))) (Placed.dec ps)
  | (_, _, false) :: ps => @instDecidableAnd _ _ (inferInstanceAs (Decidable (∀ q ∈ ps, ∃ a, _ ∨ _))) (Placed.dec ps)

/-- A store of the list lies on the block of one of its operations. -/
theorem mem_subs (v : View sig κ sp s e) (f : v.ty.Contents Val) (ps : List (Op s e Val)) :
    (∀ p ∈ ps, ∃ q ∈ subs v f ps, q.1 = Rect.unit p.off p.size p.inb)
      ∧ ∀ q ∈ subs v f ps, ∃ p ∈ ps, q.1 = Rect.unit p.off p.size p.inb := by
  induction ps with
  | nil => exact ⟨fun p hp => absurd hp (by simp), fun q hq => absurd hq (by simp [subs])⟩
  | cons p ps ih =>
    constructor
    · intro p' hp'
      rcases List.mem_cons.mp hp' with rfl | hp'
      · exact ⟨_, List.mem_cons_self, rfl⟩
      · obtain ⟨q, hq, e⟩ := ih.1 p' hp'
        exact ⟨q, List.mem_cons_of_mem _ hq, e⟩
    · intro q hq
      rcases List.mem_cons.mp hq with rfl | hq
      · exact ⟨p, List.mem_cons_self, rfl⟩
      · obtain ⟨p', hp', e⟩ := ih.2 q hq
        exact ⟨p', List.mem_cons_of_mem _ hp', e⟩

/-- What is read of a block before the store is what the earlier stores leave there. -/
theorem old_eq (v : View sig κ sp s e) (f : v.ty.Contents Val) (p : Op s e Val) (ps : List (Op s e Val))
    (h : Placed ((p :: ps).map Op.place)) :
    p.old v f (subs v f ps)
      = v.readAt Val (Rect.unit p.off p.size p.inb).toLoadRect (v.writes Val f (subs v f ps)) := by
  obtain ⟨h, -⟩ := h
  have hin : ∀ (j : (Rect.unit p.off p.size p.inb).toLoadRect.shape.Idx) a,
      p.off a ≤ ((Rect.unit p.off p.size p.inb).toLoadRect.idx j a).val
        ∧ ((Rect.unit p.off p.size p.inb).toLoadRect.idx j a).val < p.off a + p.size a := by
    intro j a
    have e : ((Rect.unit p.off p.size p.inb).toLoadRect.idx j a).val = p.off a + 1 * (j a).val := rfl
    have hj : (j a).val < p.size a := (j a).isLt
    omega
  unfold Op.old
  cases hc : p.cov
  · refine (View.readAt_writes_of_forall_not_mem v f _ _ fun j q hq hm => ?_).symm
    obtain ⟨p', hp', e⟩ := (mem_subs v f ps).2 q hq
    have h' : ∀ q ∈ ps.map Op.place, ∃ a, q.1 a + q.2.1 a ≤ p.off a ∨ p.off a + p.size a ≤ q.1 a := by
      have h2 : cond p.cov _ _ := h
      rw [hc] at h2; exact h2
    obtain ⟨a, ha⟩ := h' _ (List.mem_map_of_mem hp')
    rw [e] at hm
    have h1 := Rect.mem_set_unit.mp hm a
    have h2 := hin j a
    have ha' : p'.off a + p'.size a ≤ p.off a ∨ p.off a + p.size a ≤ p'.off a := ha
    omega
  · refine (View.readAt_writes_of_cover v f _ _ fun j => ?_).symm
    have h' : ∃ q ∈ ps.map Op.place, q.1 = p.off ∧ q.2.1 = p.size := by
      have h2 : cond p.cov _ _ := h
      rw [hc] at h2; exact h2
    obtain ⟨_, hq, e1, e2⟩ := h'
    obtain ⟨p', hp', rfl⟩ := List.mem_map.mp hq
    obtain ⟨q, hq, e⟩ := (mem_subs v f ps).1 p' hp'
    refine ⟨q, hq, ?_⟩
    rw [e]
    refine Rect.mem_set_unit.mpr fun a => ?_
    have h2 := hin j a
    have e1' : p'.off a = p.off a := congrFun e1 a
    have e2' : p'.size a = p.size a := congrFun e2 a
    omega

/-- To a reader they are the plain stores of the rows. -/
theorem read_subs (v : View sig κ sp s e) (f : v.ty.Contents Val) (ps : List (Op s e Val))
    (h : Placed (ps.map Op.place)) :
    v.read Val (v.writes Val f (subs v f ps)) = v.read Val (v.writes Val f (ps.map Op.plain)) := by
  induction ps with
  | nil => rfl
  | cons p ps ih => exact read_sub v f p.inb p.o p.row p.h p.inb' p.hoff (old_eq v f p ps h) (ih h.2)

end Cert.SubRow
-- ==== Proof.KernelIdeal.Blocks.lean ====
module

public import proofs.«01_k».proof.Proof.KernelIdeal.Ray0
public import proofs.«01_k».proof.Proof.KernelIdeal.Ray1
public import proofs.«01_k».proof.Proof.KernelIdeal.Ray2
public import proofs.«01_k».proof.Proof.KernelIdeal.Ray3
public import proofs.«01_k».proof.Proof.KernelIdeal.Ray4
public import proofs.«01_k».proof.Proof.KernelIdeal.Ray5
public import proofs.«01_k».proof.Proof.KernelIdeal.Ray6
public import proofs.«01_k».proof.Proof.KernelIdeal.Ray7
public import proofs.«01_k».proof.Proof.SubRow

/-! The stores of one grid step, as the body makes them (`raw_16` to `raw_25`, and `ops_14`, `ops_15` for the two
results stored by rows of a block), cover each output block and leave in it what `Vocab` says. -/

@[expose] public section

set_option synthInstance.maxSize 4096
set_option maxRecDepth 16384

noncomputable section

namespace Cert.KernelIdeal.Body

open Cert.KernelIdeal Cert.KernelIdeal.Gen
open Idealize.ShloMosaic Idealize.ShloMosaic.TcCoe Idealize.SL Idealize.SL.Sem

variable {F : FTy → Type} [FloatOps F]

def raw_16 (I : In F) : List (View.Piece (Elt F) S8x32x1024 .fp8e4m3) :=
  [⟨Rect.unit (s := S8x32x1024) ![7, 0, 0] S1x32x1024.size inb_S8x32x1024_S1x32x1024_7_0_0, (k0_pay1197 (v10121 I) (v10126 I) (v10191 I))⟩,
    ⟨Rect.unit (s := S8x32x1024) ![6, 0, 0] S1x32x1024.size inb_S8x32x1024_S1x32x1024_6_0_0, (k0_pay1027 (v8699 I) (v8770 I))⟩,
    ⟨Rect.unit (s := S8x32x1024) ![5, 0, 0] S1x32x1024.size inb_S8x32x1024_S1x32x1024_5_0_0, (k0_pay865 (v7277 I) (v7348 I) (Scalar.ofBits .f32 0xC3E00000#32 : F .f32))⟩,
    ⟨Rect.unit (s := S8x32x1024) ![4, 0, 0] S1x32x1024.size inb_S8x32x1024_S1x32x1024_4_0_0, (k0_pay702 (v5855 I) (v5926 I) (Scalar.ofBits .f32 0xC3E00000#32 : F .f32) (Scalar.ofBits .f32 0x43E00000#32 : F .f32))⟩,
    ⟨Rect.unit (s := S8x32x1024) ![3, 0, 0] S1x32x1024.size inb_S8x32x1024_S1x32x1024_3_0_0, (k0_pay537 (v4433 I) (v4504 I) (Scalar.ofBits .f32 0x43E00000#32 : F .f32) (v4505 I))⟩,
    ⟨Rect.unit (s := S8x32x1024) ![2, 0, 0] S1x32x1024.size inb_S8x32x1024_S1x32x1024_2_0_0, (k0_pay369 (v3011 I) (Scalar.ofBits .f32 0x43E00000#32 : F .f32) (v3084 I))⟩,
    ⟨Rect.unit (s := S8x32x1024) ![1, 0, 0] S1x32x1024.size inb_S8x32x1024_S1x32x1024_1_0_0, (k0_pay198 (v1589 I) (v1662 I) (v1663 I))⟩,
    ⟨Rect.unit (s := S8x32x1024) ![0, 0, 0] S1x32x1024.size inb_S8x32x1024_S1x32x1024_0_0_0, (k0_pay30 (v167 I) (v242 I))⟩]
theorem cover_16 (I : In F) (y : S8x32x1024.Idx) : ∃ pc ∈ raw_16 I, y ∈ pc.1.set :=
  View.cover_of_tiled (raw_16 I) S1x32x1024.size (by rfl) y
theorem bridge_16 (I : In F) : View.canon (raw_16 I) = out0_16 I := by
  unfold raw_16 out0_16
  rw [st_16_0, st_16_1, st_16_2, st_16_3, st_16_4, st_16_5, st_16_6, st_16_7]
def raw_17 (I : In F) : List (View.Piece (Elt F) S8x2x1024 .f32) :=
  [⟨Rect.unit (s := S8x2x1024) ![7, 0, 0] S1x2x1024.size inb_S8x2x1024_S1x2x1024_7_0_0, (k0_pay1198 (v10114 I) (v10190 I))⟩,
    ⟨Rect.unit (s := S8x2x1024) ![6, 0, 0] S1x2x1024.size inb_S8x2x1024_S1x2x1024_6_0_0, (k0_pay1028 (v8692 I) (v8768 I))⟩,
    ⟨Rect.unit (s := S8x2x1024) ![5, 0, 0] S1x2x1024.size inb_S8x2x1024_S1x2x1024_5_0_0, (k0_pay866 (v7270 I) (v7346 I))⟩,
    ⟨Rect.unit (s := S8x2x1024) ![4, 0, 0] S1x2x1024.size inb_S8x2x1024_S1x2x1024_4_0_0, (k0_pay703 (v5848 I) (v5924 I))⟩,
    ⟨Rect.unit (s := S8x2x1024) ![3, 0, 0] S1x2x1024.size inb_S8x2x1024_S1x2x1024_3_0_0, (k0_pay538 (v4426 I) (v4502 I))⟩,
    ⟨Rect.unit (s := S8x2x1024) ![2, 0, 0] S1x2x1024.size inb_S8x2x1024_S1x2x1024_2_0_0, (k0_pay370 (v3004 I) (v3080 I))⟩,
    ⟨Rect.unit (s := S8x2x1024) ![1, 0, 0] S1x2x1024.size inb_S8x2x1024_S1x2x1024_1_0_0, (k0_pay199 (v1582 I) (v1658 I))⟩,
    ⟨Rect.unit (s := S8x2x1024) ![0, 0, 0] S1x2x1024.size inb_S8x2x1024_S1x2x1024_0_0_0, (k0_pay31 (v160 I) (v236 I))⟩]
theorem cover_17 (I : In F) (y : S8x2x1024.Idx) : ∃ pc ∈ raw_17 I, y ∈ pc.1.set :=
  View.cover_of_tiled (raw_17 I) S1x2x1024.size (by rfl) y
theorem bridge_17 (I : In F) : View.canon (raw_17 I) = out0_17 I := by
  unfold raw_17 out0_17
  rw [st_17_0, st_17_1, st_17_2, st_17_3, st_17_4, st_17_5, st_17_6, st_17_7]
def raw_18 (I : In F) : List (View.Piece (Elt F) S8x64x1024 .fp8e4m3) :=
  [⟨Rect.unit (s := S8x64x1024) ![7, 0, 0] S1x64x1024.size inb_S8x64x1024_S1x64x1024_7_0_0, (k0_pay1233 (v10290 I) (v10366 I) (v10442 I) (v10513 I))⟩,
    ⟨Rect.unit (s := S8x64x1024) ![6, 0, 0] S1x64x1024.size inb_S8x64x1024_S1x64x1024_6_0_0, (k0_pay1063 (v8868 I) (v8944 I) (v9020 I) (v9091 I) (Scalar.ofBits .f32 0xC3E00000#32 : F .f32))⟩,
    ⟨Rect.unit (s := S8x64x1024) ![5, 0, 0] S1x64x1024.size inb_S8x64x1024_S1x64x1024_5_0_0, (k0_pay901 (v7446 I) (v7522 I) (v7598 I) (v7669 I) (Scalar.ofBits .f32 0xC3E00000#32 : F .f32) (Scalar.ofBits .f32 0x43E00000#32 : F .f32))⟩,
    ⟨Rect.unit (s := S8x64x1024) ![4, 0, 0] S1x64x1024.size inb_S8x64x1024_S1x64x1024_4_0_0, (k0_pay741 (v6024 I) (v6100 I) (v6176 I) (v6247 I) (Scalar.ofBits .f32 0x43E00000#32 : F .f32) (v6248 I))⟩,
    ⟨Rect.unit (s := S8x64x1024) ![3, 0, 0] S1x64x1024.size inb_S8x64x1024_S1x64x1024_3_0_0, (k0_pay578 (v4602 I) (v4678 I) (v4754 I) (Scalar.ofBits .f32 0x43E00000#32 : F .f32) (v4827 I))⟩,
    ⟨Rect.unit (s := S8x64x1024) ![2, 0, 0] S1x64x1024.size inb_S8x64x1024_S1x64x1024_2_0_0, (k0_pay408 (v3180 I) (v3256 I) (v3332 I) (v3405 I) (v3406 I))⟩,
    ⟨Rect.unit (s := S8x64x1024) ![1, 0, 0] S1x64x1024.size inb_S8x64x1024_S1x64x1024_1_0_0, (k0_pay235 (v1758 I) (v1834 I) (v1910 I) (v1985 I))⟩,
    ⟨Rect.unit (s := S8x64x1024) ![0, 0, 0] S1x64x1024.size inb_S8x64x1024_S1x64x1024_0_0_0, (k0_pay64 (v336 I) (v412 I) (v488 I) (v564 I))⟩]
theorem cover_18 (I : In F) (y : S8x64x1024.Idx) : ∃ pc ∈ raw_18 I, y ∈ pc.1.set :=
  View.cover_of_tiled (raw_18 I) S1x64x1024.size (by rfl) y
theorem bridge_18 (I : In F) : View.canon (raw_18 I) = out0_18 I := by
  unfold raw_18 out0_18
  rw [st_18_0, st_18_1, st_18_2, st_18_3, st_18_4, st_18_5, st_18_6, st_18_7]
def raw_19 (I : In F) : List (View.Piece (Elt F) S8x4x1024 .f32) :=
  [⟨Rect.unit (s := S8x4x1024) ![7, 0, 0] S1x4x1024.size inb_S8x4x1024_S1x4x1024_7_0_0, (k0_pay1234 (v10283 I) (v10359 I) (v10435 I) (v10511 I))⟩,
    ⟨Rect.unit (s := S8x4x1024) ![6, 0, 0] S1x4x1024.size inb_S8x4x1024_S1x4x1024_6_0_0, (k0_pay1064 (v8861 I) (v8937 I) (v9013 I) (v9089 I))⟩,
    ⟨Rect.unit (s := S8x4x1024) ![5, 0, 0] S1x4x1024.size inb_S8x4x1024_S1x4x1024_5_0_0, (k0_pay902 (v7439 I) (v7515 I) (v7591 I) (v7667 I))⟩,
    ⟨Rect.unit (s := S8x4x1024) ![4, 0, 0] S1x4x1024.size inb_S8x4x1024_S1x4x1024_4_0_0, (k0_pay742 (v6017 I) (v6093 I) (v6169 I) (v6245 I))⟩,
    ⟨Rect.unit (s := S8x4x1024) ![3, 0, 0] S1x4x1024.size inb_S8x4x1024_S1x4x1024_3_0_0, (k0_pay579 (v4595 I) (v4671 I) (v4747 I) (v4823 I))⟩,
    ⟨Rect.unit (s := S8x4x1024) ![2, 0, 0] S1x4x1024.size inb_S8x4x1024_S1x4x1024_2_0_0, (k0_pay409 (v3173 I) (v3249 I) (v3325 I) (v3401 I))⟩,
    ⟨Rect.unit (s := S8x4x1024) ![1, 0, 0] S1x4x1024.size inb_S8x4x1024_S1x4x1024_1_0_0, (k0_pay236 (v1751 I) (v1827 I) (v1903 I) (v1979 I))⟩,
    ⟨Rect.unit (s := S8x4x1024) ![0, 0, 0] S1x4x1024.size inb_S8x4x1024_S1x4x1024_0_0_0, (k0_pay65 (v329 I) (v405 I) (v481 I) (v557 I))⟩]
theorem cover_19 (I : In F) (y : S8x4x1024.Idx) : ∃ pc ∈ raw_19 I, y ∈ pc.1.set :=
  View.cover_of_tiled (raw_19 I) S1x4x1024.size (by rfl) y
theorem bridge_19 (I : In F) : View.canon (raw_19 I) = out0_19 I := by
  unfold raw_19 out0_19
  rw [st_19_0, st_19_1, st_19_2, st_19_3, st_19_4, st_19_5, st_19_6, st_19_7]
def raw_20 (I : In F) : List (View.Piece (Elt F) S8x32x1024 .fp8e4m3) :=
  [⟨Rect.unit (s := S8x32x1024) ![7, 0, 0] S1x32x1024.size inb_S8x32x1024_S1x32x1024_7_0_0, (k0_pay1255 (v10618 I) (v10689 I) (Scalar.ofBits .f32 0x43E00000#32 : F .f32) (v10690 I))⟩,
    ⟨Rect.unit (s := S8x32x1024) ![6, 0, 0] S1x32x1024.size inb_S8x32x1024_S1x32x1024_6_0_0, (k0_pay1086 (v9196 I) (Scalar.ofBits .f32 0x43E00000#32 : F .f32) (v9269 I))⟩,
    ⟨Rect.unit (s := S8x32x1024) ![5, 0, 0] S1x32x1024.size inb_S8x32x1024_S1x32x1024_5_0_0, (k0_pay923 (v7774 I) (v7847 I) (v7848 I))⟩,
    ⟨Rect.unit (s := S8x32x1024) ![4, 0, 0] S1x32x1024.size inb_S8x32x1024_S1x32x1024_4_0_0, (k0_pay764 (v6352 I) (v6427 I))⟩,
    ⟨Rect.unit (s := S8x32x1024) ![3, 0, 0] S1x32x1024.size inb_S8x32x1024_S1x32x1024_3_0_0, (k0_pay598 (v4930 I) (v5006 I))⟩,
    ⟨Rect.unit (s := S8x32x1024) ![2, 0, 0] S1x32x1024.size inb_S8x32x1024_S1x32x1024_2_0_0, (k0_pay427 (v3508 I) (v3584 I))⟩,
    ⟨Rect.unit (s := S8x32x1024) ![1, 0, 0] S1x32x1024.size inb_S8x32x1024_S1x32x1024_1_0_0, (k0_pay257 (v2086 I) (v2162 I))⟩,
    ⟨Rect.unit (s := S8x32x1024) ![0, 0, 0] S1x32x1024.size inb_S8x32x1024_S1x32x1024_0_0_0, (k0_pay86 (v664 I) (v740 I))⟩]
theorem cover_20 (I : In F) (y : S8x32x1024.Idx) : ∃ pc ∈ raw_20 I, y ∈ pc.1.set :=
  View.cover_of_tiled (raw_20 I) S1x32x1024.size (by rfl) y
theorem bridge_20 (I : In F) : View.canon (raw_20 I) = out0_20 I := by
  unfold raw_20 out0_20
  rw [st_20_0, st_20_1, st_20_2, st_20_3, st_20_4, st_20_5, st_20_6, st_20_7]
def raw_21 (I : In F) : List (View.Piece (Elt F) S8x2x1024 .f32) :=
  [⟨Rect.unit (s := S8x2x1024) ![7, 0, 0] S1x2x1024.size inb_S8x2x1024_S1x2x1024_7_0_0, (k0_pay1256 (v10611 I) (v10687 I))⟩,
    ⟨Rect.unit (s := S8x2x1024) ![6, 0, 0] S1x2x1024.size inb_S8x2x1024_S1x2x1024_6_0_0, (k0_pay1087 (v9189 I) (v9265 I))⟩,
    ⟨Rect.unit (s := S8x2x1024) ![5, 0, 0] S1x2x1024.size inb_S8x2x1024_S1x2x1024_5_0_0, (k0_pay924 (v7767 I) (v7843 I))⟩,
    ⟨Rect.unit (s := S8x2x1024) ![4, 0, 0] S1x2x1024.size inb_S8x2x1024_S1x2x1024_4_0_0, (k0_pay765 (v6345 I) (v6421 I))⟩,
    ⟨Rect.unit (s := S8x2x1024) ![3, 0, 0] S1x2x1024.size inb_S8x2x1024_S1x2x1024_3_0_0, (k0_pay599 (v4923 I) (v4999 I))⟩,
    ⟨Rect.unit (s := S8x2x1024) ![2, 0, 0] S1x2x1024.size inb_S8x2x1024_S1x2x1024_2_0_0, (k0_pay428 (v3501 I) (v3577 I))⟩,
    ⟨Rect.unit (s := S8x2x1024) ![1, 0, 0] S1x2x1024.size inb_S8x2x1024_S1x2x1024_1_0_0, (k0_pay258 (v2079 I) (v2155 I))⟩,
    ⟨Rect.unit (s := S8x2x1024) ![0, 0, 0] S1x2x1024.size inb_S8x2x1024_S1x2x1024_0_0_0, (k0_pay87 (v657 I) (v733 I))⟩]
theorem cover_21 (I : In F) (y : S8x2x1024.Idx) : ∃ pc ∈ raw_21 I, y ∈ pc.1.set :=
  View.cover_of_tiled (raw_21 I) S1x2x1024.size (by rfl) y
theorem bridge_21 (I : In F) : View.canon (raw_21 I) = out0_21 I := by
  unfold raw_21 out0_21
  rw [st_21_0, st_21_1, st_21_2, st_21_3, st_21_4, st_21_5, st_21_6, st_21_7]
def raw_22 (I : In F) : List (View.Piece (Elt F) S8x64x1024 .fp8e4m3) :=
  [⟨Rect.unit (s := S8x64x1024) ![7, 0, 0] S1x64x1024.size inb_S8x64x1024_S1x64x1024_7_0_0, (k0_pay1296 (v10787 I) (v10863 I) (v10939 I) (Scalar.ofBits .f32 0x43E00000#32 : F .f32) (v11012 I))⟩,
    ⟨Rect.unit (s := S8x64x1024) ![6, 0, 0] S1x64x1024.size inb_S8x64x1024_S1x64x1024_6_0_0, (k0_pay1125 (v9365 I) (v9441 I) (v9517 I) (v9590 I) (v9591 I))⟩,
    ⟨Rect.unit (s := S8x64x1024) ![5, 0, 0] S1x64x1024.size inb_S8x64x1024_S1x64x1024_5_0_0, (k0_pay960 (v7943 I) (v8019 I) (v8095 I) (v8170 I))⟩,
    ⟨Rect.unit (s := S8x64x1024) ![4, 0, 0] S1x64x1024.size inb_S8x64x1024_S1x64x1024_4_0_0, (k0_pay798 (v6521 I) (v6597 I) (v6673 I) (v6749 I))⟩,
    ⟨Rect.unit (s := S8x64x1024) ![3, 0, 0] S1x64x1024.size inb_S8x64x1024_S1x64x1024_3_0_0, (k0_pay632 (v5099 I) (v5175 I) (v5251 I) (v5327 I))⟩,
    ⟨Rect.unit (s := S8x64x1024) ![2, 0, 0] S1x64x1024.size inb_S8x64x1024_S1x64x1024_2_0_0, (k0_pay465 (v3677 I) (v3753 I) (v3829 I) (v3905 I))⟩,
    ⟨Rect.unit (s := S8x64x1024) ![1, 0, 0] S1x64x1024.size inb_S8x64x1024_S1x64x1024_1_0_0, (k0_pay296 (v2255 I) (v2331 I) (v2407 I) (v2483 I))⟩,
    ⟨Rect.unit (s := S8x64x1024) ![0, 0, 0] S1x64x1024.size inb_S8x64x1024_S1x64x1024_0_0_0, (k0_pay124 (v833 I) (v909 I) (v985 I) (v1061 I))⟩]
theorem cover_22 (I : In F) (y : S8x64x1024.Idx) : ∃ pc ∈ raw_22 I, y ∈ pc.1.set :=
  View.cover_of_tiled (raw_22 I) S1x64x1024.size (by rfl) y
theorem bridge_22 (I : In F) : View.canon (raw_22 I) = out0_22 I := by
  unfold raw_22 out0_22
  rw [st_22_0, st_22_1, st_22_2, st_22_3, st_22_4, st_22_5, st_22_6, st_22_7]
def raw_23 (I : In F) : List (View.Piece (Elt F) S8x4x1024 .f32) :=
  [⟨Rect.unit (s := S8x4x1024) ![7, 0, 0] S1x4x1024.size inb_S8x4x1024_S1x4x1024_7_0_0, (k0_pay1297 (v10780 I) (v10856 I) (v10932 I) (v11008 I))⟩,
    ⟨Rect.unit (s := S8x4x1024) ![6, 0, 0] S1x4x1024.size inb_S8x4x1024_S1x4x1024_6_0_0, (k0_pay1126 (v9358 I) (v9434 I) (v9510 I) (v9586 I))⟩,
    ⟨Rect.unit (s := S8x4x1024) ![5, 0, 0] S1x4x1024.size inb_S8x4x1024_S1x4x1024_5_0_0, (k0_pay961 (v7936 I) (v8012 I) (v8088 I) (v8164 I))⟩,
    ⟨Rect.unit (s := S8x4x1024) ![4, 0, 0] S1x4x1024.size inb_S8x4x1024_S1x4x1024_4_0_0, (k0_pay799 (v6514 I) (v6590 I) (v6666 I) (v6742 I))⟩,
    ⟨Rect.unit (s := S8x4x1024) ![3, 0, 0] S1x4x1024.size inb_S8x4x1024_S1x4x1024_3_0_0, (k0_pay633 (v5092 I) (v5168 I) (v5244 I) (v5320 I))⟩,
    ⟨Rect.unit (s := S8x4x1024) ![2, 0, 0] S1x4x1024.size inb_S8x4x1024_S1x4x1024_2_0_0, (k0_pay466 (v3670 I) (v3746 I) (v3822 I) (v3898 I))⟩,
    ⟨Rect.unit (s := S8x4x1024) ![1, 0, 0] S1x4x1024.size inb_S8x4x1024_S1x4x1024_1_0_0, (k0_pay297 (v2248 I) (v2324 I) (v2400 I) (v2476 I))⟩,
    ⟨Rect.unit (s := S8x4x1024) ![0, 0, 0] S1x4x1024.size inb_S8x4x1024_S1x4x1024_0_0_0, (k0_pay125 (v826 I) (v902 I) (v978 I) (v1054 I))⟩]
theorem cover_23 (I : In F) (y : S8x4x1024.Idx) : ∃ pc ∈ raw_23 I, y ∈ pc.1.set :=
  View.cover_of_tiled (raw_23 I) S1x4x1024.size (by rfl) y
theorem bridge_23 (I : In F) : View.canon (raw_23 I) = out0_23 I := by
  unfold raw_23 out0_23
  rw [st_23_0, st_23_1, st_23_2, st_23_3, st_23_4, st_23_5, st_23_6, st_23_7]
def raw_24 (I : In F) : List (View.Piece (Elt F) S8x64x1024 .fp8e4m3) :=
  [⟨Rect.unit (s := S8x64x1024) ![7, 0, 0] S1x64x1024.size inb_S8x64x1024_S1x64x1024_7_0_0, (k0_pay1335 (v11108 I) (v11184 I) (v11260 I) (v11333 I) (v11334 I))⟩,
    ⟨Rect.unit (s := S8x64x1024) ![6, 0, 0] S1x64x1024.size inb_S8x64x1024_S1x64x1024_6_0_0, (k0_pay1162 (v9686 I) (v9762 I) (v9838 I) (v9913 I))⟩,
    ⟨Rect.unit (s := S8x64x1024) ![5, 0, 0] S1x64x1024.size inb_S8x64x1024_S1x64x1024_5_0_0, (k0_pay994 (v8264 I) (v8340 I) (v8416 I) (v8492 I))⟩,
    ⟨Rect.unit (s := S8x64x1024) ![4, 0, 0] S1x64x1024.size inb_S8x64x1024_S1x64x1024_4_0_0, (k0_pay832 (v6842 I) (v6918 I) (v6994 I) (v7070 I))⟩,
    ⟨Rect.unit (s := S8x64x1024) ![3, 0, 0] S1x64x1024.size inb_S8x64x1024_S1x64x1024_3_0_0, (k0_pay670 (v5420 I) (v5496 I) (v5572 I) (v5648 I))⟩,
    ⟨Rect.unit (s := S8x64x1024) ![2, 0, 0] S1x64x1024.size inb_S8x64x1024_S1x64x1024_2_0_0, (k0_pay504 (v3998 I) (v4074 I) (v4150 I) (v4226 I))⟩,
    ⟨Rect.unit (s := S8x64x1024) ![1, 0, 0] S1x64x1024.size inb_S8x64x1024_S1x64x1024_1_0_0, (k0_pay334 (v2576 I) (v2652 I) (v2728 I) (v2804 I))⟩,
    ⟨Rect.unit (s := S8x64x1024) ![0, 0, 0] S1x64x1024.size inb_S8x64x1024_S1x64x1024_0_0_0, (k0_pay164 (v1387 I))⟩]
theorem cover_24 (I : In F) (y : S8x64x1024.Idx) : ∃ pc ∈ raw_24 I, y ∈ pc.1.set :=
  View.cover_of_tiled (raw_24 I) S1x64x1024.size (by rfl) y
theorem bridge_24 (I : In F) : View.canon (raw_24 I) = out0_24 I := by
  unfold raw_24 out0_24
  rw [st_24_0, st_24_1, st_24_2, st_24_3, st_24_4, st_24_5, st_24_6, st_24_7]
def raw_25 (I : In F) : List (View.Piece (Elt F) S8x4x1024 .f32) :=
  [⟨Rect.unit (s := S8x4x1024) ![7, 0, 0] S1x4x1024.size inb_S8x4x1024_S1x4x1024_7_0_0, (k0_pay1336 (v11101 I) (v11177 I) (v11253 I) (v11329 I))⟩,
    ⟨Rect.unit (s := S8x4x1024) ![6, 0, 0] S1x4x1024.size inb_S8x4x1024_S1x4x1024_6_0_0, (k0_pay1163 (v9679 I) (v9755 I) (v9831 I) (v9907 I))⟩,
    ⟨Rect.unit (s := S8x4x1024) ![5, 0, 0] S1x4x1024.size inb_S8x4x1024_S1x4x1024_5_0_0, (k0_pay995 (v8257 I) (v8333 I) (v8409 I) (v8485 I))⟩,
    ⟨Rect.unit (s := S8x4x1024) ![4, 0, 0] S1x4x1024.size inb_S8x4x1024_S1x4x1024_4_0_0, (k0_pay833 (v6835 I) (v6911 I) (v6987 I) (v7063 I))⟩,
    ⟨Rect.unit (s := S8x4x1024) ![3, 0, 0] S1x4x1024.size inb_S8x4x1024_S1x4x1024_3_0_0, (k0_pay671 (v5413 I) (v5489 I) (v5565 I) (v5641 I))⟩,
    ⟨Rect.unit (s := S8x4x1024) ![2, 0, 0] S1x4x1024.size inb_S8x4x1024_S1x4x1024_2_0_0, (k0_pay505 (v3991 I) (v4067 I) (v4143 I) (v4219 I))⟩,
    ⟨Rect.unit (s := S8x4x1024) ![1, 0, 0] S1x4x1024.size inb_S8x4x1024_S1x4x1024_1_0_0, (k0_pay335 (v2569 I) (v2645 I) (v2721 I) (v2797 I))⟩,
    ⟨Rect.unit (s := S8x4x1024) ![0, 0, 0] S1x4x1024.size inb_S8x4x1024_S1x4x1024_0_0_0, (k0_pay165 (v1147 I) (v1223 I) (v1299 I) (v1375 I))⟩]
theorem cover_25 (I : In F) (y : S8x4x1024.Idx) : ∃ pc ∈ raw_25 I, y ∈ pc.1.set :=
  View.cover_of_tiled (raw_25 I) S1x4x1024.size (by rfl) y
theorem bridge_25 (I : In F) : View.canon (raw_25 I) = out0_25 I := by
  unfold raw_25 out0_25
  rw [st_25_0, st_25_1, st_25_2, st_25_3, st_25_4, st_25_5, st_25_6, st_25_7]
def ops_14 (I : In F) : List (SubRow.Op S8x1024 .bf16 (Elt F)) :=
  [⟨![6, 0], S2x1024.size, inb_S8x1024_S2x1024_6_0, ![1, 0], S1x1024.size, (k0_pay1236 (v10294 I) (v10370 I) (v10446 I) (v10511 I) (v10513 I) (ld7 I) (ld8 I)),
      slices_S2x1024_S1x1024_1_0, ![7, 0], (inbR_14 7), by decide, true⟩,
    ⟨![6, 0], S2x1024.size, inb_S8x1024_S2x1024_6_0, ![0, 0], S1x1024.size, (k0_pay1066 (v8872 I) (v8948 I) (v9024 I) (v9089 I) (v9091 I) (Scalar.ofBits .f32 0xC3E00000#32 : F .f32) (ld7 I) (ld8 I)),
      slices_S2x1024_S1x1024_0_0, ![6, 0], (inbR_14 6), by decide, false⟩,
    ⟨![4, 0], S2x1024.size, inb_S8x1024_S2x1024_4_0, ![1, 0], S1x1024.size, (k0_pay904 (v7450 I) (v7526 I) (v7602 I) (v7667 I) (v7669 I) (Scalar.ofBits .f32 0xC3E00000#32 : F .f32) (Scalar.ofBits .f32 0x43E00000#32 : F .f32) (ld7 I) (ld8 I)),
      slices_S2x1024_S1x1024_1_0, ![5, 0], (inbR_14 5), by decide, true⟩,
    ⟨![4, 0], S2x1024.size, inb_S8x1024_S2x1024_4_0, ![0, 0], S1x1024.size, (k0_pay744 (v6028 I) (v6104 I) (v6180 I) (v6245 I) (v6247 I) (Scalar.ofBits .f32 0x43E00000#32 : F .f32) (v6248 I) (ld7 I) (ld8 I)),
      slices_S2x1024_S1x1024_0_0, ![4, 0], (inbR_14 4), by decide, false⟩,
    ⟨![2, 0], S2x1024.size, inb_S8x1024_S2x1024_2_0, ![1, 0], S1x1024.size, (k0_pay581 (v4606 I) (v4682 I) (v4758 I) (v4823 I) (Scalar.ofBits .f32 0x43E00000#32 : F .f32) (v4827 I) (ld7 I) (ld8 I)),
      slices_S2x1024_S1x1024_1_0, ![3, 0], (inbR_14 3), by decide, true⟩,
    ⟨![2, 0], S2x1024.size, inb_S8x1024_S2x1024_2_0, ![0, 0], S1x1024.size, (k0_pay411 (v3184 I) (v3260 I) (v3336 I) (v3401 I) (v3405 I) (v3406 I) (ld7 I) (ld8 I)),
      slices_S2x1024_S1x1024_0_0, ![2, 0], (inbR_14 2), by decide, false⟩,
    ⟨![0, 0], S2x1024.size, inb_S8x1024_S2x1024_0_0, ![1, 0], S1x1024.size, (k0_pay238 (v1762 I) (v1838 I) (v1914 I) (v1979 I) (v1985 I) (ld7 I) (ld8 I)),
      slices_S2x1024_S1x1024_1_0, ![1, 0], (inbR_14 1), by decide, true⟩,
    ⟨![0, 0], S2x1024.size, inb_S8x1024_S2x1024_0_0, ![0, 0], S1x1024.size, (k0_pay67 (v340 I) (v416 I) (v492 I) (v557 I) (v564 I) (ld7 I) (ld8 I)),
      slices_S2x1024_S1x1024_0_0, ![0, 0], (inbR_14 0), by decide, false⟩]
theorem placed_14 (I : In F) : SubRow.Placed ((ops_14 I).map SubRow.Op.place) := by
  show SubRow.Placed [(![6, 0], S2x1024.size, true), (![6, 0], S2x1024.size, false), (![4, 0], S2x1024.size, true),
    (![4, 0], S2x1024.size, false), (![2, 0], S2x1024.size, true), (![2, 0], S2x1024.size, false),
    (![0, 0], S2x1024.size, true), (![0, 0], S2x1024.size, false)]
  decide
theorem cover_14 (I : In F) (y : S8x1024.Idx) : ∃ pc ∈ (ops_14 I).map SubRow.Op.plain, y ∈ pc.1.set :=
  View.cover_of_tiled ((ops_14 I).map SubRow.Op.plain) S1x1024.size (by rfl) y
theorem bridge_14 (I : In F) : View.canon ((ops_14 I).map SubRow.Op.plain) = out0_14 I := by
  unfold ops_14 out0_14
  simp only [List.map_cons, List.map_nil, SubRow.Op.plain]
  rw [st_14_0, st_14_1, st_14_2, st_14_3, st_14_4, st_14_5, st_14_6, st_14_7]
def ops_15 (I : In F) : List (SubRow.Op S3x8x1024 .bf16 (Elt F)) :=
  [⟨![2, 6, 0], S1x2x1024.size, inb_S3x8x1024_S1x2x1024_2_6_0, ![0, 1, 0], S1x1x1024.size, (k0_pay1 (v11363 I)),
      slices_S1x2x1024_S1x1x1024_0_1_0, ![2, 7, 0], (inbR_15 2 7), by decide, true⟩,
    ⟨![1, 6, 0], S1x2x1024.size, inb_S3x8x1024_S1x2x1024_1_6_0, ![0, 1, 0], S1x1x1024.size, (v11371 I),
      slices_S1x2x1024_S1x1x1024_0_1_0, ![1, 7, 0], (inbR_15 1 7), by decide, true⟩,
    ⟨![0, 6, 0], S1x2x1024.size, inb_S3x8x1024_S1x2x1024_0_6_0, ![0, 1, 0], S1x1x1024.size, (k0_pay1338 (v11112 I) (v11188 I) (v11264 I) (v11329 I) (v11333 I) (v11334 I) (ld13 I) (ld14 I)),
      slices_S1x2x1024_S1x1x1024_0_1_0, ![0, 7, 0], (inbR_15 0 7), by decide, true⟩,
    ⟨![2, 6, 0], S1x2x1024.size, inb_S3x8x1024_S1x2x1024_2_6_0, ![0, 0, 0], S1x1x1024.size, (k0_pay1167 (v9941 I)),
      slices_S1x2x1024_S1x1x1024_0_0_0, ![2, 6, 0], (inbR_15 2 6), by decide, false⟩,
    ⟨![1, 6, 0], S1x2x1024.size, inb_S3x8x1024_S1x2x1024_1_6_0, ![0, 0, 0], S1x1x1024.size, (k0_pay1166 (v9690 I) (v9766 I) (v9842 I) (v9907 I) (v9913 I) (ld13 I) (ld14 I)),
      slices_S1x2x1024_S1x1x1024_0_0_0, ![1, 6, 0], (inbR_15 1 6), by decide, false⟩,
    ⟨![0, 6, 0], S1x2x1024.size, inb_S3x8x1024_S1x2x1024_0_6_0, ![0, 0, 0], S1x1x1024.size, (k0_pay1165 (v9690 I) (v9766 I) (v9842 I) (v9907 I) (v9913 I) (ld13 I) (ld14 I)),
      slices_S1x2x1024_S1x1x1024_0_0_0, ![0, 6, 0], (inbR_15 0 6), by decide, false⟩,
    ⟨![2, 4, 0], S1x2x1024.size, inb_S3x8x1024_S1x2x1024_2_4_0, ![0, 1, 0], S1x1x1024.size, (k0_pay1000 (v8528 I)),
      slices_S1x2x1024_S1x1x1024_0_1_0, ![2, 5, 0], (inbR_15 2 5), by decide, true⟩,
    ⟨![1, 4, 0], S1x2x1024.size, inb_S3x8x1024_S1x2x1024_1_4_0, ![0, 1, 0], S1x1x1024.size, (k0_pay998 (v8268 I) (v8344 I) (v8420 I) (v8485 I) (v8492 I) (ld13 I) (ld14 I)),
      slices_S1x2x1024_S1x1x1024_0_1_0, ![1, 5, 0], (inbR_15 1 5), by decide, true⟩,
    ⟨![0, 4, 0], S1x2x1024.size, inb_S3x8x1024_S1x2x1024_0_4_0, ![0, 1, 0], S1x1x1024.size, (k0_pay997 (v8268 I) (v8344 I) (v8420 I) (v8485 I) (v8492 I) (ld13 I) (ld14 I)),
      slices_S1x2x1024_S1x1x1024_0_1_0, ![0, 5, 0], (inbR_15 0 5), by decide, true⟩,
    ⟨![2, 4, 0], S1x2x1024.size, inb_S3x8x1024_S1x2x1024_2_4_0, ![0, 0, 0], S1x1x1024.size, (k0_pay838 (v7106 I)),
      slices_S1x2x1024_S1x1x1024_0_0_0, ![2, 4, 0], (inbR_15 2 4), by decide, false⟩,
    ⟨![1, 4, 0], S1x2x1024.size, inb_S3x8x1024_S1x2x1024_1_4_0, ![0, 0, 0], S1x1x1024.size, (k0_pay836 (v6846 I) (v6922 I) (v6998 I) (v7063 I) (v7071 I) (ld13 I) (ld14 I)),
      slices_S1x2x1024_S1x1x1024_0_0_0, ![1, 4, 0], (inbR_15 1 4), by decide, false⟩,
    ⟨![0, 4, 0], S1x2x1024.size, inb_S3x8x1024_S1x2x1024_0_4_0, ![0, 0, 0], S1x1x1024.size, (k0_pay835 (v6846 I) (v6922 I) (v6998 I) (v7063 I) (v7071 I) (ld13 I) (ld14 I)),
      slices_S1x2x1024_S1x1x1024_0_0_0, ![0, 4, 0], (inbR_15 0 4), by decide, false⟩,
    ⟨![2, 2, 0], S1x2x1024.size, inb_S3x8x1024_S1x2x1024_2_2_0, ![0, 1, 0], S1x1x1024.size, (k0_pay676 (v5684 I)),
      slices_S1x2x1024_S1x1x1024_0_1_0, ![2, 3, 0], (inbR_15 2 3), by decide, true⟩,
    ⟨![1, 2, 0], S1x2x1024.size, inb_S3x8x1024_S1x2x1024_1_2_0, ![0, 1, 0], S1x1x1024.size, (k0_pay674 (v5424 I) (v5500 I) (v5576 I) (v5649 I) (v5650 I) (ld13 I) (ld14 I)),
      slices_S1x2x1024_S1x1x1024_0_1_0, ![1, 3, 0], (inbR_15 1 3), by decide, true⟩,
    ⟨![0, 2, 0], S1x2x1024.size, inb_S3x8x1024_S1x2x1024_0_2_0, ![0, 1, 0], S1x1x1024.size, (k0_pay673 (v5424 I) (v5500 I) (v5576 I) (v5649 I) (v5650 I) (ld13 I) (ld14 I)),
      slices_S1x2x1024_S1x1x1024_0_1_0, ![0, 3, 0], (inbR_15 0 3), by decide, true⟩,
    ⟨![2, 2, 0], S1x2x1024.size, inb_S3x8x1024_S1x2x1024_2_2_0, ![0, 0, 0], S1x1x1024.size, (k0_pay510 (v4262 I)),
      slices_S1x2x1024_S1x1x1024_0_0_0, ![2, 2, 0], (inbR_15 2 2), by decide, false⟩,
    ⟨![1, 2, 0], S1x2x1024.size, inb_S3x8x1024_S1x2x1024_1_2_0, ![0, 0, 0], S1x1x1024.size, (k0_pay508 (v4002 I) (v4078 I) (v4154 I) (v4229 I) (ld13 I) (ld14 I)),
      slices_S1x2x1024_S1x1x1024_0_0_0, ![1, 2, 0], (inbR_15 1 2), by decide, false⟩,
    ⟨![0, 2, 0], S1x2x1024.size, inb_S3x8x1024_S1x2x1024_0_2_0, ![0, 0, 0], S1x1x1024.size, (k0_pay507 (v4002 I) (v4078 I) (v4154 I) (v4229 I) (ld13 I) (ld14 I)),
      slices_S1x2x1024_S1x1x1024_0_0_0, ![0, 2, 0], (inbR_15 0 2), by decide, false⟩,
    ⟨![2, 0, 0], S1x2x1024.size, inb_S3x8x1024_S1x2x1024_2_0_0, ![0, 1, 0], S1x1x1024.size, (k0_pay340 (v2840 I)),
      slices_S1x2x1024_S1x1x1024_0_1_0, ![2, 1, 0], (inbR_15 2 1), by decide, true⟩,
    ⟨![1, 0, 0], S1x2x1024.size, inb_S3x8x1024_S1x2x1024_1_0_0, ![0, 1, 0], S1x1x1024.size, (k0_pay338 (v2580 I) (v2656 I) (v2732 I) (v2808 I) (ld13 I) (ld14 I)),
      slices_S1x2x1024_S1x1x1024_0_1_0, ![1, 1, 0], (inbR_15 1 1), by decide, true⟩,
    ⟨![0, 0, 0], S1x2x1024.size, inb_S3x8x1024_S1x2x1024_0_0_0, ![0, 1, 0], S1x1x1024.size, (k0_pay337 (v2580 I) (v2656 I) (v2732 I) (v2808 I) (ld13 I) (ld14 I)),
      slices_S1x2x1024_S1x1x1024_0_1_0, ![0, 1, 0], (inbR_15 0 1), by decide, true⟩,
    ⟨![2, 0, 0], S1x2x1024.size, inb_S3x8x1024_S1x2x1024_2_0_0, ![0, 0, 0], S1x1x1024.size, (k0_pay170 (v1418 I)),
      slices_S1x2x1024_S1x1x1024_0_0_0, ![2, 0, 0], (inbR_15 2 0), by decide, false⟩,
    ⟨![1, 0, 0], S1x2x1024.size, inb_S3x8x1024_S1x2x1024_1_0_0, ![0, 0, 0], S1x1x1024.size, (k0_pay168 (v1158 I) (v1234 I) (v1310 I) (v1386 I) (ld13 I) (ld14 I)),
      slices_S1x2x1024_S1x1x1024_0_0_0, ![1, 0, 0], (inbR_15 1 0), by decide, false⟩,
    ⟨![0, 0, 0], S1x2x1024.size, inb_S3x8x1024_S1x2x1024_0_0_0, ![0, 0, 0], S1x1x1024.size, (k0_pay167 (v1158 I) (v1234 I) (v1310 I) (v1386 I) (ld13 I) (ld14 I)),
      slices_S1x2x1024_S1x1x1024_0_0_0, ![0, 0, 0], (inbR_15 0 0), by decide, false⟩]
theorem placed_15 (I : In F) : SubRow.Placed ((ops_15 I).map SubRow.Op.place) := by
  show SubRow.Placed [(![2, 6, 0], S1x2x1024.size, true), (![1, 6, 0], S1x2x1024.size, true), (![0, 6, 0], S1x2x1024.size, true),
    (![2, 6, 0], S1x2x1024.size, false), (![1, 6, 0], S1x2x1024.size, false), (![0, 6, 0], S1x2x1024.size, false),
    (![2, 4, 0], S1x2x1024.size, true), (![1, 4, 0], S1x2x1024.size, true), (![0, 4, 0], S1x2x1024.size, true),
    (![2, 4, 0], S1x2x1024.size, false), (![1, 4, 0], S1x2x1024.size, false), (![0, 4, 0], S1x2x1024.size, false),
    (![2, 2, 0], S1x2x1024.size, true), (![1, 2, 0], S1x2x1024.size, true), (![0, 2, 0], S1x2x1024.size, true),
    (![2, 2, 0], S1x2x1024.size, false), (![1, 2, 0], S1x2x1024.size, false), (![0, 2, 0], S1x2x1024.size, false),
    (![2, 0, 0], S1x2x1024.size, true), (![1, 0, 0], S1x2x1024.size, true), (![0, 0, 0], S1x2x1024.size, true),
    (![2, 0, 0], S1x2x1024.size, false), (![1, 0, 0], S1x2x1024.size, false), (![0, 0, 0], S1x2x1024.size, false)]
  decide
theorem cover_15 (I : In F) (y : S3x8x1024.Idx) : ∃ pc ∈ (ops_15 I).map SubRow.Op.plain, y ∈ pc.1.set :=
  View.cover_of_tiled ((ops_15 I).map SubRow.Op.plain) S1x1x1024.size (by rfl) y
theorem bridge_15 (I : In F) : View.canon ((ops_15 I).map SubRow.Op.plain) = out0_15 I := by
  unfold ops_15 out0_15
  simp only [List.map_cons, List.map_nil, SubRow.Op.plain]
  rw [st_15_0_0, st_15_1_0, st_15_2_0, st_15_0_1, st_15_1_1, st_15_2_1, st_15_0_2, st_15_1_2, st_15_2_2, st_15_0_3, st_15_1_3, st_15_2_3, st_15_0_4, st_15_1_4, st_15_2_4, st_15_0_5, st_15_1_5, st_15_2_5, st_15_0_6, st_15_1_6, st_15_2_6, st_15_0_7, st_15_1_7, st_15_2_7]

end Cert.KernelIdeal.Body

end

end
-- ==== Proof.KernelIdeal.Triple.lean ====
/- The body of one grid step, run through every load and store: the input buffers are as they were, and each output
   buffer holds what `Vocab` says. -/
module

public import proofs.«01_k».proof.Proof.Gen.KernelIdeal.Frame
public import proofs.«01_k».proof.Proof.Gen.KernelIdeal.Skeleton
public import proofs.«01_k».proof.Proof.KernelIdeal.Blocks
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 0 in
/-- The body, from the input buffers at any contents. -/
theorem sound_kernel (c : Dev nD) (E : Set ℕ) (i : grid0.Coords)
    (arg1 : Memref sig .tc .vmem S8x8x8x128 .f32) (harg1 : arg1.IsWhole)
    (arg2 : Memref sig .tc .vmem S8x4x8x8x128 .f32) (harg2 : arg2.IsWhole)
    (arg3 : Memref sig .tc .vmem S32x1 .f32) (harg3 : arg3.IsWhole)
    (arg4 : Memref sig .tc .vmem S8x16x1 .f32) (harg4 : arg4.IsWhole)
    (arg5 : Memref sig .tc .vmem S64x32 .fp8e4m3) (harg5 : arg5.IsWhole)
    (arg6 : Memref sig .tc .vmem S64x1 .f32) (harg6 : arg6.IsWhole)
    (arg7 : Memref sig .tc .vmem S16x64 .fp8e4m3) (harg7 : arg7.IsWhole)
    (arg8 : Memref sig .tc .vmem S16x1 .f32) (harg8 : arg8.IsWhole)
    (arg9 : Memref sig .tc .vmem S64x32 .fp8e4m3) (harg9 : arg9.IsWhole)
    (arg10 : Memref sig .tc .vmem S64x1 .f32) (harg10 : arg10.IsWhole)
    (arg11 : Memref sig .tc .vmem S64x64 .fp8e4m3) (harg11 : arg11.IsWhole)
    (arg12 : Memref sig .tc .vmem S64x1 .f32) (harg12 : arg12.IsWhole)
    (arg13 : Memref sig .tc .vmem S3x64 .fp8e4m3) (harg13 : arg13.IsWhole)
    (arg14 : Memref sig .tc .vmem S3x1 .f32) (harg14 : arg14.IsWhole)
    (arg15 : Memref sig .tc .vmem S8x1024 .bf16) (harg15 : arg15.IsWhole)
    (arg16 : Memref sig .tc .vmem S3x8x1024 .bf16) (harg16 : arg16.IsWhole)
    (arg17 : Memref sig .tc .vmem S8x32x1024 .fp8e4m3) (harg17 : arg17.IsWhole)
    (arg18 : Memref sig .tc .vmem S8x2x1024 .f32) (harg18 : arg18.IsWhole)
    (arg19 : Memref sig .tc .vmem S8x64x1024 .fp8e4m3) (harg19 : arg19.IsWhole)
    (arg20 : Memref sig .tc .vmem S8x4x1024 .f32) (harg20 : arg20.IsWhole)
    (arg21 : Memref sig .tc .vmem S8x32x1024 .fp8e4m3) (harg21 : arg21.IsWhole)
    (arg22 : Memref sig .tc .vmem S8x2x1024 .f32) (harg22 : arg22.IsWhole)
    (arg23 : Memref sig .tc .vmem S8x64x1024 .fp8e4m3) (harg23 : arg23.IsWhole)
    (arg24 : Memref sig .tc .vmem S8x4x1024 .f32) (harg24 : arg24.IsWhole)
    (arg25 : Memref sig .tc .vmem S8x64x1024 .fp8e4m3) (harg25 : arg25.IsWhole)
    (arg26 : Memref sig .tc .vmem S8x4x1024 .f32) (harg26 : arg26.IsWhole)
    (x0 : Vec F S8x8x8x128 .f32) (x1 : Vec F S8x4x8x8x128 .f32) (x2 : Vec F S32x1 .f32) (x3 : Vec F S8x16x1 .f32) (x4 : Vec F S64x32 .fp8e4m3) (x5 : Vec F S64x1 .f32) (x6 : Vec F S16x64 .fp8e4m3) (x7 : Vec F S16x1 .f32) (x8 : Vec F S64x32 .fp8e4m3) (x9 : Vec F S64x1 .f32) (x10 : Vec F S64x64 .fp8e4m3) (x11 : Vec F S64x1 .f32) (x12 : Vec F S3x64 .fp8e4m3) (x13 : Vec F S3x1 .f32)
    (K : PUnit → sProp 𝕄) :
    iprop(owns (c : Thread nD τ) arg1 fullShare x0
      ∗ owns (c : Thread nD τ) arg2 fullShare x1
      ∗ owns (c : Thread nD τ) arg3 fullShare x2
      ∗ owns (c : Thread nD τ) arg4 fullShare x3
      ∗ owns (c : Thread nD τ) arg5 fullShare x4
      ∗ owns (c : Thread nD τ) arg6 fullShare x5
      ∗ owns (c : Thread nD τ) arg7 fullShare x6
      ∗ owns (c : Thread nD τ) arg8 fullShare x7
      ∗ owns (c : Thread nD τ) arg9 fullShare x8
      ∗ owns (c : Thread nD τ) arg10 fullShare x9
      ∗ owns (c : Thread nD τ) arg11 fullShare x10
      ∗ owns (c : Thread nD τ) arg12 fullShare x11
      ∗ owns (c : Thread nD τ) arg13 fullShare x12
      ∗ owns (c : Thread nD τ) arg14 fullShare x13
      ∗ (∃ d, owns (c : Thread nD τ) arg15 fullShare d)
      ∗ (∃ d, owns (c : Thread nD τ) arg16 fullShare d)
      ∗ (∃ d, owns (c : Thread nD τ) arg17 fullShare d)
      ∗ (∃ d, owns (c : Thread nD τ) arg18 fullShare d)
      ∗ (∃ d, owns (c : Thread nD τ) arg19 fullShare d)
      ∗ (∃ d, owns (c : Thread nD τ) arg20 fullShare d)
      ∗ (∃ d, owns (c : Thread nD τ) arg21 fullShare d)
      ∗ (∃ d, owns (c : Thread nD τ) arg22 fullShare d)
      ∗ (∃ d, owns (c : Thread nD τ) arg23 fullShare d)
      ∗ (∃ d, owns (c : Thread nD τ) arg24 fullShare d)
      ∗ (∃ d, owns (c : Thread nD τ) arg25 fullShare d)
      ∗ (∃ d, owns (c : Thread nD τ) arg26 fullShare d)
      ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare x8
          ∗ owns (c : Thread nD τ) arg10 fullShare x9
          ∗ owns (c : Thread nD τ) arg11 fullShare x10
          ∗ owns (c : Thread nD τ) arg12 fullShare x11
          ∗ owns (c : Thread nD τ) arg13 fullShare x12
          ∗ owns (c : Thread nD τ) arg14 fullShare x13
          ∗ owns (c : Thread nD τ) arg15 fullShare (out0_14 ⟨x0, x1, x2, x3, x4, x5, x6, x7, x8, x9, x10, x11, x12, x13⟩)
          ∗ owns (c : Thread nD τ) arg16 fullShare (out0_15 ⟨x0, x1, x2, x3, x4, x5, x6, x7, x8, x9, x10, x11, x12, x13⟩)
          ∗ owns (c : Thread nD τ) arg17 fullShare (out0_16 ⟨x0, x1, x2, x3, x4, x5, x6, x7, x8, x9, x10, x11, x12, x13⟩)
          ∗ owns (c : Thread nD τ) arg18 fullShare (out0_17 ⟨x0, x1, x2, x3, x4, x5, x6, x7, x8, x9, x10, x11, x12, x13⟩)
          ∗ owns (c : Thread nD τ) arg19 fullShare (out0_18 ⟨x0, x1, x2, x3, x4, x5, x6, x7, x8, x9, x10, x11, x12, x13⟩)
          ∗ owns (c : Thread nD τ) arg20 fullShare (out0_19 ⟨x0, x1, x2, x3, x4, x5, x6, x7, x8, x9, x10, x11, x12, x13⟩)
          ∗ owns (c : Thread nD τ) arg21 fullShare (out0_20 ⟨x0, x1, x2, x3, x4, x5, x6, x7, x8, x9, x10, x11, x12, x13⟩)
          ∗ owns (c : Thread nD τ) arg22 fullShare (out0_21 ⟨x0, x1, x2, x3, x4, x5, x6, x7, x8, x9, x10, x11, x12, x13⟩)
          ∗ owns (c : Thread nD τ) arg23 fullShare (out0_22 ⟨x0, x1, x2, x3, x4, x5, x6, x7, x8, x9, x10, x11, x12, x13⟩)
          ∗ owns (c : Thread nD τ) arg24 fullShare (out0_23 ⟨x0, x1, x2, x3, x4, x5, x6, x7, x8, x9, x10, x11, x12, x13⟩)
          ∗ owns (c : Thread nD τ) arg25 fullShare (out0_24 ⟨x0, x1, x2, x3, x4, x5, x6, x7, x8, x9, x10, x11, x12, x13⟩)
          ∗ owns (c : Thread nD τ) arg26 fullShare (out0_25 ⟨x0, x1, x2, x3, x4, x5, x6, x7, x8, x9, x10, x11, x12, x13⟩)) -∗ K ⟨⟩))
    ⊢ wp frame (wpE (defs₀ (F := F)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_mlp_eq_skeleton]; unfold cc0_mlp_skel
  simp only [k0_part273_eq_skeleton, k0_part274_eq_skeleton, k0_part275_eq_skeleton, k0_part276_eq_skeleton]
  simp only [k0_part273_skel, k0_part274_skel, k0_part275_skel, k0_part276_skel]
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hk⟩
  subst hf0 hf1 hf2 hf3 hf4 hf5 hf6 hf7 hf8 hf9 hf10 hf11 hf12 hf13
  sl_exec
  sl_step
  iapply Hk
  isplitl [H0]
  · iexists f0
    isplitr
    · ipureintro; rfl
    iexact H0
  isplitl [H1]
  · iexists f1
    isplitr
    · ipureintro; rfl
    iexact H1
  isplitl [H2]
  · iexists f2
    isplitr
    · ipureintro; rfl
    iexact H2
  isplitl [H3]
  · iexists f3
    isplitr
    · ipureintro; rfl
    iexact H3
  isplitl [H4]
  · iexists f4
    isplitr
    · ipureintro; rfl
    iexact H4
  isplitl [H5]
  · iexists f5
    isplitr
    · ipureintro; rfl
    iexact H5
  isplitl [H6]
  · iexists f6
    isplitr
    · ipureintro; rfl
    iexact H6
  isplitl [H7]
  · iexists f7
    isplitr
    · ipureintro; rfl
    iexact H7
  isplitl [H8]
  · iexists f8
    isplitr
    · ipureintro; rfl
    iexact H8
  isplitl [H9]
  · iexists f9
    isplitr
    · ipureintro; rfl
    iexact H9
  isplitl [H10]
  · iexists f10
    isplitr
    · ipureintro; rfl
    iexact H10
  isplitl [H11]
  · iexists f11
    isplitr
    · ipureintro; rfl
    iexact H11
  isplitl [H12]
  · iexists f12
    isplitr
    · ipureintro; rfl
    iexact H12
  isplitl [H13]
  · iexists f13
    isplitr
    · ipureintro; rfl
    iexact H13
  isplitl [H14]
  · iexists _
    isplitr
    swap
    · iexact H14
    ipureintro
    exact Eq.trans (b := arg15.view.read (Elt F) (arg15.view.writes (Elt F) f14 (SubRow.subs arg15.view f14 (ops_14 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩))))
      (by as_aux_lemma => sl_kernel_rfl)
      ((SubRow.read_subs arg15.view f14 (ops_14 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩) (placed_14 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩)).trans ((View.read_writes_eq_canon arg15.view f14 _ (cover_14 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩)).trans (bridge_14 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩)))
  isplitl [H15]
  · iexists _
    isplitr
    swap
    · iexact H15
    ipureintro
    exact Eq.trans (b := arg16.view.read (Elt F) (arg16.view.writes (Elt F) f15 (SubRow.subs arg16.view f15 (ops_15 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩))))
      (by as_aux_lemma => sl_kernel_rfl)
      ((SubRow.read_subs arg16.view f15 (ops_15 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩) (placed_15 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩)).trans ((View.read_writes_eq_canon arg16.view f15 _ (cover_15 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩)).trans (bridge_15 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩)))
  isplitl [H16]
  · iexists _
    isplitr
    swap
    · iexact H16
    ipureintro
    exact Eq.trans (b := arg17.view.read (Elt F) (arg17.view.writes (Elt F) f16 (raw_16 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩)))
      (by as_aux_lemma => sl_kernel_rfl)
      ((View.read_writes_eq_canon arg17.view f16 (raw_16 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩) (cover_16 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩)).trans (bridge_16 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩))
  isplitl [H17]
  · iexists _
    isplitr
    swap
    · iexact H17
    ipureintro
    exact Eq.trans (b := arg18.view.read (Elt F) (arg18.view.writes (Elt F) f17 (raw_17 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩)))
      (by as_aux_lemma => sl_kernel_rfl)
      ((View.read_writes_eq_canon arg18.view f17 (raw_17 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩) (cover_17 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩)).trans (bridge_17 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩))
  isplitl [H18]
  · iexists _
    isplitr
    swap
    · iexact H18
    ipureintro
    exact Eq.trans (b := arg19.view.read (Elt F) (arg19.view.writes (Elt F) f18 (raw_18 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩)))
      (by as_aux_lemma => sl_kernel_rfl)
      ((View.read_writes_eq_canon arg19.view f18 (raw_18 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩) (cover_18 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩)).trans (bridge_18 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩))
  isplitl [H19]
  · iexists _
    isplitr
    swap
    · iexact H19
    ipureintro
    exact Eq.trans (b := arg20.view.read (Elt F) (arg20.view.writes (Elt F) f19 (raw_19 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩)))
      (by as_aux_lemma => sl_kernel_rfl)
      ((View.read_writes_eq_canon arg20.view f19 (raw_19 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩) (cover_19 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩)).trans (bridge_19 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩))
  isplitl [H20]
  · iexists _
    isplitr
    swap
    · iexact H20
    ipureintro
    exact Eq.trans (b := arg21.view.read (Elt F) (arg21.view.writes (Elt F) f20 (raw_20 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩)))
      (by as_aux_lemma => sl_kernel_rfl)
      ((View.read_writes_eq_canon arg21.view f20 (raw_20 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩) (cover_20 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩)).trans (bridge_20 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩))
  isplitl [H21]
  · iexists _
    isplitr
    swap
    · iexact H21
    ipureintro
    exact Eq.trans (b := arg22.view.read (Elt F) (arg22.view.writes (Elt F) f21 (raw_21 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩)))
      (by as_aux_lemma => sl_kernel_rfl)
      ((View.read_writes_eq_canon arg22.view f21 (raw_21 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩) (cover_21 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩)).trans (bridge_21 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩))
  isplitl [H22]
  · iexists _
    isplitr
    swap
    · iexact H22
    ipureintro
    exact Eq.trans (b := arg23.view.read (Elt F) (arg23.view.writes (Elt F) f22 (raw_22 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩)))
      (by as_aux_lemma => sl_kernel_rfl)
      ((View.read_writes_eq_canon arg23.view f22 (raw_22 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩) (cover_22 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩)).trans (bridge_22 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩))
  isplitl [H23]
  · iexists _
    isplitr
    swap
    · iexact H23
    ipureintro
    exact Eq.trans (b := arg24.view.read (Elt F) (arg24.view.writes (Elt F) f23 (raw_23 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩)))
      (by as_aux_lemma => sl_kernel_rfl)
      ((View.read_writes_eq_canon arg24.view f23 (raw_23 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩) (cover_23 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩)).trans (bridge_23 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩))
  isplitl [H24]
  · iexists _
    isplitr
    swap
    · iexact H24
    ipureintro
    exact Eq.trans (b := arg25.view.read (Elt F) (arg25.view.writes (Elt F) f24 (raw_24 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩)))
      (by as_aux_lemma => sl_kernel_rfl)
      ((View.read_writes_eq_canon arg25.view f24 (raw_24 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩) (cover_24 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩)).trans (bridge_24 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩))
  iexists _
  isplitr
  swap
  · iexact H25
  ipureintro
  exact Eq.trans (b := arg26.view.read (Elt F) (arg26.view.writes (Elt F) f25 (raw_25 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩)))
    (by as_aux_lemma => sl_kernel_rfl)
    ((View.read_writes_eq_canon arg26.view f25 (raw_25 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩) (cover_25 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩)).trans (bridge_25 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13⟩))

end Cert.KernelIdeal.Body

end

end
-- ==== Proof.KernelIdeal.Frame.lean ====
/- The launch at any floats: the argument arrays end unchanged, and each result array is what the library computes from
   the blocks of `Vocab`. -/
module

public import Idealize.ShloMosaic.Lib.Claim
public import proofs.«01_k».proof.Proof.KernelIdeal.Triple

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the region: every input buffer at its block, every result buffer at what the body stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => out0_14 ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t⟩
    | ⟨15, _⟩ => out0_15 ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t⟩
    | ⟨16, _⟩ => out0_16 ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t⟩
    | ⟨17, _⟩ => out0_17 ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t⟩
    | ⟨18, _⟩ => out0_18 ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t⟩
    | ⟨19, _⟩ => out0_19 ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t⟩
    | ⟨20, _⟩ => out0_20 ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t⟩
    | ⟨21, _⟩ => out0_21 ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t⟩
    | ⟨22, _⟩ => out0_22 ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t⟩
    | ⟨23, _⟩ => out0_23 ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t⟩
    | ⟨24, _⟩ => out0_24 ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t⟩
    | ⟨25, _⟩ => out0_25 ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t⟩
    | ⟨_ + 26, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  rw [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = out0_14 ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t⟩ := by dsimp only [dats]
theorem after0_15 (c : Dev nD) (t : Fin cfg0.N) : (dats m 0 c).after 15 t = out0_15 ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t⟩ := by dsimp only [dats]
theorem after0_16 (c : Dev nD) (t : Fin cfg0.N) : (dats m 0 c).after 16 t = out0_16 ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t⟩ := by dsimp only [dats]
theorem after0_17 (c : Dev nD) (t : Fin cfg0.N) : (dats m 0 c).after 17 t = out0_17 ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t⟩ := by dsimp only [dats]
theorem after0_18 (c : Dev nD) (t : Fin cfg0.N) : (dats m 0 c).after 18 t = out0_18 ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t⟩ := by dsimp only [dats]
theorem after0_19 (c : Dev nD) (t : Fin cfg0.N) : (dats m 0 c).after 19 t = out0_19 ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t⟩ := by dsimp only [dats]
theorem after0_20 (c : Dev nD) (t : Fin cfg0.N) : (dats m 0 c).after 20 t = out0_20 ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t⟩ := by dsimp only [dats]
theorem after0_21 (c : Dev nD) (t : Fin cfg0.N) : (dats m 0 c).after 21 t = out0_21 ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t⟩ := by dsimp only [dats]
theorem after0_22 (c : Dev nD) (t : Fin cfg0.N) : (dats m 0 c).after 22 t = out0_22 ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t⟩ := by dsimp only [dats]
theorem after0_23 (c : Dev nD) (t : Fin cfg0.N) : (dats m 0 c).after 23 t = out0_23 ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t⟩ := by dsimp only [dats]
theorem after0_24 (c : Dev nD) (t : Fin cfg0.N) : (dats m 0 c).after 24 t = out0_24 ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t⟩ := by dsimp only [dats]
theorem after0_25 (c : Dev nD) (t : Fin cfg0.N) : (dats m 0 c).after 25 t = out0_25 ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t⟩ := by dsimp only [dats]

theorem before0_0 (c : Dev nD) (t : Fin cfg0.N) (d : ((cfg0.win 0).block.Idx → Elt F (cfg0.win 0).elt)) :
    (dats m 0 c).before 0 t d = iblk m c 0 t :=
  before0_0_of m (dats m 0 c) (A_eq m c 0) (after0_0 m c) t d
theorem before0_1 (c : Dev nD) (t : Fin cfg0.N) (d : ((cfg0.win 1).block.Idx → Elt F (cfg0.win 1).elt)) :
    (dats m 0 c).before 1 t d = iblk m c 1 t :=
  before0_1_of m (dats m 0 c) (A_eq m c 1) (after0_1 m c) t d
theorem before0_2 (c : Dev nD) (t : Fin cfg0.N) (d : ((cfg0.win 2).block.Idx → Elt F (cfg0.win 2).elt)) :
    (dats m 0 c).before 2 t d = iblk m c 2 t :=
  before0_2_of m (dats m 0 c) (A_eq m c 2) (after0_2 m c) t d
theorem before0_3 (c : Dev nD) (t : Fin cfg0.N) (d : ((cfg0.win 3).block.Idx → Elt F (cfg0.win 3).elt)) :
    (dats m 0 c).before 3 t d = iblk m c 3 t :=
  before0_3_of m (dats m 0 c) (A_eq m c 3) (after0_3 m c) t d
theorem before0_4 (c : Dev nD) (t : Fin cfg0.N) (d : ((cfg0.win 4).block.Idx → Elt F (cfg0.win 4).elt)) :
    (dats m 0 c).before 4 t d = iblk m c 4 t :=
  before0_4_of m (dats m 0 c) (A_eq m c 4) (after0_4 m c) t d
theorem before0_5 (c : Dev nD) (t : Fin cfg0.N) (d : ((cfg0.win 5).block.Idx → Elt F (cfg0.win 5).elt)) :
    (dats m 0 c).before 5 t d = iblk m c 5 t :=
  before0_5_of m (dats m 0 c) (A_eq m c 5) (after0_5 m c) t d
theorem before0_6 (c : Dev nD) (t : Fin cfg0.N) (d : ((cfg0.win 6).block.Idx → Elt F (cfg0.win 6).elt)) :
    (dats m 0 c).before 6 t d = iblk m c 6 t :=
  before0_6_of m (dats m 0 c) (A_eq m c 6) (after0_6 m c) t d
theorem before0_7 (c : Dev nD) (t : Fin cfg0.N) (d : ((cfg0.win 7).block.Idx → Elt F (cfg0.win 7).elt)) :
    (dats m 0 c).before 7 t d = iblk m c 7 t :=
  before0_7_of m (dats m 0 c) (A_eq m c 7) (after0_7 m c) t d
theorem before0_8 (c : Dev nD) (t : Fin cfg0.N) (d : ((cfg0.win 8).block.Idx → Elt F (cfg0.win 8).elt)) :
    (dats m 0 c).before 8 t d = iblk m c 8 t :=
  before0_8_of m (dats m 0 c) (A_eq m c 8) (after0_8 m c) t d
theorem before0_9 (c : Dev nD) (t : Fin cfg0.N) (d : ((cfg0.win 9).block.Idx → Elt F (cfg0.win 9).elt)) :
    (dats m 0 c).before 9 t d = iblk m c 9 t :=
  before0_9_of m (dats m 0 c) (A_eq m c 9) (after0_9 m c) t d
theorem before0_10 (c : Dev nD) (t : Fin cfg0.N) (d : ((cfg0.win 10).block.Idx → Elt F (cfg0.win 10).elt)) :
    (dats m 0 c).before 10 t d = iblk m c 10 t :=
  before0_10_of m (dats m 0 c) (A_eq m c 10) (after0_10 m c) t d
theorem before0_11 (c : Dev nD) (t : Fin cfg0.N) (d : ((cfg0.win 11).block.Idx → Elt F (cfg0.win 11).elt)) :
    (dats m 0 c).before 11 t d = iblk m c 11 t :=
  before0_11_of m (dats m 0 c) (A_eq m c 11) (after0_11 m c) t d
theorem before0_12 (c : Dev nD) (t : Fin cfg0.N) (d : ((cfg0.win 12).block.Idx → Elt F (cfg0.win 12).elt)) :
    (dats m 0 c).before 12 t d = iblk m c 12 t :=
  before0_12_of m (dats m 0 c) (A_eq m c 12) (after0_12 m c) t d
theorem before0_13 (c : Dev nD) (t : Fin cfg0.N) (d : ((cfg0.win 13).block.Idx → Elt F (cfg0.win 13).elt)) :
    (dats m 0 c).before 13 t d = iblk m c 13 t :=
  before0_13_of m (dats m 0 c) (A_eq m c 13) (after0_13 m c) t d

/-- What the body is run from at point `t`, each window by itself, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t))

/-- The body at any point: the inputs' buffers hold their blocks, so the body's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  iintro ⟨H0, H1, H2, H3, H4, H5, H6, H7, H8, H9, H10, H11, H12, H13, H14, H15, H16, H17, H18, H19, H20, H21, H22, H23, H24, H25⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 0 in
/-- The launch: every execution ends with the arrays at what the proof data give and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

/-- THE FRAME: the argument arrays end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.KernelIdeal.Body

end

end
-- ==== Proof.Spec.lean ====
module

public import Idealize.ShloMosaic.PureOps.Ideal
public import Idealize.ShloMosaic.Lib.Pointwise

/-! The network at one sample, over the extended reals: the block quantiser, the five layers and the twelve results. -/

@[expose] public section

noncomputable section

namespace Cert.Spec

open Idealize.ShloMosaic

/-! ## The quantiser of one group of sixteen channels -/

/-- The exponent of the scale: one more than the floor of the logarithm to base 2, at most 126, and 0 for what lies
    below the smallest normal number. -/
def ex (t : EReal) : EReal :=
  if t < Ideal.ofBits .f32 0x00800000#32 then 0
  else min (Ideal.liftRound Int.floor (Ideal.div (Ideal.log t) (Ideal.log (Ideal.ofBits .f32 0x40000000#32))) + 1)
    (Ideal.ofBits .f32 0x42FC0000#32)

/-- The largest magnitude of the group over the largest code. -/
def top (v : Fin 16 → EReal) : EReal :=
  Finset.fold max (Ideal.ofBits .f32 0xFF800000#32) (fun j => max (v j) (-v j)) Finset.univ
    * Ideal.ofBits .f32 0x3B124925#32

/-- The scale of the group. -/
def scale (v : Fin 16 → EReal) : EReal := Ideal.exp2 (ex (top v))

/-- The codes of the group. -/
def code (v : Fin 16 → EReal) (j : Fin 16) : EReal :=
  min (Ideal.ofBits .f32 0x43E00000#32)
    (max (Ideal.ofBits .f32 0xC3E00000#32) (v j * Ideal.exp2 (0 - ex (top v))))

/-! ## The quantiser of all channels -/

/-- Group `g` of the channels `x`. -/
def grp {n : ℕ} (x : Fin n → EReal) (g : ℕ) : Fin 16 → EReal :=
  fun j => if h : 16 * g + j.val < n then x ⟨16 * g + j.val, h⟩ else 0

/-- The scale of group `g`. -/
def scaleAt {n : ℕ} (x : Fin n → EReal) (g : ℕ) : EReal := scale (grp x g)

/-- The code of channel `c`. -/
def codeAt {n : ℕ} (x : Fin n → EReal) (c : Fin n) : EReal :=
  code (grp x (c.val / 16)) ⟨c.val % 16, Nat.mod_lt _ (by decide)⟩

/-- What enters the next product at channel `c`. -/
def actAt {n : ℕ} (x : Fin n → EReal) (c : Fin n) : EReal := codeAt x c * scaleAt x (c.val / 16)

theorem codeAt_of {n : ℕ} (x : Fin n → EReal) (c : Fin n) (g : ℕ) (j : Fin 16) (h : c.val = 16 * g + j.val) :
    codeAt x c = code (grp x g) j := by
  have hj := j.isLt
  have h1 : c.val / 16 = g := by omega
  have h2 : (⟨c.val % 16, Nat.mod_lt _ (by decide)⟩ : Fin 16) = j := Fin.ext (by show c.val % 16 = j.val; omega)
  rw [codeAt, h1, h2]

theorem actAt_of {n : ℕ} (x : Fin n → EReal) (c : Fin n) (g : ℕ) (j : Fin 16) (h : c.val = 16 * g + j.val) :
    actAt x c = code (grp x g) j * scale (grp x g) := by
  have hj := j.isLt
  have h1 : c.val / 16 = g := by omega
  rw [actAt, codeAt_of x c g j h, h1, scaleAt]

theorem grp_of {n : ℕ} (x : Fin n → EReal) (g : ℕ) (j : Fin 16) (c : Fin n) (h : c.val = 16 * g + j.val) :
    grp x g j = x c := by
  have hj := c.isLt
  rw [grp, dif_pos (by omega)]
  exact congrArg x (Fin.ext h.symm)

/-! ## The network -/

/-- One layer before its activation. -/
def lay {k m : ℕ} (w : Fin m → Fin k → EReal) (sd : Fin m → EReal) (x : Fin k → EReal) (o : Fin m) : EReal :=
  (∑ i, w o i * actAt x i) * sd o

/-- The weights of the two networks, with their scales. -/
structure Net where
  wd0 : Fin 64 → Fin 32 → EReal
  sd0 : Fin 64 → EReal
  wd1 : Fin 16 → Fin 64 → EReal
  sd1 : Fin 16 → EReal
  wc0 : Fin 64 → Fin 32 → EReal
  sc0 : Fin 64 → EReal
  wc1 : Fin 64 → Fin 64 → EReal
  sc1 : Fin 64 → EReal
  wc2 : Fin 3 → Fin 64 → EReal
  sc2 : Fin 3 → EReal

variable (N : Net)

def h1 (e : Fin 32 → EReal) (o : Fin 64) : EReal := max (lay N.wd0 N.sd0 e o) 0
def hh (e : Fin 32 → EReal) (o : Fin 16) : EReal := lay N.wd1 N.sd1 (h1 N e) o
def cin (e : Fin 32 → EReal) (sh : Fin 16 → EReal) (c : Fin 32) : EReal :=
  if h : c.val < 16 then hh N e ⟨c.val, h⟩ else sh ⟨c.val - 16, by have := c.isLt; omega⟩
def g1 (e : Fin 32 → EReal) (sh : Fin 16 → EReal) (o : Fin 64) : EReal := max (lay N.wc0 N.sc0 (cin N e sh) o) 0
def g2 (e : Fin 32 → EReal) (sh : Fin 16 → EReal) (o : Fin 64) : EReal := max (lay N.wc1 N.sc1 (g1 N e sh) o) 0
def sigma (e : Fin 32 → EReal) : EReal := Ideal.exp (hh N e 0)
def rgb (e : Fin 32 → EReal) (sh : Fin 16 → EReal) (k : Fin 3) : EReal :=
  Ideal.div 1 (1 + Ideal.exp (0 - lay N.wc2 N.sc2 (g2 N e sh) k))

end Cert.Spec

end

end
-- ==== Proof.Exponent.lean ====
module

public import proofs.«01_k».proof.Proof.Spec

/-! The exponent of the scale: the kernel finds the exponent field of a number bit by bit and builds the scale from its
bits; the logarithm and the power of two give the same. -/

@[expose] public section

set_option maxRecDepth 16384

noncomputable section

namespace Cert.Spec

open Idealize.ShloMosaic

/-- The number with exponent field `n` and no fraction. -/
def thr (n : ℕ) : ℝ := if n = 0 then 0 else (2 : ℝ) ^ ((n : ℤ) - 127)

theorem ofBits_field (n : ℕ) (hn : n ≤ 254) : Ideal.ofBits .f32 (BitVec.ofNat 32 (n * 8388608)) = ((thr n : ℝ) : EReal) := by
  have e1 : (BitVec.ofNat 32 (n * 8388608)).toNat = n * 8388608 := by
    rw [BitVec.toNat_ofNat]; exact Nat.mod_eq_of_lt (by omega)
  have e2 : (BitVec.extractLsb' 23 8 (BitVec.ofNat 32 (n * 8388608))).toNat = n := by
    rw [BitVec.extractLsb'_toNat, e1, Nat.shiftRight_eq_div_pow]; omega
  have e3 : (BitVec.extractLsb' 0 23 (BitVec.ofNat 32 (n * 8388608))).toNat = 0 := by
    rw [BitVec.extractLsb'_toNat, e1, Nat.shiftRight_eq_div_pow]; omega
  have e4 : (BitVec.extractLsb' 31 1 (BitVec.ofNat 32 (n * 8388608))) = 0#1 := by
    apply BitVec.eq_of_toNat_eq
    rw [BitVec.extractLsb'_toNat, e1, Nat.shiftRight_eq_div_pow]
    show n * 8388608 / 2 ^ 31 % 2 ^ 1 = 0
    omega
  show Ideal.ieee 8 23 (BitVec.ofNat 32 (n * 8388608)) = _
  unfold Ideal.ieee thr
  simp only [e2, e3, show (8 + 23 : ℕ) = 31 from rfl, e4]
  rw [if_neg (by omega)]
  by_cases h0 : n = 0
  · simp [h0]
  · rw [if_neg h0, if_neg h0]
    congr 1
    have h2 : (2 : ℝ) ≠ 0 := by norm_num
    rw [show ((n : ℤ) - (2 ^ (8 - 1) - 1) - ((23 : ℕ) : ℤ)) = ((n : ℤ) - 127) - 23 by norm_num, zpow_sub₀ h2]
    norm_num
    ring

theorem thr_nonneg (n : ℕ) : 0 ≤ thr n := by
  unfold thr; split
  · exact le_refl _
  · positivity

theorem thr_mono {a b : ℕ} (h : a ≤ b) : thr a ≤ thr b := by
  by_cases ha : a = 0
  · rw [show thr a = 0 by simp [thr, ha]]; exact thr_nonneg b
  · unfold thr
    rw [if_neg ha, if_neg (by omega)]
    exact zpow_le_zpow_right₀ (by norm_num) (by omega)

/-- One step of the search on the bits. -/
def growS (t : EReal) (k b : BitVec 32) : BitVec 32 :=
  if Ideal.ofBits .f32 (IntOp.addi b k) ≤ t then IntOp.addi b k else b

/-- The search. -/
def fieldS (t : EReal) : BitVec 32 :=
  growS t 8388608#32 <| growS t 16777216#32 <| growS t 33554432#32 <| growS t 67108864#32 <|
  growS t 134217728#32 <| growS t 268435456#32 <| growS t 528482304#32 <| growS t 1056964608#32 0#32

/-- The field `E` is at most the number's, which is at most `E + R`. -/
def Inv (t : EReal) (b : BitVec 32) (R : ℕ) : Prop :=
  ∃ E : ℕ, b = BitVec.ofNat 32 (E * 8388608) ∧ E + R ≤ 252 ∧ ((thr E : ℝ) : EReal) ≤ t
    ∧ (t < ((thr (E + R + 1) : ℝ) : EReal) ∨ E + R = 252)

theorem Inv.step {t : EReal} {b : BitVec 32} {R : ℕ} (h : Inv t b R) (k R' : ℕ) (hR : R = k + R') (hk : k ≤ R' + 1)
    (kb : BitVec 32) (hkb : kb = BitVec.ofNat 32 (k * 8388608)) : Inv t (growS t kb b) R' := by
  obtain ⟨E, rfl, h1, h2, h3⟩ := h
  have hadd : IntOp.addi (BitVec.ofNat 32 (E * 8388608)) kb = BitVec.ofNat 32 ((E + k) * 8388608) := by
    show BitVec.ofNat 32 (E * 8388608) + kb = _
    rw [hkb, ← BitVec.ofNat_add]; rw [Nat.add_mul]
  unfold growS
  rw [hadd, ofBits_field _ (by omega)]
  by_cases hc : ((thr (E + k) : ℝ) : EReal) ≤ t
  · rw [if_pos hc]
    refine ⟨E + k, rfl, by omega, hc, ?_⟩
    rcases h3 with h3 | h3
    · left; rw [show E + k + R' + 1 = E + R + 1 by omega]; exact h3
    · right; omega
  · rw [if_neg hc]
    refine ⟨E, rfl, by omega, h2, Or.inl ?_⟩
    refine lt_of_lt_of_le (not_le.1 hc) ?_
    exact EReal.coe_le_coe_iff.2 (thr_mono (by omega))

theorem fieldS_spec {t : EReal} (ht : 0 ≤ t) : Inv t (fieldS t) 0 := by
  have h0 : Inv t 0#32 252 := ⟨0, by decide, by omega, by simpa [thr] using ht, Or.inr (by omega)⟩
  have s0 := h0.step 126 126 rfl (by omega) 1056964608#32 (by decide)
  have s1 := s0.step 63 63 rfl (by omega) 528482304#32 (by decide)
  have s2 := s1.step 32 31 rfl (by omega) 268435456#32 (by decide)
  have s3 := s2.step 16 15 rfl (by omega) 134217728#32 (by decide)
  have s4 := s3.step 8 7 rfl (by omega) 67108864#32 (by decide)
  have s5 := s4.step 4 3 rfl (by omega) 33554432#32 (by decide)
  have s6 := s5.step 2 1 rfl (by omega) 16777216#32 (by decide)
  have s7 := s6.step 1 0 rfl (by omega) 8388608#32 (by decide)
  exact s7

/-- The exponent of the scale, on the bits. -/
def expoS (t : EReal) : BitVec 32 :=
  if t < Ideal.ofBits .f32 8388608#32 then 0#32
  else IntOp.subi (IntOp.shrui ArithUnit.vector (fieldS t) 23#32) 126#32

/-- The scale on the bits. -/
def scaleS (t : EReal) : EReal :=
  Ideal.ofBits .f32 (IntOp.shli ArithUnit.vector (IntOp.addi 127#32 (expoS t)) 23#32)

/-- One over the scale on the bits. -/
def invS (t : EReal) : EReal :=
  Ideal.ofBits .f32 (IntOp.shli ArithUnit.vector (IntOp.subi 127#32 (expoS t)) 23#32)

theorem shl_field (n : ℕ) (hn : n ≤ 254) :
    IntOp.shli ArithUnit.vector (BitVec.ofNat 32 n) 23#32 = BitVec.ofNat 32 (n * 8388608) := by
  unfold IntOp.shli
  rw [if_pos (by decide)]
  apply BitVec.eq_of_toNat_eq
  rw [BitVec.shiftLeft_eq', BitVec.toNat_shiftLeft]
  simp only [BitVec.toNat_ofNat, Nat.shiftLeft_eq]
  rw [show (23 % 2 ^ 32 : ℕ) = 23 from rfl, show (2 ^ 23 : ℕ) = 8388608 from rfl,
    show (2 ^ 32 : ℕ) = 4294967296 from rfl]
  omega

theorem shr_field (n : ℕ) (hn : n ≤ 254) :
    IntOp.shrui ArithUnit.vector (BitVec.ofNat 32 (n * 8388608)) 23#32 = BitVec.ofNat 32 n := by
  unfold IntOp.shrui
  rw [if_pos (by decide)]
  apply BitVec.eq_of_toNat_eq
  rw [BitVec.ushiftRight_eq', BitVec.toNat_ushiftRight]
  simp only [BitVec.toNat_ofNat, Nat.shiftRight_eq_div_pow]
  rw [show (23 % 2 ^ 32 : ℕ) = 23 from rfl, show (2 ^ 23 : ℕ) = 8388608 from rfl,
    show (2 ^ 32 : ℕ) = 4294967296 from rfl]
  omega

theorem ofBits_two : Ideal.ofBits .f32 0x40000000#32 = ((2 : ℝ) : EReal) := by
  have := ofBits_field 128 (by omega)
  rw [show (BitVec.ofNat 32 (128 * 8388608)) = 0x40000000#32 from rfl] at this
  rw [this]; norm_num [thr]

theorem ofBits_min : Ideal.ofBits .f32 0x00800000#32 = ((thr 1 : ℝ) : EReal) := ofBits_field 1 (by omega)

theorem ofBits_126 : Ideal.ofBits .f32 0x42FC0000#32 = ((126 : ℝ) : EReal) := by
  show Ideal.ieee 8 23 0x42FC0000#32 = _
  unfold Ideal.ieee
  have e1 : (BitVec.extractLsb' 23 8 (0x42FC0000#32)).toNat = 133 := by decide
  have e2 : (BitVec.extractLsb' 0 23 (0x42FC0000#32)).toNat = 8126464 := by decide
  have e3 : (BitVec.extractLsb' 31 1 (0x42FC0000#32)) = 0#1 := by decide
  simp only [e1, e2, show (8 + 23 : ℕ) = 31 from rfl, e3]
  norm_num

/-- The exponent by the logarithm. -/
theorem ex_eq {t : EReal} {E : ℕ} (h1 : ((thr E : ℝ) : EReal) ≤ t) (hE : E ≤ 252)
    (h2 : t < ((thr (E + 1) : ℝ) : EReal) ∨ E = 252) (ht : ¬ t < Ideal.ofBits .f32 0x00800000#32) :
    1 ≤ E ∧ ex t = (((E : ℤ) - 126 : ℤ) : ℝ) := by
  have hE1 : 1 ≤ E := by
    by_contra hc
    have : E = 0 := by omega
    subst this
    rcases h2 with h2 | h2
    · rw [ofBits_min] at ht; exact ht h2
    · omega
  refine ⟨hE1, ?_⟩
  unfold ex
  rw [if_neg ht, ofBits_two, ofBits_126]
  have hlog2 : (0 : ℝ) < Real.log 2 := Real.log_pos (by norm_num)
  have hl : Ideal.log ((2 : ℝ) : EReal) = ((Real.log 2 : ℝ) : EReal) := by
    show (if (2 : ℝ) ≤ 0 then (⊥ : EReal) else _) = _
    rw [if_neg (by norm_num)]
  rw [hl, Ideal.div_coe hlog2.ne']
  induction t with
  | bot =>
    exfalso
    exact absurd (lt_of_lt_of_le (EReal.bot_lt_coe _) h1) (lt_irrefl _)
  | top =>
    have : E = 252 := by
      rcases h2 with h2 | h2
      · exact absurd h2 (not_lt.2 le_top)
      · exact h2
    subst this
    have e1 : Ideal.log ⊤ = ⊤ := rfl
    rw [e1, EReal.top_mul_coe_of_pos (by positivity)]
    have e2 : Ideal.liftRound Int.floor ⊤ = ⊤ := rfl
    rw [e2]
    have e3 : (⊤ : EReal) + 1 = ⊤ := rfl
    rw [e3, min_eq_right le_top]
    norm_num
  | coe r =>
    have hr0 : 0 < r := by
      have := EReal.coe_le_coe_iff.1 h1
      refine lt_of_lt_of_le ?_ this
      unfold thr; rw [if_neg (by omega)]; positivity
    have e1 : Ideal.log ((r : ℝ) : EReal) = ((Real.log r : ℝ) : EReal) := by
      show (if r ≤ 0 then (⊥ : EReal) else _) = _
      rw [if_neg (not_le.2 hr0)]
    rw [e1, ← EReal.coe_mul]
    have e2 : ∀ x : ℝ, Ideal.liftRound Int.floor ((x : ℝ) : EReal) = (((⌊x⌋ : ℤ) : ℝ) : EReal) := fun x => rfl
    rw [e2, show (1 : EReal) = ((1 : ℝ) : EReal) from rfl, ← EReal.coe_add,
      ← EReal.coe_strictMono.monotone.map_min]
    congr 1
    have hpow : ∀ n : ℤ, (2 : ℝ) ^ n ≤ r ↔ (n : ℝ) ≤ Real.log r * (1 / Real.log 2) := by
      intro n
      rw [mul_one_div, le_div_iff₀ hlog2, ← Real.log_zpow]
      exact (Real.log_le_log_iff (by positivity) hr0).symm
    have hlo : ((E : ℤ) - 127 : ℤ) ≤ ⌊Real.log r * (1 / Real.log 2)⌋ := by
      rw [Int.le_floor, ← hpow]
      have := EReal.coe_le_coe_iff.1 h1
      unfold thr at this; rw [if_neg (by omega)] at this; exact this
    rcases h2 with h2 | h2
    · have hhi : ⌊Real.log r * (1 / Real.log 2)⌋ < ((E : ℤ) - 126 : ℤ) := by
        rw [Int.floor_lt, ← not_le, ← hpow, not_le]
        have := EReal.coe_lt_coe_iff.1 h2
        unfold thr at this; rw [if_neg (by omega)] at this
        rw [show ((E : ℤ) - 126) = ((E + 1 : ℕ) : ℤ) - 127 by push_cast; ring]; exact this
      have hf : ⌊Real.log r * (1 / Real.log 2)⌋ = (E : ℤ) - 127 := by omega
      rw [hf, min_eq_left]
      · push_cast; ring
      · have : (E : ℝ) ≤ 252 := by exact_mod_cast hE
        push_cast; linarith
    · subst h2
      rw [min_eq_right]
      · norm_num
      · have : ((((252 : ℕ) : ℤ) - 127 : ℤ) : ℝ) ≤ (⌊Real.log r * (1 / Real.log 2)⌋ : ℝ) := by exact_mod_cast hlo
        rw [show ((((252 : ℕ) : ℤ) - 127 : ℤ) : ℝ) = 125 by norm_num] at this
        linarith

theorem exp2_int (n : ℤ) : Ideal.exp2 (((n : ℤ) : ℝ) : EReal) = (((2 : ℝ) ^ n : ℝ) : EReal) := by
  show ((Real.rpow 2 (n : ℝ) : ℝ) : EReal) = _
  rw [show Real.rpow 2 (n : ℝ) = (2 : ℝ) ^ (n : ℝ) from rfl, Real.rpow_intCast]

theorem ofBits_pow (n : ℕ) (h1 : 1 ≤ n) (hn : n ≤ 254) :
    Ideal.ofBits .f32 (BitVec.ofNat 32 (n * 8388608)) = (((2 : ℝ) ^ ((n : ℤ) - 127) : ℝ) : EReal) := by
  rw [ofBits_field n hn, thr, if_neg (by omega)]

/-- **The two scales agree.** -/
theorem scaleS_eq {t : EReal} (ht : 0 ≤ t) : scaleS t = Ideal.exp2 (ex t) ∧ invS t = Ideal.exp2 (0 - ex t) := by
  unfold scaleS invS expoS
  by_cases hc : t < Ideal.ofBits .f32 8388608#32
  · have e0 : ex t = ((0 : ℤ) : ℝ) := by unfold ex; rw [if_pos hc]; simp
    have e1 : (0 : EReal) - (((0 : ℤ) : ℝ) : EReal) = (((0 : ℤ) : ℝ) : EReal) := by simp
    rw [if_pos hc, e0, e1, exp2_int,
      show IntOp.addi 127#32 0#32 = BitVec.ofNat 32 127 from rfl, show IntOp.subi 127#32 0#32 = BitVec.ofNat 32 127 from rfl,
      shl_field 127 (by omega), ofBits_pow 127 (by omega) (by omega)]
    norm_num
  · obtain ⟨E, hb, hE, h1, h2⟩ := fieldS_spec ht
    obtain ⟨hE1, he⟩ := ex_eq h1 hE h2 hc
    rw [if_neg hc, hb, shr_field E (by omega), he]
    have a1 : IntOp.addi 127#32 (IntOp.subi (BitVec.ofNat 32 E) 126#32) = BitVec.ofNat 32 (E + 1) := by
      show 127#32 + (BitVec.ofNat 32 E - 126#32) = _
      apply BitVec.eq_of_toNat_eq
      simp only [BitVec.toNat_add, BitVec.toNat_sub, BitVec.toNat_ofNat]
      omega
    have a2 : IntOp.subi 127#32 (IntOp.subi (BitVec.ofNat 32 E) 126#32) = BitVec.ofNat 32 (253 - E) := by
      show 127#32 - (BitVec.ofNat 32 E - 126#32) = _
      apply BitVec.eq_of_toNat_eq
      simp only [BitVec.toNat_sub, BitVec.toNat_ofNat]
      omega
    have e1 : (0 : EReal) - ((((E : ℤ) - 126 : ℤ) : ℝ) : EReal) = (((126 - (E : ℤ) : ℤ) : ℝ) : EReal) := by
      rw [show (0 : EReal) = ((0 : ℝ) : EReal) from rfl, ← EReal.coe_sub]; congr 1; push_cast; ring
    rw [a1, a2, shl_field _ (by omega), shl_field _ (by omega), ofBits_pow _ (by omega) (by omega),
      ofBits_pow _ (by omega) (by omega), e1, exp2_int, exp2_int]
    constructor
    · congr 2; push_cast; ring
    · congr 2; rw [Nat.cast_sub (by omega)]; push_cast; ring

theorem ofBits_inv448_nonneg : (0 : EReal) ≤ Ideal.ofBits .f32 0x3B124925#32 := by
  show (0 : EReal) ≤ Ideal.ieee 8 23 0x3B124925#32
  unfold Ideal.ieee
  have e1 : (BitVec.extractLsb' 23 8 (0x3B124925#32)).toNat = 118 := by decide
  have e3 : (BitVec.extractLsb' 31 1 (0x3B124925#32)) = 0#1 := by decide
  simp only [e1, show (8 + 23 : ℕ) = 31 from rfl, e3]
  rw [if_neg (by norm_num), if_neg (by norm_num)]
  apply EReal.coe_nonneg.2
  simp only [Bool.false_eq_true, if_false, show (0#1 == 1#1) = false from rfl]
  positivity

/-- The largest magnitude is not negative. -/
theorem top_nonneg (v : Fin 16 → EReal) : 0 ≤ top v := by
  unfold top
  refine mul_nonneg ?_ ofBits_inv448_nonneg
  rw [Finset.le_fold_max]
  right
  refine ⟨0, Finset.mem_univ _, ?_⟩
  rcases le_total 0 (v 0) with h | h
  · exact le_max_of_le_left h
  · exact le_max_of_le_right (by simpa using EReal.neg_le_neg_iff.2 h)

theorem scale_eq (v : Fin 16 → EReal) : scaleS (top v) = scale v := (scaleS_eq (top_nonneg v)).1
theorem inv_eq (v : Fin 16 → EReal) : invS (top v) = Ideal.exp2 (0 - ex (top v)) := (scaleS_eq (top_nonneg v)).2

end Cert.Spec

end

end
-- ==== Proof.KernelIdeal.Points.lean ====
module

public import proofs.«01_k».proof.Proof.KernelIdeal.Vocab
public import proofs.«01_k».proof.Proof.Exponent

/-! What the stages of one grid step are at a sample: the stages of the network (`Spec`) there. -/

@[expose] public section

set_option synthInstance.maxSize 4096
set_option maxRecDepth 16384

noncomputable section

namespace Cert.KernelIdeal.Body

open Cert.KernelIdeal Cert.KernelIdeal.Gen
open Idealize.ShloMosaic Idealize.ShloMosaic.TcCoe Idealize.SL Idealize.SL.Sem

/-- The channels of sample `s`. -/
def col {n : ℕ} {e : FTy} (v : FVec Ideal ⟨2, ![n, 1024]⟩ e) (s : Fin 1024) : Fin n → EReal := fun c => v (ix2 c s)

theorem top_apply (v : FVec Ideal S16x1024 .f32) (s : Fin 1024) : top v (ix2 0 s) = Spec.top (col v s) := by
  pointwise [top]
  rfl

theorem grow_apply (t : FVec Ideal S1x1024 .f32) (k : BitVec 32) (b : IVec S1x1024 32) (s : Fin 1024) :
    grow t k b (ix2 0 s) = Spec.growS (t (ix2 0 s)) k (b (ix2 0 s)) := by
  pointwise [grow]
  rfl

theorem expBits_apply (t : FVec Ideal S1x1024 .f32) (s : Fin 1024) :
    expBits t (ix2 0 s) = Spec.fieldS (t (ix2 0 s)) := by
  unfold expBits Spec.fieldS
  simp only [grow_apply]
  rfl

theorem inv_apply (t : FVec Ideal S1x1024 .f32) (s : Fin 1024) : invScale t (ix2 0 s) = Spec.invS (t (ix2 0 s)) := by
  pointwise [invScale, expo]
  rw [expBits_apply]
  rfl

theorem scale_apply (v : FVec Ideal S16x1024 .f32) (s : Fin 1024) : scale v (ix2 0 s) = Spec.scale (col v s) := by
  rw [← Spec.scale_eq, ← top_apply]
  pointwise [scale, expo]
  rw [expBits_apply]
  rfl

theorem codes_apply (v : FVec Ideal S16x1024 .f32) (j : Fin 16) (s : Fin 1024) :
    codes v (ix2 j s) = Spec.code (col v s) j := by
  pointwise [codes]
  rw [inv_apply, top_apply, Spec.inv_eq]
  rfl

theorem act_apply (v : FVec Ideal S16x1024 .f32) (j : Fin 16) (s : Fin 1024) :
    act v (ix2 j s) = Spec.code (col v s) j * Spec.scale (col v s) := by
  pointwise [act]
  rw [codes_apply, scale_apply]

end Cert.KernelIdeal.Body

end

end
-- ==== Proof.KernelIdeal.Layers.lean ====
module

public import proofs.«01_k».proof.Proof.KernelIdeal.Points

/-! What the quantiser of 32 and of 64 channels, the layers and the rows stored are at a sample. -/

@[expose] public section

set_option synthInstance.maxSize 4096
set_option maxRecDepth 16384

noncomputable section

namespace Cert.KernelIdeal.Body

open Cert.KernelIdeal Cert.KernelIdeal.Gen
open Idealize.ShloMosaic Idealize.ShloMosaic.TcCoe Idealize.SL Idealize.SL.Sem

/-! ## The groups -/

theorem grp32_0_apply (v : FVec Ideal S32x1024 .f32) (s : Fin 1024) : col (grp32_0 v) s = Spec.grp (col v s) 0 := by
  funext j
  have hj := j.isLt
  rw [Spec.grp_of (col v s) 0 j ⟨0 + j.val, by omega⟩ (by simp)]
  unfold col
  pointwise [grp32_0]

theorem grp32_1_apply (v : FVec Ideal S32x1024 .f32) (s : Fin 1024) : col (grp32_1 v) s = Spec.grp (col v s) 1 := by
  funext j
  have hj := j.isLt
  rw [Spec.grp_of (col v s) 1 j ⟨16 + j.val, by omega⟩ (by simp)]
  unfold col
  pointwise [grp32_1]

theorem grp64_0_apply (v : FVec Ideal S64x1024 .f32) (s : Fin 1024) : col (grp64_0 v) s = Spec.grp (col v s) 0 := by
  funext j
  have hj := j.isLt
  rw [Spec.grp_of (col v s) 0 j ⟨0 + j.val, by omega⟩ (by simp)]
  unfold col
  pointwise [grp64_0]

theorem grp64_1_apply (v : FVec Ideal S64x1024 .f32) (s : Fin 1024) : col (grp64_1 v) s = Spec.grp (col v s) 1 := by
  funext j
  have hj := j.isLt
  rw [Spec.grp_of (col v s) 1 j ⟨16 + j.val, by omega⟩ (by simp)]
  unfold col
  pointwise [grp64_1]

theorem grp64_2_apply (v : FVec Ideal S64x1024 .f32) (s : Fin 1024) : col (grp64_2 v) s = Spec.grp (col v s) 2 := by
  funext j
  have hj := j.isLt
  rw [Spec.grp_of (col v s) 2 j ⟨32 + j.val, by omega⟩ (by simp)]
  unfold col
  pointwise [grp64_2]

theorem grp64_3_apply (v : FVec Ideal S64x1024 .f32) (s : Fin 1024) : col (grp64_3 v) s = Spec.grp (col v s) 3 := by
  funext j
  have hj := j.isLt
  rw [Spec.grp_of (col v s) 3 j ⟨48 + j.val, by omega⟩ (by simp)]
  unfold col
  pointwise [grp64_3]

theorem codes32_apply (v : FVec Ideal S32x1024 .f32) (c : Fin 32) (s : Fin 1024) :
    codes32 v (ix2 c s) = Spec.codeAt (col v s) c := by
  have hc := c.isLt
  pointwise [codes32]
  repeat' split
  · rw [Spec.codeAt_of (col v s) c 0 ⟨c.val - 0, by omega⟩ (by show c.val = 16 * 0 + (c.val - 0); omega), ← grp32_0_apply]
    exact codes_apply _ _ s
  · rw [Spec.codeAt_of (col v s) c 1 ⟨c.val - 16, by omega⟩ (by show c.val = 16 * 1 + (c.val - 16); omega), ← grp32_1_apply]
    exact codes_apply _ _ s

theorem act32_apply (v : FVec Ideal S32x1024 .f32) (c : Fin 32) (s : Fin 1024) :
    act32 v (ix2 c s) = Spec.actAt (col v s) c := by
  have hc := c.isLt
  pointwise [act32]
  repeat' split
  · rw [Spec.actAt_of (col v s) c 0 ⟨c.val - 0, by omega⟩ (by show c.val = 16 * 0 + (c.val - 0); omega), ← grp32_0_apply]
    exact act_apply _ _ s
  · rw [Spec.actAt_of (col v s) c 1 ⟨c.val - 16, by omega⟩ (by show c.val = 16 * 1 + (c.val - 16); omega), ← grp32_1_apply]
    exact act_apply _ _ s

theorem scales32_apply (v : FVec Ideal S32x1024 .f32) (g : Fin 2) (s : Fin 1024) :
    scales32 v (ix2 g s) = Spec.scaleAt (col v s) g.val := by
  unfold Spec.scaleAt
  fin_cases g
  · show scales32 v (ix2 0 s) = Spec.scale (Spec.grp (col v s) 0)
    pointwise [scales32]
    rw [← grp32_0_apply]
    exact scale_apply _ s
  · show scales32 v (ix2 1 s) = Spec.scale (Spec.grp (col v s) 1)
    pointwise [scales32]
    rw [← grp32_1_apply]
    exact scale_apply _ s

theorem codes64_apply (v : FVec Ideal S64x1024 .f32) (c : Fin 64) (s : Fin 1024) :
    codes64 v (ix2 c s) = Spec.codeAt (col v s) c := by
  have hc := c.isLt
  pointwise [codes64]
  repeat' split
  · rw [Spec.codeAt_of (col v s) c 0 ⟨c.val - 0, by omega⟩ (by show c.val = 16 * 0 + (c.val - 0); omega), ← grp64_0_apply]
    exact codes_apply _ _ s
  · rw [Spec.codeAt_of (col v s) c 1 ⟨c.val - 16, by omega⟩ (by show c.val = 16 * 1 + (c.val - 16); omega), ← grp64_1_apply]
    exact codes_apply _ _ s
  · rw [Spec.codeAt_of (col v s) c 2 ⟨c.val - 32, by omega⟩ (by show c.val = 16 * 2 + (c.val - 32); omega), ← grp64_2_apply]
    exact codes_apply _ _ s
  · rw [Spec.codeAt_of (col v s) c 3 ⟨c.val - 48, by omega⟩ (by show c.val = 16 * 3 + (c.val - 48); omega), ← grp64_3_apply]
    exact codes_apply _ _ s

theorem act64_apply (v : FVec Ideal S64x1024 .f32) (c : Fin 64) (s : Fin 1024) :
    act64 v (ix2 c s) = Spec.actAt (col v s) c := by
  have hc := c.isLt
  pointwise [act64]
  repeat' split
  · rw [Spec.actAt_of (col v s) c 0 ⟨c.val - 0, by omega⟩ (by show c.val = 16 * 0 + (c.val - 0); omega), ← grp64_0_apply]
    exact act_apply _ _ s
  · rw [Spec.actAt_of (col v s) c 1 ⟨c.val - 16, by omega⟩ (by show c.val = 16 * 1 + (c.val - 16); omega), ← grp64_1_apply]
    exact act_apply _ _ s
  · rw [Spec.actAt_of (col v s) c 2 ⟨c.val - 32, by omega⟩ (by show c.val = 16 * 2 + (c.val - 32); omega), ← grp64_2_apply]
    exact act_apply _ _ s
  · rw [Spec.actAt_of (col v s) c 3 ⟨c.val - 48, by omega⟩ (by show c.val = 16 * 3 + (c.val - 48); omega), ← grp64_3_apply]
    exact act_apply _ _ s

theorem scales64_apply (v : FVec Ideal S64x1024 .f32) (g : Fin 4) (s : Fin 1024) :
    scales64 v (ix2 g s) = Spec.scaleAt (col v s) g.val := by
  unfold Spec.scaleAt
  fin_cases g
  · show scales64 v (ix2 0 s) = Spec.scale (Spec.grp (col v s) 0)
    pointwise [scales64]
    rw [← grp64_0_apply]
    exact scale_apply _ s
  · show scales64 v (ix2 1 s) = Spec.scale (Spec.grp (col v s) 1)
    pointwise [scales64]
    rw [← grp64_1_apply]
    exact scale_apply _ s
  · show scales64 v (ix2 2 s) = Spec.scale (Spec.grp (col v s) 2)
    pointwise [scales64]
    rw [← grp64_2_apply]
    exact scale_apply _ s
  · show scales64 v (ix2 3 s) = Spec.scale (Spec.grp (col v s) 3)
    pointwise [scales64]
    rw [← grp64_3_apply]
    exact scale_apply _ s

/-! ## The layers -/

/-- The weights in the input blocks. -/
def net (I : In Ideal) : Spec.Net where
  wd0 o i := I.x4 (ix2 o i)
  sd0 o := I.x5 (ix2 o 0)
  wd1 o i := I.x6 (ix2 o i)
  sd1 o := I.x7 (ix2 o 0)
  wc0 o i := I.x8 (ix2 o i)
  sc0 o := I.x9 (ix2 o 0)
  wc1 o i := I.x10 (ix2 o i)
  sc1 o := I.x11 (ix2 o 0)
  wc2 o i := I.x12 (ix2 o i)
  sc2 o := I.x13 (ix2 o 0)

variable (I : In Ideal)

theorem lay1_apply (v : FVec Ideal S32x1024 .f32) (o : Fin 64) (s : Fin 1024) :
    lay1 I v (ix2 o s) = max (Spec.lay (net I).wd0 (net I).sd0 (col v s) o) 0 := by
  pointwise [lay1, ld5, ld6]
  simp only [act32_apply]
  rfl

theorem lay2_apply (v : FVec Ideal S64x1024 .f32) (o : Fin 16) (s : Fin 1024) :
    lay2 I v (ix2 o s) = Spec.lay (net I).wd1 (net I).sd1 (col v s) o := by
  pointwise [lay2, ld7, ld8]
  simp only [act64_apply]
  rfl

theorem lay3_apply (v : FVec Ideal S32x1024 .f32) (o : Fin 64) (s : Fin 1024) :
    lay3 I v (ix2 o s) = max (Spec.lay (net I).wc0 (net I).sc0 (col v s) o) 0 := by
  pointwise [lay3, ld9, ld10]
  simp only [act32_apply]
  rfl

theorem lay4_apply (v : FVec Ideal S64x1024 .f32) (o : Fin 64) (s : Fin 1024) :
    lay4 I v (ix2 o s) = max (Spec.lay (net I).wc1 (net I).sc1 (col v s) o) 0 := by
  pointwise [lay4, ld11, ld12]
  simp only [act64_apply]
  rfl

theorem lay5_apply (v : FVec Ideal S64x1024 .f32) (o : Fin 3) (s : Fin 1024) :
    lay5 I v (ix2 o s) = Spec.lay (net I).wc2 (net I).sc2 (col v s) o := by
  pointwise [lay5, ld13, ld14]
  simp only [act64_apply]
  rfl

/-- The encoded channels of sample `s` of ray `r`. -/
def encS (r : Fin 8) (s : Fin 1024) (c : Fin 32) : EReal :=
  (if h : c.val < 6 then I.x0 (ix4 r ⟨s.val / 128, by have := s.isLt; omega⟩ ⟨c.val, by omega⟩ ⟨s.val % 128, by omega⟩)
   else I.x1 (ix5 r ⟨c.val / 8, by have := c.isLt; omega⟩ ⟨s.val / 128, by have := s.isLt; omega⟩
     ⟨c.val % 8, by omega⟩ ⟨s.val % 128, by omega⟩)) * I.x2 (ix2 c 0)

/-- The harmonics of ray `r`. -/
def shS (r : Fin 8) (c : Fin 16) : EReal := I.x3 (ix3 r c 0)

theorem wide_apply (f : Fin 8 → FVec Ideal S8x128 .f32) (j : Fin 8) (s : Fin 1024) :
    wide f (ix2 j s) = f ⟨s.val / 128, by have := s.isLt; omega⟩ (ix2 j ⟨s.val % 128, by omega⟩) := by
  have hs := s.isLt
  have key : ∀ (k : Fin 8) (t : Fin 128), s.val = 128 * k.val + t.val →
      f k (ix2 j t) = f ⟨s.val / 128, by omega⟩ (ix2 j ⟨s.val % 128, by omega⟩) := by
    intro k t h
    have ht := t.isLt
    have h1 : k = ⟨s.val / 128, by omega⟩ := Fin.ext (by show k.val = s.val / 128; omega)
    have h2 : t = ⟨s.val % 128, by omega⟩ := Fin.ext (by show t.val = s.val % 128; omega)
    rw [← h1, ← h2]
  pointwise [wide]
  repeat' split
  · exact key 0 _ (by show s.val = 128 * 0 + (s.val); omega)
  · exact key 1 _ (by show s.val = 128 * 1 + (s.val - 128); omega)
  · exact key 2 _ (by show s.val = 128 * 2 + (s.val - 128 - 128); omega)
  · exact key 3 _ (by show s.val = 128 * 3 + (s.val - 128 - 128 - 128); omega)
  · exact key 4 _ (by show s.val = 128 * 4 + (s.val - 128 - 128 - 128 - 128); omega)
  · exact key 5 _ (by show s.val = 128 * 5 + (s.val - 128 - 128 - 128 - 128 - 128); omega)
  · exact key 6 _ (by show s.val = 128 * 6 + (s.val - 128 - 128 - 128 - 128 - 128 - 128); omega)
  · exact key 7 _ (by show s.val = 128 * 7 + (s.val - 128 - 128 - 128 - 128 - 128 - 128 - 128); omega)

theorem tileB_apply (r : Fin 8) (ct : Fin 4) (st : Fin 8) (j : Fin 8) (t : Fin 128) :
    tileB I r ct st (ix2 j t) = I.x1 (ix5 r ct st j t) := by
  pointwise [tileB, ldB]

theorem tileA_apply (r : Fin 8) (st : Fin 8) (j : Fin 8) (t : Fin 128) :
    tileA I r st (ix2 j t) = if j.val < 6 then I.x0 (ix4 r st j t) else I.x1 (ix5 r 0 st j t) := by
  have hj := j.isLt
  pointwise [tileA, ldS, ldC]
  split
  · rfl
  · have : (⟨6 + (j.val - 6), by omega⟩ : Fin 8) = j := Fin.ext (by show 6 + (j.val - 6) = j.val; omega)
    exact congrArg (fun j => I.x1 (ix5 r 0 st j t)) this

theorem enc_apply (r : Fin 8) (c : Fin 32) (s : Fin 1024) : enc I r (ix2 c s) = encS I r s c := by
  have hc := c.isLt
  have key : ∀ (ct : Fin 4) (j : Fin 8), c.val = 8 * ct.val + j.val → ¬ c.val < 6 → ∀ (st : Fin 8) (t : Fin 128),
      I.x1 (ix5 r ct st j t) = I.x1 (ix5 r ⟨c.val / 8, by omega⟩ st ⟨c.val % 8, by omega⟩ t) := by
    intro ct j h _ st t
    have hj := j.isLt
    have h1 : ct = ⟨c.val / 8, by omega⟩ := Fin.ext (by show ct.val = c.val / 8; omega)
    have h2 : j = ⟨c.val % 8, by omega⟩ := Fin.ext (by show j.val = c.val % 8; omega)
    rw [← h1, ← h2]
  pointwise [enc, ld3]
  unfold encS
  congr 1
  simp only [wide_apply, tileA_apply, tileB_apply]
  by_cases h6 : c.val < 6
  · rw [dif_pos (by omega), if_pos h6, dif_pos h6]
  · rw [dif_neg h6]
    split
    · exact key 0 _ (by show c.val = 8 * 0 + c.val; omega) h6 _ _
    · repeat' split
      · exact key 1 _ (by show c.val = 8 * 1 + (c.val - 8); omega) h6 _ _
      · exact key 2 _ (by show c.val = 8 * 2 + (c.val - 8 - 8); omega) h6 _ _
      · exact key 3 _ (by show c.val = 8 * 3 + (c.val - 8 - 8 - 8); omega) h6 _ _

/-! ## The stages -/

theorem h1_apply (r : Fin 8) (c : Fin 64) (s : Fin 1024) : h1 I r (ix2 c s) = Spec.h1 (net I) (encS I r s) c := by
  rw [h1, lay1_apply, show col (enc I r) s = encS I r s from funext fun c => enc_apply I r c s]
  rfl

theorem cin_apply (r : Fin 8) (c : Fin 32) (s : Fin 1024) :
    cin I r (ix2 c s) = Spec.cin (net I) (encS I r s) (shS I r) c := by
  unfold Spec.cin
  pointwise [cin, join, ldH]
  split
  · rw [lay2_apply, show col (h1 I r) s = Spec.h1 (net I) (encS I r s) from funext fun c => h1_apply I r c s]
    rfl
  · rfl

theorem g1_apply (r : Fin 8) (c : Fin 64) (s : Fin 1024) :
    g1 I r (ix2 c s) = Spec.g1 (net I) (encS I r s) (shS I r) c := by
  rw [g1, lay3_apply, show col (cin I r) s = Spec.cin (net I) (encS I r s) (shS I r) from funext fun c => cin_apply I r c s]
  rfl

theorem g2_apply (r : Fin 8) (c : Fin 64) (s : Fin 1024) :
    g2 I r (ix2 c s) = Spec.g2 (net I) (encS I r s) (shS I r) c := by
  rw [g2, lay4_apply, show col (g1 I r) s = Spec.g1 (net I) (encS I r s) (shS I r) from funext fun c => g1_apply I r c s]
  rfl

/-! ## The rows -/

theorem dens_apply (r : Fin 8) (s : Fin 1024) : dens I (h1 I r) (ix2 0 s) = Spec.sigma (net I) (encS I r s) := by
  pointwise [dens]
  rw [lay2_apply, show col (h1 I r) s = Spec.h1 (net I) (encS I r s) from funext fun c => h1_apply I r c s]
  rfl

theorem colour_apply (r : Fin 8) (k : Fin 3) (s : Fin 1024) :
    colour I (g2 I r) (ix2 k s) = Spec.rgb (net I) (encS I r s) (shS I r) k := by
  pointwise [colour]
  rw [lay5_apply, show col (g2 I r) s = Spec.g2 (net I) (encS I r s) (shS I r) from funext fun c => g2_apply I r c s]
  rfl

theorem red_apply (r : Fin 8) (s : Fin 1024) :
    red I (g2 I r) (ix3 0 0 s) = Spec.rgb (net I) (encS I r s) (shS I r) 0 := by
  rw [← colour_apply]
  pointwise [red]

theorem green_apply (r : Fin 8) (s : Fin 1024) :
    green I (g2 I r) (ix3 0 0 s) = Spec.rgb (net I) (encS I r s) (shS I r) 1 := by
  rw [← colour_apply]
  pointwise [green]

theorem blue_apply (r : Fin 8) (s : Fin 1024) :
    blue I (g2 I r) (ix3 0 0 s) = Spec.rgb (net I) (encS I r s) (shS I r) 2 := by
  rw [← colour_apply]
  pointwise [blue]

theorem rowC32_apply (v : FVec Ideal S32x1024 .f32) (c : Fin 32) (s : Fin 1024) :
    rowC32 v (ix3 0 c s) = Spec.codeAt (col v s) c := by
  pointwise [rowC32]
  exact codes32_apply v c s

theorem rowS32_apply (v : FVec Ideal S32x1024 .f32) (g : Fin 2) (s : Fin 1024) :
    rowS32 v (ix3 0 g s) = Spec.scaleAt (col v s) g.val := by
  pointwise [rowS32]
  exact scales32_apply v g s

theorem rowC64_apply (v : FVec Ideal S64x1024 .f32) (c : Fin 64) (s : Fin 1024) :
    rowC64 v (ix3 0 c s) = Spec.codeAt (col v s) c := by
  pointwise [rowC64]
  exact codes64_apply v c s

theorem rowS64_apply (v : FVec Ideal S64x1024 .f32) (g : Fin 4) (s : Fin 1024) :
    rowS64 v (ix3 0 g s) = Spec.scaleAt (col v s) g.val := by
  pointwise [rowS64]
  exact scales64_apply v g s

end Cert.KernelIdeal.Body

end

end
-- ==== Proof.KernelIdeal.Out.lean ====
module

public import proofs.«01_k».proof.Proof.KernelIdeal.Layers
public import Idealize.ShloMosaic.Lib.Pipeline.ValueKit

/-! What each output block of one grid step holds at an index: the network at the ray and sample of that index. -/

@[expose] public section

set_option synthInstance.maxSize 4096
set_option maxRecDepth 16384

noncomputable section

namespace Cert.KernelIdeal.Body

open Cert.KernelIdeal Cert.KernelIdeal.Gen
open Idealize.ShloMosaic Idealize.ShloMosaic.TcCoe Idealize.SL Idealize.SL.Sem

theorem pieceC32 (f : Fin 8 → FVec Ideal S32x1024 .f32) (G : Fin 8 → Fin 1024 → Fin 32 → EReal)
    (hf : ∀ r c s, f r (ix2 c s) = G r s c) (r : Fin 8) (x : S1x32x1024.Idx) (y : S8x32x1024.Idx)
    (h0 : (y 0).val = r.val + (x 0).val) (h1 : (y 1).val = (x 1).val) (h2 : (y 2).val = (x 2).val) :
    rowC32 (f r) x = Spec.codeAt (G (y 0) (y 2)) (y 1) := by
  have hx0 : (x 0).val < 1 := (x 0).isLt
  have e0 : y 0 = r := Fin.ext (by omega)
  have e1 : y 1 = x 1 := Fin.ext h1
  have e2 : y 2 = x 2 := Fin.ext h2
  have ex : x = ix3 0 (x 1) (x 2) := by
    funext a
    fin_cases a
    · exact Fin.ext (by show (x 0).val = 0; omega)
    · rfl
    · rfl
  rw [e0, e1, e2, ex]
  refine (rowC32_apply (f r) (x 1) (x 2)).trans ?_
  rw [show col (f r) (x 2) = G r (x 2) from funext fun c => hf r c (x 2)]
  rfl

theorem pieceS32 (f : Fin 8 → FVec Ideal S32x1024 .f32) (G : Fin 8 → Fin 1024 → Fin 32 → EReal)
    (hf : ∀ r c s, f r (ix2 c s) = G r s c) (r : Fin 8) (x : S1x2x1024.Idx) (y : S8x2x1024.Idx)
    (h0 : (y 0).val = r.val + (x 0).val) (h1 : (y 1).val = (x 1).val) (h2 : (y 2).val = (x 2).val) :
    rowS32 (f r) x = Spec.scaleAt (G (y 0) (y 2)) (y 1).val := by
  have hx0 : (x 0).val < 1 := (x 0).isLt
  have e0 : y 0 = r := Fin.ext (by omega)
  have e1 : y 1 = x 1 := Fin.ext h1
  have e2 : y 2 = x 2 := Fin.ext h2
  have ex : x = ix3 0 (x 1) (x 2) := by
    funext a
    fin_cases a
    · exact Fin.ext (by show (x 0).val = 0; omega)
    · rfl
    · rfl
  rw [e0, e1, e2, ex]
  refine (rowS32_apply (f r) (x 1) (x 2)).trans ?_
  rw [show col (f r) (x 2) = G r (x 2) from funext fun c => hf r c (x 2)]
  rfl

theorem pieceC64 (f : Fin 8 → FVec Ideal S64x1024 .f32) (G : Fin 8 → Fin 1024 → Fin 64 → EReal)
    (hf : ∀ r c s, f r (ix2 c s) = G r s c) (r : Fin 8) (x : S1x64x1024.Idx) (y : S8x64x1024.Idx)
    (h0 : (y 0).val = r.val + (x 0).val) (h1 : (y 1).val = (x 1).val) (h2 : (y 2).val = (x 2).val) :
    rowC64 (f r) x = Spec.codeAt (G (y 0) (y 2)) (y 1) := by
  have hx0 : (x 0).val < 1 := (x 0).isLt
  have e0 : y 0 = r := Fin.ext (by omega)
  have e1 : y 1 = x 1 := Fin.ext h1
  have e2 : y 2 = x 2 := Fin.ext h2
  have ex : x = ix3 0 (x 1) (x 2) := by
    funext a
    fin_cases a
    · exact Fin.ext (by show (x 0).val = 0; omega)
    · rfl
    · rfl
  rw [e0, e1, e2, ex]
  refine (rowC64_apply (f r) (x 1) (x 2)).trans ?_
  rw [show col (f r) (x 2) = G r (x 2) from funext fun c => hf r c (x 2)]
  rfl

theorem pieceS64 (f : Fin 8 → FVec Ideal S64x1024 .f32) (G : Fin 8 → Fin 1024 → Fin 64 → EReal)
    (hf : ∀ r c s, f r (ix2 c s) = G r s c) (r : Fin 8) (x : S1x4x1024.Idx) (y : S8x4x1024.Idx)
    (h0 : (y 0).val = r.val + (x 0).val) (h1 : (y 1).val = (x 1).val) (h2 : (y 2).val = (x 2).val) :
    rowS64 (f r) x = Spec.scaleAt (G (y 0) (y 2)) (y 1).val := by
  have hx0 : (x 0).val < 1 := (x 0).isLt
  have e0 : y 0 = r := Fin.ext (by omega)
  have e1 : y 1 = x 1 := Fin.ext h1
  have e2 : y 2 = x 2 := Fin.ext h2
  have ex : x = ix3 0 (x 1) (x 2) := by
    funext a
    fin_cases a
    · exact Fin.ext (by show (x 0).val = 0; omega)
    · rfl
    · rfl
  rw [e0, e1, e2, ex]
  refine (rowS64_apply (f r) (x 1) (x 2)).trans ?_
  rw [show col (f r) (x 2) = G r (x 2) from funext fun c => hf r c (x 2)]
  rfl

theorem out16_apply (I : In Ideal) (y : S8x32x1024.Idx) : out0_16 I y = Spec.codeAt (encS I (y 0) (y 2)) (y 1) := by
  unfold out0_16
  canon_tiles x e
  · exact pieceC32 (enc I) (fun r s => encS I r s) (fun r c s => enc_apply I r c s) 7 x y (by show (y 0).val = 7 + (x 0).val; omega) e1 e2
  · exact pieceC32 (enc I) (fun r s => encS I r s) (fun r c s => enc_apply I r c s) 6 x y (by show (y 0).val = 6 + (x 0).val; omega) e1 e2
  · exact pieceC32 (enc I) (fun r s => encS I r s) (fun r c s => enc_apply I r c s) 5 x y (by show (y 0).val = 5 + (x 0).val; omega) e1 e2
  · exact pieceC32 (enc I) (fun r s => encS I r s) (fun r c s => enc_apply I r c s) 4 x y (by show (y 0).val = 4 + (x 0).val; omega) e1 e2
  · exact pieceC32 (enc I) (fun r s => encS I r s) (fun r c s => enc_apply I r c s) 3 x y (by show (y 0).val = 3 + (x 0).val; omega) e1 e2
  · exact pieceC32 (enc I) (fun r s => encS I r s) (fun r c s => enc_apply I r c s) 2 x y (by show (y 0).val = 2 + (x 0).val; omega) e1 e2
  · exact pieceC32 (enc I) (fun r s => encS I r s) (fun r c s => enc_apply I r c s) 1 x y (by show (y 0).val = 1 + (x 0).val; omega) e1 e2
  · exact pieceC32 (enc I) (fun r s => encS I r s) (fun r c s => enc_apply I r c s) 0 x y (by show (y 0).val = 0 + (x 0).val; omega) e1 e2

theorem out17_apply (I : In Ideal) (y : S8x2x1024.Idx) : out0_17 I y = Spec.scaleAt (encS I (y 0) (y 2)) (y 1).val := by
  unfold out0_17
  canon_tiles x e
  · exact pieceS32 (enc I) (fun r s => encS I r s) (fun r c s => enc_apply I r c s) 7 x y (by show (y 0).val = 7 + (x 0).val; omega) e1 e2
  · exact pieceS32 (enc I) (fun r s => encS I r s) (fun r c s => enc_apply I r c s) 6 x y (by show (y 0).val = 6 + (x 0).val; omega) e1 e2
  · exact pieceS32 (enc I) (fun r s => encS I r s) (fun r c s => enc_apply I r c s) 5 x y (by show (y 0).val = 5 + (x 0).val; omega) e1 e2
  · exact pieceS32 (enc I) (fun r s => encS I r s) (fun r c s => enc_apply I r c s) 4 x y (by show (y 0).val = 4 + (x 0).val; omega) e1 e2
  · exact pieceS32 (enc I) (fun r s => encS I r s) (fun r c s => enc_apply I r c s) 3 x y (by show (y 0).val = 3 + (x 0).val; omega) e1 e2
  · exact pieceS32 (enc I) (fun r s => encS I r s) (fun r c s => enc_apply I r c s) 2 x y (by show (y 0).val = 2 + (x 0).val; omega) e1 e2
  · exact pieceS32 (enc I) (fun r s => encS I r s) (fun r c s => enc_apply I r c s) 1 x y (by show (y 0).val = 1 + (x 0).val; omega) e1 e2
  · exact pieceS32 (enc I) (fun r s => encS I r s) (fun r c s => enc_apply I r c s) 0 x y (by show (y 0).val = 0 + (x 0).val; omega) e1 e2

theorem out18_apply (I : In Ideal) (y : S8x64x1024.Idx) : out0_18 I y = Spec.codeAt (Spec.h1 (net I) (encS I (y 0) (y 2))) (y 1) := by
  unfold out0_18
  canon_tiles x e
  · exact pieceC64 (h1 I) (fun r s => Spec.h1 (net I) (encS I r s)) (fun r c s => h1_apply I r c s) 7 x y (by show (y 0).val = 7 + (x 0).val; omega) e1 e2
  · exact pieceC64 (h1 I) (fun r s => Spec.h1 (net I) (encS I r s)) (fun r c s => h1_apply I r c s) 6 x y (by show (y 0).val = 6 + (x 0).val; omega) e1 e2
  · exact pieceC64 (h1 I) (fun r s => Spec.h1 (net I) (encS I r s)) (fun r c s => h1_apply I r c s) 5 x y (by show (y 0).val = 5 + (x 0).val; omega) e1 e2
  · exact pieceC64 (h1 I) (fun r s => Spec.h1 (net I) (encS I r s)) (fun r c s => h1_apply I r c s) 4 x y (by show (y 0).val = 4 + (x 0).val; omega) e1 e2
  · exact pieceC64 (h1 I) (fun r s => Spec.h1 (net I) (encS I r s)) (fun r c s => h1_apply I r c s) 3 x y (by show (y 0).val = 3 + (x 0).val; omega) e1 e2
  · exact pieceC64 (h1 I) (fun r s => Spec.h1 (net I) (encS I r s)) (fun r c s => h1_apply I r c s) 2 x y (by show (y 0).val = 2 + (x 0).val; omega) e1 e2
  · exact pieceC64 (h1 I) (fun r s => Spec.h1 (net I) (encS I r s)) (fun r c s => h1_apply I r c s) 1 x y (by show (y 0).val = 1 + (x 0).val; omega) e1 e2
  · exact pieceC64 (h1 I) (fun r s => Spec.h1 (net I) (encS I r s)) (fun r c s => h1_apply I r c s) 0 x y (by show (y 0).val = 0 + (x 0).val; omega) e1 e2

theorem out19_apply (I : In Ideal) (y : S8x4x1024.Idx) : out0_19 I y = Spec.scaleAt (Spec.h1 (net I) (encS I (y 0) (y 2))) (y 1).val := by
  unfold out0_19
  canon_tiles x e
  · exact pieceS64 (h1 I) (fun r s => Spec.h1 (net I) (encS I r s)) (fun r c s => h1_apply I r c s) 7 x y (by show (y 0).val = 7 + (x 0).val; omega) e1 e2
  · exact pieceS64 (h1 I) (fun r s => Spec.h1 (net I) (encS I r s)) (fun r c s => h1_apply I r c s) 6 x y (by show (y 0).val = 6 + (x 0).val; omega) e1 e2
  · exact pieceS64 (h1 I) (fun r s => Spec.h1 (net I) (encS I r s)) (fun r c s => h1_apply I r c s) 5 x y (by show (y 0).val = 5 + (x 0).val; omega) e1 e2
  · exact pieceS64 (h1 I) (fun r s => Spec.h1 (net I) (encS I r s)) (fun r c s => h1_apply I r c s) 4 x y (by show (y 0).val = 4 + (x 0).val; omega) e1 e2
  · exact pieceS64 (h1 I) (fun r s => Spec.h1 (net I) (encS I r s)) (fun r c s => h1_apply I r c s) 3 x y (by show (y 0).val = 3 + (x 0).val; omega) e1 e2
  · exact pieceS64 (h1 I) (fun r s => Spec.h1 (net I) (encS I r s)) (fun r c s => h1_apply I r c s) 2 x y (by show (y 0).val = 2 + (x 0).val; omega) e1 e2
  · exact pieceS64 (h1 I) (fun r s => Spec.h1 (net I) (encS I r s)) (fun r c s => h1_apply I r c s) 1 x y (by show (y 0).val = 1 + (x 0).val; omega) e1 e2
  · exact pieceS64 (h1 I) (fun r s => Spec.h1 (net I) (encS I r s)) (fun r c s => h1_apply I r c s) 0 x y (by show (y 0).val = 0 + (x 0).val; omega) e1 e2

theorem out20_apply (I : In Ideal) (y : S8x32x1024.Idx) : out0_20 I y = Spec.codeAt (Spec.cin (net I) (encS I (y 0) (y 2)) (shS I (y 0))) (y 1) := by
  unfold out0_20
  canon_tiles x e
  · exact pieceC32 (cin I) (fun r s => Spec.cin (net I) (encS I r s) (shS I r)) (fun r c s => cin_apply I r c s) 7 x y (by show (y 0).val = 7 + (x 0).val; omega) e1 e2
  · exact pieceC32 (cin I) (fun r s => Spec.cin (net I) (encS I r s) (shS I r)) (fun r c s => cin_apply I r c s) 6 x y (by show (y 0).val = 6 + (x 0).val; omega) e1 e2
  · exact pieceC32 (cin I) (fun r s => Spec.cin (net I) (encS I r s) (shS I r)) (fun r c s => cin_apply I r c s) 5 x y (by show (y 0).val = 5 + (x 0).val; omega) e1 e2
  · exact pieceC32 (cin I) (fun r s => Spec.cin (net I) (encS I r s) (shS I r)) (fun r c s => cin_apply I r c s) 4 x y (by show (y 0).val = 4 + (x 0).val; omega) e1 e2
  · exact pieceC32 (cin I) (fun r s => Spec.cin (net I) (encS I r s) (shS I r)) (fun r c s => cin_apply I r c s) 3 x y (by show (y 0).val = 3 + (x 0).val; omega) e1 e2
  · exact pieceC32 (cin I) (fun r s => Spec.cin (net I) (encS I r s) (shS I r)) (fun r c s => cin_apply I r c s) 2 x y (by show (y 0).val = 2 + (x 0).val; omega) e1 e2
  · exact pieceC32 (cin I) (fun r s => Spec.cin (net I) (encS I r s) (shS I r)) (fun r c s => cin_apply I r c s) 1 x y (by show (y 0).val = 1 + (x 0).val; omega) e1 e2
  · exact pieceC32 (cin I) (fun r s => Spec.cin (net I) (encS I r s) (shS I r)) (fun r c s => cin_apply I r c s) 0 x y (by show (y 0).val = 0 + (x 0).val; omega) e1 e2

theorem out21_apply (I : In Ideal) (y : S8x2x1024.Idx) : out0_21 I y = Spec.scaleAt (Spec.cin (net I) (encS I (y 0) (y 2)) (shS I (y 0))) (y 1).val := by
  unfold out0_21
  canon_tiles x e
  · exact pieceS32 (cin I) (fun r s => Spec.cin (net I) (encS I r s) (shS I r)) (fun r c s => cin_apply I r c s) 7 x y (by show (y 0).val = 7 + (x 0).val; omega) e1 e2
  · exact pieceS32 (cin I) (fun r s => Spec.cin (net I) (encS I r s) (shS I r)) (fun r c s => cin_apply I r c s) 6 x y (by show (y 0).val = 6 + (x 0).val; omega) e1 e2
  · exact pieceS32 (cin I) (fun r s => Spec.cin (net I) (encS I r s) (shS I r)) (fun r c s => cin_apply I r c s) 5 x y (by show (y 0).val = 5 + (x 0).val; omega) e1 e2
  · exact pieceS32 (cin I) (fun r s => Spec.cin (net I) (encS I r s) (shS I r)) (fun r c s => cin_apply I r c s) 4 x y (by show (y 0).val = 4 + (x 0).val; omega) e1 e2
  · exact pieceS32 (cin I) (fun r s => Spec.cin (net I) (encS I r s) (shS I r)) (fun r c s => cin_apply I r c s) 3 x y (by show (y 0).val = 3 + (x 0).val; omega) e1 e2
  · exact pieceS32 (cin I) (fun r s => Spec.cin (net I) (encS I r s) (shS I r)) (fun r c s => cin_apply I r c s) 2 x y (by show (y 0).val = 2 + (x 0).val; omega) e1 e2
  · exact pieceS32 (cin I) (fun r s => Spec.cin (net I) (encS I r s) (shS I r)) (fun r c s => cin_apply I r c s) 1 x y (by show (y 0).val = 1 + (x 0).val; omega) e1 e2
  · exact pieceS32 (cin I) (fun r s => Spec.cin (net I) (encS I r s) (shS I r)) (fun r c s => cin_apply I r c s) 0 x y (by show (y 0).val = 0 + (x 0).val; omega) e1 e2

theorem out22_apply (I : In Ideal) (y : S8x64x1024.Idx) : out0_22 I y = Spec.codeAt (Spec.g1 (net I) (encS I (y 0) (y 2)) (shS I (y 0))) (y 1) := by
  unfold out0_22
  canon_tiles x e
  · exact pieceC64 (g1 I) (fun r s => Spec.g1 (net I) (encS I r s) (shS I r)) (fun r c s => g1_apply I r c s) 7 x y (by show (y 0).val = 7 + (x 0).val; omega) e1 e2
  · exact pieceC64 (g1 I) (fun r s => Spec.g1 (net I) (encS I r s) (shS I r)) (fun r c s => g1_apply I r c s) 6 x y (by show (y 0).val = 6 + (x 0).val; omega) e1 e2
  · exact pieceC64 (g1 I) (fun r s => Spec.g1 (net I) (encS I r s) (shS I r)) (fun r c s => g1_apply I r c s) 5 x y (by show (y 0).val = 5 + (x 0).val; omega) e1 e2
  · exact pieceC64 (g1 I) (fun r s => Spec.g1 (net I) (encS I r s) (shS I r)) (fun r c s => g1_apply I r c s) 4 x y (by show (y 0).val = 4 + (x 0).val; omega) e1 e2
  · exact pieceC64 (g1 I) (fun r s => Spec.g1 (net I) (encS I r s) (shS I r)) (fun r c s => g1_apply I r c s) 3 x y (by show (y 0).val = 3 + (x 0).val; omega) e1 e2
  · exact pieceC64 (g1 I) (fun r s => Spec.g1 (net I) (encS I r s) (shS I r)) (fun r c s => g1_apply I r c s) 2 x y (by show (y 0).val = 2 + (x 0).val; omega) e1 e2
  · exact pieceC64 (g1 I) (fun r s => Spec.g1 (net I) (encS I r s) (shS I r)) (fun r c s => g1_apply I r c s) 1 x y (by show (y 0).val = 1 + (x 0).val; omega) e1 e2
  · exact pieceC64 (g1 I) (fun r s => Spec.g1 (net I) (encS I r s) (shS I r)) (fun r c s => g1_apply I r c s) 0 x y (by show (y 0).val = 0 + (x 0).val; omega) e1 e2

theorem out23_apply (I : In Ideal) (y : S8x4x1024.Idx) : out0_23 I y = Spec.scaleAt (Spec.g1 (net I) (encS I (y 0) (y 2)) (shS I (y 0))) (y 1).val := by
  unfold out0_23
  canon_tiles x e
  · exact pieceS64 (g1 I) (fun r s => Spec.g1 (net I) (encS I r s) (shS I r)) (fun r c s => g1_apply I r c s) 7 x y (by show (y 0).val = 7 + (x 0).val; omega) e1 e2
  · exact pieceS64 (g1 I) (fun r s => Spec.g1 (net I) (encS I r s) (shS I r)) (fun r c s => g1_apply I r c s) 6 x y (by show (y 0).val = 6 + (x 0).val; omega) e1 e2
  · exact pieceS64 (g1 I) (fun r s => Spec.g1 (net I) (encS I r s) (shS I r)) (fun r c s => g1_apply I r c s) 5 x y (by show (y 0).val = 5 + (x 0).val; omega) e1 e2
  · exact pieceS64 (g1 I) (fun r s => Spec.g1 (net I) (encS I r s) (shS I r)) (fun r c s => g1_apply I r c s) 4 x y (by show (y 0).val = 4 + (x 0).val; omega) e1 e2
  · exact pieceS64 (g1 I) (fun r s => Spec.g1 (net I) (encS I r s) (shS I r)) (fun r c s => g1_apply I r c s) 3 x y (by show (y 0).val = 3 + (x 0).val; omega) e1 e2
  · exact pieceS64 (g1 I) (fun r s => Spec.g1 (net I) (encS I r s) (shS I r)) (fun r c s => g1_apply I r c s) 2 x y (by show (y 0).val = 2 + (x 0).val; omega) e1 e2
  · exact pieceS64 (g1 I) (fun r s => Spec.g1 (net I) (encS I r s) (shS I r)) (fun r c s => g1_apply I r c s) 1 x y (by show (y 0).val = 1 + (x 0).val; omega) e1 e2
  · exact pieceS64 (g1 I) (fun r s => Spec.g1 (net I) (encS I r s) (shS I r)) (fun r c s => g1_apply I r c s) 0 x y (by show (y 0).val = 0 + (x 0).val; omega) e1 e2

theorem out24_apply (I : In Ideal) (y : S8x64x1024.Idx) : out0_24 I y = Spec.codeAt (Spec.g2 (net I) (encS I (y 0) (y 2)) (shS I (y 0))) (y 1) := by
  unfold out0_24
  canon_tiles x e
  · exact pieceC64 (g2 I) (fun r s => Spec.g2 (net I) (encS I r s) (shS I r)) (fun r c s => g2_apply I r c s) 7 x y (by show (y 0).val = 7 + (x 0).val; omega) e1 e2
  · exact pieceC64 (g2 I) (fun r s => Spec.g2 (net I) (encS I r s) (shS I r)) (fun r c s => g2_apply I r c s) 6 x y (by show (y 0).val = 6 + (x 0).val; omega) e1 e2
  · exact pieceC64 (g2 I) (fun r s => Spec.g2 (net I) (encS I r s) (shS I r)) (fun r c s => g2_apply I r c s) 5 x y (by show (y 0).val = 5 + (x 0).val; omega) e1 e2
  · exact pieceC64 (g2 I) (fun r s => Spec.g2 (net I) (encS I r s) (shS I r)) (fun r c s => g2_apply I r c s) 4 x y (by show (y 0).val = 4 + (x 0).val; omega) e1 e2
  · exact pieceC64 (g2 I) (fun r s => Spec.g2 (net I) (encS I r s) (shS I r)) (fun r c s => g2_apply I r c s) 3 x y (by show (y 0).val = 3 + (x 0).val; omega) e1 e2
  · exact pieceC64 (g2 I) (fun r s => Spec.g2 (net I) (encS I r s) (shS I r)) (fun r c s => g2_apply I r c s) 2 x y (by show (y 0).val = 2 + (x 0).val; omega) e1 e2
  · exact pieceC64 (g2 I) (fun r s => Spec.g2 (net I) (encS I r s) (shS I r)) (fun r c s => g2_apply I r c s) 1 x y (by show (y 0).val = 1 + (x 0).val; omega) e1 e2
  · exact pieceC64 (g2 I) (fun r s => Spec.g2 (net I) (encS I r s) (shS I r)) (fun r c s => g2_apply I r c s) 0 x y (by show (y 0).val = 0 + (x 0).val; omega) e1 e2

theorem out25_apply (I : In Ideal) (y : S8x4x1024.Idx) : out0_25 I y = Spec.scaleAt (Spec.g2 (net I) (encS I (y 0) (y 2)) (shS I (y 0))) (y 1).val := by
  unfold out0_25
  canon_tiles x e
  · exact pieceS64 (g2 I) (fun r s => Spec.g2 (net I) (encS I r s) (shS I r)) (fun r c s => g2_apply I r c s) 7 x y (by show (y 0).val = 7 + (x 0).val; omega) e1 e2
  · exact pieceS64 (g2 I) (fun r s => Spec.g2 (net I) (encS I r s) (shS I r)) (fun r c s => g2_apply I r c s) 6 x y (by show (y 0).val = 6 + (x 0).val; omega) e1 e2
  · exact pieceS64 (g2 I) (fun r s => Spec.g2 (net I) (encS I r s) (shS I r)) (fun r c s => g2_apply I r c s) 5 x y (by show (y 0).val = 5 + (x 0).val; omega) e1 e2
  · exact pieceS64 (g2 I) (fun r s => Spec.g2 (net I) (encS I r s) (shS I r)) (fun r c s => g2_apply I r c s) 4 x y (by show (y 0).val = 4 + (x 0).val; omega) e1 e2
  · exact pieceS64 (g2 I) (fun r s => Spec.g2 (net I) (encS I r s) (shS I r)) (fun r c s => g2_apply I r c s) 3 x y (by show (y 0).val = 3 + (x 0).val; omega) e1 e2
  · exact pieceS64 (g2 I) (fun r s => Spec.g2 (net I) (encS I r s) (shS I r)) (fun r c s => g2_apply I r c s) 2 x y (by show (y 0).val = 2 + (x 0).val; omega) e1 e2
  · exact pieceS64 (g2 I) (fun r s => Spec.g2 (net I) (encS I r s) (shS I r)) (fun r c s => g2_apply I r c s) 1 x y (by show (y 0).val = 1 + (x 0).val; omega) e1 e2
  · exact pieceS64 (g2 I) (fun r s => Spec.g2 (net I) (encS I r s) (shS I r)) (fun r c s => g2_apply I r c s) 0 x y (by show (y 0).val = 0 + (x 0).val; omega) e1 e2

theorem pieceD (I : In Ideal) (r : Fin 8) (x : S1x1024.Idx) (y : S8x1024.Idx)
    (h0 : (y 0).val = r.val + (x 0).val) (h1 : (y 1).val = (x 1).val) :
    dens I (Body.h1 I r) x = Spec.sigma (net I) (encS I (y 0) (y 1)) := by
  have hx0 : (x 0).val < 1 := (x 0).isLt
  have e0 : y 0 = r := Fin.ext (by omega)
  have e1 : y 1 = x 1 := Fin.ext h1
  have ex : x = ix2 0 (x 1) := by
    funext a
    fin_cases a
    · exact Fin.ext (by show (x 0).val = 0; omega)
    · rfl
  rw [e0, e1, ex]
  exact dens_apply I r (x 1)

theorem out14_apply (I : In Ideal) (y : S8x1024.Idx) : out0_14 I y = Spec.sigma (net I) (encS I (y 0) (y 1)) := by
  unfold out0_14
  canon_tiles x e
  · exact pieceD I 7 x y (by show (y 0).val = 7 + (x 0).val; omega) e1
  · exact pieceD I 6 x y (by show (y 0).val = 6 + (x 0).val; omega) e1
  · exact pieceD I 5 x y (by show (y 0).val = 5 + (x 0).val; omega) e1
  · exact pieceD I 4 x y (by show (y 0).val = 4 + (x 0).val; omega) e1
  · exact pieceD I 3 x y (by show (y 0).val = 3 + (x 0).val; omega) e1
  · exact pieceD I 2 x y (by show (y 0).val = 2 + (x 0).val; omega) e1
  · exact pieceD I 1 x y (by show (y 0).val = 1 + (x 0).val; omega) e1
  · exact pieceD I 0 x y (by show (y 0).val = 0 + (x 0).val; omega) e1

theorem pieceR (I : In Ideal) (v : Fin 8 → FVec Ideal S1x1x1024 .bf16) (k : Fin 3)
    (hv : ∀ r s, v r (ix3 0 0 s) = Spec.rgb (net I) (encS I r s) (shS I r) k) (r : Fin 8) (x : S1x1x1024.Idx)
    (y : S3x8x1024.Idx) (h0 : (y 0).val = k.val + (x 0).val) (h1 : (y 1).val = r.val + (x 1).val)
    (h2 : (y 2).val = (x 2).val) :
    v r x = Spec.rgb (net I) (encS I (y 1) (y 2)) (shS I (y 1)) (y 0) := by
  have hx0 : (x 0).val < 1 := (x 0).isLt
  have hx1 : (x 1).val < 1 := (x 1).isLt
  have e0 : y 0 = k := Fin.ext (by omega)
  have e1 : y 1 = r := Fin.ext (by omega)
  have e2 : y 2 = x 2 := Fin.ext h2
  have ex : x = ix3 0 0 (x 2) := by
    funext a
    fin_cases a
    · exact Fin.ext (by show (x 0).val = 0; omega)
    · exact Fin.ext (by show (x 1).val = 0; omega)
    · rfl
  rw [e0, e1, e2, ex]
  exact hv r (x 2)

theorem out15_apply (I : In Ideal) (y : S3x8x1024.Idx) :
    out0_15 I y = Spec.rgb (net I) (encS I (y 1) (y 2)) (shS I (y 1)) (y 0) := by
  unfold out0_15
  canon_tiles x e
  · exact pieceR I (fun r => blue I (g2 I r)) 2 (blue_apply I) 7 x y (by show (y 0).val = 2 + (x 0).val; omega)
      (by show (y 1).val = 7 + (x 1).val; omega) e2
  · exact pieceR I (fun r => green I (g2 I r)) 1 (green_apply I) 7 x y (by show (y 0).val = 1 + (x 0).val; omega)
      (by show (y 1).val = 7 + (x 1).val; omega) e2
  · exact pieceR I (fun r => red I (g2 I r)) 0 (red_apply I) 7 x y (by show (y 0).val = 0 + (x 0).val; omega)
      (by show (y 1).val = 7 + (x 1).val; omega) e2
  · exact pieceR I (fun r => blue I (g2 I r)) 2 (blue_apply I) 6 x y (by show (y 0).val = 2 + (x 0).val; omega)
      (by show (y 1).val = 6 + (x 1).val; omega) e2
  · exact pieceR I (fun r => green I (g2 I r)) 1 (green_apply I) 6 x y (by show (y 0).val = 1 + (x 0).val; omega)
      (by show (y 1).val = 6 + (x 1).val; omega) e2
  · exact pieceR I (fun r => red I (g2 I r)) 0 (red_apply I) 6 x y (by show (y 0).val = 0 + (x 0).val; omega)
      (by show (y 1).val = 6 + (x 1).val; omega) e2
  · exact pieceR I (fun r => blue I (g2 I r)) 2 (blue_apply I) 5 x y (by show (y 0).val = 2 + (x 0).val; omega)
      (by show (y 1).val = 5 + (x 1).val; omega) e2
  · exact pieceR I (fun r => green I (g2 I r)) 1 (green_apply I) 5 x y (by show (y 0).val = 1 + (x 0).val; omega)
      (by show (y 1).val = 5 + (x 1).val; omega) e2
  · exact pieceR I (fun r => red I (g2 I r)) 0 (red_apply I) 5 x y (by show (y 0).val = 0 + (x 0).val; omega)
      (by show (y 1).val = 5 + (x 1).val; omega) e2
  · exact pieceR I (fun r => blue I (g2 I r)) 2 (blue_apply I) 4 x y (by show (y 0).val = 2 + (x 0).val; omega)
      (by show (y 1).val = 4 + (x 1).val; omega) e2
  · exact pieceR I (fun r => green I (g2 I r)) 1 (green_apply I) 4 x y (by show (y 0).val = 1 + (x 0).val; omega)
      (by show (y 1).val = 4 + (x 1).val; omega) e2
  · exact pieceR I (fun r => red I (g2 I r)) 0 (red_apply I) 4 x y (by show (y 0).val = 0 + (x 0).val; omega)
      (by show (y 1).val = 4 + (x 1).val; omega) e2
  · exact pieceR I (fun r => blue I (g2 I r)) 2 (blue_apply I) 3 x y (by show (y 0).val = 2 + (x 0).val; omega)
      (by show (y 1).val = 3 + (x 1).val; omega) e2
  · exact pieceR I (fun r => green I (g2 I r)) 1 (green_apply I) 3 x y (by show (y 0).val = 1 + (x 0).val; omega)
      (by show (y 1).val = 3 + (x 1).val; omega) e2
  · exact pieceR I (fun r => red I (g2 I r)) 0 (red_apply I) 3 x y (by show (y 0).val = 0 + (x 0).val; omega)
      (by show (y 1).val = 3 + (x 1).val; omega) e2
  · exact pieceR I (fun r => blue I (g2 I r)) 2 (blue_apply I) 2 x y (by show (y 0).val = 2 + (x 0).val; omega)
      (by show (y 1).val = 2 + (x 1).val; omega) e2
  · exact pieceR I (fun r => green I (g2 I r)) 1 (green_apply I) 2 x y (by show (y 0).val = 1 + (x 0).val; omega)
      (by show (y 1).val = 2 + (x 1).val; omega) e2
  · exact pieceR I (fun r => red I (g2 I r)) 0 (red_apply I) 2 x y (by show (y 0).val = 0 + (x 0).val; omega)
      (by show (y 1).val = 2 + (x 1).val; omega) e2
  · exact pieceR I (fun r => blue I (g2 I r)) 2 (blue_apply I) 1 x y (by show (y 0).val = 2 + (x 0).val; omega)
      (by show (y 1).val = 1 + (x 1).val; omega) e2
  · exact pieceR I (fun r => green I (g2 I r)) 1 (green_apply I) 1 x y (by show (y 0).val = 1 + (x 0).val; omega)
      (by show (y 1).val = 1 + (x 1).val; omega) e2
  · exact pieceR I (fun r => red I (g2 I r)) 0 (red_apply I) 1 x y (by show (y 0).val = 0 + (x 0).val; omega)
      (by show (y 1).val = 1 + (x 1).val; omega) e2
  · exact pieceR I (fun r => blue I (g2 I r)) 2 (blue_apply I) 0 x y (by show (y 0).val = 2 + (x 0).val; omega)
      (by show (y 1).val = 0 + (x 1).val; omega) e2
  · exact pieceR I (fun r => green I (g2 I r)) 1 (green_apply I) 0 x y (by show (y 0).val = 1 + (x 0).val; omega)
      (by show (y 1).val = 0 + (x 1).val; omega) e2
  · exact pieceR I (fun r => red I (g2 I r)) 0 (red_apply I) 0 x y (by show (y 0).val = 0 + (x 0).val; omega)
      (by show (y 1).val = 0 + (x 1).val; omega) e2

end Cert.KernelIdeal.Body

end

end
-- ==== Proof.Result.lean ====
module

public import proofs.«01_k».proof.Proof.Spec
public import Idealize.ShloMosaic.Lib.Pointwise

/-! The twelve results as functions of the fourteen arguments: what both programs are shown to compute. -/

@[expose] public section

set_option synthInstance.maxSize 4096
set_option maxRecDepth 16384

noncomputable section

namespace Cert.Result

open Idealize.ShloMosaic Idealize.ShloMosaic.TcCoe

/-- The fourteen arguments. -/
structure Args where
  small : FVec Ideal ⟨4, ![640, 8, 8, 128]⟩ .f32
  big : FVec Ideal ⟨5, ![640, 4, 8, 8, 128]⟩ .f32
  ts : FVec Ideal ⟨2, ![32, 1]⟩ .f32
  sh : FVec Ideal ⟨3, ![640, 16, 1]⟩ .f32
  wd0 : FVec Ideal ⟨2, ![64, 32]⟩ .fp8e4m3
  sd0 : FVec Ideal ⟨2, ![64, 1]⟩ .f32
  wd1 : FVec Ideal ⟨2, ![16, 64]⟩ .fp8e4m3
  sd1 : FVec Ideal ⟨2, ![16, 1]⟩ .f32
  wc0 : FVec Ideal ⟨2, ![64, 32]⟩ .fp8e4m3
  sc0 : FVec Ideal ⟨2, ![64, 1]⟩ .f32
  wc1 : FVec Ideal ⟨2, ![64, 64]⟩ .fp8e4m3
  sc1 : FVec Ideal ⟨2, ![64, 1]⟩ .f32
  wc2 : FVec Ideal ⟨2, ![3, 64]⟩ .fp8e4m3
  sc2 : FVec Ideal ⟨2, ![3, 1]⟩ .f32

/-- The network of the arguments. -/
def Args.net (A : Args) : Spec.Net where
  wd0 o i := A.wd0 (ix2 o i)
  sd0 o := A.sd0 (ix2 o 0)
  wd1 o i := A.wd1 (ix2 o i)
  sd1 o := A.sd1 (ix2 o 0)
  wc0 o i := A.wc0 (ix2 o i)
  sc0 o := A.sc0 (ix2 o 0)
  wc1 o i := A.wc1 (ix2 o i)
  sc1 o := A.sc1 (ix2 o 0)
  wc2 o i := A.wc2 (ix2 o i)
  sc2 o := A.sc2 (ix2 o 0)

/-- The encoding of sample `s` of ray `b`: six channels from the small array, the rest from the big one, scaled. -/
def Args.enc (A : Args) (b : Fin 640) (s : Fin 1024) (c : Fin 32) : EReal :=
  (if h : c.val < 6 then A.small (ix4 b ⟨s.val / 128, by have := s.isLt; omega⟩ ⟨c.val, by omega⟩ ⟨s.val % 128, by omega⟩)
   else A.big (ix5 b ⟨c.val / 8, by have := c.isLt; omega⟩ ⟨s.val / 128, by have := s.isLt; omega⟩
     ⟨c.val % 8, by omega⟩ ⟨s.val % 128, by omega⟩)) * A.ts (ix2 c 0)

/-- The harmonics of ray `b`. -/
def Args.shr (A : Args) (b : Fin 640) (c : Fin 16) : EReal := A.sh (ix3 b c 0)

def r_sigma (A : Args) : FVec Ideal ⟨2, ![640, 1024]⟩ .bf16 := fun y => Spec.sigma A.net (A.enc (y 0) (y 1))

def r_rgb (A : Args) : FVec Ideal ⟨3, ![3, 640, 1024]⟩ .bf16 := fun y => Spec.rgb A.net (A.enc (y 1) (y 2)) (A.shr (y 1)) (y 0)

def r_qe (A : Args) : FVec Ideal ⟨3, ![640, 32, 1024]⟩ .fp8e4m3 := fun y => Spec.codeAt (A.enc (y 0) (y 2)) (y 1)

def r_se (A : Args) : FVec Ideal ⟨3, ![640, 2, 1024]⟩ .f32 := fun y => Spec.scaleAt (A.enc (y 0) (y 2)) (y 1).val

def r_qh1 (A : Args) : FVec Ideal ⟨3, ![640, 64, 1024]⟩ .fp8e4m3 := fun y => Spec.codeAt (Spec.h1 A.net (A.enc (y 0) (y 2))) (y 1)

def r_sh1 (A : Args) : FVec Ideal ⟨3, ![640, 4, 1024]⟩ .f32 := fun y => Spec.scaleAt (Spec.h1 A.net (A.enc (y 0) (y 2))) (y 1).val

def r_qcin (A : Args) : FVec Ideal ⟨3, ![640, 32, 1024]⟩ .fp8e4m3 := fun y => Spec.codeAt (Spec.cin A.net (A.enc (y 0) (y 2)) (A.shr (y 0))) (y 1)

def r_scin (A : Args) : FVec Ideal ⟨3, ![640, 2, 1024]⟩ .f32 := fun y => Spec.scaleAt (Spec.cin A.net (A.enc (y 0) (y 2)) (A.shr (y 0))) (y 1).val

def r_qg1 (A : Args) : FVec Ideal ⟨3, ![640, 64, 1024]⟩ .fp8e4m3 := fun y => Spec.codeAt (Spec.g1 A.net (A.enc (y 0) (y 2)) (A.shr (y 0))) (y 1)

def r_sg1 (A : Args) : FVec Ideal ⟨3, ![640, 4, 1024]⟩ .f32 := fun y => Spec.scaleAt (Spec.g1 A.net (A.enc (y 0) (y 2)) (A.shr (y 0))) (y 1).val

def r_qg2 (A : Args) : FVec Ideal ⟨3, ![640, 64, 1024]⟩ .fp8e4m3 := fun y => Spec.codeAt (Spec.g2 A.net (A.enc (y 0) (y 2)) (A.shr (y 0))) (y 1)

def r_sg2 (A : Args) : FVec Ideal ⟨3, ![640, 4, 1024]⟩ .f32 := fun y => Spec.scaleAt (Spec.g2 A.net (A.enc (y 0) (y 2)) (A.shr (y 0))) (y 1).val

end Cert.Result

end

end
-- ==== Proof.KernelIdeal.Final.lean ====
module

public import proofs.«01_k».proof.Proof.KernelIdeal.Frame
public import proofs.«01_k».proof.Proof.KernelIdeal.Out
public import proofs.«01_k».proof.Proof.Result

/-! The kernel's twelve results at the end of the grid are the results of the arguments. -/

@[expose] public section

set_option synthInstance.maxSize 4096
set_option maxRecDepth 16384

noncomputable section

namespace Cert.KernelIdeal.Body

open Cert.KernelIdeal Cert.KernelIdeal.Gen
open Idealize.ShloMosaic Idealize.ShloMosaic.TcCoe Idealize.SL Idealize.SL.Sem

variable (m : (ℓ : Loc nD τ sig) → Buf (Elt Ideal) ℓ)

/-- The arguments the kernel is run on. -/
def argsK (c : Dev nD) : Result.Args := ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13)⟩

/-- The input blocks of one grid step. -/
def blkI (c : Dev nD) (t : Fin cfg0.N) : In Ideal := ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t⟩

theorem idx0 : ∀ t : Fin cfg0.N, win0_0.index t = ![t.val, 0, 0, 0] := (by decide +kernel : ∀ t : Fin grid0.N, _)

theorem idx1 : ∀ t : Fin cfg0.N, win0_1.index t = ![t.val, 0, 0, 0, 0] := (by decide +kernel : ∀ t : Fin grid0.N, _)

theorem idx2 : ∀ t : Fin cfg0.N, win0_2.index t = ![0, 0] := (by decide +kernel : ∀ t : Fin grid0.N, _)

theorem idx3 : ∀ t : Fin cfg0.N, win0_3.index t = ![t.val, 0, 0] := (by decide +kernel : ∀ t : Fin grid0.N, _)

theorem idx4 : ∀ t : Fin cfg0.N, win0_4.index t = ![0, 0] := (by decide +kernel : ∀ t : Fin grid0.N, _)

theorem idx5 : ∀ t : Fin cfg0.N, win0_5.index t = ![0, 0] := (by decide +kernel : ∀ t : Fin grid0.N, _)

theorem idx6 : ∀ t : Fin cfg0.N, win0_6.index t = ![0, 0] := (by decide +kernel : ∀ t : Fin grid0.N, _)

theorem idx7 : ∀ t : Fin cfg0.N, win0_7.index t = ![0, 0] := (by decide +kernel : ∀ t : Fin grid0.N, _)

theorem idx8 : ∀ t : Fin cfg0.N, win0_8.index t = ![0, 0] := (by decide +kernel : ∀ t : Fin grid0.N, _)

theorem idx9 : ∀ t : Fin cfg0.N, win0_9.index t = ![0, 0] := (by decide +kernel : ∀ t : Fin grid0.N, _)

theorem idx10 : ∀ t : Fin cfg0.N, win0_10.index t = ![0, 0] := (by decide +kernel : ∀ t : Fin grid0.N, _)

theorem idx11 : ∀ t : Fin cfg0.N, win0_11.index t = ![0, 0] := (by decide +kernel : ∀ t : Fin grid0.N, _)

theorem idx12 : ∀ t : Fin cfg0.N, win0_12.index t = ![0, 0] := (by decide +kernel : ∀ t : Fin grid0.N, _)

theorem idx13 : ∀ t : Fin cfg0.N, win0_13.index t = ![0, 0] := (by decide +kernel : ∀ t : Fin grid0.N, _)

theorem idx14 : ∀ t : Fin cfg0.N, win0_14.index t = ![t.val, 0] := (by decide +kernel : ∀ t : Fin grid0.N, _)

theorem idx15 : ∀ t : Fin cfg0.N, win0_15.index t = ![0, t.val, 0] := (by decide +kernel : ∀ t : Fin grid0.N, _)

theorem idx16 : ∀ t : Fin cfg0.N, win0_16.index t = ![t.val, 0, 0] := (by decide +kernel : ∀ t : Fin grid0.N, _)

theorem idx17 : ∀ t : Fin cfg0.N, win0_17.index t = ![t.val, 0, 0] := (by decide +kernel : ∀ t : Fin grid0.N, _)

theorem idx18 : ∀ t : Fin cfg0.N, win0_18.index t = ![t.val, 0, 0] := (by decide +kernel : ∀ t : Fin grid0.N, _)

theorem idx19 : ∀ t : Fin cfg0.N, win0_19.index t = ![t.val, 0, 0] := (by decide +kernel : ∀ t : Fin grid0.N, _)

theorem idx20 : ∀ t : Fin cfg0.N, win0_20.index t = ![t.val, 0, 0] := (by decide +kernel : ∀ t : Fin grid0.N, _)

theorem idx21 : ∀ t : Fin cfg0.N, win0_21.index t = ![t.val, 0, 0] := (by decide +kernel : ∀ t : Fin grid0.N, _)

theorem idx22 : ∀ t : Fin cfg0.N, win0_22.index t = ![t.val, 0, 0] := (by decide +kernel : ∀ t : Fin grid0.N, _)

theorem idx23 : ∀ t : Fin cfg0.N, win0_23.index t = ![t.val, 0, 0] := (by decide +kernel : ∀ t : Fin grid0.N, _)

theorem idx24 : ∀ t : Fin cfg0.N, win0_24.index t = ![t.val, 0, 0] := (by decide +kernel : ∀ t : Fin grid0.N, _)

theorem idx25 : ∀ t : Fin cfg0.N, win0_25.index t = ![t.val, 0, 0] := (by decide +kernel : ∀ t : Fin grid0.N, _)

theorem wd0_eq (c : Dev nD) (t : Fin cfg0.N) (y : Shape.Idx ⟨2, ![64, 32]⟩) : (blkI m c t).x4 y = (argsK m c).wd0 y := by
  idx_vars y
  show iblk m c 4 t _ = _
  blk_point [iblk, V, idx4 t, argsK]

theorem sd0_eq (c : Dev nD) (t : Fin cfg0.N) (y : Shape.Idx ⟨2, ![64, 1]⟩) : (blkI m c t).x5 y = (argsK m c).sd0 y := by
  idx_vars y
  show iblk m c 5 t _ = _
  blk_point [iblk, V, idx5 t, argsK]

theorem wd1_eq (c : Dev nD) (t : Fin cfg0.N) (y : Shape.Idx ⟨2, ![16, 64]⟩) : (blkI m c t).x6 y = (argsK m c).wd1 y := by
  idx_vars y
  show iblk m c 6 t _ = _
  blk_point [iblk, V, idx6 t, argsK]

theorem sd1_eq (c : Dev nD) (t : Fin cfg0.N) (y : Shape.Idx ⟨2, ![16, 1]⟩) : (blkI m c t).x7 y = (argsK m c).sd1 y := by
  idx_vars y
  show iblk m c 7 t _ = _
  blk_point [iblk, V, idx7 t, argsK]

theorem wc0_eq (c : Dev nD) (t : Fin cfg0.N) (y : Shape.Idx ⟨2, ![64, 32]⟩) : (blkI m c t).x8 y = (argsK m c).wc0 y := by
  idx_vars y
  show iblk m c 8 t _ = _
  blk_point [iblk, V, idx8 t, argsK]

theorem sc0_eq (c : Dev nD) (t : Fin cfg0.N) (y : Shape.Idx ⟨2, ![64, 1]⟩) : (blkI m c t).x9 y = (argsK m c).sc0 y := by
  idx_vars y
  show iblk m c 9 t _ = _
  blk_point [iblk, V, idx9 t, argsK]

theorem wc1_eq (c : Dev nD) (t : Fin cfg0.N) (y : Shape.Idx ⟨2, ![64, 64]⟩) : (blkI m c t).x10 y = (argsK m c).wc1 y := by
  idx_vars y
  show iblk m c 10 t _ = _
  blk_point [iblk, V, idx10 t, argsK]

theorem sc1_eq (c : Dev nD) (t : Fin cfg0.N) (y : Shape.Idx ⟨2, ![64, 1]⟩) : (blkI m c t).x11 y = (argsK m c).sc1 y := by
  idx_vars y
  show iblk m c 11 t _ = _
  blk_point [iblk, V, idx11 t, argsK]

theorem wc2_eq (c : Dev nD) (t : Fin cfg0.N) (y : Shape.Idx ⟨2, ![3, 64]⟩) : (blkI m c t).x12 y = (argsK m c).wc2 y := by
  idx_vars y
  show iblk m c 12 t _ = _
  blk_point [iblk, V, idx12 t, argsK]

theorem sc2_eq (c : Dev nD) (t : Fin cfg0.N) (y : Shape.Idx ⟨2, ![3, 1]⟩) : (blkI m c t).x13 y = (argsK m c).sc2 y := by
  idx_vars y
  show iblk m c 13 t _ = _
  blk_point [iblk, V, idx13 t, argsK]

theorem net_eq (c : Dev nD) (t : Fin cfg0.N) : net (blkI m c t) = (argsK m c).net := by
  unfold net Result.Args.net
  simp only [wd0_eq, sd0_eq, wd1_eq, sd1_eq, wc0_eq, sc0_eq, wc1_eq, sc1_eq, wc2_eq, sc2_eq]

theorem small_eq (c : Dev nD) (t : Fin cfg0.N) (r : Fin 8) (a k : Fin 8) (l : Fin 128) (b : Fin 640) (hb : b.val = t.val * 8 + r.val) :
    (blkI m c t).x0 (ix4 r a k l) = (argsK m c).small (ix4 b a k l) := by
  show iblk m c 0 t _ = _
  blk_point [iblk, V, idx0 t, argsK]

theorem big_eq (c : Dev nD) (t : Fin cfg0.N) (r : Fin 8) (g : Fin 4) (a k : Fin 8) (l : Fin 128) (b : Fin 640) (hb : b.val = t.val * 8 + r.val) :
    (blkI m c t).x1 (ix5 r g a k l) = (argsK m c).big (ix5 b g a k l) := by
  show iblk m c 1 t _ = _
  blk_point [iblk, V, idx1 t, argsK]

theorem ts_eq (c : Dev nD) (t : Fin cfg0.N) (k : Fin 32) :
    (blkI m c t).x2 (ix2 k 0) = (argsK m c).ts (ix2 k 0) := by
  show iblk m c 2 t _ = _
  blk_point [iblk, V, idx2 t, argsK]

theorem sh_eq (c : Dev nD) (t : Fin cfg0.N) (r : Fin 8) (k : Fin 16) (b : Fin 640) (hb : b.val = t.val * 8 + r.val) :
    (blkI m c t).x3 (ix3 r k 0) = (argsK m c).sh (ix3 b k 0) := by
  show iblk m c 3 t _ = _
  blk_point [iblk, V, idx3 t, argsK]

theorem enc_eq (c : Dev nD) (t : Fin cfg0.N) (r : Fin 8) (s : Fin 1024) (b : Fin 640) (s' : Fin 1024) (hb : b.val = t.val * 8 + r.val)
    (hs : s'.val = s.val) : encS (blkI m c t) r s = (argsK m c).enc b s' := by
  obtain rfl : s' = s := Fin.ext hs
  funext k
  unfold encS Result.Args.enc
  rw [ts_eq]
  split
  · rw [small_eq m c t r _ _ _ b hb]
  · rw [big_eq m c t r _ _ _ _ b hb]

theorem shr_eq (c : Dev nD) (t : Fin cfg0.N) (r : Fin 8) (b : Fin 640) (hb : b.val = t.val * 8 + r.val) :
    shS (blkI m c t) r = (argsK m c).shr b := by
  funext k
  exact sh_eq m c t r k b hb

theorem point14 (c : Dev nD) (t : Fin cfg0.N) (y : ((cfg0.win 14).xblock (cfg0.grid.coords t)).Idx) :
    out0_14 (blkI m c t) y = Result.r_sigma (argsK m c) (((cfg0.win 14).blk t).view.emb y) := by
  have h0 : (((cfg0.win 14).blk t).view.emb y 0).val = t.val * 8 + (y 0).val := by blk_simp [idx14 t]
  have h1 : (((cfg0.win 14).blk t).view.emb y 1).val = (y 1).val := by blk_simp [idx14 t]
  refine (out14_apply _ y).trans ?_
  rw [net_eq, enc_eq m c t (y 0) (y 1) _ _ h0 h1]
  unfold Result.r_sigma
  exact rfl

theorem final14 (c : Dev nD) : (dats m 0 c).arrAt 14 (cfgs 0).N = Result.r_sigma (argsK m c) := by
  refine (dats m 0 c).arrAt_eq_of_covers 14 _ (by decide +kernel) fun t _ y => ?_
  blk_simp
  rw [after0_14]
  exact point14 m c t y

theorem point15 (c : Dev nD) (t : Fin cfg0.N) (y : ((cfg0.win 15).xblock (cfg0.grid.coords t)).Idx) :
    out0_15 (blkI m c t) y = Result.r_rgb (argsK m c) (((cfg0.win 15).blk t).view.emb y) := by
  have h0 : (((cfg0.win 15).blk t).view.emb y 0).val = (y 0).val := by blk_simp [idx15 t]
  have h1 : (((cfg0.win 15).blk t).view.emb y 1).val = t.val * 8 + (y 1).val := by blk_simp [idx15 t]
  have h2 : (((cfg0.win 15).blk t).view.emb y 2).val = (y 2).val := by blk_simp [idx15 t]
  refine (out15_apply _ y).trans ?_
  rw [net_eq, enc_eq m c t (y 1) (y 2) _ _ h1 h2, shr_eq m c t (y 1) _ h1]
  unfold Result.r_rgb
  exact congrArg (Spec.rgb _ _ _) (Fin.ext h0.symm)

theorem final15 (c : Dev nD) : (dats m 0 c).arrAt 15 (cfgs 0).N = Result.r_rgb (argsK m c) := by
  refine (dats m 0 c).arrAt_eq_of_covers 15 _ (by decide +kernel) fun t _ y => ?_
  blk_simp
  rw [after0_15]
  exact point15 m c t y

theorem point16 (c : Dev nD) (t : Fin cfg0.N) (y : ((cfg0.win 16).xblock (cfg0.grid.coords t)).Idx) :
    out0_16 (blkI m c t) y = Result.r_qe (argsK m c) (((cfg0.win 16).blk t).view.emb y) := by
  have h0 : (((cfg0.win 16).blk t).view.emb y 0).val = t.val * 8 + (y 0).val := by blk_simp [idx16 t]
  have h1 : (((cfg0.win 16).blk t).view.emb y 1).val = (y 1).val := by blk_simp [idx16 t]
  have h2 : (((cfg0.win 16).blk t).view.emb y 2).val = (y 2).val := by blk_simp [idx16 t]
  refine (out16_apply _ y).trans ?_
  rw [enc_eq m c t (y 0) (y 2) _ _ h0 h2]
  unfold Result.r_qe
  exact congrArg (Spec.codeAt _) (Fin.ext h1.symm)

theorem final16 (c : Dev nD) : (dats m 0 c).arrAt 16 (cfgs 0).N = Result.r_qe (argsK m c) := by
  refine (dats m 0 c).arrAt_eq_of_covers 16 _ (by decide +kernel) fun t _ y => ?_
  blk_simp
  rw [after0_16]
  exact point16 m c t y

theorem point17 (c : Dev nD) (t : Fin cfg0.N) (y : ((cfg0.win 17).xblock (cfg0.grid.coords t)).Idx) :
    out0_17 (blkI m c t) y = Result.r_se (argsK m c) (((cfg0.win 17).blk t).view.emb y) := by
  have h0 : (((cfg0.win 17).blk t).view.emb y 0).val = t.val * 8 + (y 0).val := by blk_simp [idx17 t]
  have h1 : (((cfg0.win 17).blk t).view.emb y 1).val = (y 1).val := by blk_simp [idx17 t]
  have h2 : (((cfg0.win 17).blk t).view.emb y 2).val = (y 2).val := by blk_simp [idx17 t]
  refine (out17_apply _ y).trans ?_
  rw [enc_eq m c t (y 0) (y 2) _ _ h0 h2]
  unfold Result.r_se
  exact congrArg (Spec.scaleAt _) h1.symm

theorem final17 (c : Dev nD) : (dats m 0 c).arrAt 17 (cfgs 0).N = Result.r_se (argsK m c) := by
  refine (dats m 0 c).arrAt_eq_of_covers 17 _ (by decide +kernel) fun t _ y => ?_
  blk_simp
  rw [after0_17]
  exact point17 m c t y

theorem point18 (c : Dev nD) (t : Fin cfg0.N) (y : ((cfg0.win 18).xblock (cfg0.grid.coords t)).Idx) :
    out0_18 (blkI m c t) y = Result.r_qh1 (argsK m c) (((cfg0.win 18).blk t).view.emb y) := by
  have h0 : (((cfg0.win 18).blk t).view.emb y 0).val = t.val * 8 + (y 0).val := by blk_simp [idx18 t]
  have h1 : (((cfg0.win 18).blk t).view.emb y 1).val = (y 1).val := by blk_simp [idx18 t]
  have h2 : (((cfg0.win 18).blk t).view.emb y 2).val = (y 2).val := by blk_simp [idx18 t]
  refine (out18_apply _ y).trans ?_
  rw [net_eq, enc_eq m c t (y 0) (y 2) _ _ h0 h2]
  unfold Result.r_qh1
  exact congrArg (Spec.codeAt _) (Fin.ext h1.symm)

theorem final18 (c : Dev nD) : (dats m 0 c).arrAt 18 (cfgs 0).N = Result.r_qh1 (argsK m c) := by
  refine (dats m 0 c).arrAt_eq_of_covers 18 _ (by decide +kernel) fun t _ y => ?_
  blk_simp
  rw [after0_18]
  exact point18 m c t y

theorem point19 (c : Dev nD) (t : Fin cfg0.N) (y : ((cfg0.win 19).xblock (cfg0.grid.coords t)).Idx) :
    out0_19 (blkI m c t) y = Result.r_sh1 (argsK m c) (((cfg0.win 19).blk t).view.emb y) := by
  have h0 : (((cfg0.win 19).blk t).view.emb y 0).val = t.val * 8 + (y 0).val := by blk_simp [idx19 t]
  have h1 : (((cfg0.win 19).blk t).view.emb y 1).val = (y 1).val := by blk_simp [idx19 t]
  have h2 : (((cfg0.win 19).blk t).view.emb y 2).val = (y 2).val := by blk_simp [idx19 t]
  refine (out19_apply _ y).trans ?_
  rw [net_eq, enc_eq m c t (y 0) (y 2) _ _ h0 h2]
  unfold Result.r_sh1
  exact congrArg (Spec.scaleAt _) h1.symm

theorem final19 (c : Dev nD) : (dats m 0 c).arrAt 19 (cfgs 0).N = Result.r_sh1 (argsK m c) := by
  refine (dats m 0 c).arrAt_eq_of_covers 19 _ (by decide +kernel) fun t _ y => ?_
  blk_simp
  rw [after0_19]
  exact point19 m c t y

theorem point20 (c : Dev nD) (t : Fin cfg0.N) (y : ((cfg0.win 20).xblock (cfg0.grid.coords t)).Idx) :
    out0_20 (blkI m c t) y = Result.r_qcin (argsK m c) (((cfg0.win 20).blk t).view.emb y) := by
  have h0 : (((cfg0.win 20).blk t).view.emb y 0).val = t.val * 8 + (y 0).val := by blk_simp [idx20 t]
  have h1 : (((cfg0.win 20).blk t).view.emb y 1).val = (y 1).val := by blk_simp [idx20 t]
  have h2 : (((cfg0.win 20).blk t).view.emb y 2).val = (y 2).val := by blk_simp [idx20 t]
  refine (out20_apply _ y).trans ?_
  rw [net_eq, enc_eq m c t (y 0) (y 2) _ _ h0 h2, shr_eq m c t (y 0) _ h0]
  unfold Result.r_qcin
  exact congrArg (Spec.codeAt _) (Fin.ext h1.symm)

theorem final20 (c : Dev nD) : (dats m 0 c).arrAt 20 (cfgs 0).N = Result.r_qcin (argsK m c) := by
  refine (dats m 0 c).arrAt_eq_of_covers 20 _ (by decide +kernel) fun t _ y => ?_
  blk_simp
  rw [after0_20]
  exact point20 m c t y

theorem point21 (c : Dev nD) (t : Fin cfg0.N) (y : ((cfg0.win 21).xblock (cfg0.grid.coords t)).Idx) :
    out0_21 (blkI m c t) y = Result.r_scin (argsK m c) (((cfg0.win 21).blk t).view.emb y) := by
  have h0 : (((cfg0.win 21).blk t).view.emb y 0).val = t.val * 8 + (y 0).val := by blk_simp [idx21 t]
  have h1 : (((cfg0.win 21).blk t).view.emb y 1).val = (y 1).val := by blk_simp [idx21 t]
  have h2 : (((cfg0.win 21).blk t).view.emb y 2).val = (y 2).val := by blk_simp [idx21 t]
  refine (out21_apply _ y).trans ?_
  rw [net_eq, enc_eq m c t (y 0) (y 2) _ _ h0 h2, shr_eq m c t (y 0) _ h0]
  unfold Result.r_scin
  exact congrArg (Spec.scaleAt _) h1.symm

theorem final21 (c : Dev nD) : (dats m 0 c).arrAt 21 (cfgs 0).N = Result.r_scin (argsK m c) := by
  refine (dats m 0 c).arrAt_eq_of_covers 21 _ (by decide +kernel) fun t _ y => ?_
  blk_simp
  rw [after0_21]
  exact point21 m c t y

theorem point22 (c : Dev nD) (t : Fin cfg0.N) (y : ((cfg0.win 22).xblock (cfg0.grid.coords t)).Idx) :
    out0_22 (blkI m c t) y = Result.r_qg1 (argsK m c) (((cfg0.win 22).blk t).view.emb y) := by
  have h0 : (((cfg0.win 22).blk t).view.emb y 0).val = t.val * 8 + (y 0).val := by blk_simp [idx22 t]
  have h1 : (((cfg0.win 22).blk t).view.emb y 1).val = (y 1).val := by blk_simp [idx22 t]
  have h2 : (((cfg0.win 22).blk t).view.emb y 2).val = (y 2).val := by blk_simp [idx22 t]
  refine (out22_apply _ y).trans ?_
  rw [net_eq, enc_eq m c t (y 0) (y 2) _ _ h0 h2, shr_eq m c t (y 0) _ h0]
  unfold Result.r_qg1
  exact congrArg (Spec.codeAt _) (Fin.ext h1.symm)

theorem final22 (c : Dev nD) : (dats m 0 c).arrAt 22 (cfgs 0).N = Result.r_qg1 (argsK m c) := by
  refine (dats m 0 c).arrAt_eq_of_covers 22 _ (by decide +kernel) fun t _ y => ?_
  blk_simp
  rw [after0_22]
  exact point22 m c t y

theorem point23 (c : Dev nD) (t : Fin cfg0.N) (y : ((cfg0.win 23).xblock (cfg0.grid.coords t)).Idx) :
    out0_23 (blkI m c t) y = Result.r_sg1 (argsK m c) (((cfg0.win 23).blk t).view.emb y) := by
  have h0 : (((cfg0.win 23).blk t).view.emb y 0).val = t.val * 8 + (y 0).val := by blk_simp [idx23 t]
  have h1 : (((cfg0.win 23).blk t).view.emb y 1).val = (y 1).val := by blk_simp [idx23 t]
  have h2 : (((cfg0.win 23).blk t).view.emb y 2).val = (y 2).val := by blk_simp [idx23 t]
  refine (out23_apply _ y).trans ?_
  rw [net_eq, enc_eq m c t (y 0) (y 2) _ _ h0 h2, shr_eq m c t (y 0) _ h0]
  unfold Result.r_sg1
  exact congrArg (Spec.scaleAt _) h1.symm

theorem final23 (c : Dev nD) : (dats m 0 c).arrAt 23 (cfgs 0).N = Result.r_sg1 (argsK m c) := by
  refine (dats m 0 c).arrAt_eq_of_covers 23 _ (by decide +kernel) fun t _ y => ?_
  blk_simp
  rw [after0_23]
  exact point23 m c t y

theorem point24 (c : Dev nD) (t : Fin cfg0.N) (y : ((cfg0.win 24).xblock (cfg0.grid.coords t)).Idx) :
    out0_24 (blkI m c t) y = Result.r_qg2 (argsK m c) (((cfg0.win 24).blk t).view.emb y) := by
  have h0 : (((cfg0.win 24).blk t).view.emb y 0).val = t.val * 8 + (y 0).val := by blk_simp [idx24 t]
  have h1 : (((cfg0.win 24).blk t).view.emb y 1).val = (y 1).val := by blk_simp [idx24 t]
  have h2 : (((cfg0.win 24).blk t).view.emb y 2).val = (y 2).val := by blk_simp [idx24 t]
  refine (out24_apply _ y).trans ?_
  rw [net_eq, enc_eq m c t (y 0) (y 2) _ _ h0 h2, shr_eq m c t (y 0) _ h0]
  unfold Result.r_qg2
  exact congrArg (Spec.codeAt _) (Fin.ext h1.symm)

theorem final24 (c : Dev nD) : (dats m 0 c).arrAt 24 (cfgs 0).N = Result.r_qg2 (argsK m c) := by
  refine (dats m 0 c).arrAt_eq_of_covers 24 _ (by decide +kernel) fun t _ y => ?_
  blk_simp
  rw [after0_24]
  exact point24 m c t y

theorem point25 (c : Dev nD) (t : Fin cfg0.N) (y : ((cfg0.win 25).xblock (cfg0.grid.coords t)).Idx) :
    out0_25 (blkI m c t) y = Result.r_sg2 (argsK m c) (((cfg0.win 25).blk t).view.emb y) := by
  have h0 : (((cfg0.win 25).blk t).view.emb y 0).val = t.val * 8 + (y 0).val := by blk_simp [idx25 t]
  have h1 : (((cfg0.win 25).blk t).view.emb y 1).val = (y 1).val := by blk_simp [idx25 t]
  have h2 : (((cfg0.win 25).blk t).view.emb y 2).val = (y 2).val := by blk_simp [idx25 t]
  refine (out25_apply _ y).trans ?_
  rw [net_eq, enc_eq m c t (y 0) (y 2) _ _ h0 h2, shr_eq m c t (y 0) _ h0]
  unfold Result.r_sg2
  exact congrArg (Spec.scaleAt _) h1.symm

theorem final25 (c : Dev nD) : (dats m 0 c).arrAt 25 (cfgs 0).N = Result.r_sg2 (argsK m c) := by
  refine (dats m 0 c).arrAt_eq_of_covers 25 _ (by decide +kernel) fun t _ y => ?_
  blk_simp
  rw [after0_25]
  exact point25 m c t y

end Cert.KernelIdeal.Body

end

end
-- ==== Proof.ReferenceIdeal.Points.lean ====
module

public import proofs.«01_k».proof.Proof.Gen.ReferenceIdeal.Skeleton
public import proofs.«01_k».proof.Proof.Spec

/-! The arrays of the reference, at an index: one row of each is one sample, and the row of each layer's result is the
function of `Spec` of the row it is computed from. -/

@[expose] public section

set_option synthInstance.maxSize 4096
set_option maxRecDepth 16384

noncomputable section

namespace Cert.ReferenceIdeal.Value

open Cert.ReferenceIdeal Cert.ReferenceIdeal.Gen
open Idealize.ShloMosaic Idealize.ShloMosaic.TcCoe Idealize.SL Idealize.SL.Sem

/-- The channels of sample `n`. -/
def row {k : ℕ} {e : FTy} (x : FVec Ideal ⟨2, ![655360, k]⟩ e) (n : Fin 655360) : Fin k → EReal := fun c => x (ix2 n c)

/-- The place of sample `s` of ray `b` in the list of all samples. -/
def at' (b : Fin 640) (s : Fin 1024) : Fin 655360 := ⟨b.val * 1024 + s.val, by have := b.isLt; have := s.isLt; omega⟩

/-! ## The quantiser of 32 channels -/

def cast2 (v : FVec Ideal S655360x2 .f32) : FVec Ideal S655360x2x1 .f32 := shapeCast S655360x2x1 v shapeCasts_S655360x2_S655360x2x1
def red2 (w : FVec Ideal S655360x2x16 .f32) : FVec Ideal S655360x2 .f32 :=
  multiReduction .maximumf [2] S655360x2 (absf w) 0xFF800000#32 reduces_S655360x2x16_S655360x2 (.inl rfl) rfl
def top2 (w : FVec Ideal S655360x2x16 .f32) : FVec Ideal S655360x2x1 .f32 :=
  mulf (cast2 (red2 w)) (broadcast S655360x2x1 (Scalar.ofBits .f32 0x3B124925#32))
def ex2 (t l : FVec Ideal S655360x2x1 .f32) : FVec Ideal S655360x2x1 .f32 :=
  select (cmpf .olt t (broadcast S655360x2x1 (Scalar.ofBits .f32 0x00800000#32)))
    (broadcast S655360x2x1 (Scalar.ofBits .f32 0x00000000#32))
    (minimumf (addf (floor (divf l (log (broadcast S655360x2x1 (Scalar.ofBits .f32 0x40000000#32)))))
      (broadcast S655360x2x1 (Scalar.ofBits .f32 0x3F800000#32))) (broadcast S655360x2x1 (Scalar.ofBits .f32 0x42FC0000#32)))
def low2 (w : FVec Ideal S655360x2x16 .f32) (e : FVec Ideal S655360x2x1 .f32) : FVec Ideal S655360x2x16 .f32 :=
  maximumf (broadcast S655360x2x16 (Scalar.ofBits .f32 0xC3E00000#32))
    (mulf w (broadcastTo S655360x2x16 (exp2 (subf (broadcast S655360x2x1 (Scalar.ofBits .f32 0x00000000#32)) e))
      broadcasts_S655360x2x1_S655360x2x16))
def clip2 (w : FVec Ideal S655360x2x16 .f32) : FVec Ideal S655360x2x16 .fp8e4m3 :=
  truncf .fp8e4m3 (minimumf (broadcast S655360x2x16 (Scalar.ofBits .f32 0x43E00000#32)) w) bitsLt_fp8e4m3_f32
def flat2 {e : FTy} (w : FVec Ideal S655360x2x16 e) : FVec Ideal S655360x32 e :=
  shapeCast S655360x32 w shapeCasts_S655360x2x16_S655360x32
def grp2 (x : FVec Ideal S655360x32 .f32) : FVec Ideal S655360x2x16 .f32 :=
  shapeCast S655360x2x16 x shapeCasts_S655360x32_S655360x2x16
def act2 (c : FVec Ideal S655360x2x16 .fp8e4m3) (s : FVec Ideal S655360x2x1 .f32) : FVec Ideal S655360x32 .bf16 :=
  flat2 (mulf (extf .bf16 c bitsLt_fp8e4m3_bf16)
    (broadcastTo S655360x2x16 (truncf .bf16 s bitsLt_bf16_f32) broadcasts_S655360x2x1_S655360x2x16))
def rowsC2 (c : FVec Ideal S655360x2x16 .fp8e4m3) : FVec Ideal S640x32x1024 .fp8e4m3 :=
  transpose S640x32x1024 [0, 2, 1] (shapeCast S640x1024x32 (flat2 c) shapeCasts_S655360x32_S640x1024x32)
    transposes_S640x1024x32_p0_2_1_S640x32x1024
def rowsS2 (s : FVec Ideal S655360x2x1 .f32) : FVec Ideal S640x2x1024 .f32 :=
  transpose S640x2x1024 [0, 2, 1] (shapeCast S640x1024x2 (shapeCast S655360x2 s shapeCasts_S655360x2x1_S655360x2)
    shapeCasts_S655360x2_S640x1024x2) transposes_S640x1024x2_p0_2_1_S640x2x1024

/-- The exponents, the scales and the codes of the samples `x`, and what enters the next product. -/
def exOf2 (x : FVec Ideal S655360x32 .f32) : FVec Ideal S655360x2x1 .f32 := ex2 (top2 (grp2 x)) (log (top2 (grp2 x)))
def scaleOf2 (x : FVec Ideal S655360x32 .f32) : FVec Ideal S655360x2x1 .f32 := exp2 (exOf2 x)
def codesOf2 (x : FVec Ideal S655360x32 .f32) : FVec Ideal S655360x2x16 .fp8e4m3 := clip2 (low2 (grp2 x) (exOf2 x))
def actOf2 (x : FVec Ideal S655360x32 .f32) : FVec Ideal S655360x32 .bf16 := act2 (codesOf2 x) (scaleOf2 x)

theorem cast2_apply (v : FVec Ideal S655360x2 .f32) (n : Fin 655360) (g : Fin 2) : cast2 v (ix3 n g 0) = v (ix2 n g) := by
  pointwise [cast2]

theorem red2_apply (w : FVec Ideal S655360x2x16 .f32) (n : Fin 655360) (g : Fin 2) :
    red2 w (ix2 n g) = Finset.fold max (Ideal.ofBits .f32 0xFF800000#32)
      (fun j => max (w (ix3 n g j)) (-w (ix3 n g j))) Finset.univ := by
  pointwise [red2]
  rfl

theorem mul2_apply (v : FVec Ideal S655360x2x1 .f32) (n : Fin 655360) (g : Fin 2) :
    mulf v (broadcast S655360x2x1 (Scalar.ofBits .f32 0x3B124925#32)) (ix3 n g 0)
      = v (ix3 n g 0) * Ideal.ofBits .f32 0x3B124925#32 := by
  pointwise []

theorem top2_apply (w : FVec Ideal S655360x2x16 .f32) (n : Fin 655360) (g : Fin 2) :
    top2 w (ix3 n g 0) = Spec.top fun j => w (ix3 n g j) := by
  unfold top2 Spec.top
  rw [mul2_apply, cast2_apply]
  exact congrArg (fun z : EReal => z * Ideal.ofBits .f32 0x3B124925#32) (red2_apply w n g)

theorem ex2_apply (t : FVec Ideal S655360x2x1 .f32) (n : Fin 655360) (g : Fin 2) :
    ex2 t (log t) (ix3 n g 0) = Spec.ex (t (ix3 n g 0)) := by
  pointwise [ex2]
  rfl

theorem grp2_apply (x : FVec Ideal S655360x32 .f32) (n : Fin 655360) (g : Fin 2) :
    (fun j => grp2 x (ix3 n g j)) = Spec.grp (row x n) g.val := by
  funext j
  have hj := j.isLt
  have hg := g.isLt
  rw [Spec.grp_of (row x n) g.val j ⟨g.val * 16 + j.val, by omega⟩ (by show g.val * 16 + j.val = _; omega)]
  pointwise [grp2]
  rfl

theorem exOf2_apply (x : FVec Ideal S655360x32 .f32) (n : Fin 655360) (g : Fin 2) :
    exOf2 x (ix3 n g 0) = Spec.ex (Spec.top (Spec.grp (row x n) g.val)) := by
  unfold exOf2
  rw [ex2_apply, top2_apply, grp2_apply]

theorem expo2_apply (e : FVec Ideal S655360x2x1 .f32) (n : Fin 655360) (g : Fin 2) :
    exp2 e (ix3 n g 0) = Ideal.exp2 (e (ix3 n g 0)) := by
  pointwise []
  exact rfl

theorem clip2_apply (w : FVec Ideal S655360x2x16 .f32) (e : FVec Ideal S655360x2x1 .f32) (n : Fin 655360) (g : Fin 2) (j : Fin 16) :
    clip2 (low2 w e) (ix3 n g j) = min (Ideal.ofBits .f32 0x43E00000#32)
      (max (Ideal.ofBits .f32 0xC3E00000#32) (w (ix3 n g j) * Ideal.exp2 (0 - e (ix3 n g 0)))) := by
  pointwise [clip2, low2]
  exact rfl

theorem scaleOf2_apply (x : FVec Ideal S655360x32 .f32) (n : Fin 655360) (g : Fin 2) :
    scaleOf2 x (ix3 n g 0) = Spec.scaleAt (row x n) g.val := by
  unfold scaleOf2
  rw [expo2_apply]
  exact congrArg Ideal.exp2 (exOf2_apply x n g)

theorem codesOf2_apply (x : FVec Ideal S655360x32 .f32) (n : Fin 655360) (g : Fin 2) (j : Fin 16) :
    codesOf2 x (ix3 n g j) = Spec.code (Spec.grp (row x n) g.val) j := by
  unfold codesOf2 Spec.code
  rw [clip2_apply]
  exact congrArg₂ (fun a b : EReal => min (Ideal.ofBits .f32 0x43E00000#32)
    (max (Ideal.ofBits .f32 0xC3E00000#32) (a * Ideal.exp2 (0 - b)))) (congrFun (grp2_apply x n g) j) (exOf2_apply x n g)

theorem flat2_apply {e : FTy} (w : FVec Ideal S655360x2x16 e) (n : Fin 655360) (c : Fin 32) :
    flat2 w (ix2 n c) = w (ix3 n ⟨c.val / 16, by have := c.isLt; omega⟩ ⟨c.val % 16, Nat.mod_lt _ (by decide)⟩) := by
  pointwise [flat2]

theorem act2_apply (c : FVec Ideal S655360x2x16 .fp8e4m3) (s : FVec Ideal S655360x2x1 .f32) (n : Fin 655360) (o : Fin 32) :
    act2 c s (ix2 n o) = c (ix3 n ⟨o.val / 16, by have := o.isLt; omega⟩ ⟨o.val % 16, Nat.mod_lt _ (by decide)⟩)
      * s (ix3 n ⟨o.val / 16, by have := o.isLt; omega⟩ 0) := by
  unfold act2
  rw [flat2_apply]
  pointwise []

theorem actOf2_apply (x : FVec Ideal S655360x32 .f32) (n : Fin 655360) (c : Fin 32) :
    actOf2 x (ix2 n c) = Spec.actAt (row x n) c := by
  unfold actOf2
  rw [act2_apply, codesOf2_apply, scaleOf2_apply]
  exact rfl

theorem rowsC2_flat (k : FVec Ideal S655360x2x16 .fp8e4m3) (b : Fin 640) (c : Fin 32) (s : Fin 1024) :
    rowsC2 k (ix3 b c s) = flat2 k (ix2 (at' b s) c) := by
  pointwise [rowsC2]
  exact rfl

theorem rowsC2_apply (x : FVec Ideal S655360x32 .f32) (b : Fin 640) (c : Fin 32) (s : Fin 1024) :
    rowsC2 (codesOf2 x) (ix3 b c s) = Spec.codeAt (row x (at' b s)) c := by
  rw [rowsC2_flat, flat2_apply, codesOf2_apply]
  exact rfl

theorem rowsS2_flat (k : FVec Ideal S655360x2x1 .f32) (b : Fin 640) (g : Fin 2) (s : Fin 1024) :
    rowsS2 k (ix3 b g s) = k (ix3 (at' b s) g 0) := by
  pointwise [rowsS2]
  exact rfl

theorem rowsS2_apply (x : FVec Ideal S655360x32 .f32) (b : Fin 640) (g : Fin 2) (s : Fin 1024) :
    rowsS2 (scaleOf2 x) (ix3 b g s) = Spec.scaleAt (row x (at' b s)) g.val := by
  rw [rowsS2_flat]
  exact scaleOf2_apply x _ g

/-! ## The quantiser of 64 channels -/

def cast4 (v : FVec Ideal S655360x4 .f32) : FVec Ideal S655360x4x1 .f32 := shapeCast S655360x4x1 v shapeCasts_S655360x4_S655360x4x1
def red4 (w : FVec Ideal S655360x4x16 .f32) : FVec Ideal S655360x4 .f32 :=
  multiReduction .maximumf [2] S655360x4 (absf w) 0xFF800000#32 reduces_S655360x4x16_S655360x4 (.inl rfl) rfl
def top4 (w : FVec Ideal S655360x4x16 .f32) : FVec Ideal S655360x4x1 .f32 :=
  mulf (cast4 (red4 w)) (broadcast S655360x4x1 (Scalar.ofBits .f32 0x3B124925#32))
def ex4 (t l : FVec Ideal S655360x4x1 .f32) : FVec Ideal S655360x4x1 .f32 :=
  select (cmpf .olt t (broadcast S655360x4x1 (Scalar.ofBits .f32 0x00800000#32)))
    (broadcast S655360x4x1 (Scalar.ofBits .f32 0x00000000#32))
    (minimumf (addf (floor (divf l (log (broadcast S655360x4x1 (Scalar.ofBits .f32 0x40000000#32)))))
      (broadcast S655360x4x1 (Scalar.ofBits .f32 0x3F800000#32))) (broadcast S655360x4x1 (Scalar.ofBits .f32 0x42FC0000#32)))
def low4 (w : FVec Ideal S655360x4x16 .f32) (e : FVec Ideal S655360x4x1 .f32) : FVec Ideal S655360x4x16 .f32 :=
  maximumf (broadcast S655360x4x16 (Scalar.ofBits .f32 0xC3E00000#32))
    (mulf w (broadcastTo S655360x4x16 (exp2 (subf (broadcast S655360x4x1 (Scalar.ofBits .f32 0x00000000#32)) e))
      broadcasts_S655360x4x1_S655360x4x16))
def clip4 (w : FVec Ideal S655360x4x16 .f32) : FVec Ideal S655360x4x16 .fp8e4m3 :=
  truncf .fp8e4m3 (minimumf (broadcast S655360x4x16 (Scalar.ofBits .f32 0x43E00000#32)) w) bitsLt_fp8e4m3_f32
def flat4 {e : FTy} (w : FVec Ideal S655360x4x16 e) : FVec Ideal S655360x64 e :=
  shapeCast S655360x64 w shapeCasts_S655360x4x16_S655360x64
def grp4 (x : FVec Ideal S655360x64 .f32) : FVec Ideal S655360x4x16 .f32 :=
  shapeCast S655360x4x16 x shapeCasts_S655360x64_S655360x4x16
def act4 (c : FVec Ideal S655360x4x16 .fp8e4m3) (s : FVec Ideal S655360x4x1 .f32) : FVec Ideal S655360x64 .bf16 :=
  flat4 (mulf (extf .bf16 c bitsLt_fp8e4m3_bf16)
    (broadcastTo S655360x4x16 (truncf .bf16 s bitsLt_bf16_f32) broadcasts_S655360x4x1_S655360x4x16))
def rowsC4 (c : FVec Ideal S655360x4x16 .fp8e4m3) : FVec Ideal S640x64x1024 .fp8e4m3 :=
  transpose S640x64x1024 [0, 2, 1] (shapeCast S640x1024x64 (flat4 c) shapeCasts_S655360x64_S640x1024x64)
    transposes_S640x1024x64_p0_2_1_S640x64x1024
def rowsS4 (s : FVec Ideal S655360x4x1 .f32) : FVec Ideal S640x4x1024 .f32 :=
  transpose S640x4x1024 [0, 2, 1] (shapeCast S640x1024x4 (shapeCast S655360x4 s shapeCasts_S655360x4x1_S655360x4)
    shapeCasts_S655360x4_S640x1024x4) transposes_S640x1024x4_p0_2_1_S640x4x1024

/-- The exponents, the scales and the codes of the samples `x`, and what enters the next product. -/
def exOf4 (x : FVec Ideal S655360x64 .f32) : FVec Ideal S655360x4x1 .f32 := ex4 (top4 (grp4 x)) (log (top4 (grp4 x)))
def scaleOf4 (x : FVec Ideal S655360x64 .f32) : FVec Ideal S655360x4x1 .f32 := exp2 (exOf4 x)
def codesOf4 (x : FVec Ideal S655360x64 .f32) : FVec Ideal S655360x4x16 .fp8e4m3 := clip4 (low4 (grp4 x) (exOf4 x))
def actOf4 (x : FVec Ideal S655360x64 .f32) : FVec Ideal S655360x64 .bf16 := act4 (codesOf4 x) (scaleOf4 x)

theorem cast4_apply (v : FVec Ideal S655360x4 .f32) (n : Fin 655360) (g : Fin 4) : cast4 v (ix3 n g 0) = v (ix2 n g) := by
  pointwise [cast4]

theorem red4_apply (w : FVec Ideal S655360x4x16 .f32) (n : Fin 655360) (g : Fin 4) :
    red4 w (ix2 n g) = Finset.fold max (Ideal.ofBits .f32 0xFF800000#32)
      (fun j => max (w (ix3 n g j)) (-w (ix3 n g j))) Finset.univ := by
  pointwise [red4]
  rfl

theorem mul4_apply (v : FVec Ideal S655360x4x1 .f32) (n : Fin 655360) (g : Fin 4) :
    mulf v (broadcast S655360x4x1 (Scalar.ofBits .f32 0x3B124925#32)) (ix3 n g 0)
      = v (ix3 n g 0) * Ideal.ofBits .f32 0x3B124925#32 := by
  pointwise []

theorem top4_apply (w : FVec Ideal S655360x4x16 .f32) (n : Fin 655360) (g : Fin 4) :
    top4 w (ix3 n g 0) = Spec.top fun j => w (ix3 n g j) := by
  unfold top4 Spec.top
  rw [mul4_apply, cast4_apply]
  exact congrArg (fun z : EReal => z * Ideal.ofBits .f32 0x3B124925#32) (red4_apply w n g)

theorem ex4_apply (t : FVec Ideal S655360x4x1 .f32) (n : Fin 655360) (g : Fin 4) :
    ex4 t (log t) (ix3 n g 0) = Spec.ex (t (ix3 n g 0)) := by
  pointwise [ex4]
  rfl

theorem grp4_apply (x : FVec Ideal S655360x64 .f32) (n : Fin 655360) (g : Fin 4) :
    (fun j => grp4 x (ix3 n g j)) = Spec.grp (row x n) g.val := by
  funext j
  have hj := j.isLt
  have hg := g.isLt
  rw [Spec.grp_of (row x n) g.val j ⟨g.val * 16 + j.val, by omega⟩ (by show g.val * 16 + j.val = _; omega)]
  pointwise [grp4]
  rfl

theorem exOf4_apply (x : FVec Ideal S655360x64 .f32) (n : Fin 655360) (g : Fin 4) :
    exOf4 x (ix3 n g 0) = Spec.ex (Spec.top (Spec.grp (row x n) g.val)) := by
  unfold exOf4
  rw [ex4_apply, top4_apply, grp4_apply]

theorem expo4_apply (e : FVec Ideal S655360x4x1 .f32) (n : Fin 655360) (g : Fin 4) :
    exp2 e (ix3 n g 0) = Ideal.exp2 (e (ix3 n g 0)) := by
  pointwise []
  exact rfl

theorem clip4_apply (w : FVec Ideal S655360x4x16 .f32) (e : FVec Ideal S655360x4x1 .f32) (n : Fin 655360) (g : Fin 4) (j : Fin 16) :
    clip4 (low4 w e) (ix3 n g j) = min (Ideal.ofBits .f32 0x43E00000#32)
      (max (Ideal.ofBits .f32 0xC3E00000#32) (w (ix3 n g j) * Ideal.exp2 (0 - e (ix3 n g 0)))) := by
  pointwise [clip4, low4]
  exact rfl

theorem scaleOf4_apply (x : FVec Ideal S655360x64 .f32) (n : Fin 655360) (g : Fin 4) :
    scaleOf4 x (ix3 n g 0) = Spec.scaleAt (row x n) g.val := by
  unfold scaleOf4
  rw [expo4_apply]
  exact congrArg Ideal.exp2 (exOf4_apply x n g)

theorem codesOf4_apply (x : FVec Ideal S655360x64 .f32) (n : Fin 655360) (g : Fin 4) (j : Fin 16) :
    codesOf4 x (ix3 n g j) = Spec.code (Spec.grp (row x n) g.val) j := by
  unfold codesOf4 Spec.code
  rw [clip4_apply]
  exact congrArg₂ (fun a b : EReal => min (Ideal.ofBits .f32 0x43E00000#32)
    (max (Ideal.ofBits .f32 0xC3E00000#32) (a * Ideal.exp2 (0 - b)))) (congrFun (grp4_apply x n g) j) (exOf4_apply x n g)

theorem flat4_apply {e : FTy} (w : FVec Ideal S655360x4x16 e) (n : Fin 655360) (c : Fin 64) :
    flat4 w (ix2 n c) = w (ix3 n ⟨c.val / 16, by have := c.isLt; omega⟩ ⟨c.val % 16, Nat.mod_lt _ (by decide)⟩) := by
  pointwise [flat4]

theorem act4_apply (c : FVec Ideal S655360x4x16 .fp8e4m3) (s : FVec Ideal S655360x4x1 .f32) (n : Fin 655360) (o : Fin 64) :
    act4 c s (ix2 n o) = c (ix3 n ⟨o.val / 16, by have := o.isLt; omega⟩ ⟨o.val % 16, Nat.mod_lt _ (by decide)⟩)
      * s (ix3 n ⟨o.val / 16, by have := o.isLt; omega⟩ 0) := by
  unfold act4
  rw [flat4_apply]
  pointwise []

theorem actOf4_apply (x : FVec Ideal S655360x64 .f32) (n : Fin 655360) (c : Fin 64) :
    actOf4 x (ix2 n c) = Spec.actAt (row x n) c := by
  unfold actOf4
  rw [act4_apply, codesOf4_apply, scaleOf4_apply]
  exact rfl

theorem rowsC4_flat (k : FVec Ideal S655360x4x16 .fp8e4m3) (b : Fin 640) (c : Fin 64) (s : Fin 1024) :
    rowsC4 k (ix3 b c s) = flat4 k (ix2 (at' b s) c) := by
  pointwise [rowsC4]
  exact rfl

theorem rowsC4_apply (x : FVec Ideal S655360x64 .f32) (b : Fin 640) (c : Fin 64) (s : Fin 1024) :
    rowsC4 (codesOf4 x) (ix3 b c s) = Spec.codeAt (row x (at' b s)) c := by
  rw [rowsC4_flat, flat4_apply, codesOf4_apply]
  exact rfl

theorem rowsS4_flat (k : FVec Ideal S655360x4x1 .f32) (b : Fin 640) (g : Fin 4) (s : Fin 1024) :
    rowsS4 k (ix3 b g s) = k (ix3 (at' b s) g 0) := by
  pointwise [rowsS4]
  exact rfl

theorem rowsS4_apply (x : FVec Ideal S655360x64 .f32) (b : Fin 640) (g : Fin 4) (s : Fin 1024) :
    rowsS4 (scaleOf4 x) (ix3 b g s) = Spec.scaleAt (row x (at' b s)) g.val := by
  rw [rowsS4_flat]
  exact scaleOf4_apply x _ g

end Cert.ReferenceIdeal.Value

end

end
-- ==== Proof.ReferenceIdeal.Layers.lean ====
module

public import proofs.«01_k».proof.Proof.ReferenceIdeal.Points

/-! The layers of the reference at an index. -/

@[expose] public section

set_option synthInstance.maxSize 4096
set_option maxRecDepth 16384

noncomputable section

namespace Cert.ReferenceIdeal.Value

open Cert.ReferenceIdeal Cert.ReferenceIdeal.Gen
open Idealize.ShloMosaic Idealize.ShloMosaic.TcCoe Idealize.SL Idealize.SL.Sem

/-- The product of 32 channels with the 64 rows of a weight. -/
def mmA (a : FVec Ideal S655360x32 .bf16) (w : FVec Ideal S64x32 .fp8e4m3) : FVec Ideal S655360x64 .f32 :=
  matmul dot_S655360x32_S64x32_S655360x64_1_1_0_0_n_n none a (extf .bf16 w bitsLt_fp8e4m3_bf16) (constant S655360x64 .f32 0x00000000#32)

theorem mmA_apply (a : FVec Ideal S655360x32 .bf16) (w : FVec Ideal S64x32 .fp8e4m3) (n : Fin 655360) (o : Fin 64) :
    mmA a w (ix2 n o) = ∑ i : Fin 32, a (ix2 n i) * w (ix2 o i) := by
  pointwise [mmA]

/-- The product of 64 channels with the 16 rows of a weight. -/
def mmB (a : FVec Ideal S655360x64 .bf16) (w : FVec Ideal S16x64 .fp8e4m3) : FVec Ideal S655360x16 .f32 :=
  matmul dot_S655360x64_S16x64_S655360x16_1_1_0_0_n_n none a (extf .bf16 w bitsLt_fp8e4m3_bf16) (constant S655360x16 .f32 0x00000000#32)

theorem mmB_apply (a : FVec Ideal S655360x64 .bf16) (w : FVec Ideal S16x64 .fp8e4m3) (n : Fin 655360) (o : Fin 16) :
    mmB a w (ix2 n o) = ∑ i : Fin 64, a (ix2 n i) * w (ix2 o i) := by
  pointwise [mmB]

/-- The product of 64 channels with the 64 rows of a weight. -/
def mmC (a : FVec Ideal S655360x64 .bf16) (w : FVec Ideal S64x64 .fp8e4m3) : FVec Ideal S655360x64 .f32 :=
  matmul dot_S655360x64_S64x64_S655360x64_1_1_0_0_n_n none a (extf .bf16 w bitsLt_fp8e4m3_bf16) (constant S655360x64 .f32 0x00000000#32)

theorem mmC_apply (a : FVec Ideal S655360x64 .bf16) (w : FVec Ideal S64x64 .fp8e4m3) (n : Fin 655360) (o : Fin 64) :
    mmC a w (ix2 n o) = ∑ i : Fin 64, a (ix2 n i) * w (ix2 o i) := by
  pointwise [mmC]

/-- The product of 64 channels with the 3 rows of a weight. -/
def mmD (a : FVec Ideal S655360x64 .bf16) (w : FVec Ideal S3x64 .fp8e4m3) : FVec Ideal S655360x3 .f32 :=
  matmul dot_S655360x64_S3x64_S655360x3_1_1_0_0_n_n none a (extf .bf16 w bitsLt_fp8e4m3_bf16) (constant S655360x3 .f32 0x00000000#32)

theorem mmD_apply (a : FVec Ideal S655360x64 .bf16) (w : FVec Ideal S3x64 .fp8e4m3) (n : Fin 655360) (o : Fin 3) :
    mmD a w (ix2 n o) = ∑ i : Fin 64, a (ix2 n i) * w (ix2 o i) := by
  pointwise [mmD]

/-- The scales of the 64 weight rows applied. -/
def sc64 (v : FVec Ideal S655360x64 .f32) (sd : FVec Ideal S1x64 .f32) : FVec Ideal S655360x64 .f32 :=
  mulf v (broadcastTo S655360x64 (shapeCast S1x64 sd shapeCasts_S1x64_S1x64) broadcasts_S1x64_S655360x64)

theorem sc64_apply (v : FVec Ideal S655360x64 .f32) (sd : FVec Ideal S1x64 .f32) (n : Fin 655360) (o : Fin 64) :
    sc64 v sd (ix2 n o) = v (ix2 n o) * sd (ix2 0 o) := by
  pointwise [sc64]

/-- The scales of the 16 weight rows applied. -/
def sc16 (v : FVec Ideal S655360x16 .f32) (sd : FVec Ideal S1x16 .f32) : FVec Ideal S655360x16 .f32 :=
  mulf v (broadcastTo S655360x16 (shapeCast S1x16 sd shapeCasts_S1x16_S1x16) broadcasts_S1x16_S655360x16)

theorem sc16_apply (v : FVec Ideal S655360x16 .f32) (sd : FVec Ideal S1x16 .f32) (n : Fin 655360) (o : Fin 16) :
    sc16 v sd (ix2 n o) = v (ix2 n o) * sd (ix2 0 o) := by
  pointwise [sc16]

/-- The scales of the 3 weight rows applied. -/
def sc3 (v : FVec Ideal S655360x3 .f32) (sd : FVec Ideal S1x3 .f32) : FVec Ideal S655360x3 .f32 :=
  mulf v (broadcastTo S655360x3 (shapeCast S1x3 sd shapeCasts_S1x3_S1x3) broadcasts_S1x3_S655360x3)

theorem sc3_apply (v : FVec Ideal S655360x3 .f32) (sd : FVec Ideal S1x3 .f32) (n : Fin 655360) (o : Fin 3) :
    sc3 v sd (ix2 n o) = v (ix2 n o) * sd (ix2 0 o) := by
  pointwise [sc3]

theorem layA_apply (x : FVec Ideal S655360x32 .f32) (w : FVec Ideal S64x32 .fp8e4m3) (sd : FVec Ideal S1x64 .f32) (n : Fin 655360) (o : Fin 64) :
    sc64 (mmA (actOf2 x) w) sd (ix2 n o)
      = Spec.lay (fun o i => w (ix2 o i)) (fun o => sd (ix2 0 o)) (row x n) o := by
  rw [sc64_apply, mmA_apply]
  unfold Spec.lay
  refine congrArg (fun z : EReal => z * sd (ix2 0 o)) (Finset.sum_congr rfl fun i _ => ?_)
  rw [actOf2_apply]
  exact mul_comm _ _

theorem layB_apply (x : FVec Ideal S655360x64 .f32) (w : FVec Ideal S16x64 .fp8e4m3) (sd : FVec Ideal S1x16 .f32) (n : Fin 655360) (o : Fin 16) :
    sc16 (mmB (actOf4 x) w) sd (ix2 n o)
      = Spec.lay (fun o i => w (ix2 o i)) (fun o => sd (ix2 0 o)) (row x n) o := by
  rw [sc16_apply, mmB_apply]
  unfold Spec.lay
  refine congrArg (fun z : EReal => z * sd (ix2 0 o)) (Finset.sum_congr rfl fun i _ => ?_)
  rw [actOf4_apply]
  exact mul_comm _ _

theorem layC_apply (x : FVec Ideal S655360x64 .f32) (w : FVec Ideal S64x64 .fp8e4m3) (sd : FVec Ideal S1x64 .f32) (n : Fin 655360) (o : Fin 64) :
    sc64 (mmC (actOf4 x) w) sd (ix2 n o)
      = Spec.lay (fun o i => w (ix2 o i)) (fun o => sd (ix2 0 o)) (row x n) o := by
  rw [sc64_apply, mmC_apply]
  unfold Spec.lay
  refine congrArg (fun z : EReal => z * sd (ix2 0 o)) (Finset.sum_congr rfl fun i _ => ?_)
  rw [actOf4_apply]
  exact mul_comm _ _

theorem layD_apply (x : FVec Ideal S655360x64 .f32) (w : FVec Ideal S3x64 .fp8e4m3) (sd : FVec Ideal S1x3 .f32) (n : Fin 655360) (o : Fin 3) :
    sc3 (mmD (actOf4 x) w) sd (ix2 n o)
      = Spec.lay (fun o i => w (ix2 o i)) (fun o => sd (ix2 0 o)) (row x n) o := by
  rw [sc3_apply, mmD_apply]
  unfold Spec.lay
  refine congrArg (fun z : EReal => z * sd (ix2 0 o)) (Finset.sum_congr rfl fun i _ => ?_)
  rw [actOf4_apply]
  exact mul_comm _ _

/-- What is below zero put to zero. -/
def relu (v : FVec Ideal S655360x64 .f32) : FVec Ideal S655360x64 .f32 :=
  maximumf v (broadcast S655360x64 (Scalar.ofBits .f32 0x00000000#32))

theorem relu_apply (v : FVec Ideal S655360x64 .f32) (n : Fin 655360) (o : Fin 64) : relu v (ix2 n o) = max (v (ix2 n o)) 0 := by
  pointwise [relu]

/-- The harmonics of each ray repeated for its samples. -/
def shRep (sh : FVec Ideal S640x16 .f32) : FVec Ideal S655360x16 .f32 :=
  shapeCast S655360x16 (broadcastTo S640x1024x16 (shapeCast S640x1x16 (shapeCast S640x1x16 (shapeCast S640x16 sh
    shapeCasts_S640x16_S640x16) shapeCasts_S640x16_S640x1x16) shapeCasts_S640x1x16_S640x1x16) broadcasts_S640x1x16_S640x1024x16)
    shapeCasts_S640x1024x16_S655360x16

theorem shRep_apply (sh : FVec Ideal S640x16 .f32) (b : Fin 640) (s : Fin 1024) (c : Fin 16) :
    shRep sh (ix2 (at' b s) c) = sh (ix2 b c) := by
  pointwise [shRep, at']

/-- The sixteen results of the density network next to the harmonics. -/
def join (h r : FVec Ideal S655360x16 .f32) : FVec Ideal S655360x32 .f32 :=
  concatenate S655360x32 1 [⟨S655360x16, h⟩, ⟨S655360x16, r⟩] concatenates_S655360x16_S655360x16_S655360x32_d1

theorem join_apply (h r : FVec Ideal S655360x16 .f32) (n : Fin 655360) (c : Fin 32) :
    join h r (ix2 n c) = if p : c.val < 16 then h (ix2 n ⟨c.val, p⟩) else r (ix2 n ⟨c.val - 16, by have := c.isLt; omega⟩) := by
  pointwise [join]

/-- The first result. -/
def dens (h : FVec Ideal S655360x16 .f32) : FVec Ideal S640x1024 .bf16 :=
  shapeCast S640x1024 (truncf .bf16 (exp (shapeCast S655360 (extractStridedSlice S655360x1 ![0, 0] h slices_S655360x16_o0_0_S655360x1)
    shapeCasts_S655360x1_S655360)) bitsLt_bf16_f32) shapeCasts_S655360_S640x1024

theorem dens_apply (h : FVec Ideal S655360x16 .f32) (b : Fin 640) (s : Fin 1024) : dens h (ix2 b s) = Ideal.exp (h (ix2 (at' b s) 0)) := by
  pointwise [dens, at']

/-- The second result. -/
def col (z : FVec Ideal S655360x3 .f32) : FVec Ideal S3x640x1024 .bf16 :=
  shapeCast S3x640x1024 (transpose S3x655360 [1, 0] (truncf .bf16 (divf (broadcast S655360x3 (Scalar.ofBits .f32 0x3F800000#32))
    (addf (broadcast S655360x3 (Scalar.ofBits .f32 0x3F800000#32)) (exp (subf (broadcast S655360x3 (Scalar.ofBits .f32 0x00000000#32)) z))))
    bitsLt_bf16_f32) transposes_S655360x3_p1_0_S3x655360) shapeCasts_S3x655360_S3x640x1024

theorem col_apply (z : FVec Ideal S655360x3 .f32) (k : Fin 3) (b : Fin 640) (s : Fin 1024) :
    col z (ix3 k b s) = Ideal.div 1 (1 + Ideal.exp (0 - z (ix2 (at' b s) k))) := by
  pointwise [col, at']

end Cert.ReferenceIdeal.Value

end

end
-- ==== Proof.ReferenceIdeal.Stored.lean ====
module

public import proofs.«01_k».proof.Proof.ReferenceIdeal.Layers
public import proofs.«01_k».proof.Proof.Gen.ReferenceIdeal.Frame
public import Idealize.ShloMosaic.Lib.Pipeline.ValueKit
public import Idealize.ShloMosaic.Lib.Tactic

/-! What the reference's body stores, as the layers of its operands. -/

@[expose] public section

set_option synthInstance.maxSize 4096
set_option maxRecDepth 16384

noncomputable section

namespace Cert.ReferenceIdeal.Value

open Cert.ReferenceIdeal Cert.ReferenceIdeal.Gen
open Idealize.ShloMosaic Idealize.ShloMosaic.TcCoe Idealize.SL Idealize.SL.Sem

/-- The encodings as the body reads them. -/
def enc (x : FVec Ideal S655360x32 .f32) : FVec Ideal S655360x32 .f32 := shapeCast S655360x32 x shapeCasts_S655360x32_S655360x32

theorem enc_apply (x : FVec Ideal S655360x32 .f32) (n : Fin 655360) (c : Fin 32) : enc x (ix2 n c) = x (ix2 n c) := by
  pointwise [enc]

/-! ## The stored values, one by one -/

theorem pay5_eq (x : Vec Ideal S655360x32 .f32) : k0_pay5 (F := Ideal) x = actOf2 (enc x) := by sl_kernel_rfl

theorem pay6_eq (x : Vec Ideal S655360x32 .f32) : k0_pay6 (F := Ideal) x = rowsC2 (codesOf2 (enc x)) := by sl_kernel_rfl

theorem pay7_eq (x : Vec Ideal S655360x32 .f32) : k0_pay7 (F := Ideal) x = rowsS2 (scaleOf2 (enc x)) := by sl_kernel_rfl

theorem pay10_eq (a : FVec Ideal S655360x32 .bf16) (w : Vec Ideal S64x32 .fp8e4m3) (sd : Vec Ideal S1x64 .f32) : k0_pay10 (F := Ideal) a w sd = scaleOf4 (relu (sc64 (mmA a w) sd)) := by sl_kernel_rfl

theorem pay11_eq (a : FVec Ideal S655360x32 .bf16) (w : Vec Ideal S64x32 .fp8e4m3) (sd : Vec Ideal S1x64 .f32) : k0_pay11 (F := Ideal) a w sd = codesOf4 (relu (sc64 (mmA a w) sd)) := by sl_kernel_rfl

theorem pay12_eq (c : FVec Ideal S655360x4x16 .fp8e4m3) : k0_pay12 (F := Ideal) c = rowsC4 c := by sl_kernel_rfl

theorem pay13_eq (s : FVec Ideal S655360x4x1 .f32) : k0_pay13 (F := Ideal) s = rowsS4 s := by sl_kernel_rfl

theorem pay15_eq (y : FVec Ideal S655360x64 .f32) (w : Vec Ideal S16x64 .fp8e4m3) (sd : Vec Ideal S1x16 .f32) : k0_pay15 (F := Ideal) (scaleOf4 y) (codesOf4 y) w sd = dens (sc16 (mmB (actOf4 y) w) sd) := by sl_kernel_rfl

theorem pay16_eq (y : FVec Ideal S655360x64 .f32) (w : Vec Ideal S16x64 .fp8e4m3) (sd : Vec Ideal S1x16 .f32) (sh : Vec Ideal S640x16 .f32) : k0_pay16 (F := Ideal) (scaleOf4 y) (codesOf4 y) w sd sh = grp2 (join (sc16 (mmB (actOf4 y) w) sd) (shRep sh)) := by sl_kernel_rfl

theorem pay17_eq (y : FVec Ideal S655360x64 .f32) (w : Vec Ideal S16x64 .fp8e4m3) (sd : Vec Ideal S1x16 .f32) (sh : Vec Ideal S640x16 .f32) : k0_pay17 (F := Ideal) (scaleOf4 y) (codesOf4 y) w sd sh = top2 (grp2 (join (sc16 (mmB (actOf4 y) w) sd) (shRep sh))) := by sl_kernel_rfl

theorem pay18_eq (y : FVec Ideal S655360x64 .f32) (w : Vec Ideal S16x64 .fp8e4m3) (sd : Vec Ideal S1x16 .f32) (sh : Vec Ideal S640x16 .f32) : k0_pay18 (F := Ideal) (scaleOf4 y) (codesOf4 y) w sd sh = log (top2 (grp2 (join (sc16 (mmB (actOf4 y) w) sd) (shRep sh)))) := by sl_kernel_rfl

theorem pay22_eq (z : FVec Ideal S655360x32 .f32) : k0_pay22 (F := Ideal) (grp2 z) (top2 (grp2 z)) (log (top2 (grp2 z))) = rowsC2 (codesOf2 z) := by sl_kernel_rfl

theorem pay23_eq (z : FVec Ideal S655360x32 .f32) : k0_pay23 (F := Ideal) (top2 (grp2 z)) (log (top2 (grp2 z))) = rowsS2 (scaleOf2 z) := by sl_kernel_rfl

theorem pay24_eq (z : FVec Ideal S655360x32 .f32) (w : Vec Ideal S64x32 .fp8e4m3) : k0_pay24 (F := Ideal) (grp2 z) (top2 (grp2 z)) (log (top2 (grp2 z))) w = mmA (actOf2 z) w := by sl_kernel_rfl

theorem pay29_eq (v : FVec Ideal S655360x64 .f32) (sd : Vec Ideal S1x64 .f32) : k0_pay29 (F := Ideal) v sd = actOf4 (relu (sc64 v sd)) := by sl_kernel_rfl

theorem pay31_eq (v : FVec Ideal S655360x64 .f32) (sd : Vec Ideal S1x64 .f32) : k0_pay31 (F := Ideal) v sd = rowsC4 (codesOf4 (relu (sc64 v sd))) := by sl_kernel_rfl

theorem pay32_eq (v : FVec Ideal S655360x64 .f32) (sd : Vec Ideal S1x64 .f32) : k0_pay32 (k0_pay30 (F := Ideal) v sd) = rowsS4 (scaleOf4 (relu (sc64 v sd))) := by sl_kernel_rfl

theorem pay35_eq (a : FVec Ideal S655360x64 .bf16) (w : Vec Ideal S64x64 .fp8e4m3) (sd : Vec Ideal S1x64 .f32) : k0_pay35 (F := Ideal) a w sd = scaleOf4 (relu (sc64 (mmC a w) sd)) := by sl_kernel_rfl

theorem pay36_eq (a : FVec Ideal S655360x64 .bf16) (w : Vec Ideal S64x64 .fp8e4m3) (sd : Vec Ideal S1x64 .f32) : k0_pay36 (F := Ideal) a w sd = low4 (grp4 (relu (sc64 (mmC a w) sd))) (exOf4 (relu (sc64 (mmC a w) sd))) := by sl_kernel_rfl

theorem pay38_eq (y : FVec Ideal S655360x64 .f32) : k0_pay38 (F := Ideal) (Scalar.ofBits .f32 0x43E00000#32) (low4 (grp4 y) (exOf4 y)) = rowsC4 (codesOf4 y) := by sl_kernel_rfl

theorem pay39_eq (s : FVec Ideal S655360x4x1 .f32) : k0_pay39 (F := Ideal) s = rowsS4 s := by sl_kernel_rfl

theorem pay40_eq (y : FVec Ideal S655360x64 .f32) (w : Vec Ideal S3x64 .fp8e4m3) (sd : Vec Ideal S1x3 .f32) : k0_pay40 (F := Ideal) (scaleOf4 y) (Scalar.ofBits .f32 0x43E00000#32) (low4 (grp4 y) (exOf4 y)) w sd = col (sc3 (mmD (actOf4 y) w) sd) := by sl_kernel_rfl

/-! ## The layers of the operands -/

/-- The twelve operands of the body. -/
structure Ops where
  x0 : Vec Ideal S655360x32 .f32
  x1 : Vec Ideal S640x16 .f32
  x2 : Vec Ideal S64x32 .fp8e4m3
  x3 : Vec Ideal S1x64 .f32
  x4 : Vec Ideal S16x64 .fp8e4m3
  x5 : Vec Ideal S1x16 .f32
  x6 : Vec Ideal S64x32 .fp8e4m3
  x7 : Vec Ideal S1x64 .f32
  x8 : Vec Ideal S64x64 .fp8e4m3
  x9 : Vec Ideal S1x64 .f32
  x10 : Vec Ideal S3x64 .fp8e4m3
  x11 : Vec Ideal S1x3 .f32

variable (I : Ops)

def H1 : FVec Ideal S655360x64 .f32 := relu (sc64 (mmA (actOf2 (enc I.x0)) I.x2) I.x3)
def HH : FVec Ideal S655360x16 .f32 := sc16 (mmB (actOf4 (H1 I)) I.x4) I.x5
def CIN : FVec Ideal S655360x32 .f32 := join (HH I) (shRep I.x1)
def G1 : FVec Ideal S655360x64 .f32 := relu (sc64 (mmA (actOf2 (CIN I)) I.x6) I.x7)
def G2 : FVec Ideal S655360x64 .f32 := relu (sc64 (mmC (actOf4 (G1 I)) I.x8) I.x9)
def Z : FVec Ideal S655360x3 .f32 := sc3 (mmD (actOf4 (G2 I)) I.x10) I.x11

theorem ld0 (x : Vec Ideal S655360x32 .f32) : View.ld x r0_0 = x := View.ld_unit_lit _ x (by decide)
theorem ld3 (x : Vec Ideal S64x32 .fp8e4m3) : View.ld x r0_3 = x := View.ld_unit_lit _ x (by decide)
theorem ld4 (x : Vec Ideal S1x64 .f32) : View.ld x r0_4 = x := View.ld_unit_lit _ x (by decide)
theorem ld7 (x : Vec Ideal S16x64 .fp8e4m3) : View.ld x r0_7 = x := View.ld_unit_lit _ x (by decide)
theorem ld8 (x : Vec Ideal S1x16 .f32) : View.ld x r0_8 = x := View.ld_unit_lit _ x (by decide)
theorem ld10 (x : Vec Ideal S640x16 .f32) : View.ld x r0_10 = x := View.ld_unit_lit _ x (by decide)
theorem ld11 (x : Vec Ideal S64x64 .fp8e4m3) : View.ld x r0_11 = x := View.ld_unit_lit _ x (by decide)
theorem ld12 (x : Vec Ideal S3x64 .fp8e4m3) : View.ld x r0_12 = x := View.ld_unit_lit _ x (by decide)
theorem ld13 (x : Vec Ideal S1x3 .f32) : View.ld x r0_13 = x := View.ld_unit_lit _ x (by decide)

theorem pay41_eq : k0_pay41 (F := Ideal) I.x0 I.x1 I.x2 I.x3 I.x4 I.x5 I.x6 I.x7 I.x8 I.x9 I.x10 I.x11 = actOf2 (enc I.x0) := by
  unfold k0_pay41
  rw [ld0, pay5_eq]

theorem pay42_eq : k0_pay42 (F := Ideal) I.x0 I.x1 I.x2 I.x3 I.x4 I.x5 I.x6 I.x7 I.x8 I.x9 I.x10 I.x11 = scaleOf4 (H1 I) := by
  unfold k0_pay42
  rw [pay41_eq, ld3, ld4, pay10_eq]
  exact congrArg scaleOf4 (by unfold H1; exact rfl)

theorem pay43_eq : k0_pay43 (F := Ideal) I.x0 I.x1 I.x2 I.x3 I.x4 I.x5 I.x6 I.x7 I.x8 I.x9 I.x10 I.x11 = codesOf4 (H1 I) := by
  unfold k0_pay43
  rw [pay41_eq, ld3, ld4, pay11_eq]
  exact congrArg codesOf4 (by unfold H1; exact rfl)

theorem pay44_eq : k0_pay44 (F := Ideal) I.x0 I.x1 I.x2 I.x3 I.x4 I.x5 I.x6 I.x7 I.x8 I.x9 I.x10 I.x11 = grp2 (CIN I) := by
  unfold k0_pay44
  rw [pay42_eq, pay43_eq, ld7, ld8, ld10, pay16_eq]
  exact congrArg grp2 (by unfold CIN HH; exact rfl)

theorem pay45_eq : k0_pay45 (F := Ideal) I.x0 I.x1 I.x2 I.x3 I.x4 I.x5 I.x6 I.x7 I.x8 I.x9 I.x10 I.x11 = top2 (grp2 (CIN I)) := by
  unfold k0_pay45
  rw [pay42_eq, pay43_eq, ld7, ld8, ld10, pay17_eq]
  exact congrArg (fun x => top2 (grp2 x)) (by unfold CIN HH; exact rfl)

theorem pay46_eq : k0_pay46 (F := Ideal) I.x0 I.x1 I.x2 I.x3 I.x4 I.x5 I.x6 I.x7 I.x8 I.x9 I.x10 I.x11 = log (top2 (grp2 (CIN I))) := by
  unfold k0_pay46
  rw [pay42_eq, pay43_eq, ld7, ld8, ld10, pay18_eq]
  exact congrArg (fun x => log (top2 (grp2 x))) (by unfold CIN HH; exact rfl)

theorem pay47_eq : k0_pay47 (F := Ideal) I.x0 I.x1 I.x2 I.x3 I.x4 I.x5 I.x6 I.x7 I.x8 I.x9 I.x10 I.x11 = mmA (actOf2 (CIN I)) I.x6 := by
  unfold k0_pay47
  rw [pay44_eq, pay45_eq, pay46_eq, ld3, pay24_eq]

theorem pay48_eq : k0_pay48 (F := Ideal) I.x0 I.x1 I.x2 I.x3 I.x4 I.x5 I.x6 I.x7 I.x8 I.x9 I.x10 I.x11 = actOf4 (G1 I) := by
  unfold k0_pay48
  rw [pay47_eq, ld4, pay29_eq]
  exact congrArg actOf4 (by unfold G1; exact rfl)

theorem pay49_eq : k0_pay49 (F := Ideal) I.x0 I.x1 I.x2 I.x3 I.x4 I.x5 I.x6 I.x7 I.x8 I.x9 I.x10 I.x11 = scaleOf4 (G2 I) := by
  unfold k0_pay49
  rw [pay48_eq, ld11, ld4, pay35_eq]
  exact congrArg scaleOf4 (by unfold G2; exact rfl)

theorem pay50_eq : k0_pay50 (F := Ideal) I.x0 I.x1 I.x2 I.x3 I.x4 I.x5 I.x6 I.x7 I.x8 I.x9 I.x10 I.x11 = low4 (grp4 (G2 I)) (exOf4 (G2 I)) := by
  unfold k0_pay50
  rw [pay48_eq, ld11, ld4, pay36_eq]
  exact congrArg (fun x => low4 (grp4 x) (exOf4 x)) (by unfold G2; exact rfl)

/-! ## The twelve stored arrays -/

theorem out12_eq : out0_12 (F := Ideal) I.x0 I.x1 I.x2 I.x3 I.x4 I.x5 I.x6 I.x7 I.x8 I.x9 I.x10 I.x11 = dens (HH I) := by
  unfold out0_12
  rw [View.canon_cons_unit_lit _ _ _ (by decide), pay42_eq, pay43_eq, ld7, ld8, pay15_eq]
  exact congrArg dens (by unfold HH; exact rfl)

theorem out13_eq : out0_13 (F := Ideal) I.x0 I.x1 I.x2 I.x3 I.x4 I.x5 I.x6 I.x7 I.x8 I.x9 I.x10 I.x11 = col (Z I) := by
  unfold out0_13
  rw [View.canon_cons_unit_lit _ _ _ (by decide), pay49_eq, pay50_eq, ld12, ld13, pay40_eq]
  exact congrArg col (by unfold Z; exact rfl)

theorem out14_eq : out0_14 (F := Ideal) I.x0 I.x1 I.x2 I.x3 I.x4 I.x5 I.x6 I.x7 I.x8 I.x9 I.x10 I.x11 = rowsC2 (codesOf2 (enc I.x0)) := by
  unfold out0_14
  rw [View.canon_cons_unit_lit _ _ _ (by decide), ld0, pay6_eq]

theorem out15_eq : out0_15 (F := Ideal) I.x0 I.x1 I.x2 I.x3 I.x4 I.x5 I.x6 I.x7 I.x8 I.x9 I.x10 I.x11 = rowsS2 (scaleOf2 (enc I.x0)) := by
  unfold out0_15
  rw [View.canon_cons_unit_lit _ _ _ (by decide), ld0, pay7_eq]

theorem out16_eq : out0_16 (F := Ideal) I.x0 I.x1 I.x2 I.x3 I.x4 I.x5 I.x6 I.x7 I.x8 I.x9 I.x10 I.x11 = rowsC4 (codesOf4 (H1 I)) := by
  unfold out0_16
  rw [View.canon_cons_unit_lit _ _ _ (by decide), pay43_eq, pay12_eq]

theorem out17_eq : out0_17 (F := Ideal) I.x0 I.x1 I.x2 I.x3 I.x4 I.x5 I.x6 I.x7 I.x8 I.x9 I.x10 I.x11 = rowsS4 (scaleOf4 (H1 I)) := by
  unfold out0_17
  rw [View.canon_cons_unit_lit _ _ _ (by decide), pay42_eq, pay13_eq]

theorem out18_eq : out0_18 (F := Ideal) I.x0 I.x1 I.x2 I.x3 I.x4 I.x5 I.x6 I.x7 I.x8 I.x9 I.x10 I.x11 = rowsC2 (codesOf2 (CIN I)) := by
  unfold out0_18
  rw [View.canon_cons_unit_lit _ _ _ (by decide), pay44_eq, pay45_eq, pay46_eq, pay22_eq]

theorem out19_eq : out0_19 (F := Ideal) I.x0 I.x1 I.x2 I.x3 I.x4 I.x5 I.x6 I.x7 I.x8 I.x9 I.x10 I.x11 = rowsS2 (scaleOf2 (CIN I)) := by
  unfold out0_19
  rw [View.canon_cons_unit_lit _ _ _ (by decide), pay45_eq, pay46_eq, pay23_eq]

theorem out20_eq : out0_20 (F := Ideal) I.x0 I.x1 I.x2 I.x3 I.x4 I.x5 I.x6 I.x7 I.x8 I.x9 I.x10 I.x11 = rowsC4 (codesOf4 (G1 I)) := by
  unfold out0_20
  rw [View.canon_cons_unit_lit _ _ _ (by decide), pay47_eq, ld4, pay31_eq]
  exact congrArg (fun x => rowsC4 (codesOf4 x)) (by unfold G1; exact rfl)

theorem out21_eq : out0_21 (F := Ideal) I.x0 I.x1 I.x2 I.x3 I.x4 I.x5 I.x6 I.x7 I.x8 I.x9 I.x10 I.x11 = rowsS4 (scaleOf4 (G1 I)) := by
  unfold out0_21
  rw [View.canon_cons_unit_lit _ _ _ (by decide), pay47_eq, ld4, pay32_eq]
  exact congrArg (fun x => rowsS4 (scaleOf4 x)) (by unfold G1; exact rfl)

theorem out22_eq : out0_22 (F := Ideal) I.x0 I.x1 I.x2 I.x3 I.x4 I.x5 I.x6 I.x7 I.x8 I.x9 I.x10 I.x11 = rowsC4 (codesOf4 (G2 I)) := by
  unfold out0_22
  rw [View.canon_cons_unit_lit _ _ _ (by decide), pay50_eq, pay38_eq]

theorem out23_eq : out0_23 (F := Ideal) I.x0 I.x1 I.x2 I.x3 I.x4 I.x5 I.x6 I.x7 I.x8 I.x9 I.x10 I.x11 = rowsS4 (scaleOf4 (G2 I)) := by
  unfold out0_23
  rw [View.canon_cons_unit_lit _ _ _ (by decide), pay49_eq, pay39_eq]

end Cert.ReferenceIdeal.Value

end

end
-- ==== Proof.ReferenceIdeal.Operands.lean ====
module

public import proofs.«01_k».proof.Proof.ReferenceIdeal.Stored
public import proofs.«01_k».proof.Proof.Result
public import Idealize.ShloMosaic.Lib.Claim

/-! The layers of the reference row by row, and its operands as the arguments give them. -/

@[expose] public section

set_option synthInstance.maxSize 4096
set_option maxRecDepth 16384

noncomputable section

namespace Cert.ReferenceIdeal.Value

open Cert.ReferenceIdeal Cert.ReferenceIdeal.Gen
open Idealize.ShloMosaic Idealize.ShloMosaic.TcCoe Idealize.SL Idealize.SL.Sem

/-! ## The layers, row by row -/

/-- The network of the operands. -/
def Ops.net (I : Ops) : Spec.Net where
  wd0 o i := I.x2 (ix2 o i)
  sd0 o := I.x3 (ix2 0 o)
  wd1 o i := I.x4 (ix2 o i)
  sd1 o := I.x5 (ix2 0 o)
  wc0 o i := I.x6 (ix2 o i)
  sc0 o := I.x7 (ix2 0 o)
  wc1 o i := I.x8 (ix2 o i)
  sc1 o := I.x9 (ix2 0 o)
  wc2 o i := I.x10 (ix2 o i)
  sc2 o := I.x11 (ix2 0 o)

theorem H1_row (I : Ops) (n : Fin 655360) : row (H1 I) n = Spec.h1 I.net (row (enc I.x0) n) := by
  funext o
  show H1 I (ix2 n o) = _
  unfold H1
  rw [relu_apply, layA_apply]
  exact rfl

theorem HH_row (I : Ops) (n : Fin 655360) : row (HH I) n = Spec.hh I.net (row (enc I.x0) n) := by
  funext o
  show HH I (ix2 n o) = _
  unfold HH
  rw [layB_apply, H1_row]
  exact rfl

theorem CIN_row (I : Ops) (b : Fin 640) (s : Fin 1024) :
    row (CIN I) (at' b s) = Spec.cin I.net (row (enc I.x0) (at' b s)) (fun k => I.x1 (ix2 b k)) := by
  funext c
  show CIN I (ix2 (at' b s) c) = _
  unfold CIN
  rw [join_apply]
  unfold Spec.cin
  split
  · exact congrFun (HH_row I (at' b s)) _
  · exact shRep_apply _ b s _

theorem G1_row (I : Ops) (b : Fin 640) (s : Fin 1024) :
    row (G1 I) (at' b s) = Spec.g1 I.net (row (enc I.x0) (at' b s)) (fun k => I.x1 (ix2 b k)) := by
  funext o
  show G1 I (ix2 (at' b s) o) = _
  unfold G1
  rw [relu_apply, layA_apply, CIN_row]
  exact rfl

theorem G2_row (I : Ops) (b : Fin 640) (s : Fin 1024) :
    row (G2 I) (at' b s) = Spec.g2 I.net (row (enc I.x0) (at' b s)) (fun k => I.x1 (ix2 b k)) := by
  funext o
  show G2 I (ix2 (at' b s) o) = _
  unfold G2
  rw [relu_apply, layC_apply, G1_row]
  exact rfl

theorem Z_row (I : Ops) (b : Fin 640) (s : Fin 1024) (k : Fin 3) :
    Z I (ix2 (at' b s) k) = Spec.lay I.net.wc2 I.net.sc2 (Spec.g2 I.net (row (enc I.x0) (at' b s)) (fun k => I.x1 (ix2 b k))) k := by
  unfold Z
  rw [layD_apply, G2_row]
  exact rfl

/-! ## The operands from the arguments -/

variable (m : (ℓ : Loc nD τ sig) → Buf (Elt Ideal) ℓ)

def hostLow (x : FVec Ideal S640x8x8x128 .f32) : FVec Ideal S655360x6 .f32 :=
  extractStridedSlice S655360x6 ![0, 0] (shapeCast S655360x8 (transpose S640x8x128x8 [0, 1, 3, 2] x
    transposes_S640x8x8x128_S640x8x128x8_0_1_3_2) shapeCasts_S640x8x128x8_S655360x8) slices_S655360x8_S655360x6_0_0
def hostHigh (x : FVec Ideal S640x4x8x8x128 .f32) : FVec Ideal S655360x26 .f32 :=
  extractStridedSlice S655360x26 ![0, 6] (shapeCast S655360x32 (transpose S640x8x128x4x8 [0, 2, 4, 1, 3] x
    transposes_S640x4x8x8x128_S640x8x128x4x8_0_2_4_1_3) shapeCasts_S640x8x128x4x8_S655360x32) slices_S655360x32_S655360x26_0_6
def hostJoin (a : FVec Ideal S655360x6 .f32) (b : FVec Ideal S655360x26 .f32) : FVec Ideal S655360x32 .f32 :=
  concatenate S655360x32 1 [⟨S655360x6, a⟩, ⟨S655360x26, b⟩] concatenates_S655360x6_S655360x26_S655360x32_d1
def hostTs (x : FVec Ideal S32x1 .f32) : FVec Ideal S655360x32 .f32 :=
  broadcastInDim S655360x32 ![0, 1] bcast_S1x32_S655360x32_0_1 (shapeCast S1x32 x shapeCasts_S32x1_S1x32)
def hostEnc (x : FVec Ideal S640x8x8x128 .f32) (y : FVec Ideal S640x4x8x8x128 .f32) (t : FVec Ideal S32x1 .f32) : FVec Ideal S655360x32 .f32 :=
  mulf (hostJoin (hostLow x) (hostHigh y)) (hostTs t)

theorem hostLow_apply (x : FVec Ideal S640x8x8x128 .f32) (b : Fin 640) (s : Fin 1024) (c : Fin 6) :
    hostLow x (ix2 (at' b s) c) = x (ix4 b ⟨s.val / 128, by have := s.isLt; omega⟩ ⟨c.val, by omega⟩ ⟨s.val % 128, by omega⟩) := by
  have hs := s.isLt
  have e1 : (b.val * 1024 + s.val) / 128 % 8 = s.val / 128 := by omega
  have e2 : (b.val * 1024 + s.val) % 128 = s.val % 128 := by omega
  pointwise [hostLow, at']
  simp only [e1, e2]
theorem hostHigh_apply (x : FVec Ideal S640x4x8x8x128 .f32) (b : Fin 640) (s : Fin 1024) (c : Fin 26) :
    hostHigh x (ix2 (at' b s) c) = x (ix5 b ⟨(6 + c.val) / 8, by omega⟩ ⟨s.val / 128, by have := s.isLt; omega⟩ ⟨(6 + c.val) % 8, by omega⟩ ⟨s.val % 128, by omega⟩) := by
  have hs := s.isLt
  have e1 : (b.val * 1024 + s.val) / 128 % 8 = s.val / 128 := by omega
  have e2 : (b.val * 1024 + s.val) % 128 = s.val % 128 := by omega
  pointwise [hostHigh, at']
  simp only [e1, e2]
theorem hostJoin_apply (a : FVec Ideal S655360x6 .f32) (b : FVec Ideal S655360x26 .f32) (n : Fin 655360) (c : Fin 32) :
    hostJoin a b (ix2 n c) = if h : c.val < 6 then a (ix2 n ⟨c.val, h⟩) else b (ix2 n ⟨c.val - 6, by have := c.isLt; omega⟩) := by
  pointwise [hostJoin]
theorem hostTs_apply (x : FVec Ideal S32x1 .f32) (n : Fin 655360) (c : Fin 32) : hostTs x (ix2 n c) = x (ix2 c 0) := by
  pointwise [hostTs]
theorem mulE_apply (x y : FVec Ideal S655360x32 .f32) (n : Fin 655360) (c : Fin 32) : mulf x y (ix2 n c) = x (ix2 n c) * y (ix2 n c) := by
  pointwise []

theorem V0 (c : Dev nD) : V m c main_v9 = hostEnc (m ((c : Thread nD τ).loc main_arg0)) (m ((c : Thread nD τ).loc main_arg1)) (m ((c : Thread nD τ).loc main_arg2)) := by
  entry_read
  sl_kernel_rfl

/-- The arguments the reference is run on. -/
def argsR (c : Dev nD) : Result.Args := ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13)⟩

/-- The operands of the body. -/
def opsR (c : Dev nD) : Ops := ⟨iblk m c 0 t0_0, iblk m c 1 t0_0, iblk m c 2 t0_0, iblk m c 3 t0_0, iblk m c 4 t0_0, iblk m c 5 t0_0, iblk m c 6 t0_0, iblk m c 7 t0_0, iblk m c 8 t0_0, iblk m c 9 t0_0, iblk m c 10 t0_0, iblk m c 11 t0_0⟩

theorem idx0 : ∀ t : Fin cfg0.N, win0_0.index t = ![0, 0] := (by decide +kernel : ∀ t : Fin grid0.N, _)

theorem idx1 : ∀ t : Fin cfg0.N, win0_1.index t = ![0, 0] := (by decide +kernel : ∀ t : Fin grid0.N, _)

theorem idx2 : ∀ t : Fin cfg0.N, win0_2.index t = ![0, 0] := (by decide +kernel : ∀ t : Fin grid0.N, _)

theorem idx3 : ∀ t : Fin cfg0.N, win0_3.index t = ![0, 0] := (by decide +kernel : ∀ t : Fin grid0.N, _)

theorem idx4 : ∀ t : Fin cfg0.N, win0_4.index t = ![0, 0] := (by decide +kernel : ∀ t : Fin grid0.N, _)

theorem idx5 : ∀ t : Fin cfg0.N, win0_5.index t = ![0, 0] := (by decide +kernel : ∀ t : Fin grid0.N, _)

theorem idx6 : ∀ t : Fin cfg0.N, win0_6.index t = ![0, 0] := (by decide +kernel : ∀ t : Fin grid0.N, _)

theorem idx7 : ∀ t : Fin cfg0.N, win0_7.index t = ![0, 0] := (by decide +kernel : ∀ t : Fin grid0.N, _)

theorem idx8 : ∀ t : Fin cfg0.N, win0_8.index t = ![0, 0] := (by decide +kernel : ∀ t : Fin grid0.N, _)

theorem idx9 : ∀ t : Fin cfg0.N, win0_9.index t = ![0, 0] := (by decide +kernel : ∀ t : Fin grid0.N, _)

theorem idx10 : ∀ t : Fin cfg0.N, win0_10.index t = ![0, 0] := (by decide +kernel : ∀ t : Fin grid0.N, _)

theorem idx11 : ∀ t : Fin cfg0.N, win0_11.index t = ![0, 0] := (by decide +kernel : ∀ t : Fin grid0.N, _)

theorem idx12 : ∀ t : Fin cfg0.N, win0_12.index t = ![0, 0] := (by decide +kernel : ∀ t : Fin grid0.N, _)

theorem idx13 : ∀ t : Fin cfg0.N, win0_13.index t = ![0, 0, 0] := (by decide +kernel : ∀ t : Fin grid0.N, _)

theorem idx14 : ∀ t : Fin cfg0.N, win0_14.index t = ![0, 0, 0] := (by decide +kernel : ∀ t : Fin grid0.N, _)

theorem idx15 : ∀ t : Fin cfg0.N, win0_15.index t = ![0, 0, 0] := (by decide +kernel : ∀ t : Fin grid0.N, _)

theorem idx16 : ∀ t : Fin cfg0.N, win0_16.index t = ![0, 0, 0] := (by decide +kernel : ∀ t : Fin grid0.N, _)

theorem idx17 : ∀ t : Fin cfg0.N, win0_17.index t = ![0, 0, 0] := (by decide +kernel : ∀ t : Fin grid0.N, _)

theorem idx18 : ∀ t : Fin cfg0.N, win0_18.index t = ![0, 0, 0] := (by decide +kernel : ∀ t : Fin grid0.N, _)

theorem idx19 : ∀ t : Fin cfg0.N, win0_19.index t = ![0, 0, 0] := (by decide +kernel : ∀ t : Fin grid0.N, _)

theorem idx20 : ∀ t : Fin cfg0.N, win0_20.index t = ![0, 0, 0] := (by decide +kernel : ∀ t : Fin grid0.N, _)

theorem idx21 : ∀ t : Fin cfg0.N, win0_21.index t = ![0, 0, 0] := (by decide +kernel : ∀ t : Fin grid0.N, _)

theorem idx22 : ∀ t : Fin cfg0.N, win0_22.index t = ![0, 0, 0] := (by decide +kernel : ∀ t : Fin grid0.N, _)

theorem idx23 : ∀ t : Fin cfg0.N, win0_23.index t = ![0, 0, 0] := (by decide +kernel : ∀ t : Fin grid0.N, _)

theorem wd0_eq (c : Dev nD) (o : Fin 64) (k : Fin 32) : (opsR m c).x2 (ix2 o k) = (argsR m c).wd0 (ix2 o k) := by
  show iblk m c 2 t0_0 _ = _
  blk_point [iblk, idx2 t0_0, argsR]

theorem wd1_eq (c : Dev nD) (o : Fin 16) (k : Fin 64) : (opsR m c).x4 (ix2 o k) = (argsR m c).wd1 (ix2 o k) := by
  show iblk m c 4 t0_0 _ = _
  blk_point [iblk, idx4 t0_0, argsR]

theorem wc0_eq (c : Dev nD) (o : Fin 64) (k : Fin 32) : (opsR m c).x6 (ix2 o k) = (argsR m c).wc0 (ix2 o k) := by
  show iblk m c 6 t0_0 _ = _
  blk_point [iblk, idx6 t0_0, argsR]

theorem wc1_eq (c : Dev nD) (o : Fin 64) (k : Fin 64) : (opsR m c).x8 (ix2 o k) = (argsR m c).wc1 (ix2 o k) := by
  show iblk m c 8 t0_0 _ = _
  blk_point [iblk, idx8 t0_0, argsR]

theorem wc2_eq (c : Dev nD) (o : Fin 3) (k : Fin 64) : (opsR m c).x10 (ix2 o k) = (argsR m c).wc2 (ix2 o k) := by
  show iblk m c 10 t0_0 _ = _
  blk_point [iblk, idx10 t0_0, argsR]

theorem sd0_eq (c : Dev nD) (o : Fin 64) : (opsR m c).x3 (ix2 0 o) = (argsR m c).sd0 (ix2 o 0) := by
  show iblk m c 3 t0_0 _ = _
  blk_point [iblk, idx3 t0_0, argsR]

theorem sd1_eq (c : Dev nD) (o : Fin 16) : (opsR m c).x5 (ix2 0 o) = (argsR m c).sd1 (ix2 o 0) := by
  show iblk m c 5 t0_0 _ = _
  blk_point [iblk, idx5 t0_0, argsR]

theorem sc0_eq (c : Dev nD) (o : Fin 64) : (opsR m c).x7 (ix2 0 o) = (argsR m c).sc0 (ix2 o 0) := by
  show iblk m c 7 t0_0 _ = _
  blk_point [iblk, idx7 t0_0, argsR]

theorem sc1_eq (c : Dev nD) (o : Fin 64) : (opsR m c).x9 (ix2 0 o) = (argsR m c).sc1 (ix2 o 0) := by
  show iblk m c 9 t0_0 _ = _
  blk_point [iblk, idx9 t0_0, argsR]

theorem sc2_eq (c : Dev nD) (o : Fin 3) : (opsR m c).x11 (ix2 0 o) = (argsR m c).sc2 (ix2 o 0) := by
  show iblk m c 11 t0_0 _ = _
  blk_point [iblk, idx11 t0_0, argsR]

theorem sh_eq (c : Dev nD) (b : Fin 640) (k : Fin 16) : (opsR m c).x1 (ix2 b k) = (argsR m c).sh (ix3 b k 0) := by
  show iblk m c 1 t0_0 _ = _
  blk_point [iblk, idx1 t0_0, argsR]

theorem x0_eq (c : Dev nD) (n : Fin 655360) (k : Fin 32) :
    (opsR m c).x0 (ix2 n k) = hostEnc (argsR m c).small (argsR m c).big (argsR m c).ts (ix2 n k) := by
  refine Eq.trans ?_ (congrFun (V0 m c) (ix2 n k))
  show iblk m c 0 t0_0 _ = _
  unfold iblk
  blk_simp []
  exact congrArg (V m c main_v9) (by blk_ext [idx0 t0_0])

theorem enc_row (c : Dev nD) (b : Fin 640) (s : Fin 1024) : row (enc (opsR m c).x0) (at' b s) = (argsR m c).enc b s := by
  funext k
  refine (enc_apply _ _ _).trans ((x0_eq m c _ _).trans ?_)
  unfold hostEnc
  rw [mulE_apply, hostTs_apply, hostJoin_apply]
  unfold Result.Args.enc
  refine congrArg (fun z : EReal => z * (argsR m c).ts (ix2 k 0)) ?_
  split
  · exact hostLow_apply _ b s _
  · refine (hostHigh_apply _ b s _).trans ?_
    have hk : 6 + (k.val - 6) = k.val := by omega
    simp only [hk]

theorem net_eq (c : Dev nD) : (opsR m c).net = (argsR m c).net := by
  unfold Ops.net Result.Args.net
  simp only [wd0_eq, sd0_eq, wd1_eq, sd1_eq, wc0_eq, sc0_eq, wc1_eq, sc1_eq, wc2_eq, sc2_eq]

theorem shr_eq (c : Dev nD) (b : Fin 640) : (fun k => (opsR m c).x1 (ix2 b k)) = (argsR m c).shr b := by
  funext k
  exact sh_eq m c b k

end Cert.ReferenceIdeal.Value

end

end
-- ==== Proof.ReferenceIdeal.Final.lean ====
module

public import proofs.«01_k».proof.Proof.ReferenceIdeal.Operands

/-! The reference's twelve results are the results of the arguments. -/

@[expose] public section

set_option synthInstance.maxSize 4096
set_option maxRecDepth 16384

noncomputable section

namespace Cert.ReferenceIdeal.Value

open Cert.ReferenceIdeal Cert.ReferenceIdeal.Gen
open Idealize.ShloMosaic Idealize.ShloMosaic.TcCoe Idealize.SL Idealize.SL.Sem

variable (m : (ℓ : Loc nD τ sig) → Buf (Elt Ideal) ℓ)

theorem at12 (c : Dev nD) (b : Fin 640) (s : Fin 1024) :
    dens (HH (opsR m c)) (ix2 b s) = Result.r_sigma (argsR m c) (ix2 b s) := by
  refine (dens_apply _ b s).trans ?_
  refine (congrArg Ideal.exp (congrFun (HH_row _ (at' b s)) 0)).trans ?_
  rw [net_eq, enc_row]
  exact rfl

theorem all12 (c : Dev nD) : dens (HH (opsR m c)) = Result.r_sigma (argsR m c) := by
  funext j
  idx_vars j
  exact at12 m c _ _

theorem final12 (c : Dev nD) : (dats m 0 c).arrAt 12 (cfgs 0).N = Result.r_sigma (argsR m c) := by
  refine (dats m 0 c).arrAt_eq_of_after_last 12 t0_0 (by decide +kernel) _ fun j => ?_
  blk_simp
  rw [after0_12]
  exact congrFun ((out12_eq (opsR m c)).trans (all12 m c)) j

theorem at13 (c : Dev nD) (k : Fin 3) (b : Fin 640) (s : Fin 1024) :
    col (Z (opsR m c)) (ix3 k b s) = Result.r_rgb (argsR m c) (ix3 k b s) := by
  refine (col_apply _ k b s).trans ?_
  rw [Z_row, net_eq, enc_row, shr_eq]
  exact rfl

theorem all13 (c : Dev nD) : col (Z (opsR m c)) = Result.r_rgb (argsR m c) := by
  funext j
  idx_vars j
  exact at13 m c _ _ _

theorem final13 (c : Dev nD) : (dats m 0 c).arrAt 13 (cfgs 0).N = Result.r_rgb (argsR m c) := by
  refine (dats m 0 c).arrAt_eq_of_after_last 13 t0_0 (by decide +kernel) _ fun j => ?_
  blk_simp
  rw [after0_13]
  exact congrFun ((out13_eq (opsR m c)).trans (all13 m c)) j

theorem at14 (c : Dev nD) (b : Fin 640) (k : Fin 32) (s : Fin 1024) :
    rowsC2 (codesOf2 (enc (opsR m c).x0)) (ix3 b k s) = Result.r_qe (argsR m c) (ix3 b k s) := by
  refine (rowsC2_apply _ b k s).trans ?_
  rw [enc_row]
  exact rfl

theorem all14 (c : Dev nD) : rowsC2 (codesOf2 (enc (opsR m c).x0)) = Result.r_qe (argsR m c) := by
  funext j
  idx_vars j
  exact at14 m c _ _ _

theorem final14 (c : Dev nD) : (dats m 0 c).arrAt 14 (cfgs 0).N = Result.r_qe (argsR m c) := by
  refine (dats m 0 c).arrAt_eq_of_after_last 14 t0_0 (by decide +kernel) _ fun j => ?_
  blk_simp
  rw [after0_14]
  exact congrFun ((out14_eq (opsR m c)).trans (all14 m c)) j

theorem at15 (c : Dev nD) (b : Fin 640) (k : Fin 2) (s : Fin 1024) :
    rowsS2 (scaleOf2 (enc (opsR m c).x0)) (ix3 b k s) = Result.r_se (argsR m c) (ix3 b k s) := by
  refine (rowsS2_apply _ b k s).trans ?_
  rw [enc_row]
  exact rfl

theorem all15 (c : Dev nD) : rowsS2 (scaleOf2 (enc (opsR m c).x0)) = Result.r_se (argsR m c) := by
  funext j
  idx_vars j
  exact at15 m c _ _ _

theorem final15 (c : Dev nD) : (dats m 0 c).arrAt 15 (cfgs 0).N = Result.r_se (argsR m c) := by
  refine (dats m 0 c).arrAt_eq_of_after_last 15 t0_0 (by decide +kernel) _ fun j => ?_
  blk_simp
  rw [after0_15]
  exact congrFun ((out15_eq (opsR m c)).trans (all15 m c)) j

theorem at16 (c : Dev nD) (b : Fin 640) (k : Fin 64) (s : Fin 1024) :
    rowsC4 (codesOf4 (H1 (opsR m c))) (ix3 b k s) = Result.r_qh1 (argsR m c) (ix3 b k s) := by
  refine (rowsC4_apply _ b k s).trans ?_
  rw [H1_row, net_eq, enc_row]
  exact rfl

theorem all16 (c : Dev nD) : rowsC4 (codesOf4 (H1 (opsR m c))) = Result.r_qh1 (argsR m c) := by
  funext j
  idx_vars j
  exact at16 m c _ _ _

theorem final16 (c : Dev nD) : (dats m 0 c).arrAt 16 (cfgs 0).N = Result.r_qh1 (argsR m c) := by
  refine (dats m 0 c).arrAt_eq_of_after_last 16 t0_0 (by decide +kernel) _ fun j => ?_
  blk_simp
  rw [after0_16]
  exact congrFun ((out16_eq (opsR m c)).trans (all16 m c)) j

theorem at17 (c : Dev nD) (b : Fin 640) (k : Fin 4) (s : Fin 1024) :
    rowsS4 (scaleOf4 (H1 (opsR m c))) (ix3 b k s) = Result.r_sh1 (argsR m c) (ix3 b k s) := by
  refine (rowsS4_apply _ b k s).trans ?_
  rw [H1_row, net_eq, enc_row]
  exact rfl

theorem all17 (c : Dev nD) : rowsS4 (scaleOf4 (H1 (opsR m c))) = Result.r_sh1 (argsR m c) := by
  funext j
  idx_vars j
  exact at17 m c _ _ _

theorem final17 (c : Dev nD) : (dats m 0 c).arrAt 17 (cfgs 0).N = Result.r_sh1 (argsR m c) := by
  refine (dats m 0 c).arrAt_eq_of_after_last 17 t0_0 (by decide +kernel) _ fun j => ?_
  blk_simp
  rw [after0_17]
  exact congrFun ((out17_eq (opsR m c)).trans (all17 m c)) j

theorem at18 (c : Dev nD) (b : Fin 640) (k : Fin 32) (s : Fin 1024) :
    rowsC2 (codesOf2 (CIN (opsR m c))) (ix3 b k s) = Result.r_qcin (argsR m c) (ix3 b k s) := by
  refine (rowsC2_apply _ b k s).trans ?_
  rw [CIN_row, net_eq, enc_row, shr_eq]
  exact rfl

theorem all18 (c : Dev nD) : rowsC2 (codesOf2 (CIN (opsR m c))) = Result.r_qcin (argsR m c) := by
  funext j
  idx_vars j
  exact at18 m c _ _ _

theorem final18 (c : Dev nD) : (dats m 0 c).arrAt 18 (cfgs 0).N = Result.r_qcin (argsR m c) := by
  refine (dats m 0 c).arrAt_eq_of_after_last 18 t0_0 (by decide +kernel) _ fun j => ?_
  blk_simp
  rw [after0_18]
  exact congrFun ((out18_eq (opsR m c)).trans (all18 m c)) j

theorem at19 (c : Dev nD) (b : Fin 640) (k : Fin 2) (s : Fin 1024) :
    rowsS2 (scaleOf2 (CIN (opsR m c))) (ix3 b k s) = Result.r_scin (argsR m c) (ix3 b k s) := by
  refine (rowsS2_apply _ b k s).trans ?_
  rw [CIN_row, net_eq, enc_row, shr_eq]
  exact rfl

theorem all19 (c : Dev nD) : rowsS2 (scaleOf2 (CIN (opsR m c))) = Result.r_scin (argsR m c) := by
  funext j
  idx_vars j
  exact at19 m c _ _ _

theorem final19 (c : Dev nD) : (dats m 0 c).arrAt 19 (cfgs 0).N = Result.r_scin (argsR m c) := by
  refine (dats m 0 c).arrAt_eq_of_after_last 19 t0_0 (by decide +kernel) _ fun j => ?_
  blk_simp
  rw [after0_19]
  exact congrFun ((out19_eq (opsR m c)).trans (all19 m c)) j

theorem at20 (c : Dev nD) (b : Fin 640) (k : Fin 64) (s : Fin 1024) :
    rowsC4 (codesOf4 (G1 (opsR m c))) (ix3 b k s) = Result.r_qg1 (argsR m c) (ix3 b k s) := by
  refine (rowsC4_apply _ b k s).trans ?_
  rw [G1_row, net_eq, enc_row, shr_eq]
  exact rfl

theorem all20 (c : Dev nD) : rowsC4 (codesOf4 (G1 (opsR m c))) = Result.r_qg1 (argsR m c) := by
  funext j
  idx_vars j
  exact at20 m c _ _ _

theorem final20 (c : Dev nD) : (dats m 0 c).arrAt 20 (cfgs 0).N = Result.r_qg1 (argsR m c) := by
  refine (dats m 0 c).arrAt_eq_of_after_last 20 t0_0 (by decide +kernel) _ fun j => ?_
  blk_simp
  rw [after0_20]
  exact congrFun ((out20_eq (opsR m c)).trans (all20 m c)) j

theorem at21 (c : Dev nD) (b : Fin 640) (k : Fin 4) (s : Fin 1024) :
    rowsS4 (scaleOf4 (G1 (opsR m c))) (ix3 b k s) = Result.r_sg1 (argsR m c) (ix3 b k s) := by
  refine (rowsS4_apply _ b k s).trans ?_
  rw [G1_row, net_eq, enc_row, shr_eq]
  exact rfl

theorem all21 (c : Dev nD) : rowsS4 (scaleOf4 (G1 (opsR m c))) = Result.r_sg1 (argsR m c) := by
  funext j
  idx_vars j
  exact at21 m c _ _ _

theorem final21 (c : Dev nD) : (dats m 0 c).arrAt 21 (cfgs 0).N = Result.r_sg1 (argsR m c) := by
  refine (dats m 0 c).arrAt_eq_of_after_last 21 t0_0 (by decide +kernel) _ fun j => ?_
  blk_simp
  rw [after0_21]
  exact congrFun ((out21_eq (opsR m c)).trans (all21 m c)) j

theorem at22 (c : Dev nD) (b : Fin 640) (k : Fin 64) (s : Fin 1024) :
    rowsC4 (codesOf4 (G2 (opsR m c))) (ix3 b k s) = Result.r_qg2 (argsR m c) (ix3 b k s) := by
  refine (rowsC4_apply _ b k s).trans ?_
  rw [G2_row, net_eq, enc_row, shr_eq]
  exact rfl

theorem all22 (c : Dev nD) : rowsC4 (codesOf4 (G2 (opsR m c))) = Result.r_qg2 (argsR m c) := by
  funext j
  idx_vars j
  exact at22 m c _ _ _

theorem final22 (c : Dev nD) : (dats m 0 c).arrAt 22 (cfgs 0).N = Result.r_qg2 (argsR m c) := by
  refine (dats m 0 c).arrAt_eq_of_after_last 22 t0_0 (by decide +kernel) _ fun j => ?_
  blk_simp
  rw [after0_22]
  exact congrFun ((out22_eq (opsR m c)).trans (all22 m c)) j

theorem at23 (c : Dev nD) (b : Fin 640) (k : Fin 4) (s : Fin 1024) :
    rowsS4 (scaleOf4 (G2 (opsR m c))) (ix3 b k s) = Result.r_sg2 (argsR m c) (ix3 b k s) := by
  refine (rowsS4_apply _ b k s).trans ?_
  rw [G2_row, net_eq, enc_row, shr_eq]
  exact rfl

theorem all23 (c : Dev nD) : rowsS4 (scaleOf4 (G2 (opsR m c))) = Result.r_sg2 (argsR m c) := by
  funext j
  idx_vars j
  exact at23 m c _ _ _

theorem final23 (c : Dev nD) : (dats m 0 c).arrAt 23 (cfgs 0).N = Result.r_sg2 (argsR m c) := by
  refine (dats m 0 c).arrAt_eq_of_after_last 23 t0_0 (by decide +kernel) _ fun j => ?_
  blk_simp
  rw [after0_23]
  exact congrFun ((out23_eq (opsR m c)).trans (all23 m c)) j

end Cert.ReferenceIdeal.Value

end

end
-- ==== Proof.Algebraic.lean ====
module

public import proofs.«01_k».proof.Defs
public import proofs.«01_k».proof.Proof.Gen.KernelIdeal
public import proofs.«01_k».proof.Proof.Gen.ReferenceIdeal
public import proofs.«01_k».proof.Proof.KernelIdeal.Final
public import proofs.«01_k».proof.Proof.ReferenceIdeal.Final

/-! Kernel and reference, over the extended reals, end with the same twelve results. -/

@[expose] public section

set_option synthInstance.maxSize 4096
set_option maxRecDepth 16384

noncomputable section

namespace Cert.Proof

open Idealize.ShloMosaic Idealize.SL.Sem

/-- Arguments that agree one by one are the same. -/
theorem args_ext (A B : Result.Args) (h0 : A.small = B.small)
    (h1 : A.big = B.big)
    (h2 : A.ts = B.ts)
    (h3 : A.sh = B.sh)
    (h4 : A.wd0 = B.wd0)
    (h5 : A.sd0 = B.sd0)
    (h6 : A.wd1 = B.wd1)
    (h7 : A.sd1 = B.sd1)
    (h8 : A.wc0 = B.wc0)
    (h9 : A.sc0 = B.sc0)
    (h10 : A.wc1 = B.wc1)
    (h11 : A.sc1 = B.sc1)
    (h12 : A.wc2 = B.wc2)
    (h13 : A.sc2 = B.sc2) : A = B := by
  cases A
  cases B
  cases h0
  cases h1
  cases h2
  cases h3
  cases h4
  cases h5
  cases h6
  cases h7
  cases h8
  cases h9
  cases h10
  cases h11
  cases h12
  cases h13
  rfl

set_option maxHeartbeats 4000000 in
theorem algebraic : Cert.algebraic_KernelIdeal_ReferenceIdeal := by
  intro m g m' g' _ ha
  have e : ∀ c, Cert.ReferenceIdeal.Value.argsR m' c = Cert.KernelIdeal.Body.argsK m c := fun c => by
    obtain ⟨h0, h1, h2, h3, h4, h5, h6, h7, h8, h9, h10, h11, h12, h13⟩ := ha c
    exact args_ext _ _ h0 h1 h2 h3 h4 h5 h6 h7 h8 h9 h10 h11 h12 h13
  refine ⟨fun c => Result.r_sigma (Cert.KernelIdeal.Body.argsK m c), fun c => Result.r_rgb (Cert.KernelIdeal.Body.argsK m c), fun c => Result.r_qe (Cert.KernelIdeal.Body.argsK m c), fun c => Result.r_se (Cert.KernelIdeal.Body.argsK m c), fun c => Result.r_qh1 (Cert.KernelIdeal.Body.argsK m c), fun c => Result.r_sh1 (Cert.KernelIdeal.Body.argsK m c), fun c => Result.r_qcin (Cert.KernelIdeal.Body.argsK m c), fun c => Result.r_scin (Cert.KernelIdeal.Body.argsK m c), fun c => Result.r_qg1 (Cert.KernelIdeal.Body.argsK m c), fun c => Result.r_sg1 (Cert.KernelIdeal.Body.argsK m c), fun c => Result.r_qg2 (Cert.KernelIdeal.Body.argsK m c), fun c => Result.r_sg2 (Cert.KernelIdeal.Body.argsK m c), ?_, ?_⟩
  · refine θ_run_mono (θ_run_and (Cert.KernelIdeal.Body.run_main m g) (Cert.KernelIdeal.Body.unchanged m g)) fun r h c => ?_
    exact ⟨((h.1 c).1 14).trans (Cert.KernelIdeal.Body.final14 m c),
      ((h.1 c).1 15).trans (Cert.KernelIdeal.Body.final15 m c),
      ((h.1 c).1 16).trans (Cert.KernelIdeal.Body.final16 m c),
      ((h.1 c).1 17).trans (Cert.KernelIdeal.Body.final17 m c),
      ((h.1 c).1 18).trans (Cert.KernelIdeal.Body.final18 m c),
      ((h.1 c).1 19).trans (Cert.KernelIdeal.Body.final19 m c),
      ((h.1 c).1 20).trans (Cert.KernelIdeal.Body.final20 m c),
      ((h.1 c).1 21).trans (Cert.KernelIdeal.Body.final21 m c),
      ((h.1 c).1 22).trans (Cert.KernelIdeal.Body.final22 m c),
      ((h.1 c).1 23).trans (Cert.KernelIdeal.Body.final23 m c),
      ((h.1 c).1 24).trans (Cert.KernelIdeal.Body.final24 m c),
      ((h.1 c).1 25).trans (Cert.KernelIdeal.Body.final25 m c),
      h.2 c⟩
  · refine θ_run_mono (θ_run_and (Cert.ReferenceIdeal.Gen.run_main m' g') (Cert.ReferenceIdeal.Gen.unchanged m' g')) fun r h c => ?_
    exact ⟨((h.1 c).1 12).trans ((Cert.ReferenceIdeal.Value.final12 m' c).trans (congrArg Result.r_sigma (e c))),
      ((h.1 c).1 13).trans ((Cert.ReferenceIdeal.Value.final13 m' c).trans (congrArg Result.r_rgb (e c))),
      ((h.1 c).1 14).trans ((Cert.ReferenceIdeal.Value.final14 m' c).trans (congrArg Result.r_qe (e c))),
      ((h.1 c).1 15).trans ((Cert.ReferenceIdeal.Value.final15 m' c).trans (congrArg Result.r_se (e c))),
      ((h.1 c).1 16).trans ((Cert.ReferenceIdeal.Value.final16 m' c).trans (congrArg Result.r_qh1 (e c))),
      ((h.1 c).1 17).trans ((Cert.ReferenceIdeal.Value.final17 m' c).trans (congrArg Result.r_sh1 (e c))),
      ((h.1 c).1 18).trans ((Cert.ReferenceIdeal.Value.final18 m' c).trans (congrArg Result.r_qcin (e c))),
      ((h.1 c).1 19).trans ((Cert.ReferenceIdeal.Value.final19 m' c).trans (congrArg Result.r_scin (e c))),
      ((h.1 c).1 20).trans ((Cert.ReferenceIdeal.Value.final20 m' c).trans (congrArg Result.r_qg1 (e c))),
      ((h.1 c).1 21).trans ((Cert.ReferenceIdeal.Value.final21 m' c).trans (congrArg Result.r_sg1 (e c))),
      ((h.1 c).1 22).trans ((Cert.ReferenceIdeal.Value.final22 m' c).trans (congrArg Result.r_qg2 (e c))),
      ((h.1 c).1 23).trans ((Cert.ReferenceIdeal.Value.final23 m' c).trans (congrArg Result.r_sg2 (e c))),
      h.2 c⟩

end Cert.Proof

end

end
-- ==== Proof.Harmonics.Spec.lean ====
module

public import Idealize.ShloMosaic.PureOps.Ideal

/-! The sixteen harmonics of a direction, as polynomials of its three coordinates over the extended reals. -/

@[expose] public section

noncomputable section

namespace Cert.Spec

open Idealize.ShloMosaic

/-- The number that a word of bits stands for. -/
abbrev num (b : BitVec 32) : EReal := Ideal.ofBits .f32 b

/-- Harmonic `k` of the direction `(x, y, z)`. -/
def harmonic (x y z : EReal) : Fin 16 → EReal :=
  ![num 0x3E906EBB#32,
    num 0xBEFA2A1C#32 * y,
    num 0x3EFA2A1C#32 * z,
    num 0xBEFA2A1C#32 * x,
    num 0x3F8BD8A1#32 * x * y,
    num 0xBF8BD8A1#32 * y * z,
    num 0x3F723881#32 * (z * z) - num 0x3EA17B01#32,
    num 0xBF8BD8A1#32 * x * z,
    num 0x3F0BD8A1#32 * (x * x - y * y),
    num 0x3F170D19#32 * y * (num 0xC0400000#32 * (x * x) + y * y),
    num 0x4038FFC7#32 * x * y * z,
    num 0x3EEA01E8#32 * y * (num 0x3F800000#32 - num 0x40A00000#32 * (z * z)),
    num 0x3EBF10F8#32 * z * (num 0x40A00000#32 * (z * z) - num 0x40400000#32),
    num 0x3EEA01E8#32 * x * (num 0x3F800000#32 - num 0x40A00000#32 * (z * z)),
    num 0x3FB8FFC7#32 * z * (x * x - y * y),
    num 0x3F170D19#32 * x * (-(x * x) + num 0x40400000#32 * (y * y))]

end Cert.Spec

end

end
-- ==== Proof.Harmonics.Kernel.lean ====
module

public import proofs.«01_k».proof.Proof.Gen.HarmonicsIdeal.Value
public import proofs.«01_k».proof.Proof.Harmonics.Spec
public import Idealize.ShloMosaic.Lib.Pointwise

/-! What the harmonics' call leaves in its result: row `k` holds harmonic `k` of every direction. -/

@[expose] public section

set_option synthInstance.maxSize 4096
set_option maxRecDepth 16384

noncomputable section

namespace Cert.HarmonicsIdeal.Value

open Cert.HarmonicsIdeal Cert.HarmonicsIdeal.Gen
open Idealize.ShloMosaic Idealize.ShloMosaic.TcCoe Idealize.SL Idealize.SL.Sem

/-- The harmonics of the directions `d`, as an array. -/
def rows (d : Vec Ideal S3x640 .f32) : Vec Ideal S16x640 .f32 := fun i =>
  Spec.harmonic (d (ix2 0 (i 1))) (d (ix2 1 (i 1))) (d (ix2 2 (i 1))) (i 0)

/-- A payload that is harmonic `k` of every direction is what row `k` is to hold. -/
theorem piece (d : Vec Ideal S3x640 .f32) (k : ℕ) (hk : k < 16) (inb) (p : Vec Ideal S1x640 .f32)
    (h : ∀ j : Fin 640, p (ix2 0 j) = Spec.harmonic (d (ix2 0 j)) (d (ix2 1 j)) (d (ix2 2 j)) ⟨k, hk⟩) (x : S1x640.Idx) :
    p x = rows d ((Rect.unit (s := S16x640) ![k, 0] S1x640.size inb).emb x) := by
  have hx : x = ix2 0 (x 1) := by
    funext a
    match a with
    | ⟨0, _⟩ => exact Fin.ext (by have := (x 0).isLt; simpa using this)
    | ⟨1, _⟩ => rfl
  have he : (Rect.unit (s := S16x640) ![k, 0] S1x640.size inb).emb x = ix2 ⟨k, hk⟩ (x 1) := by
    funext a
    apply Fin.ext
    match a with
    | ⟨0, _⟩ =>
      have := (x 0).isLt
      show k + 1 * (x 0).val = k
      have h1 : (x 0).val < 1 := this
      omega
    | ⟨1, _⟩ => show 0 + 1 * (x 1).val = (x 1).val; omega
  rw [he]
  exact (congrArg p hx).trans (h (x 1))

theorem ld0 (d : Vec Ideal S3x640 .f32) (j : Fin 640) : View.ld d r0_0 (ix2 0 j) = d (ix2 0 j) :=
  congrArg d (funext fun a => Fin.ext (by match a with | ⟨0, _⟩ => rfl | ⟨1, _⟩ => show 0 + 1 * j.val = j.val; omega))
theorem ld1 (d : Vec Ideal S3x640 .f32) (j : Fin 640) : View.ld d r0_1 (ix2 0 j) = d (ix2 1 j) :=
  congrArg d (funext fun a => Fin.ext (by match a with | ⟨0, _⟩ => rfl | ⟨1, _⟩ => show 0 + 1 * j.val = j.val; omega))
theorem ld2 (d : Vec Ideal S3x640 .f32) (j : Fin 640) : View.ld d r0_2 (ix2 0 j) = d (ix2 2 j) :=
  congrArg d (funext fun a => Fin.ext (by match a with | ⟨0, _⟩ => rfl | ⟨1, _⟩ => show 0 + 1 * j.val = j.val; omega))

theorem zero_sub_num (a : EReal) : Spec.num 0x00000000#32 - a = -a := by
  have h : Spec.num 0x00000000#32 = 0 := Ideal.ofBits_zero_f32
  rw [h, zero_sub]

/-- The result of the call is the array of the harmonics. -/
theorem G1_eq (d : Vec Ideal S3x640 .f32) : G1 d = rows d := by
  funext y
  refine View.canon_apply_of_pieces (rows d) _ ?_ y (cover0_1 _ _ _ _ _ _ _ _ _ _ _ _ _ _ _ _ y)
  simp only [List.forall_mem_cons, List.not_mem_nil, false_imp_iff, implies_true, and_true]
  refine ⟨?_, ?_, ?_, ?_, ?_, ?_, ?_, ?_, ?_, ?_, ?_, ?_, ?_, ?_, ?_, ?_⟩
  · refine piece d 15 (by decide) _ _ fun j => ?_
    simp only [← ld0, ← ld1, ← ld2]
    exact congrArg (fun t => Spec.num 0x3F170D19#32 * View.ld d r0_0 (ix2 0 j) * (t + Spec.num 0x40400000#32 * (View.ld d r0_1 (ix2 0 j) * View.ld d r0_1 (ix2 0 j)))) (zero_sub_num _)
  · refine piece d 14 (by decide) _ _ fun j => ?_
    simp only [← ld0, ← ld1, ← ld2]
    rfl
  · refine piece d 13 (by decide) _ _ fun j => ?_
    simp only [← ld0, ← ld1, ← ld2]
    rfl
  · refine piece d 12 (by decide) _ _ fun j => ?_
    simp only [← ld0, ← ld1, ← ld2]
    rfl
  · refine piece d 11 (by decide) _ _ fun j => ?_
    simp only [← ld0, ← ld1, ← ld2]
    rfl
  · refine piece d 10 (by decide) _ _ fun j => ?_
    simp only [← ld0, ← ld1, ← ld2]
    rfl
  · refine piece d 9 (by decide) _ _ fun j => ?_
    simp only [← ld0, ← ld1, ← ld2]
    rfl
  · refine piece d 8 (by decide) _ _ fun j => ?_
    simp only [← ld0, ← ld1, ← ld2]
    rfl
  · refine piece d 7 (by decide) _ _ fun j => ?_
    simp only [← ld0, ← ld1, ← ld2]
    rfl
  · refine piece d 6 (by decide) _ _ fun j => ?_
    simp only [← ld0, ← ld1, ← ld2]
    rfl
  · refine piece d 5 (by decide) _ _ fun j => ?_
    simp only [← ld0, ← ld1, ← ld2]
    rfl
  · refine piece d 4 (by decide) _ _ fun j => ?_
    simp only [← ld0, ← ld1, ← ld2]
    rfl
  · refine piece d 3 (by decide) _ _ fun j => ?_
    simp only [← ld0, ← ld1, ← ld2]
    rfl
  · refine piece d 2 (by decide) _ _ fun j => ?_
    simp only [← ld0, ← ld1, ← ld2]
    rfl
  · refine piece d 1 (by decide) _ _ fun j => ?_
    simp only [← ld0, ← ld1, ← ld2]
    rfl
  · refine piece d 0 (by decide) _ _ fun j => ?_
    rfl

end Cert.HarmonicsIdeal.Value

end

end
-- ==== Proof.Harmonics.Reference.lean ====
module

public import proofs.«01_k».proof.Proof.Gen.PolynomialsIdeal.Run
public import proofs.«01_k».proof.Proof.Harmonics.Spec
public import Idealize.ShloMosaic.Lib.Pointwise

/-! What the reference of the harmonics' call ends with: row `k` holds harmonic `k` of every direction. -/

@[expose] public section

set_option synthInstance.maxSize 4096
set_option maxRecDepth 16384

noncomputable section

namespace Cert.PolynomialsIdeal.Value

open Cert.PolynomialsIdeal Cert.PolynomialsIdeal.Gen
open Idealize.ShloMosaic Idealize.ShloMosaic.TcCoe Idealize.SL Idealize.SL.Sem

variable (m : (ℓ : Loc nD τ sig) → Buf (Elt Ideal) ℓ) (c : Dev nD)

/-- The directions, one in each column. -/
def dirs : Vec Ideal S3x640 .f32 := m ((c.tc : Thread nD τ).loc main_arg0)

/-- Entry `j` of row `k`. -/
theorem result_apply (k : Fin 16) (j : Fin 640) :
    (res_out0 m c : Vec Ideal S16x640 .f32) (ix2 k j)
      = Spec.harmonic (dirs m c (ix2 0 j)) (dirs m c (ix2 1 j)) (dirs m c (ix2 2 j)) k := by
  unfold res_out0 res_main_v90
  change concatenate S16x640 0 _ _ (ix2 k j) = _
  have hd : m ((c.tc : Thread nD τ).loc main_arg0) = dirs m c := rfl
  rw [hd]
  generalize dirs m c = d
  fin_cases k
  all_goals pointwise [Spec.harmonic]

/-- The result is the array of the harmonics. -/
theorem result_eq : (res_out0 m c : Vec Ideal S16x640 .f32) = fun i =>
    Spec.harmonic (dirs m c (ix2 0 (i 1))) (dirs m c (ix2 1 (i 1))) (dirs m c (ix2 2 (i 1))) (i 0) := by
  funext i
  have hi : i = ix2 (i 0) (i 1) := by
    funext a
    match a with
    | ⟨0, _⟩ => rfl
    | ⟨1, _⟩ => rfl
  exact (congrArg (res_out0 m c : Vec Ideal S16x640 .f32) hi).trans (result_apply m c (i 0) (i 1))

end Cert.PolynomialsIdeal.Value

end

end
-- ==== Proof.Harmonics.Algebraic.lean ====
module

public import proofs.«01_k».proof.Defs
public import proofs.«01_k».proof.Proof.Harmonics.Kernel
public import proofs.«01_k».proof.Proof.Harmonics.Reference

/-! The harmonics' call and its reference, over the extended reals, end with the same array. -/

@[expose] public section

noncomputable section

namespace Cert.Proof

open Idealize.ShloMosaic Idealize.SL.Sem

theorem algebraic_harmonics : Cert.algebraic_HarmonicsIdeal_PolynomialsIdeal := by
  intro m g m' g' _ ha
  refine ⟨fun c => Cert.HarmonicsIdeal.Value.rows (m ((c.tc : Thread Cert.HarmonicsIdeal.nD Cert.HarmonicsIdeal.τ).loc Cert.HarmonicsIdeal.main_arg0)), ?_, ?_⟩
  · refine θ_run_mono (Cert.HarmonicsIdeal.Value.run m g) fun r h c => ?_
    exact ⟨(h c).1.trans (Cert.HarmonicsIdeal.Value.G1_eq _), (h c).2⟩
  · refine θ_run_mono (Cert.PolynomialsIdeal.Value.run m' g') fun r h c => ?_
    have e : Cert.PolynomialsIdeal.Value.dirs m' c
        = m ((c.tc : Thread Cert.HarmonicsIdeal.nD Cert.HarmonicsIdeal.τ).loc Cert.HarmonicsIdeal.main_arg0) := ha c
    refine ⟨(h c).1.trans ((Cert.PolynomialsIdeal.Value.result_eq m' c).trans ?_), (h c).2⟩
    rw [e]
    rfl

end Cert.Proof

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.HarmonicsIdeal.Value
public import proofs.«01_k».proof.Proof.Gen.PolynomialsIdeal.Run
public import proofs.«01_k».proof.Proof.Gen.PolynomialsIdeal
public import proofs.«01_k».proof.Proof.Gen.Harmonics
public import proofs.«01_k».proof.Proof.Gen.Harmonics.Frame
public import proofs.«01_k».proof.Proof.Kernel.Frame
public import proofs.«01_k».proof.Proof.KernelIdeal.Frame
public import proofs.«01_k».proof.Proof.Algebraic
public import proofs.«01_k».proof.Proof.Harmonics.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Harmonics.Gen.facts, Cert.HarmonicsIdeal.Gen.facts, Cert.PolynomialsIdeal.Gen.facts,
    fun m ρ _ => Cert.Kernel.Body.frame m ρ,
    fun m ρ _ => Cert.KernelIdeal.Body.frame m ρ,
    fun m ρ _ => Cert.ReferenceIdeal.Gen.frame m ρ,
    fun m ρ _ => Cert.Harmonics.Gen.frame m ρ,
    fun m ρ _ => Cert.HarmonicsIdeal.Gen.frame m ρ,
    fun m ρ _ => (θ_run Cert.PolynomialsIdeal.defs _ _).mono
      (fun r h => ⟨fun c => (h c).2, sem_eq_zero_of_no_sems (by decide) r.2⟩) (Cert.PolynomialsIdeal.Value.run m ρ),
    trivial, algebraic, trivial, algebraic_harmonics⟩

end Cert.Proof

end
